-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_rows [hPre_finite_rows : Cert.Pre_finite_rows.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_rows.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_rows [hPre_finite_rows : Cert.Pre_finite_rows.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_rows.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite_rows [hKernel15Ideal : Cert.Kernel15Ideal.Facts] [hPre_finite_rows : Cert.Pre_finite_rows.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_rows m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite_rows [hReference15Ideal : Cert.Reference15Ideal.Facts] [hPre_finite_rows : Cert.Pre_finite_rows.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_rows m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84_0)) (v1 : (c : Dev Cert.KernelIdeal.nD) → Buf (Elt Ideal) ((c.tc : Thread Cert.KernelIdeal.nD Cert.KernelIdeal.τ).loc Cert.KernelIdeal.main_v84_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 7168]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v84_0) i = v0 c i)
          ∧ (∀ i : (⟨3, ![8, 1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v84_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 7168]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v298) i = v0 c i)
          ∧ (∀ i : (⟨3, ![8, 1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v299) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_v24) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v18) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_on_first_halves [hKernel13Ideal : Cert.Kernel13Ideal.Facts] [hReference13Ideal : Cert.Reference13Ideal.Facts] [hOn_first_halves : Cert.On_first_halves.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![4096, 7168]⟩ : Shape).Idx, (Cert.On_first_halves.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Kernel13Ideal.nD Cert.Kernel13Ideal.τ).loc Cert.Kernel13Ideal.main_v0) i = v0 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨2, ![4096, 7168]⟩ : Shape).Idx, (Cert.On_first_halves.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) i = 1#1 → r.2.mem ((c.tc : Thread Cert.Reference13Ideal.nD Cert.Reference13Ideal.τ).loc Cert.Reference13Ideal.main_v8) i = v0 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite_rows [hKernel15Ideal : Cert.Kernel15Ideal.Facts] [hReference15Ideal : Cert.Reference15Ideal.Facts] [hPre_finite_rows : Cert.Pre_finite_rows.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_rows m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_v38) = v1 c
          ∧ r.2.mem ((c.tc : Thread Cert.Reference15Ideal.nD Cert.Reference15Ideal.τ).loc Cert.Reference15Ideal.main_v39) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_on_heads_of_the_retention [hKernel20Ideal : Cert.Kernel20Ideal.Facts] [hReference20Ideal : Cert.Reference20Ideal.Facts] [hOn_heads_of_the_retention : Cert.On_heads_of_the_retention.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v84_0)) (v1 : (c : Dev Cert.Kernel20Ideal.nD) → Buf (Elt Ideal) ((c.tc : Thread Cert.Kernel20Ideal.nD Cert.Kernel20Ideal.τ).loc Cert.Kernel20Ideal.main_v84_1)) (v2 : (c : Dev Cert.Kernel20Ideal.nD) → Buf (Elt Ideal) ((c.tc : Thread Cert.Kernel20Ideal.nD Cert.Kernel20Ideal.τ).loc Cert.Kernel20Ideal.main_v84_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          (∀ i : (⟨2, ![4096, 2048]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).1 i = 1#1 → r.2.mem ((c.tc : Thread Cert.Kernel20Ideal.nD Cert.Kernel20Ideal.τ).loc Cert.Kernel20Ideal.main_v84_0) i = v0 c i)
          ∧ (∀ i : (⟨2, ![4096, 1024]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2.1 i = 1#1 → r.2.mem ((c.tc : Thread Cert.Kernel20Ideal.nD Cert.Kernel20Ideal.τ).loc Cert.Kernel20Ideal.main_v84_1) i = v1 c i)
          ∧ (∀ i : (⟨4, ![8, 64, 128, 128]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2.2 i = 1#1 → r.2.mem ((c.tc : Thread Cert.Kernel20Ideal.nD Cert.Kernel20Ideal.τ).loc Cert.Kernel20Ideal.main_v84_2) i = v2 c i)
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          (∀ i : (⟨2, ![4096, 2048]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).1 i = 1#1 → r.2.mem ((c.tc : Thread Cert.Reference20Ideal.nD Cert.Reference20Ideal.τ).loc Cert.Reference20Ideal.main_v186) i = v0 c i)
          ∧ (∀ i : (⟨2, ![4096, 1024]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2.1 i = 1#1 → r.2.mem ((c.tc : Thread Cert.Reference20Ideal.nD Cert.Reference20Ideal.τ).loc Cert.Reference20Ideal.main_v156) i = v1 c i)
          ∧ (∀ i : (⟨4, ![8, 64, 128, 128]⟩ : Shape).Idx, (Cert.On_heads_of_the_retention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2.2 i = 1#1 → r.2.mem ((c.tc : Thread Cert.Reference20Ideal.nD Cert.Reference20Ideal.τ).loc Cert.Reference20Ideal.main_v188) i = v2 c i)
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m ((c.tc : Thread Cert.Kernel21Ideal.nD Cert.Kernel21Ideal.τ).loc Cert.Kernel21Ideal.main_arg0) = Layout.block ⟨3, ![4, 1, 2048]⟩ ⟨3, ![32, 1, 2048]⟩ 0 8 c (m' (((0 : Dev Cert.Reference21Ideal.nD).tc : Thread Cert.Reference21Ideal.nD Cert.Reference21Ideal.τ).loc Cert.Reference21Ideal.main_arg0))) →
    ∃ (v0 : Buf (Elt Ideal) (((0 : Dev Cert.Reference21Ideal.nD).tc : Thread Cert.Reference21Ideal.nD Cert.Reference21Ideal.τ).loc Cert.Reference21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r =>
          r.2.mem (((0 : Dev Cert.Reference21Ideal.nD).tc : Thread Cert.Reference21Ideal.nD Cert.Reference21Ideal.τ).loc Cert.Reference21Ideal.main_v4) = v0
          ∧ r.2.mem (((0 : Dev Cert.Reference21Ideal.nD).tc : Thread Cert.Reference21Ideal.nD Cert.Reference21Ideal.τ).loc Cert.Reference21Ideal.main_arg0) = m' (((0 : Dev Cert.Reference21Ideal.nD).tc : Thread Cert.Reference21Ideal.nD Cert.Reference21Ideal.τ).loc Cert.Reference21Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite_rows : Cert.Pre_finite_rows.Facts) (hOn_written : Cert.On_written.Facts) (hOn_first_halves : Cert.On_first_halves.Facts) (hOn_heads_of_the_retention : Cert.On_heads_of_the_retention.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_rows (hKernel15Ideal := hKernel15Ideal) (hPre_finite_rows := hPre_finite_rows)
    ∧ quiescent_Reference15Ideal (hReference15Ideal := hReference15Ideal)
    ∧ quiescent_Reference15Ideal_pre_finite_rows (hReference15Ideal := hReference15Ideal) (hPre_finite_rows := hPre_finite_rows)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_on_first_halves (hKernel13Ideal := hKernel13Ideal) (hReference13Ideal := hReference13Ideal) (hOn_first_halves := hOn_first_halves)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_rows (hKernel15Ideal := hKernel15Ideal) (hReference15Ideal := hReference15Ideal) (hPre_finite_rows := hPre_finite_rows)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_on_heads_of_the_retention (hKernel20Ideal := hKernel20Ideal) (hReference20Ideal := hReference20Ideal) (hOn_heads_of_the_retention := hOn_heads_of_the_retention)
    ∧ preserves_Kernel21_Kernel21Ideal
    ∧ algebraic_Kernel21Ideal_Reference21Ideal (hKernel21Ideal := hKernel21Ideal) (hReference21Ideal := hReference21Ideal)
-- ==== On_first_halves.lean ====
abbrev S4096x2048 : Shape := ⟨2, ![4096, 2048]⟩
abbrev S4x2048x896 : Shape := ⟨3, ![4, 2048, 896]⟩
abbrev S4096x4x2x896 : Shape := ⟨4, ![4096, 4, 2, 896]⟩
abbrev S_ : Shape := ⟨0, ![]⟩
abbrev S4096x7168 : Shape := ⟨2, ![4096, 7168]⟩

class Facts : Prop where
  bcast_S_S4096x4x2x896 : S_.BroadcastsInDim S4096x4x2x896 (![] : Fin 0 → Fin S4096x4x2x896.rank)
  shapeCasts_S4096x4x2x896_S4096x7168 : S4096x4x2x896.ShapeCasts S4096x7168

variable [Facts]

def fn {F : FTy → Type} [FloatOps F] (main_arg0 : FVec F S4096x2048 .bf16) (main_arg1 : FVec F S4x2048x896 .bf16) : IVec S4096x7168 1 :=
  let main_v0 : IVec S4096x4x2x896 32 := iotaInDim S4096x4x2x896 32 2
  let main_c : IVec S_ 32 := constantI S_ 32 0#32
  let main_v1 : IVec S4096x4x2x896 32 := broadcastInDim S4096x4x2x896 ![] bcast_S_S4096x4x2x896 main_c
  let main_v2 : IVec S4096x4x2x896 1 := cmpi .eq main_v0 main_v1
  let main_v3 : IVec S4096x7168 1 := shapeCast S4096x7168 main_v2 shapeCasts_S4096x4x2x896_S4096x7168
  main_v3
-- ==== On_heads_of_the_retention.lean ====
abbrev S4096x7168 : Shape := ⟨2, ![4096, 7168]⟩
abbrev S1x1024 : Shape := ⟨2, ![1, 1024]⟩
abbrev S4096x2048 : Shape := ⟨2, ![4096, 2048]⟩
abbrev S_ : Shape := ⟨0, ![]⟩
abbrev S4096x1024 : Shape := ⟨2, ![4096, 1024]⟩
abbrev S8x64x128x128 : Shape := ⟨4, ![8, 64, 128, 128]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S8x64x128x128 : S_.BroadcastsInDim S8x64x128x128 (![] : Fin 0 → Fin S8x64x128x128.rank)

variable [Facts]

def fn {F : FTy → Type} [FloatOps F] (main_arg0 : FVec F S4096x7168 .f32) (main_arg1 : FVec F S1x1024 .f32) : IVec S4096x2048 1 × IVec S4096x1024 1 × IVec S8x64x128x128 1 :=
  let main_v0 : IVec S4096x2048 32 := iotaInDim S4096x2048 32 1
  let main_c : IVec S_ 32 := constantI S_ 32 1024#32
  let main_v1 : IVec S4096x2048 32 := broadcastInDim S4096x2048 ![] bcast_S_S4096x2048 main_c
  let main_v2 : IVec S4096x2048 1 := cmpi .slt main_v0 main_v1
  let main_c_0 : IVec S_ 1 := constantI S_ 1 1#1
  let main_v3 : IVec S4096x1024 1 := broadcastInDim S4096x1024 ![] bcast_S_S4096x1024 main_c_0
  let main_c_1 : IVec S_ 1 := constantI S_ 1 1#1
  let main_v4 : IVec S8x64x128x128 1 := broadcastInDim S8x64x128x128 ![] bcast_S_S8x64x128x128 main_c_1
  (main_v2, main_v3, main_v4)
-- ==== On_written.lean ====
abbrev S4096x7168 : Shape := ⟨2, ![4096, 7168]⟩
abbrev S1x1024 : Shape := ⟨2, ![1, 1024]⟩
abbrev S4096x1024 : Shape := ⟨2, ![4096, 1024]⟩
abbrev S8x64x128x128 : Shape := ⟨4, ![8, 64, 128, 128]⟩
abbrev S4096x2048 : Shape := ⟨2, ![4096, 2048]⟩
abbrev S_ : Shape := ⟨0, ![]⟩
abbrev S8x1x128 : Shape := ⟨3, ![8, 1, 128]⟩

class Facts : Prop where
  bcast_S_S4096x7168 : S_.BroadcastsInDim S4096x7168 (![] : Fin 0 → Fin S4096x7168.rank)
  bcast_S_S8x1x128 : S_.BroadcastsInDim S8x1x128 (![] : Fin 0 → Fin S8x1x128.rank)

variable [Facts]

def fn {F : FTy → Type} [FloatOps F] (main_arg0 : FVec F S4096x7168 .f32) (main_arg1 : FVec F S1x1024 .f32) (main_arg2 : FVec F S4096x1024 .f32) (main_arg3 : FVec F S8x64x128x128 .bf16) (main_arg4 : FVec F S4096x2048 .f32) : IVec S4096x7168 1 × IVec S8x1x128 1 :=
  let main_v0 : IVec S4096x7168 32 := iotaInDim S4096x7168 32 1
  let main_c : IVec S_ 32 := constantI S_ 32 4096#32
  let main_v1 : IVec S4096x7168 32 := broadcastInDim S4096x7168 ![] bcast_S_S4096x7168 main_c
  let main_v2 : IVec S4096x7168 1 := cmpi .slt main_v0 main_v1
  let main_c_0 : IVec S_ 1 := constantI S_ 1 1#1
  let main_v3 : IVec S8x1x128 1 := broadcastInDim S8x1x128 ![] bcast_S_S8x1x128 main_c_0
  (main_v2, main_v3)
-- ==== Pre_finite.lean ====
abbrev S4096x7168 : Shape := ⟨2, ![4096, 7168]⟩
abbrev S1x1024 : Shape := ⟨2, ![1, 1024]⟩
abbrev S4096x1024 : Shape := ⟨2, ![4096, 1024]⟩
abbrev S8x64x128x128 : Shape := ⟨4, ![8, 64, 128, 128]⟩
abbrev S4096x2048 : Shape := ⟨2, ![4096, 2048]⟩
abbrev S_ : Shape := ⟨0, ![]⟩

class Facts : Prop where
  slices_S4096x7168_S4096x1024_0_3072 : S4096x7168.Slices ![0, 3072] S4096x1024
  slices_S4096x2048_S4096x1024_0_0 : S4096x2048.Slices ![0, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v5 : IVec S_ 1) (main_v9 : IVec S_ 1) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S4096x7168 .f32) (main_arg1 : FVec F S1x1024 .f32) (main_arg2 : FVec F S4096x1024 .f32) (main_arg3 : FVec F S8x64x128x128 .bf16) (main_arg4 : FVec F S4096x2048 .f32) : IVec S_ 1 :=
  let main_v0 : FVec F S4096x1024 .f32 := (extractStridedSlice S4096x1024 ![0, 3072] · slices_S4096x7168_S4096x1024_0_3072) main_arg0
  let main_v1 : FVec F S4096x1024 .f32 := (extractStridedSlice S4096x1024 ![0, 0] · slices_S4096x2048_S4096x1024_0_0) main_arg4
  let main_v2 : FVec F S4096x1024 .f32 := Host.absf main_v0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S1x1024 .f32 := Host.absf main_arg1
  let main_cst_0 : FVec F S_ .f32 := constant S_ .f32 0x7F800000#32
  let main_v7 : FVec F S1x1024 .f32 := broadcastInDim S1x1024 ![] bcast_S_S1x1024 main_cst_0
  let main_v8 : IVec S1x1024 1 := cmpf .olt main_v6 main_v7
  let main_c_1 : IVec S_ 1 := constantI S_ 1 1#1
  let main_v9 : IVec S_ 1 := (fun x v => Host.reduce IntOp.andi x v reducesTo_S1x1024_S_d0_1 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := Host.absf main_v1
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v5 main_v9 main_v13 main_v16
-- ==== Pre_finite_rows.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S1x2048 .f32) (main_arg2 : FVec F S4096x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : FVec F S4096x2048 .f32 := Host.absf main_arg2
  let main_cst_2 : FVec F S_ .f32 := constant S_ .f32 0x7F800000#32
  let main_v9 : FVec F S4096x2048 .f32 := broadcastInDim S4096x2048 ![] bcast_S_S4096x2048 main_cst_2
  let main_v10 : IVec S4096x2048 1 := cmpf .olt main_v8 main_v9
  let main_c_3 : IVec S_ 1 := constantI S_ 1 1#1
  let main_v11 : IVec S_ 1 := (fun x v => Host.reduce IntOp.andi x v reducesTo_S4096x2048_S_d0_1 h_S_) main_v10 main_c_3
  let main_v12 : IVec S_ 1 := andi main_v3 main_v7
  let main_v13 : IVec S_ 1 := andi main_v12 main_v11
  main_v13
-- ==== Kernel.lean ====
abbrev S4096x7168 : Shape := ⟨2, ![4096, 7168]⟩
abbrev S1x1024 : Shape := ⟨2, ![1, 1024]⟩
abbrev S4096x1024 : Shape := ⟨2, ![4096, 1024]⟩
abbrev S8x64x128x128 : Shape := ⟨4, ![8, 64, 128, 128]⟩
abbrev S4096x2048 : Shape := ⟨2, ![4096, 2048]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S8x1x1 : Shape := ⟨3, ![8, 1, 1]⟩
abbrev S64x1 : Shape := ⟨2, ![64, 1]⟩
abbrev S64x64 : Shape := ⟨2, ![64, 64]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S8x64 : Shape := ⟨2, ![8, 64]⟩
abbrev S8x64x1 : Shape := ⟨3, ![8, 64, 1]⟩
abbrev S8x64x128 : Shape := ⟨3, ![8, 64, 128]⟩
abbrev S1x8x1x64x1x128 : Shape := ⟨6, ![1, 8, 1, 64, 1, 128]⟩
abbrev S1x8x16x64x1x128 : Shape := ⟨6, ![1, 8, 16, 64, 1, 128]⟩
abbrev S8x1024x128 : Shape := ⟨3, ![8, 1024, 128]⟩
abbrev S8x1x128 : Shape := ⟨3, ![8, 1, 128]⟩
abbrev S4x4 : Shape := ⟨2, ![4, 4]⟩
abbrev S1x4x1x4x1 : Shape := ⟨5, ![1, 4, 1, 4, 1]⟩
abbrev S8x1x64x1x64 : Shape := ⟨5, ![8, 1, 64, 1, 64]⟩
abbrev S8x4x64x4x64 : Shape := ⟨5, ![8, 4, 64, 4, 64]⟩
abbrev S8x256x256 : Shape := ⟨3, ![8, 256, 256]⟩
abbrev S1024x128 : Shape := ⟨2, ![1024, 128]⟩
abbrev S1x256x256 : Shape := ⟨3, ![1, 256, 256]⟩
abbrev S1x1024x128 : Shape := ⟨3, ![1, 1024, 128]⟩
abbrev S1x1x128 : Shape := ⟨3, ![1, 1, 128]⟩
abbrev S1x128 : Shape := ⟨2, ![1, 128]⟩
abbrev S1x16x128x128 : Shape := ⟨4, ![1, 16, 128, 128]⟩
abbrev S128x128 : Shape := ⟨2, ![128, 128]⟩
abbrev S2x4x1024x128 : Shape := ⟨4, ![2, 4, 1024, 128]⟩
abbrev S2x4 : Shape := ⟨2, ![2, 4]⟩
abbrev S1x1 : Shape := ⟨2, ![1, 1]⟩
abbrev S1x1x1024x128 : Shape := ⟨4, ![1, 1, 1024, 128]⟩
abbrev S256x256 : Shape := ⟨2, ![256, 256]⟩
abbrev S1024 : Shape := ⟨1, ![1024]⟩
abbrev S1024x1 : Shape := ⟨2, ![1024, 1]⟩
abbrev S128 : Shape := ⟨1, ![128]⟩
abbrev S64x128 : Shape := ⟨2, ![64, 128]⟩
abbrev S1x1x128x128 : Shape := ⟨4, ![1, 1, 128, 128]⟩
abbrev S256x128 : Shape := ⟨2, ![256, 128]⟩

abbrev nBuf : Space → Nat
  | .hbm => 99
  | .vmem => 32
  | .smem => 0
  | _ => 0

abbrev bufTy : (tb : Table) → Fin (tcTables nBuf tb) → BufTy
  | .hbm, ⟨0, _⟩ => ⟨S4096x7168, .f32⟩
  | .hbm, ⟨1, _⟩ => ⟨S1x1024, .f32⟩
  | .hbm, ⟨2, _⟩ => ⟨S4096x1024, .f32⟩
  | .hbm, ⟨3, _⟩ => ⟨S8x64x128x128, .bf16⟩
  | .hbm, ⟨4, _⟩ => ⟨S4096x2048, .f32⟩
  | .hbm, ⟨5, _⟩ => ⟨S4096, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S4096x64, .f32⟩
  | .hbm, ⟨23, _⟩ => ⟨S4096x128, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S64, .f32⟩
  | .hbm, ⟨36, _⟩ => ⟨S8x1x1, .f32⟩
  | .hbm, ⟨37, _⟩ => ⟨S64x1, .f32⟩
  | .hbm, ⟨38, _⟩ => ⟨S1x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S1x64x64, .f32⟩
  | .hbm, ⟨44, _⟩ => ⟨S8x64x64, .f32⟩
  | .hbm, ⟨45, _⟩ => ⟨S8x64x64, .f32⟩
  | .hbm, ⟨46, _⟩ => ⟨S8x64x64, .f32⟩
  | .hbm, ⟨47, _⟩ => ⟨S8x64x64, .f32⟩
  | .hbm, ⟨48, _⟩ => ⟨S1x8, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64x1, .f32⟩
  | .hbm, ⟨53, _⟩ => ⟨S64x8, .f32⟩
  | .hbm, ⟨54, _⟩ => ⟨S64x8, .f32⟩
  | .hbm, ⟨55, _⟩ => ⟨S64x8, .f32⟩
  | .hbm, ⟨56, _⟩ => ⟨S64x8, .f32⟩
  | .hbm, ⟨57, _⟩ => ⟨S1x8, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64x1, .f32⟩
  | .hbm, ⟨62, _⟩ => ⟨S64x8, .f32⟩
  | .hbm, ⟨63, _⟩ => ⟨S64x8, .f32⟩
  | .hbm, ⟨64, _⟩ => ⟨S64x8, .f32⟩
  | .hbm, ⟨65, _⟩ => ⟨S64x8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8, .f32⟩
  | .hbm, ⟨70, _⟩ => ⟨S8x64, .f32⟩
  | .hbm, ⟨71, _⟩ => ⟨S8x64x1, .f32⟩
  | .hbm, ⟨72, _⟩ => ⟨S8x64x128, .f32⟩
  | .hbm, ⟨73, _⟩ => ⟨S1x8x1x64x1x128, .f32⟩
  | .hbm, ⟨74, _⟩ => ⟨S1x8x16x64x1x128, .f32⟩
  | .hbm, ⟨75, _⟩ => ⟨S8x1024x128, .f32⟩
  | .hbm, ⟨76, _⟩ => ⟨S8x64, .f32⟩
  | .hbm, ⟨77, _⟩ => ⟨S8x64x1, .f32⟩
  | .hbm, ⟨78, _⟩ => ⟨S8x64x128, .f32⟩
  | .hbm, ⟨79, _⟩ => ⟨S1x8x1x64x1x128, .f32⟩
  | .hbm, ⟨80, _⟩ => ⟨S1x8x16x64x1x128, .f32⟩
  | .hbm, ⟨81, _⟩ => ⟨S8x1024x128, .f32⟩
  | .hbm, ⟨82, _⟩ => ⟨S8x1x1, .f32⟩
  | .hbm, ⟨83, _⟩ => ⟨S8x1x128, .f32⟩
  | .hbm, ⟨84, _⟩ => ⟨S4x4, .i32⟩
  | .hbm, ⟨85, _⟩ => ⟨S4x4, .i32⟩
  | .hbm, ⟨86, _⟩ => ⟨S_, .i32⟩
  | .hbm, ⟨87, _⟩ => ⟨S4x4, .i32⟩
  | .hbm, ⟨88, _⟩ => ⟨S4x4, .i32⟩
  | .hbm, ⟨89, _⟩ => ⟨S4x4, .i1⟩
  | .hbm, ⟨90, _⟩ => ⟨S4x4, .f32⟩
  | .hbm, ⟨91, _⟩ => ⟨S1x4x1x4x1, .f32⟩
  | .hbm, ⟨92, _⟩ => ⟨S8x1x64x1x64, .f32⟩
  | .hbm, ⟨93, _⟩ => ⟨S8x4x64x4x64, .f32⟩
  | .hbm, ⟨94, _⟩ => ⟨S8x4x64x4x64, .f32⟩
  | .hbm, ⟨95, _⟩ => ⟨S8x4x64x4x64, .f32⟩
  | .hbm, ⟨96, _⟩ => ⟨S8x256x256, .f32⟩
  | .hbm, ⟨97, _⟩ => ⟨S4096x7168, .bf16⟩
  | .hbm, ⟨98, _⟩ => ⟨S8x1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x256x256, .f32⟩
  | .local _ .vmem, ⟨13, _⟩ => ⟨S1x256x256, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1x128, .f32⟩
  | .local _ .vmem, ⟨19, _⟩ => ⟨S1x1x128, .f32⟩
  | .local _ .vmem, ⟨20, _⟩ => ⟨S1x128, .f32⟩
  | .local _ .vmem, ⟨21, _⟩ => ⟨S1x128, .f32⟩
  | .local _ .vmem, ⟨22, _⟩ => ⟨S1024x128, .f32⟩
  | .local _ .vmem, ⟨23, _⟩ => ⟨S1024x128, .f32⟩
  | .local _ .vmem, ⟨24, _⟩ => ⟨S1x16x128x128, .bf16⟩
  | .local _ .vmem, ⟨25, _⟩ => ⟨S1x16x128x128, .bf16⟩
  | .local _ .vmem, ⟨26, _⟩ => ⟨S1024x128, .f32⟩
  | .local _ .vmem, ⟨27, _⟩ => ⟨S1024x128, .f32⟩
  | .local _ .vmem, ⟨28, _⟩ => ⟨S1x1x128, .f32⟩
  | .local _ .vmem, ⟨29, _⟩ => ⟨S1x1x128, .f32⟩
  | .local _ .vmem, ⟨30, _⟩ => ⟨S128x128, .f32⟩
  | .local _ .vmem, ⟨31, _⟩ => ⟨S2x4x1024x128, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_c : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84_0 : Ref sig .tc := ⟨.hbm, 97, rfl⟩
abbrev main_v84_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_mult1 (i : grid0.Coords) : BitVec 32 :=
  let c3_i32_232 : BitVec 32 := 3#32
  let arg1 : BitVec 32 := BitVec.ofNat 32 (i 1).val
  let v624 : BitVec 32 := Scalar.subi c3_i32_232 arg1
  let c1024_i32_233 : BitVec 32 := 1024#32
  let v625 : BitVec 32 := Scalar.muli v624 c1024_i32_233
  v625
def k0_mult2 (i : grid0.Coords) : BitVec 32 :=
  let c0_i32_234 : BitVec 32 := 0#32
  let arg0 : BitVec 32 := BitVec.ofNat 32 (i 0).val
  let v627 : BitVec 32 := Scalar.addi c0_i32_234 arg0
  let c128_i32_235 : BitVec 32 := 128#32
  let v628 : BitVec 32 := Scalar.muli v627 c128_i32_235
  v628
def k0_mult3 (i : grid0.Coords) : BitVec 32 :=
  let c8_i32_236 : BitVec 32 := 8#32
  let arg0 : BitVec 32 := BitVec.ofNat 32 (i 0).val
  let v630 : BitVec 32 := Scalar.addi c8_i32_236 arg0
  let c128_i32_237 : BitVec 32 := 128#32
  let v631 : BitVec 32 := Scalar.muli v630 c128_i32_237
  v631
def k0_mult4 (i : grid0.Coords) : BitVec 32 :=
  let c16_i32_238 : BitVec 32 := 16#32
  let arg0 : BitVec 32 := BitVec.ofNat 32 (i 0).val
  let v633 : BitVec 32 := Scalar.addi c16_i32_238 arg0
  let c128_i32_239 : BitVec 32 := 128#32
  let v634 : BitVec 32 := Scalar.muli v633 c128_i32_239
  v634
def k0_mult5 (i : grid0.Coords) : BitVec 32 :=
  let c24_i32_240 : BitVec 32 := 24#32
  let arg0 : BitVec 32 := BitVec.ofNat 32 (i 0).val
  let v636 : BitVec 32 := Scalar.addi c24_i32_240 arg0
  let c128_i32_241 : BitVec 32 := 128#32
  let v637 : BitVec 32 := Scalar.muli v636 c128_i32_241
  v637
def k0_off1 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_243 : BitVec 32 := 0#32
  ![v11.toNat, 0]
def k0_off2 (i : grid0.Coords) (c0_i32_234 : BitVec 32) : Fin 2 → Nat :=
  let c3_i32_232 : BitVec 32 := 3#32
  let arg1 : BitVec 32 := BitVec.ofNat 32 (i 1).val
  let v624 : BitVec 32 := Scalar.subi c3_i32_232 arg1
  let c1024_i32_233 : BitVec 32 := 1024#32
  let v625 : BitVec 32 := Scalar.muli v624 c1024_i32_233
  let v626 : BitVec 32 := v625
  let arg0 : BitVec 32 := BitVec.ofNat 32 (i 0).val
  let v627 : BitVec 32 := Scalar.addi c0_i32_234 arg0
  let c128_i32_235 : BitVec 32 := 128#32
  let v628 : BitVec 32 := Scalar.muli v627 c128_i32_235
  let v629 : BitVec 32 := v628
  ![v626.toNat, v629.toNat]
def k0_off3 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_242 : BitVec 32 := 0#32
  let c0_i32_244 : BitVec 32 := 0#32
  let c0_i32_245 : BitVec 32 := 0#32
  ![v11.toNat, 0, 0, 0]
def k0_off4 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_247 : BitVec 32 := 1#32
  ![v11.toNat, 1]
def k0_off5 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_246 : BitVec 32 := 1#32
  let c0_i32_248 : BitVec 32 := 0#32
  let c0_i32_249 : BitVec 32 := 0#32
  ![v11.toNat, 1, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_251 : BitVec 32 := 2#32
  ![v11.toNat, 2]
def k0_off7 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_250 : BitVec 32 := 2#32
  let c0_i32_252 : BitVec 32 := 0#32
  let c0_i32_253 : BitVec 32 := 0#32
  ![v11.toNat, 2, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_255 : BitVec 32 := 3#32
  ![v11.toNat, 3]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_254 : BitVec 32 := 3#32
  let c0_i32_256 : BitVec 32 := 0#32
  let c0_i32_257 : BitVec 32 := 0#32
  ![v11.toNat, 3, 0, 0]
def k0_off10 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v79 : Index := Scalar.indexCast v11
  let c3 : Index := 3#32
  let c0_44 : Index := 0#32
  let c0_45 : Index := 0#32
  ![v79.toNat, 3, 0, 0]
def k0_off11 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v566 : Index := Scalar.indexCast v11
  let c0_200 : Index := 0#32
  let c0_201 : Index := 0#32
  let c0_202 : Index := 0#32
  ![v566.toNat, 0, 0, 0]
def k0_off12 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v577 : Index := Scalar.indexCast v11
  let c1_205 : Index := 1#32
  let c0_206 : Index := 0#32
  let c0_207 : Index := 0#32
  ![v577.toNat, 1, 0, 0]
def k0_off13 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v582 : Index := Scalar.indexCast v11
  let c2_208 : Index := 2#32
  let c0_209 : Index := 0#32
  let c0_210 : Index := 0#32
  ![v582.toNat, 2, 0, 0]
def k0_mult6 (i : grid0.Coords) : BitVec 32 :=
  let c3_i32 : BitVec 32 := 3#32
  let arg1 : BitVec 32 := BitVec.ofNat 32 (i 1).val
  let v586 : BitVec 32 := Scalar.subi c3_i32 arg1
  let c1024_i32 : BitVec 32 := 1024#32
  let v587 : BitVec 32 := Scalar.muli v586 c1024_i32
  v587
def k0_mult7 (i : grid0.Coords) : BitVec 32 :=
  let c0_i32_211 : BitVec 32 := 0#32
  let arg0 : BitVec 32 := BitVec.ofNat 32 (i 0).val
  let v589 : BitVec 32 := Scalar.addi c0_i32_211 arg0
  let c128_i32 : BitVec 32 := 128#32
  let v590 : BitVec 32 := Scalar.muli v589 c128_i32
  v590
def k0_mult8 (i : grid0.Coords) : BitVec 32 :=
  let c8_i32 : BitVec 32 := 8#32
  let arg0 : BitVec 32 := BitVec.ofNat 32 (i 0).val
  let v592 : BitVec 32 := Scalar.addi c8_i32 arg0
  let c128_i32_212 : BitVec 32 := 128#32
  let v593 : BitVec 32 := Scalar.muli v592 c128_i32_212
  v593
def k0_mult9 (i : grid0.Coords) : BitVec 32 :=
  let c16_i32 : BitVec 32 := 16#32
  let arg0 : BitVec 32 := BitVec.ofNat 32 (i 0).val
  let v595 : BitVec 32 := Scalar.addi c16_i32 arg0
  let c128_i32_213 : BitVec 32 := 128#32
  let v596 : BitVec 32 := Scalar.muli v595 c128_i32_213
  v596
def k0_mult10 (i : grid0.Coords) : BitVec 32 :=
  let c24_i32 : BitVec 32 := 24#32
  let arg0 : BitVec 32 := BitVec.ofNat 32 (i 0).val
  let v598 : BitVec 32 := Scalar.addi c24_i32 arg0
  let c128_i32_214 : BitVec 32 := 128#32
  let v599 : BitVec 32 := Scalar.muli v598 c128_i32_214
  v599
def k0_off14 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_216 : BitVec 32 := 0#32
  ![v11.toNat, 0]
def k0_off15 (i : grid0.Coords) (c0_i32_211 : BitVec 32) : Fin 2 → Nat :=
  let c3_i32 : BitVec 32 := 3#32
  let arg1 : BitVec 32 := BitVec.ofNat 32 (i 1).val
  let v586 : BitVec 32 := Scalar.subi c3_i32 arg1
  let c1024_i32 : BitVec 32 := 1024#32
  let v587 : BitVec 32 := Scalar.muli v586 c1024_i32
  let v588 : BitVec 32 := v587
  let arg0 : BitVec 32 := BitVec.ofNat 32 (i 0).val
  let v589 : BitVec 32 := Scalar.addi c0_i32_211 arg0
  let c128_i32 : BitVec 32 := 128#32
  let v590 : BitVec 32 := Scalar.muli v589 c128_i32
  let v591 : BitVec 32 := v590
  ![v588.toNat, v591.toNat]
def k0_off16 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_215 : BitVec 32 := 0#32
  let c0_i32_217 : BitVec 32 := 0#32
  let c0_i32_218 : BitVec 32 := 0#32
  ![v11.toNat, 0, 0, 0]
def k0_off17 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_220 : BitVec 32 := 1#32
  ![v11.toNat, 1]
def k0_off18 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_219 : BitVec 32 := 1#32
  let c0_i32_221 : BitVec 32 := 0#32
  let c0_i32_222 : BitVec 32 := 0#32
  ![v11.toNat, 1, 0, 0]
def k0_off19 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_224 : BitVec 32 := 2#32
  ![v11.toNat, 2]
def k0_off20 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_223 : BitVec 32 := 2#32
  let c0_i32_225 : BitVec 32 := 0#32
  let c0_i32_226 : BitVec 32 := 0#32
  ![v11.toNat, 2, 0, 0]
def k0_off21 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_228 : BitVec 32 := 3#32
  ![v11.toNat, 3]
def k0_off22 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_227 : BitVec 32 := 3#32
  let c0_i32_229 : BitVec 32 := 0#32
  let c0_i32_230 : BitVec 32 := 0#32
  ![v11.toNat, 3, 0, 0]
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c31_i32 : BitVec 32 := 31#32
  let v621 : BitVec 1 := Scalar.cmpi .eq v1 c31_i32
  let v622 : BitVec 32 := Scalar.extui v621
  let c0_i32_231 : BitVec 32 := 0#32
  let v623 : BitVec 1 := Scalar.cmpi .ne v622 c0_i32_231
  v623

def k0_mult11 (i : grid0.Coords) : BitVec 32 :=
  let c3_i32_233 : BitVec 32 := 3#32
  let arg1 : BitVec 32 := BitVec.ofNat 32 (i 1).val
  let v625 : BitVec 32 := Scalar.subi c3_i32_233 arg1
  let c1024_i32_234 : BitVec 32 := 1024#32
  let v626 : BitVec 32 := Scalar.muli v625 c1024_i32_234
  v626
def k0_mult12 (i : grid0.Coords) : BitVec 32 :=
  let c0_i32_235 : BitVec 32 := 0#32
  let arg0 : BitVec 32 := BitVec.ofNat 32 (i 0).val
  let v628 : BitVec 32 := Scalar.addi c0_i32_235 arg0
  let c128_i32_236 : BitVec 32 := 128#32
  let v629 : BitVec 32 := Scalar.muli v628 c128_i32_236
  v629
def k0_mult13 (i : grid0.Coords) : BitVec 32 :=
  let c8_i32_237 : BitVec 32 := 8#32
  let arg0 : BitVec 32 := BitVec.ofNat 32 (i 0).val
  let v631 : BitVec 32 := Scalar.addi c8_i32_237 arg0
  let c128_i32_238 : BitVec 32 := 128#32
  let v632 : BitVec 32 := Scalar.muli v631 c128_i32_238
  v632
def k0_mult14 (i : grid0.Coords) : BitVec 32 :=
  let c16_i32_239 : BitVec 32 := 16#32
  let arg0 : BitVec 32 := BitVec.ofNat 32 (i 0).val
  let v634 : BitVec 32 := Scalar.addi c16_i32_239 arg0
  let c128_i32_240 : BitVec 32 := 128#32
  let v635 : BitVec 32 := Scalar.muli v634 c128_i32_240
  v635
def k0_mult15 (i : grid0.Coords) : BitVec 32 :=
  let c24_i32_241 : BitVec 32 := 24#32
  let arg0 : BitVec 32 := BitVec.ofNat 32 (i 0).val
  let v637 : BitVec 32 := Scalar.addi c24_i32_241 arg0
  let c128_i32_242 : BitVec 32 := 128#32
  let v638 : BitVec 32 := Scalar.muli v637 c128_i32_242
  v638
def k0_mult16 (i : grid0.Coords) : BitVec 32 :=
  let c3_i32_243 : BitVec 32 := 3#32
  let arg1 : BitVec 32 := BitVec.ofNat 32 (i 1).val
  let v640 : BitVec 32 := Scalar.subi c3_i32_243 arg1
  let c1024_i32_244 : BitVec 32 := 1024#32
  let v641 : BitVec 32 := Scalar.muli v640 c1024_i32_244
  v641
def k0_mult17 (i : grid0.Coords) : BitVec 32 :=
  let c0_i32_245 : BitVec 32 := 0#32
  let arg0 : BitVec 32 := BitVec.ofNat 32 (i 0).val
  let v643 : BitVec 32 := Scalar.addi c0_i32_245 arg0
  let c128_i32_246 : BitVec 32 := 128#32
  let v644 : BitVec 32 := Scalar.muli v643 c128_i32_246
  v644
def k0_mult18 (i : grid0.Coords) : BitVec 32 :=
  let c8_i32_247 : BitVec 32 := 8#32
  let arg0 : BitVec 32 := BitVec.ofNat 32 (i 0).val
  let v646 : BitVec 32 := Scalar.addi c8_i32_247 arg0
  let c128_i32_248 : BitVec 32 := 128#32
  let v647 : BitVec 32 := Scalar.muli v646 c128_i32_248
  v647
def k0_mult19 (i : grid0.Coords) : BitVec 32 :=
  let c16_i32_249 : BitVec 32 := 16#32
  let arg0 : BitVec 32 := BitVec.ofNat 32 (i 0).val
  let v649 : BitVec 32 := Scalar.addi c16_i32_249 arg0
  let c128_i32_250 : BitVec 32 := 128#32
  let v650 : BitVec 32 := Scalar.muli v649 c128_i32_250
  v650
def k0_mult20 (i : grid0.Coords) : BitVec 32 :=
  let c24_i32_251 : BitVec 32 := 24#32
  let arg0 : BitVec 32 := BitVec.ofNat 32 (i 0).val
  let v652 : BitVec 32 := Scalar.addi c24_i32_251 arg0
  let c128_i32_252 : BitVec 32 := 128#32
  let v653 : BitVec 32 := Scalar.muli v652 c128_i32_252
  v653
def k0_off23 (i : grid0.Coords) : Fin 2 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c0_i32_254 : BitVec 32 := 0#32
  ![v624.toNat, 0]
def k0_off24 (i : grid0.Coords) (c0_i32_235 : BitVec 32) : Fin 2 → Nat :=
  let c3_i32_233 : BitVec 32 := 3#32
  let arg1 : BitVec 32 := BitVec.ofNat 32 (i 1).val
  let v625 : BitVec 32 := Scalar.subi c3_i32_233 arg1
  let c1024_i32_234 : BitVec 32 := 1024#32
  let v626 : BitVec 32 := Scalar.muli v625 c1024_i32_234
  let v627 : BitVec 32 := v626
  let arg0 : BitVec 32 := BitVec.ofNat 32 (i 0).val
  let v628 : BitVec 32 := Scalar.addi c0_i32_235 arg0
  let c128_i32_236 : BitVec 32 := 128#32
  let v629 : BitVec 32 := Scalar.muli v628 c128_i32_236
  let v630 : BitVec 32 := v629
  ![v627.toNat, v630.toNat]
def k0_off25 (i : grid0.Coords) : Fin 4 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c0_i32_253 : BitVec 32 := 0#32
  let c0_i32_255 : BitVec 32 := 0#32
  let c0_i32_256 : BitVec 32 := 0#32
  ![v624.toNat, 0, 0, 0]
def k0_off26 (i : grid0.Coords) : Fin 2 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c1_i32_258 : BitVec 32 := 1#32
  ![v624.toNat, 1]
def k0_off27 (i : grid0.Coords) : Fin 4 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c1_i32_257 : BitVec 32 := 1#32
  let c0_i32_259 : BitVec 32 := 0#32
  let c0_i32_260 : BitVec 32 := 0#32
  ![v624.toNat, 1, 0, 0]
def k0_off28 (i : grid0.Coords) : Fin 2 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c2_i32_262 : BitVec 32 := 2#32
  ![v624.toNat, 2]
def k0_off29 (i : grid0.Coords) : Fin 4 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c2_i32_261 : BitVec 32 := 2#32
  let c0_i32_263 : BitVec 32 := 0#32
  let c0_i32_264 : BitVec 32 := 0#32
  ![v624.toNat, 2, 0, 0]
def k0_off30 (i : grid0.Coords) : Fin 2 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c3_i32_266 : BitVec 32 := 3#32
  ![v624.toNat, 3]
def k0_off31 (i : grid0.Coords) : Fin 4 → Nat :=
  let c1_i32_232 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v624 : BitVec 32 := Scalar.subi c1_i32_232 v11
  let c3_i32_265 : BitVec 32 := 3#32
  let c0_i32_267 : BitVec 32 := 0#32
  let c0_i32_268 : BitVec 32 := 0#32
  ![v624.toNat, 3, 0, 0]
def k0_off32 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_270 : BitVec 32 := 0#32
  ![v11.toNat, 0]
def k0_off33 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_269 : BitVec 32 := 0#32
  let c0_i32_271 : BitVec 32 := 0#32
  let c0_i32_272 : BitVec 32 := 0#32
  ![v11.toNat, 0, 0, 0]
def k0_off34 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_274 : BitVec 32 := 1#32
  ![v11.toNat, 1]
def k0_off35 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_273 : BitVec 32 := 1#32
  let c0_i32_275 : BitVec 32 := 0#32
  let c0_i32_276 : BitVec 32 := 0#32
  ![v11.toNat, 1, 0, 0]
def k0_off36 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_278 : BitVec 32 := 2#32
  ![v11.toNat, 2]
def k0_off37 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_277 : BitVec 32 := 2#32
  let c0_i32_279 : BitVec 32 := 0#32
  let c0_i32_280 : BitVec 32 := 0#32
  ![v11.toNat, 2, 0, 0]
def k0_off38 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_282 : BitVec 32 := 3#32
  ![v11.toNat, 3]
def k0_off39 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_281 : BitVec 32 := 3#32
  let c0_i32_283 : BitVec 32 := 0#32
  let c0_i32_284 : BitVec 32 := 0#32
  ![v11.toNat, 3, 0, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c8_i32 : BitVec 32 := 8#32
  let v1 : BitVec 32 := Scalar.addi c8_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c24_i32 : BitVec 32 := 24#32
  let v1 : BitVec 32 := Scalar.addi c24_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let v1 : BitVec 32 := Scalar.addi c0_i32 arg0
  let c0_i32_0 : BitVec 32 := 0#32
  ![v0.toNat, v1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x7168 : Shape := ⟨2, ![4096, 7168]⟩
abbrev S1x1024 : Shape := ⟨2, ![1, 1024]⟩
abbrev S4096x1024 : Shape := ⟨2, ![4096, 1024]⟩
abbrev S8x64x128x128 : Shape := ⟨4, ![8, 64, 128, 128]⟩
abbrev S4096x2048 : Shape := ⟨2, ![4096, 2048]⟩
abbrev S1024 : Shape := ⟨1, ![1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S8x128 : Shape := ⟨2, ![8, 128]⟩
abbrev S1x8x128 : Shape := ⟨3, ![1, 8, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x8x64 : Shape := ⟨3, ![4096, 8, 64]⟩
abbrev S64x64x8x128 : Shape := ⟨4, ![64, 64, 8, 128]⟩
abbrev S64x8x128x128 : Shape := ⟨4, ![64, 8, 128, 128]⟩
abbrev S8 : Shape := ⟨1, ![8]⟩
abbrev S8x1x1 : Shape := ⟨3, ![8, 1, 1]⟩
abbrev S64x1 : Shape := ⟨2, ![64, 1]⟩
abbrev S64x64 : Shape := ⟨2, ![64, 64]⟩
abbrev S1x64x64 : Shape := ⟨3, ![1, 64, 64]⟩
abbrev S8x64x64 : Shape := ⟨3, ![8, 64, 64]⟩
abbrev S64x8x64x64 : Shape := ⟨4, ![64, 8, 64, 64]⟩
abbrev S1x8x64x64 : Shape := ⟨4, ![1, 8, 64, 64]⟩
abbrev S64x8x128x64 : Shape := ⟨4, ![64, 8, 128, 64]⟩
abbrev S1x8 : Shape := ⟨2, ![1, 8]⟩
abbrev S64x8 : Shape := ⟨2, ![64, 8]⟩
abbrev S64x8x1 : Shape := ⟨3, ![64, 8, 1]⟩
abbrev S1x64x8x1 : Shape := ⟨4, ![1, 64, 8, 1]⟩
abbrev S64x8x64x128 : Shape := ⟨4, ![64, 8, 64, 128]⟩
abbrev S8x128x128x64 : Shape := ⟨4, ![8, 128, 128, 64]⟩
abbrev S4096x3072 : Shape := ⟨2, ![4096, 3072]⟩
abbrev S8x1x128 : Shape := ⟨3, ![8, 1, 128]⟩

abbrev nBuf : Space → Nat
  | .hbm => 360
  | .vmem => 0
  | .smem => 0
  | _ => 0

abbrev hbmTy0_0 (i : Nat) : BufTy := match i % 128 with
  | 0 => ⟨S4096x7168, .f32⟩
  | 1 => ⟨S1x1024, .f32⟩
  | 2 => ⟨S4096x1024, .f32⟩
  | 3 => ⟨S8x64x128x128, .bf16⟩
  | 4 => ⟨S4096x2048, .f32⟩
  | 5 => ⟨S4096x1024, .f32⟩
  | 6 => ⟨S4096x1024, .f32⟩
  | 7 => ⟨S4096x1024, .f32⟩
  | 8 => ⟨S4096x1024, .f32⟩
  | 9 => ⟨S1024, .f32⟩
  | 10 => ⟨S4096x8x128, .f32⟩
  | 11 => ⟨S_, .f32⟩
  | 12 => ⟨S4096x8, .f32⟩
  | 13 => ⟨S4096x8x1, .f32⟩
  | 14 => ⟨S_, .f32⟩
  | 15 => ⟨S4096x8x1, .f32⟩
  | 16 => ⟨S4096x8x1, .f32⟩
  | 17 => ⟨S4096x8x128, .f32⟩
  | 18 => ⟨S4096x8x128, .f32⟩
  | 19 => ⟨S4096x8x128, .f32⟩
  | 20 => ⟨S_, .f32⟩
  | 21 => ⟨S4096x8x128, .f32⟩
  | 22 => ⟨S4096x8x128, .f32⟩
  | 23 => ⟨S_, .f32⟩
  | 24 => ⟨S4096x8, .f32⟩
  | 25 => ⟨S4096x8x1, .f32⟩
  | 26 => ⟨S_, .f32⟩
  | 27 => ⟨S4096x8x1, .f32⟩
  | 28 => ⟨S4096x8x1, .f32⟩
  | 29 => ⟨S4096x8x128, .f32⟩
  | 30 => ⟨S4096x8x128, .f32⟩
  | 31 => ⟨S_, .f32⟩
  | 32 => ⟨S4096x8x1, .f32⟩
  | 33 => ⟨S4096x8x1, .f32⟩
  | 34 => ⟨S4096x8x1, .f32⟩
  | 35 => ⟨S4096x8x1, .f32⟩
  | 36 => ⟨S_, .f32⟩
  | 37 => ⟨S4096x8x1, .f32⟩
  | 38 => ⟨S4096x8x1, .f32⟩
  | 39 => ⟨S4096x8x128, .f32⟩
  | 40 => ⟨S4096x8x128, .f32⟩
  | 41 => ⟨S8x128, .f32⟩
  | 42 => ⟨S1x8x128, .f32⟩
  | 43 => ⟨S4096x8x128, .f32⟩
  | 44 => ⟨S4096x8x128, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x8x128, .f32⟩
  | 64 => ⟨S4096x1024, .f32⟩
  | 65 => ⟨S4096x1024, .f32⟩
  | 66 => ⟨S4096x1024, .f32⟩
  | 67 => ⟨S4096x1024, .f32⟩
  | 68 => ⟨S4096x8x128, .f32⟩
  | 69 => ⟨S_, .f32⟩
  | 70 => ⟨S8x128, .f32⟩
  | 71 => ⟨S1x8x128, .f32⟩
  | 72 => ⟨S4096x8x128, .f32⟩
  | 73 => ⟨S4096x8x128, .f32⟩
  | 74 => ⟨S_, .f32⟩
  | 75 => ⟨S8x128, .f32⟩
  | 76 => ⟨S1024, .f32⟩
  | 77 => ⟨S4096x8x128, .f32⟩
  | 78 => ⟨S_, .f32⟩
  | 79 => ⟨S4096x8, .f32⟩
  | 80 => ⟨S4096x8x1, .f32⟩
  | 81 => ⟨S4096x8x128, .f32⟩
  | 82 => ⟨S4096x8x128, .f32⟩
  | 83 => ⟨S4096x8x1, .f32⟩
  | 84 => ⟨S4096x8x128, .f32⟩
  | 85 => ⟨S_, .f32⟩
  | 86 => ⟨S4096x8, .f32⟩
  | 87 => ⟨S4096x8x1, .f32⟩
  | 88 => ⟨S_, .f32⟩
  | 89 => ⟨S4096x8x1, .f32⟩
  | 90 => ⟨S4096x8x1, .f32⟩
  | 91 => ⟨S_, .f32⟩
  | 92 => ⟨S4096x8, .f32⟩
  | 93 => ⟨S4096x8x128, .f32⟩
  | 94 => ⟨S4096x8x128, .f32⟩
  | 95 => ⟨S4096x8x128, .f32⟩
  | 96 => ⟨S_, .f32⟩
  | 97 => ⟨S4096x8, .f32⟩
  | 98 => ⟨S4096x8x1, .f32⟩
  | 99 => ⟨S4096x8x128, .f32⟩
  | 100 => ⟨S4096x8x1, .f32⟩
  | 101 => ⟨S_, .f32⟩
  | 102 => ⟨S4096x8x1, .f32⟩
  | 103 => ⟨S4096x8x1, .f32⟩
  | 104 => ⟨S_, .f32⟩
  | 105 => ⟨S4096x8, .f32⟩
  | 106 => ⟨S4096x8x128, .f32⟩
  | 107 => ⟨S4096x8x128, .f32⟩
  | 108 => ⟨S4096x1024, .f32⟩
  | 109 => ⟨S4096x8x128, .f32⟩
  | 110 => ⟨S4096, .f32⟩
  | 111 => ⟨S64, .f32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S4096x1, .f32⟩
  | 120 => ⟨S1x64, .f32⟩
  | 121 => ⟨S4096x64, .f32⟩
  | 122 => ⟨S4096x64, .f32⟩
  | 123 => ⟨S4096x64, .f32⟩
  | 124 => ⟨S4096x64, .f32⟩
  | 125 => ⟨S4096x1x64, .f32⟩
  | 126 => ⟨S4096x64, .f32⟩
  | 127 => ⟨S4096x1x64, .f32⟩
  | _ => ⟨S4096x7168, .f32⟩

abbrev hbmTy0_1 (i : Nat) : BufTy := match i % 128 with
  | 0 => ⟨S4096x8x64, .f32⟩
  | 1 => ⟨S4096x8x64, .f32⟩
  | 2 => ⟨S4096x8x64, .f32⟩
  | 3 => ⟨S4096x8x64, .f32⟩
  | 4 => ⟨S4096x8x64, .f32⟩
  | 5 => ⟨S4096x8x64, .f32⟩
  | 6 => ⟨S4096x8x64, .f32⟩
  | 7 => ⟨S4096x8x64, .f32⟩
  | 8 => ⟨S4096x8x64, .f32⟩
  | 9 => ⟨S4096x8x64, .f32⟩
  | 10 => ⟨S4096x8x64, .f32⟩
  | 11 => ⟨S4096x8x64, .f32⟩
  | 12 => ⟨S4096x8x128, .f32⟩
  | 13 => ⟨S64x64x8x128, .f32⟩
  | 14 => ⟨S4096x8x128, .f32⟩
  | 15 => ⟨S4096, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S4096x1, .f32⟩
  | 25 => ⟨S1x64, .f32⟩
  | 26 => ⟨S4096x64, .f32⟩
  | 27 => ⟨S4096x64, .f32⟩
  | 28 => ⟨S4096x64, .f32⟩
  | 29 => ⟨S4096x64, .f32⟩
  | 30 => ⟨S4096x1x64, .f32⟩
  | 31 => ⟨S4096x64, .f32⟩
  | 32 => ⟨S4096x1x64, .f32⟩
  | 33 => ⟨S4096x8x64, .f32⟩
  | 34 => ⟨S4096x8x64, .f32⟩
  | 35 => ⟨S4096x8x64, .f32⟩
  | 36 => ⟨S4096x8x64, .f32⟩
  | 37 => ⟨S4096x8x64, .f32⟩
  | 38 => ⟨S4096x8x64, .f32⟩
  | 39 => ⟨S4096x8x64, .f32⟩
  | 40 => ⟨S4096x8x64, .f32⟩
  | 41 => ⟨S4096x8x64, .f32⟩
  | 42 => ⟨S4096x8x64, .f32⟩
  | 43 => ⟨S4096x8x64, .f32⟩
  | 44 => ⟨S4096x8x64, .f32⟩
  | 45 => ⟨S4096x8x128, .f32⟩
  | 46 => ⟨S64x64x8x128, .f32⟩
  | 47 => ⟨S_, .f32⟩
  | 48 => ⟨S64x64x8x128, .f32⟩
  | 49 => ⟨S64x64x8x128, .f32⟩
  | 50 => ⟨S64x64x8x128, .f32⟩
  | 51 => ⟨S8x64x128x128, .f32⟩
  | 52 => ⟨S64x8x128x128, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S8, .f32⟩
  | 63 => ⟨S8, .f32⟩
  | 64 => ⟨S64, .f32⟩
  | 65 => ⟨S8x1x1, .f32⟩
  | 66 => ⟨S64x1, .f32⟩
  | 67 => ⟨S1x64, .f32⟩
  | 68 => ⟨S64x64, .f32⟩
  | 69 => ⟨S64x64, .f32⟩
  | 70 => ⟨S64x64, .f32⟩
  | 71 => ⟨S64x64, .f32⟩
  | 72 => ⟨S1x64x64, .f32⟩
  | 73 => ⟨S8x64x64, .f32⟩
  | 74 => ⟨S8x64x64, .f32⟩
  | 75 => ⟨S8x64x64, .f32⟩
  | 76 => ⟨S8x64x64, .f32⟩
  | 77 => ⟨S64x8x64x64, .f32⟩
  | 78 => ⟨S1x8x64x64, .f32⟩
  | 79 => ⟨S64x8x64x64, .f32⟩
  | 80 => ⟨S64x8x64x64, .f32⟩
  | 81 => ⟨S64x8x128x64, .f32⟩
  | 82 => ⟨S64x64x8x128, .f32⟩
  | 83 => ⟨S1x8, .f32⟩
  | 84 => ⟨S_, .f32⟩
  | 85 => ⟨S64, .f32⟩
  | 86 => ⟨S64, .f32⟩
  | 87 => ⟨S64x1, .f32⟩
  | 88 => ⟨S64x8, .f32⟩
  | 89 => ⟨S64x8, .f32⟩
  | 90 => ⟨S64x8, .f32⟩
  | 91 => ⟨S64x8, .f32⟩
  | 92 => ⟨S64x8x1, .f32⟩
  | 93 => ⟨S1x64x8x1, .f32⟩
  | 94 => ⟨S64x64x8x128, .f32⟩
  | 95 => ⟨S64x64x8x128, .f32⟩
  | 96 => ⟨S64x8x128x64, .f32⟩
  | 97 => ⟨S64x64x8x128, .f32⟩
  | 98 => ⟨S64x64x8x128, .f32⟩
  | 99 => ⟨S64x64x8x128, .f32⟩
  | 100 => ⟨S64x8x128x64, .f32⟩
  | 101 => ⟨S64x8x64x128, .f32⟩
  | 102 => ⟨S64x64x8x128, .f32⟩
  | 103 => ⟨S64x8x128x128, .f32⟩
  | 104 => ⟨S64x8x128x128, .f32⟩
  | 105 => ⟨S64x64x8x128, .f32⟩
  | 106 => ⟨S64x64x8x128, .f32⟩
  | 107 => ⟨S64x8x128x64, .f32⟩
  | 108 => ⟨S64x8x64x64, .f32⟩
  | 109 => ⟨S64x8x128x64, .f32⟩
  | 110 => ⟨S64x64x8x128, .f32⟩
  | 111 => ⟨S64x8x64x64, .f32⟩
  | 112 => ⟨S64x8x64x64, .f32⟩
  | 113 => ⟨S64x8x64x128, .f32⟩
  | 114 => ⟨S64x64x8x128, .f32⟩
  | 115 => ⟨S64x8x64x128, .f32⟩
  | 116 => ⟨S64x64x8x128, .f32⟩
  | 117 => ⟨S64x64x8x128, .f32⟩
  | 118 => ⟨S8, .f32⟩
  | 119 => ⟨S_, .f32⟩
  | 120 => ⟨S8, .f32⟩
  | 121 => ⟨S8, .f32⟩
  | 122 => ⟨S8, .f32⟩
  | 123 => ⟨S_, .f32⟩
  | 124 => ⟨S8, .f32⟩
  | 125 => ⟨S8, .f32⟩
  | 126 => ⟨S8, .f32⟩
  | 127 => ⟨S8, .f32⟩
  | _ => ⟨S4096x7168, .f32⟩

abbrev hbmTy0_2 (i : Nat) : BufTy := match i % 128 with
  | 0 => ⟨S8, .f32⟩
  | 1 => ⟨S64, .f32⟩
  | 2 => ⟨S1x8, .f32⟩
  | 3 => ⟨S_, .f32⟩
  | 4 => ⟨S64, .f32⟩
  | 5 => ⟨S64, .f32⟩
  | 6 => ⟨S64x1, .f32⟩
  | 7 => ⟨S64x8, .f32⟩
  | 8 => ⟨S64x8, .f32⟩
  | 9 => ⟨S64x8, .f32⟩
  | 10 => ⟨S64x8, .f32⟩
  | 11 => ⟨S64x8x1, .f32⟩
  | 12 => ⟨S1x64x8x1, .f32⟩
  | 13 => ⟨S64x64x8x128, .f32⟩
  | 14 => ⟨S64x64x8x128, .f32⟩
  | 15 => ⟨S64x8x128x128, .f32⟩
  | 16 => ⟨S64, .f32⟩
  | 17 => ⟨S64x1, .f32⟩
  | 18 => ⟨S1x64, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S_, .f32⟩
  | 26 => ⟨S64x64, .f32⟩
  | 27 => ⟨S64x64, .i1⟩
  | 28 => ⟨S_, .f32⟩
  | 29 => ⟨S8, .f32⟩
  | 30 => ⟨S8, .f32⟩
  | 31 => ⟨S8x1x1, .f32⟩
  | 32 => ⟨S1x64x64, .f32⟩
  | 33 => ⟨S8x64x64, .f32⟩
  | 34 => ⟨S8x64x64, .f32⟩
  | 35 => ⟨S8x64x64, .f32⟩
  | 36 => ⟨S8x64x64, .f32⟩
  | 37 => ⟨S_, .f32⟩
  | 38 => ⟨S_, .f32⟩
  | 39 => ⟨S8x64x64, .i1⟩
  | 40 => ⟨S8x64x64, .f32⟩
  | 41 => ⟨S8x64x64, .f32⟩
  | 42 => ⟨S8x128x128x64, .f32⟩
  | 43 => ⟨S64x8x128x128, .f32⟩
  | 44 => ⟨S8x128x128x64, .f32⟩
  | 45 => ⟨S8x128x128x64, .f32⟩
  | 46 => ⟨S64x8x128x128, .f32⟩
  | 47 => ⟨S64x8x128x64, .f32⟩
  | 48 => ⟨S64x64x8x128, .f32⟩
  | 49 => ⟨S64x8x128x64, .f32⟩
  | 50 => ⟨S64x64x8x128, .f32⟩
  | 51 => ⟨S64x64x8x128, .f32⟩
  | 52 => ⟨S64x64x8x128, .f32⟩
  | 53 => ⟨S4096x8x128, .f32⟩
  | 54 => ⟨S4096x8x64, .f32⟩
  | 55 => ⟨S4096x8x64, .f32⟩
  | 56 => ⟨S4096x8x64, .f32⟩
  | 57 => ⟨S4096x8x64, .f32⟩
  | 58 => ⟨S4096x8x64, .f32⟩
  | 59 => ⟨S4096x8x64, .f32⟩
  | 60 => ⟨S4096x8x64, .f32⟩
  | 61 => ⟨S4096x8x64, .f32⟩
  | 62 => ⟨S4096x8x64, .f32⟩
  | 63 => ⟨S4096x8x64, .f32⟩
  | 64 => ⟨S4096x8x64, .f32⟩
  | 65 => ⟨S4096x8x64, .f32⟩
  | 66 => ⟨S4096x8x64, .f32⟩
  | 67 => ⟨S_, .f32⟩
  | 68 => ⟨S4096x8x128, .f32⟩
  | 69 => ⟨S_, .f32⟩
  | 70 => ⟨S4096x8x128, .f32⟩
  | 71 => ⟨S4096x8x128, .f32⟩
  | 72 => ⟨S4096x1024, .f32⟩
  | 73 => ⟨S64x64x8x128, .f32⟩
  | 74 => ⟨S_, .f32⟩
  | 75 => ⟨S64x64x8x128, .f32⟩
  | 76 => ⟨S64x64x8x128, .f32⟩
  | 77 => ⟨S4096x8x128, .f32⟩
  | 78 => ⟨S4096x8x64, .f32⟩
  | 79 => ⟨S4096x8x64, .f32⟩
  | 80 => ⟨S4096x8x64, .f32⟩
  | 81 => ⟨S4096x8x64, .f32⟩
  | 82 => ⟨S4096x8x64, .f32⟩
  | 83 => ⟨S4096x8x64, .f32⟩
  | 84 => ⟨S4096x8x64, .f32⟩
  | 85 => ⟨S4096x8x64, .f32⟩
  | 86 => ⟨S4096x8x64, .f32⟩
  | 87 => ⟨S4096x8x64, .f32⟩
  | 88 => ⟨S4096x8x64, .f32⟩
  | 89 => ⟨S4096x8x64, .f32⟩
  | 90 => ⟨S4096x8x64, .f32⟩
  | 91 => ⟨S_, .f32⟩
  | 92 => ⟨S4096x8x128, .f32⟩
  | 93 => ⟨S_, .f32⟩
  | 94 => ⟨S4096x8x128, .f32⟩
  | 95 => ⟨S4096x8x128, .f32⟩
  | 96 => ⟨S4096x1024, .f32⟩
  | 97 => ⟨S64x64x8x128, .f32⟩
  | 98 => ⟨S4096x1024, .f32⟩
  | 99 => ⟨S_, .f32⟩
  | 100 => ⟨S4096x3072, .f32⟩
  | 101 => ⟨S4096x7168, .f32⟩
  | 102 => ⟨S4096x7168, .bf16⟩
  | 103 => ⟨S8x1x128, .f32⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_17 : Ref sig .tc := ⟨.hbm, 146, rfl⟩
abbrev main_v108 : Ref sig .tc := ⟨.hbm, 147, rfl⟩
abbrev main_v109 : Ref sig .tc := ⟨.hbm, 148, rfl⟩
abbrev main_cst_18 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_19 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_20 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_21 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_cst_22 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_cst_23 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_cst_24 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_25 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_cst_26 : Ref sig .tc := ⟨.hbm, 278, rfl⟩
abbrev main_v231 : Ref sig .tc := ⟨.hbm, 279, rfl⟩
abbrev main_v232 : Ref sig .tc := ⟨.hbm, 280, rfl⟩
abbrev main_cst_27 : Ref sig .tc := ⟨.hbm, 281, rfl⟩
abbrev main_v233 : Ref sig .tc := ⟨.hbm, 282, rfl⟩
abbrev main_v234 : Ref sig .tc := ⟨.hbm, 283, rfl⟩
abbrev main_cst_28 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_29 : Ref sig .tc := ⟨.hbm, 293, rfl⟩
abbrev main_call2_v0 : Ref sig .tc := ⟨.hbm, 294, rfl⟩
abbrev main_call2_v1 : Ref sig .tc := ⟨.hbm, 295, rfl⟩
abbrev main_call2_v2 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_cst_30 : Ref sig .tc := ⟨.hbm, 323, rfl⟩
abbrev main_v269 : Ref sig .tc := ⟨.hbm, 324, rfl⟩
abbrev main_cst_31 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_cst_32 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_cst_33 : Ref sig .tc := ⟨.hbm, 347, rfl⟩
abbrev main_v290 : Ref sig .tc := ⟨.hbm, 348, rfl⟩
abbrev main_cst_34 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_cst_35 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩

abbrev nD : Nat := 1
abbrev τ : Topo := Topo.v7x

variable {F : FTy → Type} [FloatOps F]
-- ==== Kernel2.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x8192 : Shape := ⟨2, ![4096, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S4x2048x2048, .f32⟩
  | .hbm, ⟨4, _⟩ => ⟨S4096x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S_, .f32⟩
  | .hbm, ⟨3, _⟩ => ⟨S4096x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S4096x7168 : Shape := ⟨2, ![4096, 7168]⟩
abbrev S4x2048x1792 : Shape := ⟨3, ![4, 2048, 1792]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S4x2048x1792, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x7168 : Shape := ⟨2, ![4096, 7168]⟩
abbrev S_ : Shape := ⟨0, ![]⟩
abbrev S4x2048x1792 : Shape := ⟨3, ![4, 2048, 1792]⟩
abbrev S2048x4x1792 : Shape := ⟨3, ![2048, 4, 1792]⟩
abbrev S2048x7168 : Shape := ⟨2, ![2048, 7168]⟩
abbrev S7168x2048 : Shape := ⟨2, ![7168, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S4x2048x1792, .f32⟩
  | .hbm, ⟨4, _⟩ => ⟨S4096x2048, .f32⟩
  | .hbm, ⟨5, _⟩ => ⟨S2048x4x1792, .f32⟩
  | .hbm, ⟨6, _⟩ => ⟨S2048x7168, .f32⟩
  | .hbm, ⟨7, _⟩ => ⟨S4096x7168, .f32⟩
  | .hbm, ⟨8, _⟩ => ⟨S4096x7168, .f32⟩
  | .hbm, ⟨9, _⟩ => ⟨S7168x2048, .f32⟩
  | .hbm, ⟨10, _⟩ => ⟨S2048x7168, .f32⟩
  | .hbm, ⟨11, _⟩ => ⟨S2048x4x1792, .f32⟩
  | .hbm, ⟨12, _⟩ => ⟨S4x2048x1792, .f32⟩
  | .hbm, ⟨13, _⟩ => ⟨S4x2048x1792, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S4096x7168 : Shape := ⟨2, ![4096, 7168]⟩
abbrev S4x2048x896 : Shape := ⟨3, ![4, 2048, 896]⟩
abbrev S4096x2048 : Shape := ⟨2, ![4096, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x7168, .bf16⟩
  | .hbm, ⟨1, _⟩ => ⟨S4x2048x896, .bf16⟩
  | .hbm, ⟨2, _⟩ => ⟨S4x2048x896, .bf16⟩
  | .hbm, ⟨3, _⟩ => ⟨S4096x2048, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond4 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x7168 : Shape := ⟨2, ![4096, 7168]⟩
abbrev S4x2048x896 : Shape := ⟨3, ![4, 2048, 896]⟩
abbrev S_ : Shape := ⟨0, ![]⟩
abbrev S4096x2048 : Shape := ⟨2, ![4096, 2048]⟩
abbrev S4x2048x1792 : Shape := ⟨3, ![4, 2048, 1792]⟩
abbrev S2048x4x1792 : Shape := ⟨3, ![2048, 4, 1792]⟩
abbrev S2048x7168 : Shape := ⟨2, ![2048, 7168]⟩

abbrev nBuf : Space → Nat
  | .hbm => 12
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4x2048x896, .bf16⟩
  | .hbm, ⟨2, _⟩ => ⟨S4x2048x896, .bf16⟩
  | .hbm, ⟨3, _⟩ => ⟨S_, .f32⟩
  | .hbm, ⟨4, _⟩ => ⟨S4096x2048, .f32⟩
  | .hbm, ⟨5, _⟩ => ⟨S4x2048x1792, .bf16⟩
  | .hbm, ⟨6, _⟩ => ⟨S4x2048x1792, .f32⟩
  | .hbm, ⟨7, _⟩ => ⟨S2048x4x1792, .f32⟩
  | .hbm, ⟨8, _⟩ => ⟨S2048x7168, .f32⟩
  | .hbm, ⟨9, _⟩ => ⟨S4096x7168, .f32⟩
  | .hbm, ⟨10, _⟩ => ⟨S4096x7168, .f32⟩
  | .hbm, ⟨11, _⟩ => ⟨S4096x2048, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S8x128 : Shape := ⟨2, ![8, 128]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S4096x8192 : Shape := ⟨2, ![4096, 8192]⟩
abbrev S8192x2048 : Shape := ⟨2, ![8192, 2048]⟩
abbrev S4096x2048 : Shape := ⟨2, ![4096, 2048]⟩
abbrev S4x1x2048 : Shape := ⟨3, ![4, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4x1x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference11Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S4096 : Shape := ⟨1, ![4096]⟩
abbrev S4x1024x2048 : Shape := ⟨3, ![4, 1024, 2048]⟩
abbrev S4x2048 : Shape := ⟨2, ![4, 2048]⟩
abbrev S4x1x2048 : Shape := ⟨3, ![4, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4x1024x2048, .f32⟩
  | .hbm, ⟨34, _⟩ => ⟨S4096x2048, .bf16⟩
  | .hbm, ⟨35, _⟩ => ⟨S_, .f32⟩
  | .hbm, ⟨36, _⟩ => ⟨S4x2048, .f32⟩
  | .hbm, ⟨37, _⟩ => ⟨S4x1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference12Ideal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel13.lean ====
abbrev S4096x2048 : Shape := ⟨2, ![4096, 2048]⟩
abbrev S4x2048x896 : Shape := ⟨3, ![4, 2048, 896]⟩
abbrev S4096x7168 : Shape := ⟨2, ![4096, 7168]⟩
abbrev S1024x2048 : Shape := ⟨2, ![1024, 2048]⟩
abbrev S1x2048x896 : Shape := ⟨3, ![1, 2048, 896]⟩
abbrev S1024x896 : Shape := ⟨2, ![1024, 896]⟩
abbrev S8x128 : Shape := ⟨2, ![8, 128]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4x2048x896 : Shape := ⟨3, ![4, 2048, 896]⟩
abbrev S2048x4x896 : Shape := ⟨3, ![2048, 4, 896]⟩
abbrev S2048x3584 : Shape := ⟨2, ![2048, 3584]⟩
abbrev S4096x3584 : Shape := ⟨2, ![4096, 3584]⟩
abbrev S4096x4x1x896 : Shape := ⟨4, ![4096, 4, 1, 896]⟩
abbrev S_ : Shape := ⟨0, ![]⟩
abbrev S4096x4x2x896 : Shape := ⟨4, ![4096, 4, 2, 896]⟩
abbrev S4096x7168 : Shape := ⟨2, ![4096, 7168]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x2048, .f32⟩
  | .hbm, ⟨3, _⟩ => ⟨S4x2048x896, .f32⟩
  | .hbm, ⟨4, _⟩ => ⟨S2048x4x896, .f32⟩
  | .hbm, ⟨5, _⟩ => ⟨S2048x3584, .f32⟩
  | .hbm, ⟨6, _⟩ => ⟨S4096x3584, .f32⟩
  | .hbm, ⟨7, _⟩ => ⟨S4096x4x1x896, .f32⟩
  | .hbm, ⟨8, _⟩ => ⟨S_, .f32⟩
  | .hbm, ⟨9, _⟩ => ⟨S4096x4x1x896, .f32⟩
  | .hbm, ⟨10, _⟩ => ⟨S4096x4x2x896, .f32⟩
  | .hbm, ⟨11, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel16.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel17.lean ====
abbrev S4096x2048 : Shape := ⟨2, ![4096, 2048]⟩
abbrev S4x2048x896 : Shape := ⟨3, ![4, 2048, 896]⟩
abbrev S4096x7168 : Shape := ⟨2, ![4096, 7168]⟩
abbrev S1024x2048 : Shape := ⟨2, ![1024, 2048]⟩
abbrev S1x2048x896 : Shape := ⟨3, ![1, 2048, 896]⟩
abbrev S1024x896 : Shape := ⟨2, ![1024, 896]⟩
abbrev S8x128 : Shape := ⟨2, ![8, 128]⟩
abbrev S2048x896 : Shape := ⟨2, ![2048, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S4x2048x896 : Shape := ⟨3, ![4, 2048, 896]⟩
abbrev S4096x7168 : Shape := ⟨2, ![4096, 7168]⟩
abbrev S2048x4x896 : Shape := ⟨3, ![2048, 4, 896]⟩
abbrev S2048x3584 : Shape := ⟨2, ![2048, 3584]⟩
abbrev S4096x3584 : Shape := ⟨2, ![4096, 3584]⟩
abbrev S4096x4x1x896 : Shape := ⟨4, ![4096, 4, 1, 896]⟩
abbrev S4096x4x2x896 : Shape := ⟨4, ![4096, 4, 2, 896]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S4096x7168, .f32⟩
  | .hbm, ⟨3, _⟩ => ⟨S4096x2048, .f32⟩
  | .hbm, ⟨4, _⟩ => ⟨S4x2048x896, .f32⟩
  | .hbm, ⟨5, _⟩ => ⟨S2048x4x896, .f32⟩
  | .hbm, ⟨6, _⟩ => ⟨S2048x3584, .f32⟩
  | .hbm, ⟨7, _⟩ => ⟨S4096x3584, .f32⟩
  | .hbm, ⟨8, _⟩ => ⟨S4096x4x1x896, .f32⟩
  | .hbm, ⟨9, _⟩ => ⟨S4096x4x2x896, .f32⟩
  | .hbm, ⟨10, _⟩ => ⟨S4096x4x1x896, .f32⟩
  | .hbm, ⟨11, _⟩ => ⟨S4096x4x2x896, .f32⟩
  | .hbm, ⟨12, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S2048x1792 : Shape := ⟨2, ![2048, 1792]⟩
abbrev S256x1792 : Shape := ⟨2, ![256, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4096x7168 : Shape := ⟨2, ![4096, 7168]⟩
abbrev S1x1024 : Shape := ⟨2, ![1, 1024]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S8x1x1 : Shape := ⟨3, ![8, 1, 1]⟩
abbrev S64x1 : Shape := ⟨2, ![64, 1]⟩
abbrev S64x64 : Shape := ⟨2, ![64, 64]⟩
abbrev S1x64x64 : Shape := ⟨3, ![1, 64, 64]⟩
abbrev S8x64x64 : Shape := ⟨3, ![8, 64, 64]⟩
abbrev S1x8 : Shape := ⟨2, ![1, 8]⟩
abbrev S64x8 : Shape := ⟨2, ![64, 8]⟩
abbrev S8x64 : Shape := ⟨2, ![8, 64]⟩
abbrev S8x64x1 : Shape := ⟨3, ![8, 64, 1]⟩
abbrev S8x64x128 : Shape := ⟨3, ![8, 64, 128]⟩
abbrev S1x8x1x64x1x128 : Shape := ⟨6, ![1, 8, 1, 64, 1, 128]⟩
abbrev S1x8x16x64x1x128 : Shape := ⟨6, ![1, 8, 16, 64, 1, 128]⟩
abbrev S8x1024x128 : Shape := ⟨3, ![8, 1024, 128]⟩
abbrev S8x1x128 : Shape := ⟨3, ![8, 1, 128]⟩
abbrev S4x4 : Shape := ⟨2, ![4, 4]⟩
abbrev S1x4x1x4x1 : Shape := ⟨5, ![1, 4, 1, 4, 1]⟩
abbrev S8x1x64x1x64 : Shape := ⟨5, ![8, 1, 64, 1, 64]⟩
abbrev S8x4x64x4x64 : Shape := ⟨5, ![8, 4, 64, 4, 64]⟩
abbrev S8x256x256 : Shape := ⟨3, ![8, 256, 256]⟩
abbrev S4096x2048 : Shape := ⟨2, ![4096, 2048]⟩
abbrev S4096x1024 : Shape := ⟨2, ![4096, 1024]⟩
abbrev S8x64x128x128 : Shape := ⟨4, ![8, 64, 128, 128]⟩
abbrev S1024x128 : Shape := ⟨2, ![1024, 128]⟩
abbrev S1x256x256 : Shape := ⟨3, ![1, 256, 256]⟩
abbrev S1x1024x128 : Shape := ⟨3, ![1, 1024, 128]⟩
abbrev S1x1x128 : Shape := ⟨3, ![1, 1, 128]⟩
abbrev S1x128 : Shape := ⟨2, ![1, 128]⟩
abbrev S1x16x128x128 : Shape := ⟨4, ![1, 16, 128, 128]⟩
abbrev S128x128 : Shape := ⟨2, ![128, 128]⟩
abbrev S256x256 : Shape := ⟨2, ![256, 256]⟩
abbrev S64x128 : Shape := ⟨2, ![64, 128]⟩
abbrev S1x1x128x128 : Shape := ⟨4, ![1, 1, 128, 128]⟩
abbrev S256x128 : Shape := ⟨2, ![256, 128]⟩
abbrev S1024 : Shape := ⟨1, ![1024]⟩
abbrev S1024x1 : Shape := ⟨2, ![1024, 1]⟩

abbrev nBuf : Space → Nat
  | .hbm => 97
  | .vmem => 29
  | .smem => 0
  | _ => 0

abbrev bufTy : (tb : Table) → Fin (tcTables nBuf tb) → BufTy
  | .hbm, ⟨0, _⟩ => ⟨S4096x7168, .f32⟩
  | .hbm, ⟨1, _⟩ => ⟨S1x1024, .f32⟩
  | .hbm, ⟨2, _⟩ => ⟨S4096, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S4096x1, .f32⟩
  | .hbm, ⟨12, _⟩ => ⟨S1x64, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x128, .f32⟩
  | .hbm, ⟨19, _⟩ => ⟨S4096x64, .f32⟩
  | .hbm, ⟨20, _⟩ => ⟨S4096x128, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S64, .f32⟩
  | .hbm, ⟨33, _⟩ => ⟨S8x1x1, .f32⟩
  | .hbm, ⟨34, _⟩ => ⟨S64x1, .f32⟩
  | .hbm, ⟨35, _⟩ => ⟨S1x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S1x64x64, .f32⟩
  | .hbm, ⟨41, _⟩ => ⟨S8x64x64, .f32⟩
  | .hbm, ⟨42, _⟩ => ⟨S8x64x64, .f32⟩
  | .hbm, ⟨43, _⟩ => ⟨S8x64x64, .f32⟩
  | .hbm, ⟨44, _⟩ => ⟨S8x64x64, .f32⟩
  | .hbm, ⟨45, _⟩ => ⟨S1x8, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64x1, .f32⟩
  | .hbm, ⟨50, _⟩ => ⟨S64x8, .f32⟩
  | .hbm, ⟨51, _⟩ => ⟨S64x8, .f32⟩
  | .hbm, ⟨52, _⟩ => ⟨S64x8, .f32⟩
  | .hbm, ⟨53, _⟩ => ⟨S64x8, .f32⟩
  | .hbm, ⟨54, _⟩ => ⟨S1x8, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64x1, .f32⟩
  | .hbm, ⟨59, _⟩ => ⟨S64x8, .f32⟩
  | .hbm, ⟨60, _⟩ => ⟨S64x8, .f32⟩
  | .hbm, ⟨61, _⟩ => ⟨S64x8, .f32⟩
  | .hbm, ⟨62, _⟩ => ⟨S64x8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S8x64, .f32⟩
  | .hbm, ⟨68, _⟩ => ⟨S8x64x1, .f32⟩
  | .hbm, ⟨69, _⟩ => ⟨S8x64x128, .f32⟩
  | .hbm, ⟨70, _⟩ => ⟨S1x8x1x64x1x128, .f32⟩
  | .hbm, ⟨71, _⟩ => ⟨S1x8x16x64x1x128, .f32⟩
  | .hbm, ⟨72, _⟩ => ⟨S8x1024x128, .f32⟩
  | .hbm, ⟨73, _⟩ => ⟨S8x64, .f32⟩
  | .hbm, ⟨74, _⟩ => ⟨S8x64x1, .f32⟩
  | .hbm, ⟨75, _⟩ => ⟨S8x64x128, .f32⟩
  | .hbm, ⟨76, _⟩ => ⟨S1x8x1x64x1x128, .f32⟩
  | .hbm, ⟨77, _⟩ => ⟨S1x8x16x64x1x128, .f32⟩
  | .hbm, ⟨78, _⟩ => ⟨S8x1024x128, .f32⟩
  | .hbm, ⟨79, _⟩ => ⟨S8x1x1, .f32⟩
  | .hbm, ⟨80, _⟩ => ⟨S8x1x128, .f32⟩
  | .hbm, ⟨81, _⟩ => ⟨S4x4, .i32⟩
  | .hbm, ⟨82, _⟩ => ⟨S4x4, .i32⟩
  | .hbm, ⟨83, _⟩ => ⟨S_, .i32⟩
  | .hbm, ⟨84, _⟩ => ⟨S4x4, .i32⟩
  | .hbm, ⟨85, _⟩ => ⟨S4x4, .i32⟩
  | .hbm, ⟨86, _⟩ => ⟨S4x4, .i1⟩
  | .hbm, ⟨87, _⟩ => ⟨S4x4, .f32⟩
  | .hbm, ⟨88, _⟩ => ⟨S1x4x1x4x1, .f32⟩
  | .hbm, ⟨89, _⟩ => ⟨S8x1x64x1x64, .f32⟩
  | .hbm, ⟨90, _⟩ => ⟨S8x4x64x4x64, .f32⟩
  | .hbm, ⟨91, _⟩ => ⟨S8x4x64x4x64, .f32⟩
  | .hbm, ⟨92, _⟩ => ⟨S8x4x64x4x64, .f32⟩
  | .hbm, ⟨93, _⟩ => ⟨S8x256x256, .f32⟩
  | .hbm, ⟨94, _⟩ => ⟨S4096x2048, .bf16⟩
  | .hbm, ⟨95, _⟩ => ⟨S4096x1024, .f32⟩
  | .hbm, ⟨96, _⟩ => ⟨S8x64x128x128, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x256x256, .f32⟩
  | .local _ .vmem, ⟨13, _⟩ => ⟨S1x256x256, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1x128, .f32⟩
  | .local _ .vmem, ⟨19, _⟩ => ⟨S1x1x128, .f32⟩
  | .local _ .vmem, ⟨20, _⟩ => ⟨S1x128, .f32⟩
  | .local _ .vmem, ⟨21, _⟩ => ⟨S1x128, .f32⟩
  | .local _ .vmem, ⟨22, _⟩ => ⟨S1024x128, .bf16⟩
  | .local _ .vmem, ⟨23, _⟩ => ⟨S1024x128, .bf16⟩
  | .local _ .vmem, ⟨24, _⟩ => ⟨S1024x128, .f32⟩
  | .local _ .vmem, ⟨25, _⟩ => ⟨S1024x128, .f32⟩
  | .local _ .vmem, ⟨26, _⟩ => ⟨S1x16x128x128, .bf16⟩
  | .local _ .vmem, ⟨27, _⟩ => ⟨S1x16x128x128, .bf16⟩
  | .local _ .vmem, ⟨28, _⟩ => ⟨S128x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_5 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_c : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84_0 : Ref sig .tc := ⟨.hbm, 94, rfl⟩
abbrev main_v84_1 : Ref sig .tc := ⟨.hbm, 95, rfl⟩
abbrev main_v84_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference20Ideal.lean ====
abbrev S4096x7168 : Shape := ⟨2, ![4096, 7168]⟩
abbrev S1x1024 : Shape := ⟨2, ![1, 1024]⟩
abbrev S4096x1024 : Shape := ⟨2, ![4096, 1024]⟩
abbrev S4096x8x128 : Shape := ⟨3, ![4096, 8, 128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x8x64 : Shape := ⟨3, ![4096, 8, 64]⟩
abbrev S64x64x8x128 : Shape := ⟨4, ![64, 64, 8, 128]⟩
abbrev S8 : Shape := ⟨1, ![8]⟩
abbrev S1x8 : Shape := ⟨2, ![1, 8]⟩
abbrev S64x1 : Shape := ⟨2, ![64, 1]⟩
abbrev S64x8 : Shape := ⟨2, ![64, 8]⟩
abbrev S64x8x1 : Shape := ⟨3, ![64, 8, 1]⟩
abbrev S1x64x8x1 : Shape := ⟨4, ![1, 64, 8, 1]⟩
abbrev S64x8x128x128 : Shape := ⟨4, ![64, 8, 128, 128]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x128x128x64 : Shape := ⟨4, ![8, 128, 128, 64]⟩
abbrev S64x8x64x64 : Shape := ⟨4, ![64, 8, 64, 64]⟩
abbrev S1x8x64x64 : Shape := ⟨4, ![1, 8, 64, 64]⟩
abbrev S64x8x128x64 : Shape := ⟨4, ![64, 8, 128, 64]⟩
abbrev S1024 : Shape := ⟨1, ![1024]⟩
abbrev S4096x8 : Shape := ⟨2, ![4096, 8]⟩
abbrev S4096x8x1 : Shape := ⟨3, ![4096, 8, 1]⟩
abbrev S8x128 : Shape := ⟨2, ![8, 128]⟩
abbrev S1x8x128 : Shape := ⟨3, ![1, 8, 128]⟩
abbrev S4096x2048 : Shape := ⟨2, ![4096, 2048]⟩
abbrev S8x64x128x128 : Shape := ⟨4, ![8, 64, 128, 128]⟩

abbrev nBuf : Space → Nat
  | .hbm => 223
  | .vmem => 0
  | .smem => 0
  | _ => 0

abbrev hbmTy0_0 (i : Nat) : BufTy := match i % 128 with
  | 0 => ⟨S4096x7168, .f32⟩
  | 1 => ⟨S1x1024, .f32⟩
  | 2 => ⟨S4096x1024, .f32⟩
  | 3 => ⟨S4096x1024, .f32⟩
  | 4 => ⟨S4096x1024, .f32⟩
  | 5 => ⟨S4096x1024, .f32⟩
  | 6 => ⟨S4096x8x128, .f32⟩
  | 7 => ⟨S4096, .f32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S4096x1, .f32⟩
  | 17 => ⟨S1x64, .f32⟩
  | 18 => ⟨S4096x64, .f32⟩
  | 19 => ⟨S4096x64, .f32⟩
  | 20 => ⟨S4096x64, .f32⟩
  | 21 => ⟨S4096x64, .f32⟩
  | 22 => ⟨S4096x1x64, .f32⟩
  | 23 => ⟨S4096x64, .f32⟩
  | 24 => ⟨S4096x1x64, .f32⟩
  | 25 => ⟨S4096x8x64, .f32⟩
  | 26 => ⟨S4096x8x64, .f32⟩
  | 27 => ⟨S4096x8x64, .f32⟩
  | 28 => ⟨S4096x8x64, .f32⟩
  | 29 => ⟨S4096x8x64, .f32⟩
  | 30 => ⟨S4096x8x64, .f32⟩
  | 31 => ⟨S4096x8x64, .f32⟩
  | 32 => ⟨S4096x8x64, .f32⟩
  | 33 => ⟨S4096x8x64, .f32⟩
  | 34 => ⟨S4096x8x64, .f32⟩
  | 35 => ⟨S4096x8x64, .f32⟩
  | 36 => ⟨S4096x8x64, .f32⟩
  | 37 => ⟨S4096x8x128, .f32⟩
  | 38 => ⟨S64x64x8x128, .f32⟩
  | 39 => ⟨S_, .f32⟩
  | 40 => ⟨S64x64x8x128, .f32⟩
  | 41 => ⟨S64x64x8x128, .f32⟩
  | 42 => ⟨S64x64x8x128, .f32⟩
  | 43 => ⟨S8, .f32⟩
  | 44 => ⟨S_, .f32⟩
  | 45 => ⟨S8, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S8, .f32⟩
  | 53 => ⟨S8, .f32⟩
  | 54 => ⟨S64, .f32⟩
  | 55 => ⟨S1x8, .f32⟩
  | 56 => ⟨S_, .f32⟩
  | 57 => ⟨S64, .f32⟩
  | 58 => ⟨S64, .f32⟩
  | 59 => ⟨S64x1, .f32⟩
  | 60 => ⟨S64x8, .f32⟩
  | 61 => ⟨S64x8, .f32⟩
  | 62 => ⟨S64x8, .f32⟩
  | 63 => ⟨S64x8, .f32⟩
  | 64 => ⟨S64x8x1, .f32⟩
  | 65 => ⟨S1x64x8x1, .f32⟩
  | 66 => ⟨S64x64x8x128, .f32⟩
  | 67 => ⟨S64x64x8x128, .f32⟩
  | 68 => ⟨S64x8x128x128, .f32⟩
  | 69 => ⟨S64, .f32⟩
  | 70 => ⟨S64x1, .f32⟩
  | 71 => ⟨S1x64, .f32⟩
  | 72 => ⟨S64x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S_, .f32⟩
  | 79 => ⟨S64x64, .f32⟩
  | 80 => ⟨S64x64, .i1⟩
  | 81 => ⟨S_, .f32⟩
  | 82 => ⟨S8, .f32⟩
  | 83 => ⟨S8, .f32⟩
  | 84 => ⟨S8x1x1, .f32⟩
  | 85 => ⟨S1x64x64, .f32⟩
  | 86 => ⟨S8x64x64, .f32⟩
  | 87 => ⟨S8x64x64, .f32⟩
  | 88 => ⟨S8x64x64, .f32⟩
  | 89 => ⟨S8x64x64, .f32⟩
  | 90 => ⟨S_, .f32⟩
  | 91 => ⟨S_, .f32⟩
  | 92 => ⟨S8x64x64, .i1⟩
  | 93 => ⟨S8x64x64, .f32⟩
  | 94 => ⟨S8x64x64, .f32⟩
  | 95 => ⟨S8x128x128x64, .f32⟩
  | 96 => ⟨S64x8x128x128, .f32⟩
  | 97 => ⟨S4096x8x128, .f32⟩
  | 98 => ⟨S4096, .f32⟩
  | 99 => ⟨S64, .f32⟩
  | 100 => ⟨S64, .f32⟩
  | 101 => ⟨S_, .f32⟩
  | 102 => ⟨S64, .f32⟩
  | 103 => ⟨S64, .f32⟩
  | 104 => ⟨S_, .f32⟩
  | 105 => ⟨S64, .f32⟩
  | 106 => ⟨S64, .f32⟩
  | 107 => ⟨S4096x1, .f32⟩
  | 108 => ⟨S1x64, .f32⟩
  | 109 => ⟨S4096x64, .f32⟩
  | 110 => ⟨S4096x64, .f32⟩
  | 111 => ⟨S4096x64, .f32⟩
  | 112 => ⟨S4096x64, .f32⟩
  | 113 => ⟨S4096x1x64, .f32⟩
  | 114 => ⟨S4096x64, .f32⟩
  | 115 => ⟨S4096x1x64, .f32⟩
  | 116 => ⟨S4096x8x64, .f32⟩
  | 117 => ⟨S4096x8x64, .f32⟩
  | 118 => ⟨S4096x8x64, .f32⟩
  | 119 => ⟨S4096x8x64, .f32⟩
  | 120 => ⟨S4096x8x64, .f32⟩
  | 121 => ⟨S4096x8x64, .f32⟩
  | 122 => ⟨S4096x8x64, .f32⟩
  | 123 => ⟨S4096x8x64, .f32⟩
  | 124 => ⟨S4096x8x64, .f32⟩
  | 125 => ⟨S4096x8x64, .f32⟩
  | 126 => ⟨S4096x8x64, .f32⟩
  | 127 => ⟨S4096x8x64, .f32⟩
  | _ => ⟨S4096x7168, .f32⟩

abbrev hbmTy0_1 (i : Nat) : BufTy := match i % 128 with
  | 0 => ⟨S4096x8x128, .f32⟩
  | 1 => ⟨S64x64x8x128, .f32⟩
  | 2 => ⟨S8, .f32⟩
  | 3 => ⟨S_, .f32⟩
  | 4 => ⟨S8, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S8, .f32⟩
  | 12 => ⟨S8, .f32⟩
  | 13 => ⟨S64, .f32⟩
  | 14 => ⟨S8x1x1, .f32⟩
  | 15 => ⟨S64x1, .f32⟩
  | 16 => ⟨S1x64, .f32⟩
  | 17 => ⟨S64x64, .f32⟩
  | 18 => ⟨S64x64, .f32⟩
  | 19 => ⟨S64x64, .f32⟩
  | 20 => ⟨S64x64, .f32⟩
  | 21 => ⟨S1x64x64, .f32⟩
  | 22 => ⟨S8x64x64, .f32⟩
  | 23 => ⟨S8x64x64, .f32⟩
  | 24 => ⟨S8x64x64, .f32⟩
  | 25 => ⟨S8x64x64, .f32⟩
  | 26 => ⟨S64x8x64x64, .f32⟩
  | 27 => ⟨S1x8x64x64, .f32⟩
  | 28 => ⟨S64x8x64x64, .f32⟩
  | 29 => ⟨S64x8x64x64, .f32⟩
  | 30 => ⟨S64x8x128x64, .f32⟩
  | 31 => ⟨S64x64x8x128, .f32⟩
  | 32 => ⟨S1x8, .f32⟩
  | 33 => ⟨S_, .f32⟩
  | 34 => ⟨S64, .f32⟩
  | 35 => ⟨S64, .f32⟩
  | 36 => ⟨S64x1, .f32⟩
  | 37 => ⟨S64x8, .f32⟩
  | 38 => ⟨S64x8, .f32⟩
  | 39 => ⟨S64x8, .f32⟩
  | 40 => ⟨S64x8, .f32⟩
  | 41 => ⟨S64x8x1, .f32⟩
  | 42 => ⟨S1x64x8x1, .f32⟩
  | 43 => ⟨S64x64x8x128, .f32⟩
  | 44 => ⟨S64x64x8x128, .f32⟩
  | 45 => ⟨S64x8x128x64, .f32⟩
  | 46 => ⟨S64x64x8x128, .f32⟩
  | 47 => ⟨S64x64x8x128, .f32⟩
  | 48 => ⟨S4096x1024, .f32⟩
  | 49 => ⟨S1024, .f32⟩
  | 50 => ⟨S4096x8x128, .f32⟩
  | 51 => ⟨S_, .f32⟩
  | 52 => ⟨S4096x8, .f32⟩
  | 53 => ⟨S4096x8x1, .f32⟩
  | 54 => ⟨S_, .f32⟩
  | 55 => ⟨S4096x8x1, .f32⟩
  | 56 => ⟨S4096x8x1, .f32⟩
  | 57 => ⟨S4096x8x128, .f32⟩
  | 58 => ⟨S4096x8x128, .f32⟩
  | 59 => ⟨S4096x8x128, .f32⟩
  | 60 => ⟨S_, .f32⟩
  | 61 => ⟨S4096x8, .f32⟩
  | 62 => ⟨S4096x8x1, .f32⟩
  | 63 => ⟨S_, .f32⟩
  | 64 => ⟨S4096x8x1, .f32⟩
  | 65 => ⟨S4096x8x1, .f32⟩
  | 66 => ⟨S4096x8x128, .f32⟩
  | 67 => ⟨S4096x8x128, .f32⟩
  | 68 => ⟨S_, .f32⟩
  | 69 => ⟨S4096x8x1, .f32⟩
  | 70 => ⟨S4096x8x1, .f32⟩
  | 71 => ⟨S4096x8x1, .f32⟩
  | 72 => ⟨S4096x8x128, .f32⟩
  | 73 => ⟨S4096x8x128, .f32⟩
  | 74 => ⟨S8x128, .f32⟩
  | 75 => ⟨S1x8x128, .f32⟩
  | 76 => ⟨S4096x8x128, .f32⟩
  | 77 => ⟨S4096x8x128, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .bf16⟩
  | 90 => ⟨S_, .bf16⟩
  | 91 => ⟨S4096x1024, .bf16⟩
  | 92 => ⟨S4096x2048, .bf16⟩
  | 93 => ⟨S8x64x128x128, .f32⟩
  | 94 => ⟨S8x64x128x128, .bf16⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_5 : Ref sig .tc := ⟨.hbm, 75, rfl⟩
abbrev main_v67 : Ref sig .tc := ⟨.hbm, 76, rfl⟩
abbrev main_v68 : Ref sig .tc := ⟨.hbm, 77, rfl⟩
abbrev main_cst_6 : Ref sig .tc := ⟨.hbm, 78, rfl⟩
abbrev main_v69 : Ref sig .tc := ⟨.hbm, 79, rfl⟩
abbrev main_v70 : Ref sig .tc := ⟨.hbm, 80, rfl⟩
abbrev main_cst_7 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_8 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_cst_11 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_12 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_13 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_cst_14 : Ref sig .tc := ⟨.hbm, 179, rfl⟩
abbrev main_v159 : Ref sig .tc := ⟨.hbm, 180, rfl⟩
abbrev main_v160 : Ref sig .tc := ⟨.hbm, 181, rfl⟩
abbrev main_cst_15 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_cst_16 : Ref sig .tc := ⟨.hbm, 188, rfl⟩
abbrev main_v166 : Ref sig .tc := ⟨.hbm, 189, rfl⟩
abbrev main_v167 : Ref sig .tc := ⟨.hbm, 190, rfl⟩
abbrev main_cst_17 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_cst_18 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_call1_v0 : Ref sig .tc := ⟨.hbm, 206, rfl⟩
abbrev main_call1_v1 : Ref sig .tc := ⟨.hbm, 207, rfl⟩
abbrev main_call1_cst : Ref sig .tc := ⟨.hbm, 208, rfl⟩
abbrev main_call1_v2 : Ref sig .tc := ⟨.hbm, 209, rfl⟩
abbrev main_call1_v3 : Ref sig .tc := ⟨.hbm, 210, rfl⟩
abbrev main_call1_cst_0 : Ref sig .tc := ⟨.hbm, 211, rfl⟩
abbrev main_call1_v4 : Ref sig .tc := ⟨.hbm, 212, rfl⟩
abbrev main_call1_v5 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_cst_19 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩

abbrev nD : Nat := 1
abbrev τ : Topo := Topo.v7x

variable {F : FTy → Type} [FloatOps F]
-- ==== Kernel21.lean ====
abbrev S4x1x2048 : Shape := ⟨3, ![4, 1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x1x2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S4x1x2048, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v1 : Ref sig .tc := ⟨.hbm, 2, rfl⟩
abbrev main_cst_0 : Ref sig .tc := ⟨.hbm, 3, rfl⟩
abbrev main_v2 : Ref sig .tc := ⟨.hbm, 4, rfl⟩
abbrev main_cst_1 : Ref sig .tc := ⟨.hbm, 5, rfl⟩
abbrev main_v3 : Ref sig .tc := ⟨.hbm, 6, rfl⟩
abbrev main_v4 : Ref sig .tc := ⟨.hbm, 7, rfl⟩
abbrev main_v4_s0 : Ref sig .tc := ⟨.hbm, 8, rfl⟩
abbrev main_v4_s1 : Ref sig .tc := ⟨.hbm, 9, rfl⟩
abbrev main_v4_s2 : Ref sig .tc := ⟨.hbm, 10, rfl⟩
abbrev main_v4_s3 : Ref sig .tc := ⟨.hbm, 11, rfl⟩
abbrev main_v4_s4 : Ref sig .tc := ⟨.hbm, 12, rfl⟩
abbrev main_v4_s5 : Ref sig .tc := ⟨.hbm, 13, rfl⟩
abbrev main_v4_s6 : Ref sig .tc := ⟨.hbm, 14, rfl⟩
abbrev main_v4_s7 : Ref sig .tc := ⟨.hbm, 15, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))
-- ==== Reference21Ideal.lean ====
abbrev S32x1x2048 : Shape := ⟨3, ![32, 1, 2048]⟩
abbrev S_ : Shape := ⟨0, ![]⟩
abbrev S32x1 : Shape := ⟨2, ![32, 1]⟩

abbrev nBuf : Space → Nat
  | .hbm => 10
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S_, .f32⟩
  | .hbm, ⟨2, _⟩ => ⟨S32x1, .f32⟩
  | .hbm, ⟨3, _⟩ => ⟨S_, .f32⟩
  | .hbm, ⟨4, _⟩ => ⟨S32x1, .f32⟩
  | .hbm, ⟨5, _⟩ => ⟨S32x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Ret.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds the window's block at every point, whatever is said of the other windows. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds the window's block at every point, whatever is said of the other windows. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds the window's block at every point, whatever is said of the other windows. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds the window's block at every point, whatever is said of the other windows. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds the window's block at every point, whatever is said of the other windows. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds the window's block at every point, whatever is said of the other windows. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds the window's block at every point, whatever is said of the other windows. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds the window's block at every point, whatever is said of the other windows. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds the window's block at every point, whatever is said of the other windows. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds the window's block at every point, whatever is said of the other windows. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds the window's block at every point, whatever is said of the other windows. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds the window's block at every point, whatever is said of the other windows. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds the window's block at every point, whatever is said of the other windows. -/
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds the window's block at every point, whatever is said of the other windows. -/
theorem before0_13_of {c : Dev nD} (dat : Dat τ (Elt F) Unit ℕ (Pipeline.UD sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- The one operand the body writes by its own copies: the packed gradient. -/
def R0 : Finset (Ref sig .tc) := {main_v84_0}

/-! ## The frame claim's post from the frame run's -/

/-- The frame claim, from any run that leaves every argument and every array of a window as it found it. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 3).trans (((dats 0 c).arrAt_in 3 rfl _).trans ((hA c 3).trans (V_main_arg0 m c))),
      ((h c).1 10).trans (((dats 0 c).arrAt_in 10 rfl _).trans ((hA c 10).trans (V_main_arg1 m c))),
      ((h c).1 11).trans (((dats 0 c).arrAt_in 11 rfl _).trans ((hA c 11).trans (V_main_arg2 m c))),
      ((h c).1 12).trans (((dats 0 c).arrAt_in 12 rfl _).trans ((hA c 12).trans (V_main_arg3 m c))),
      ((h c).1 13).trans (((dats 0 c).arrAt_in 13 rfl _).trans ((hA c 13).trans (V_main_arg4 m c)))⟩) h

/-! ## The body's branch conditions -/

/-- The condition of the body's branch 0 as a function of the grid coordinates. -/
abbrev cond0_0 (i : grid0.Coords) : Prop := k0_cond1 i = 1#1
/-- It holds from point 2 on. -/
theorem hcond0_0 : ∀ t : Fin cfg0.N, cond0_0 (grid0.coords t) ↔ 2 ≤ t.val :=
  (by decide +kernel : ∀ t : Fin grid0.N, cond0_0 (grid0.coords t) ↔ 2 ≤ t.val)

/-- The condition of the body's branch 1 as a function of the grid coordinates. -/
abbrev cond0_1 (i : grid0.Coords) : Prop := (Scalar.cmpi .ne (Scalar.extui (Scalar.cmpi .eq (BitVec.ofNat 32 (i 1).val) 0#32)) 0#32) = 1#1
/-- It holds at each head's first block. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's branch 2 as a function of the grid coordinates. -/
abbrev cond0_2 (i : grid0.Coords) : Prop := k0_cond3 i = 1#1
/-- It holds at the last point only. -/
theorem hcond0_2 : ∀ t : Fin cfg0.N, cond0_2 (grid0.coords t) ↔ t.val % 32 = 31 :=
  (by decide +kernel : ∀ t : Fin grid0.N, cond0_2 (grid0.coords t) ↔ t.val % 32 = 31)

/-! ## The body's operands -/

/-- A buffer of the output window. -/
abbrev VO0_14 : View sig .tc .vmem S1x1x128 .f32 := (Memref.whole cc0_stg14_0 : Memref sig .tc .vmem S1x1x128 .f32).view
/-- The buffer the body is given for each window at point `t`, and that it is a whole buffer. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x16x128x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
/-- The body's two scratch buffers: the carried state gradient and the tiles. -/
abbrev scM0_0 : Memref sig .tc .vmem S128x128 .f32 := Memref.whole cc0_scratch0
abbrev scM0_1 : Memref sig .tc .vmem S2x4x1024x128 .bf16 := Memref.whole cc0_scratch1
/-- The carried state gradient as a view. -/
abbrev VS0_0 : View sig .tc .vmem S128x128 .f32 := scM0_0.view
/-- The packed gradient, whole. -/
abbrev hbM0_0 : Memref sig .tc .hbm S4096x7168 .bf16 := Memref.whole main_v84_0
/-- The type of the contents of `M`'s buffer, and that buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The eight cells the body's copies are counted on. -/
abbrev osem0 : Fin 8 → SemLoc sig := fun j => (![SemLoc.dma 30, SemLoc.dma 31, SemLoc.dma 32, SemLoc.dma 33, SemLoc.dma 34, SemLoc.dma 35, SemLoc.dma 36, SemLoc.dma 37] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) := by
  rw [Pipeline.ownSems0_eq_of_list c osem0 [0, 1, 2, 3, 4, 5, 6, 7] (by decide) (by decide)]; rfl
/-- The operands outside the windows the body only reads: none. -/
def H0 : Finset (Ref sig .tc) := {}
theorem H0_sub : H0 ⊆ Pipeline.restRefs sig spec0 := by decide
/-- The operand it writes is no window's array. -/
theorem R0_sub : R0 ⊆ Pipeline.restRefs sig spec0 \ H0 := by decide
/-- Nothing is held for the operands only read. -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The written operand, held whole at some contents. -/
theorem ownedPts0_eq (c : Dev nD) :
    (Pipeline.owned R0 c : sProp 𝕄) = iprop((∃ f, hbPt0 c hbM0_0 f)) := by
  unfold Pipeline.owned; rw [BI.bigSep_eq_bigSepL_of_eq [main_v84_0] (by decide) (by decide)]; rfl

/-- What the launch hands the body beside the windows, listed: the scratch buffers, the generator's register, the cells at
    zero, the packed gradient. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ iprop(emp) ∗ iprop((∃ f, hbPt0 c hbM0_0 f))) := by
  rw [Pipeline.ΦDR_eq, scopedRest0_eq, ownSems00_eq, hbmPts0_eq, ownedPts0_eq]; simp only [scM0_0, scM0_1, owns_whole]; try rfl

/-! ## The ring of copies: each step stores four tiles in one of two groups and copies them out; the copies are waited for two steps later  -/

instance : NeZero grid0.N := ⟨by rw [N_0]; decide⟩
theorem inb_wtile0_0 (g : Fin 2) (m : Fin 4) : ∀ a, (![g.val, m.val, 0, 0] : Fin 4 → Nat) a + S1x1x1024x128.size a ≤ S2x4x1024x128.size a := by
  have := g.isLt; have := m.isLt; intro a; fin_cases a <;> simp <;> omega
theorem inb_wpiece0_0 (u : Fin 32) (m : Fin 4) : ∀ a, (![(3072 - 1024 * (u.val % 4)), 128 * (u.val / 4) + 1024 * m.val] : Fin 2 → Nat) a + S1024x128.size a ≤ S4096x7168.size a := by
  have := u.isLt; have := m.isLt; intro a; fin_cases a <;> simp <;> omega
theorem inb_wcell0_0 (g : Fin 2) (m : Fin 4) : ∀ a, (![g.val, m.val] : Fin 2 → Nat) a + S1x1.size a ≤ S2x4.size a := by
  have := g.isLt; have := m.isLt; intro a; fin_cases a <;> simp <;> omega
/-- Tile `m` of group `g` of the scratch. -/
def wtile0_0 (g : Fin 2) (m : Fin 4) : Memref sig .tc .vmem S1024x128 .bf16 :=
  (scM0_1.slice (Rect.unit (s := S2x4x1024x128) ![g.val, m.val, 0, 0] S1x1x1024x128.size (inb_wtile0_0 g m)) (fun _ => rfl)).squeeze S1024x128 squeezes_S1x1x1024x128_S1024x128
/-- The piece of the packed gradient that step `u` writes from its tile `m`. -/
def wpiece0_0 (u : Fin 32) (m : Fin 4) : Memref sig .tc .hbm S1024x128 .bf16 :=
  hbM0_0.slice (Rect.unit (s := S4096x7168) ![(3072 - 1024 * (u.val % 4)), 128 * (u.val / 4) + 1024 * m.val] S1024x128.size (inb_wpiece0_0 u m)) (fun _ => rfl)
/-- The cell the copy of tile `m` of group `g` is counted on. -/
def wcellA0_0 (g : Fin 2) (m : Fin 4) : DmaSems sig S_ := (cc0_scratch2.slice (Rect.unit (s := S2x4) ![g.val, m.val] S1x1.size (inb_wcell0_0 g m))).squeeze S_ squeezes_S1x1_S_
abbrev wcellR0_0 (g : Fin 2) (m : Fin 4) : SemLoc sig := SemLoc.dma (wcellA0_0 g m).sem
theorem wcellR0_0_0_0 : wcellR0_0 0 0 = SemLoc.dma 30 := by decide
theorem wcellR0_0_0_1 : wcellR0_0 0 1 = SemLoc.dma 31 := by decide
theorem wcellR0_0_0_2 : wcellR0_0 0 2 = SemLoc.dma 32 := by decide
theorem wcellR0_0_0_3 : wcellR0_0 0 3 = SemLoc.dma 33 := by decide
theorem wcellR0_0_1_0 : wcellR0_0 1 0 = SemLoc.dma 34 := by decide
theorem wcellR0_0_1_1 : wcellR0_0 1 1 = SemLoc.dma 35 := by decide
theorem wcellR0_0_1_2 : wcellR0_0 1 2 = SemLoc.dma 36 := by decide
theorem wcellR0_0_1_3 : wcellR0_0 1 3 = SemLoc.dma 37 := by decide

section WRing0_0
variable (c : Dev nD)
/-- A tile held at `e`; a cell at zero; a piece held at `f`; a copy in flight. -/
abbrev wtileP0_0 (g : Fin 2) (m : Fin 4) (e : HbBuf0 (F := F) c (wtile0_0 g m)) : sProp 𝕄 := (wtile0_0 g m).view.loc (c : Thread nD τ) ↦[(wtile0_0 g m).view.set]{fullShare} e
abbrev wcellP0_0 (g : Fin 2) (m : Fin 4) : sProp 𝕄 := semVal ((c : Thread nD τ), wcellR0_0 g m) 0
abbrev wpieceP0_0 (u : Fin 32) (m : Fin 4) (f : HbBuf0 (F := F) c (wpiece0_0 u m)) : sProp 𝕄 := (wpiece0_0 u m).view.loc (c : Thread nD τ) ↦[(wpiece0_0 u m).view.set]{fullShare} f
abbrev wflightP0_0 (g : Fin 2) (m : Fin 4) (u : Fin 32) : sProp 𝕄 :=
  iprop(∃ f e, Transfers.Flight countersEmb (c : Thread nD τ) (wcellR0_0 g m) default ((wpiece0_0 u m).view.amount (wcellR0_0 g m)) iprop(wpieceP0_0 c u m f ∗ wtileP0_0 c g m e))
/-- A group at rest, a group in flight, a step's pieces: each over its four members. -/
abbrev wfree0_0 (g : Fin 2) : sProp 𝕄 := iprop((wcellP0_0 c g 0 ∗ ∃ e, wtileP0_0 c g 0 e) ∗ (wcellP0_0 c g 1 ∗ ∃ e, wtileP0_0 c g 1 e) ∗ (wcellP0_0 c g 2 ∗ ∃ e, wtileP0_0 c g 2 e) ∗ (wcellP0_0 c g 3 ∗ ∃ e, wtileP0_0 c g 3 e))
abbrev winfl0_0 (g : Fin 2) (u : Fin 32) : sProp 𝕄 := iprop(wflightP0_0 c g 0 u ∗ wflightP0_0 c g 1 u ∗ wflightP0_0 c g 2 u ∗ wflightP0_0 c g 3 u)
abbrev whome0_0 (u : Fin 32) : sProp 𝕄 := iprop((∃ f, wpieceP0_0 c u 0 f) ∗ (∃ f, wpieceP0_0 c u 1 f) ∗ (∃ f, wpieceP0_0 c u 2 f) ∗ ∃ f, wpieceP0_0 c u 3 f)
/-- The ring before step `k`, with nothing said of contents. -/
def wringAt0_0 (k : ℕ) : sProp 𝕄 := Ring.AtBΦ 2 (wfree0_0 c) (winfl0_0 c) (whome0_0 c) (whome0_0 c) k
/-- The same as conjunctions over the member. -/
theorem wfree0_0_eq (g : Fin 2) : (bigSep Finset.univ (fun m : Fin 4 => iprop(wcellP0_0 (F := F) c g m ∗ ∃ e, wtileP0_0 c g m e)) : sProp 𝕄) = wfree0_0 c g := by
  rw [BI.bigSep_eq_bigSepL_of_eq [0, 1, 2, 3] (by decide) (by decide)]; rfl
theorem whome0_0_eq (u : Fin 32) : (bigSep Finset.univ (fun m : Fin 4 => iprop(∃ f, wpieceP0_0 (F := F) c u m f)) : sProp 𝕄) = whome0_0 c u := by
  rw [BI.bigSep_eq_bigSepL_of_eq [0, 1, 2, 3] (by decide) (by decide)]; rfl
omit [FloatOps F] in
theorem wcellP0_0_0_0 : wcellP0_0 (F := F) c 0 0 = semVal ((c : Thread nD τ), SemLoc.dma 30) 0 := congrArg (fun x => (semVal ((c : Thread nD τ), x) 0 : sProp 𝕄)) wcellR0_0_0_0
omit [FloatOps F] in
theorem wcellP0_0_0_1 : wcellP0_0 (F := F) c 0 1 = semVal ((c : Thread nD τ), SemLoc.dma 31) 0 := congrArg (fun x => (semVal ((c : Thread nD τ), x) 0 : sProp 𝕄)) wcellR0_0_0_1
omit [FloatOps F] in
theorem wcellP0_0_0_2 : wcellP0_0 (F := F) c 0 2 = semVal ((c : Thread nD τ), SemLoc.dma 32) 0 := congrArg (fun x => (semVal ((c : Thread nD τ), x) 0 : sProp 𝕄)) wcellR0_0_0_2
omit [FloatOps F] in
theorem wcellP0_0_0_3 : wcellP0_0 (F := F) c 0 3 = semVal ((c : Thread nD τ), SemLoc.dma 33) 0 := congrArg (fun x => (semVal ((c : Thread nD τ), x) 0 : sProp 𝕄)) wcellR0_0_0_3
omit [FloatOps F] in
theorem wcellP0_0_1_0 : wcellP0_0 (F := F) c 1 0 = semVal ((c : Thread nD τ), SemLoc.dma 34) 0 := congrArg (fun x => (semVal ((c : Thread nD τ), x) 0 : sProp 𝕄)) wcellR0_0_1_0
omit [FloatOps F] in
theorem wcellP0_0_1_1 : wcellP0_0 (F := F) c 1 1 = semVal ((c : Thread nD τ), SemLoc.dma 35) 0 := congrArg (fun x => (semVal ((c : Thread nD τ), x) 0 : sProp 𝕄)) wcellR0_0_1_1
omit [FloatOps F] in
theorem wcellP0_0_1_2 : wcellP0_0 (F := F) c 1 2 = semVal ((c : Thread nD τ), SemLoc.dma 36) 0 := congrArg (fun x => (semVal ((c : Thread nD τ), x) 0 : sProp 𝕄)) wcellR0_0_1_2
omit [FloatOps F] in
theorem wcellP0_0_1_3 : wcellP0_0 (F := F) c 1 3 = semVal ((c : Thread nD τ), SemLoc.dma 37) 0 := congrArg (fun x => (semVal ((c : Thread nD τ), x) 0 : sProp 𝕄)) wcellR0_0_1_3
end WRing0_0

/-! ### The tiles are pairwise disjoint  -/

abbrev wtileOff0_0 (i : Fin 2 × Fin 4) : Fin 4 → Nat := ![i.1.val, i.2.val, 0, 0]
theorem inb_wtile0_0' (i : Fin 2 × Fin 4) : ∀ a, wtileOff0_0 i a + S1x1x1024x128.size a ≤ S2x4x1024x128.size a := inb_wtile0_0 i.1 i.2
abbrev wtileSet0_0 (i : Fin 2 × Fin 4) : Finset S2x4x1024x128.Idx := (Rect.unit (s := S2x4x1024x128) (wtileOff0_0 i) S1x1x1024x128.size (inb_wtile0_0' i)).set
theorem wtileSet0_0_eq (g : Fin 2) (m : Fin 4) : (wtile0_0 g m).view.set = wtileSet0_0 (g, m) := by
  simp only [wtile0_0, Memref.view_squeeze, View.set_reshape]; exact View.set_slice_whole _ _
/-- A tile's place among equal boxes, and the tile at a place. -/
def wtileIx0_0 (i : Fin 2 × Fin 4) : Fin 4 → ℕ := ![i.1.val, i.2.val, 0, 0]
def wtileUn0_0 (v : Fin 4 → ℕ) : Fin 2 × Fin 4 := (Fin.ofNat 2 (v 0), Fin.ofNat 4 (v 1))
theorem wtileUn0_0_left : ∀ i : Fin 2 × Fin 4, wtileUn0_0 (wtileIx0_0 i) = i := by decide +kernel
theorem wtiles0_0_disjoint (i i' : Fin 2 × Fin 4) (h : i ≠ i') : Disjoint (wtileSet0_0 i) (wtileSet0_0 i') :=
  Ring.boxes_disjoint (s := S2x4x1024x128) S1x1x1024x128.size wtileOff0_0 inb_wtile0_0' wtileIx0_0
    (fun i a => by fin_cases a <;> simp [wtileOff0_0, wtileIx0_0] <;> omega) wtileUn0_0 wtileUn0_0_left i i' h

/-! ### The pieces are pairwise disjoint  -/

abbrev wpieceOff0_0 (i : Fin 32 × Fin 4) : Fin 2 → Nat := ![(3072 - 1024 * (i.1.val % 4)), 128 * (i.1.val / 4) + 1024 * i.2.val]
theorem inb_wpiece0_0' (i : Fin 32 × Fin 4) : ∀ a, wpieceOff0_0 i a + S1024x128.size a ≤ S4096x7168.size a := inb_wpiece0_0 i.1 i.2
abbrev wpieceSet0_0 (i : Fin 32 × Fin 4) : Finset S4096x7168.Idx := (Rect.unit (s := S4096x7168) (wpieceOff0_0 i) S1024x128.size (inb_wpiece0_0' i)).set
theorem wpieceSet0_0_eq (u : Fin 32) (m : Fin 4) : (wpiece0_0 u m).view.set = wpieceSet0_0 (u, m) := by
  simp only [wpiece0_0, Memref.view_squeeze, View.set_reshape]; exact View.set_slice_whole _ _
/-- A piece's place among equal boxes, and the piece at a place. -/
def wpieceIx0_0 (i : Fin 32 × Fin 4) : Fin 2 → ℕ := ![(3 - 1 * (i.1.val % 4)), (i.1.val / 4) + 8 * i.2.val]
def wpieceUn0_0 (v : Fin 2 → ℕ) : Fin 32 × Fin 4 := (Fin.ofNat 32 (4 * (v 1 % 8) + (3 - v 0)), Fin.ofNat 4 (v 1 / 8))
theorem wpieceUn0_0_left : ∀ i : Fin 32 × Fin 4, wpieceUn0_0 (wpieceIx0_0 i) = i := by decide +kernel
theorem wpieces0_0_disjoint (i i' : Fin 32 × Fin 4) (h : i ≠ i') : Disjoint (wpieceSet0_0 i) (wpieceSet0_0 i') :=
  Ring.boxes_disjoint (s := S4096x7168) S1024x128.size wpieceOff0_0 inb_wpiece0_0' wpieceIx0_0
    (fun i a => by fin_cases a <;> simp [wpieceOff0_0, wpieceIx0_0] <;> omega) wpieceUn0_0 wpieceUn0_0_left i i' h

/-! ### The launch's whole buffers as tiles and pieces  -/

section WInOut0_0
variable (c : Dev nD)
theorem wtileP0_0_eq (g : Fin 2) (m : Fin 4) (e) : wtileP0_0 (F := F) c g m e = (((c : Thread nD τ).loc cc0_scratch1) ↦[wtileSet0_0 (g, m)]{fullShare} e : sProp 𝕄) := by
  unfold wtileP0_0; rw [wtileSet0_0_eq]; rfl
theorem wpieceP0_0_eq (u : Fin 32) (m : Fin 4) (f) : wpieceP0_0 (F := F) c u m f = (((c : Thread nD τ).loc main_v84_0) ↦[wpieceSet0_0 (u, m)]{fullShare} f : sProp 𝕄) := by
  unfold wpieceP0_0; rw [wpieceSet0_0_eq]; rfl
/-- The elements outside every tile, and those outside every piece, held at some contents. -/
abbrev wtileSpare0_0 : sProp 𝕄 := iprop(∃ f : Buf (Elt F) ((c : Thread nD τ).loc cc0_scratch1), ((c : Thread nD τ).loc cc0_scratch1) ↦[Finset.univ \ Finset.univ.biUnion wtileSet0_0]{fullShare} f)
abbrev wpieceSpare0_0 : sProp 𝕄 := iprop(∃ f : Buf (Elt F) ((c : Thread nD τ).loc main_v84_0), ((c : Thread nD τ).loc main_v84_0) ↦[Finset.univ \ Finset.univ.biUnion wpieceSet0_0]{fullShare} f)
/-- The scratch whole is its tiles and the rest; the result whole is its pieces and the rest. -/
theorem wtiles0_0_in : iprop(∃ d, owns (c : Thread nD τ) scM0_1 fullShare d) ⊢ (iprop(bigSep Finset.univ (fun i : Fin 2 × Fin 4 => iprop(∃ e, wtileP0_0 (F := F) c i.1 i.2 e)) ∗ wtileSpare0_0 c) : sProp 𝕄) := by
  simp only [scM0_1, owns_whole]
  exact Ring.pieces_split_spare (U := Pipeline.UD sig nD τ) (ℓ := (c : Thread nD τ).loc cc0_scratch1) (q := fullShare) wtileSet0_0 wtiles0_0_disjoint
    (fun i e => wtileP0_0 c i.1 i.2 e) (fun i e => wtileP0_0_eq c i.1 i.2 e)
theorem wtiles0_0_out : (iprop(bigSep Finset.univ (fun i : Fin 2 × Fin 4 => iprop(∃ e, wtileP0_0 (F := F) c i.1 i.2 e)) ∗ wtileSpare0_0 c) : sProp 𝕄) ⊢ iprop(∃ d, owns (c : Thread nD τ) scM0_1 fullShare d) := by
  simp only [scM0_1, owns_whole]
  exact Ring.pieces_join_spare (U := Pipeline.UD sig nD τ) (ℓ := (c : Thread nD τ).loc cc0_scratch1) (q := fullShare) wtileSet0_0 wtiles0_0_disjoint
    (fun i e => wtileP0_0 c i.1 i.2 e) (fun i e => wtileP0_0_eq c i.1 i.2 e)
theorem wpieces0_0_in : iprop(∃ f, hbPt0 c hbM0_0 f) ⊢ (iprop(bigSep Finset.univ (fun i : Fin 32 × Fin 4 => iprop(∃ f, wpieceP0_0 (F := F) c i.1 i.2 f)) ∗ wpieceSpare0_0 c) : sProp 𝕄) := by
  unfold hbPt0
  exact Ring.pieces_split_spare (U := Pipeline.UD sig nD τ) (ℓ := (c : Thread nD τ).loc main_v84_0) (q := fullShare) wpieceSet0_0 wpieces0_0_disjoint
    (fun i f => wpieceP0_0 c i.1 i.2 f) (fun i f => wpieceP0_0_eq c i.1 i.2 f)
theorem wpieces0_0_out : (iprop(bigSep Finset.univ (fun i : Fin 32 × Fin 4 => iprop(∃ f, wpieceP0_0 (F := F) c i.1 i.2 f)) ∗ wpieceSpare0_0 c) : sProp 𝕄) ⊢ iprop(∃ f, hbPt0 c hbM0_0 f) := by
  unfold hbPt0
  exact Ring.pieces_join_spare (U := Pipeline.UD sig nD τ) (ℓ := (c : Thread nD τ).loc main_v84_0) (q := fullShare) wpieceSet0_0 wpieces0_0_disjoint
    (fun i f => wpieceP0_0 c i.1 i.2 f) (fun i f => wpieceP0_0_eq c i.1 i.2 f)
/-- The cells listed are the cells by group and member. -/
theorem wcells0_0_eq : (bigSep Finset.univ (fun i : Fin 2 × Fin 4 => wcellP0_0 (F := F) c i.1 i.2) : sProp 𝕄) = iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) := by
  rw [BI.bigSep_eq_bigSepL_of_eq [(0, 0), (0, 1), (0, 2), (0, 3), (1, 0), (1, 1), (1, 2), (1, 3)] (by decide) (by decide)]; simp only [BI.bigSepL_cons_cons, BI.bigSepL_singleton, wcellP0_0_0_0, wcellP0_0_0_1, wcellP0_0_0_2, wcellP0_0_0_3, wcellP0_0_1_0, wcellP0_0_1_1, wcellP0_0_1_2, wcellP0_0_1_3]; rfl
/-- Tiles and cells grouped by group; pieces grouped by step. -/
theorem wfrees0_0_eq : iprop(bigSep Finset.univ (fun i : Fin 2 × Fin 4 => wcellP0_0 (F := F) c i.1 i.2) ∗ bigSep Finset.univ (fun i : Fin 2 × Fin 4 => iprop(∃ e, wtileP0_0 (F := F) c i.1 i.2 e))) = (bigSep Finset.univ (wfree0_0 c) : sProp 𝕄) := by
  exact (Ring.groups_of_parts (fun g m => wcellP0_0 (F := F) c g m) (fun g m => iprop(∃ e, wtileP0_0 (F := F) c g m e))).trans (BI.bigSep_congr fun g _ => wfree0_0_eq c g)
theorem whomes0_0_eq : (bigSep Finset.univ (fun i : Fin 32 × Fin 4 => iprop(∃ f, wpieceP0_0 (F := F) c i.1 i.2 f)) : sProp 𝕄) = bigSep Finset.univ (whome0_0 c) := by
  rw [BI.bigSep_univ_prod]; exact BI.bigSep_congr fun u _ => whome0_0_eq c u
end WInOut0_0

/-- What the launch hands over makes the ring before the first step. -/
theorem wring0_0_in (c : Dev nD) :
    iprop((∃ d, owns (c : Thread nD τ) scM0_1 fullShare d) ∗ (semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ (∃ f, hbPt0 (F := F) c hbM0_0 f))
      ⊢ iprop(wringAt0_0 (F := F) c 0 ∗ wtileSpare0_0 c ∗ wpieceSpare0_0 c) := by
  unfold wringAt0_0; rw [Ring.AtBΦ_lt _ _ _ _ _ 0 (by decide), Ring.AtB_zero]; unfold Ring.AtB₀
  rw [← whomes0_0_eq, ← wfrees0_0_eq, wcells0_0_eq]
  iintro ⟨HS, HQ, HD⟩
  ihave HS' := (wtiles0_0_in (F := F) c) $$ HS
  icases HS' with ⟨HT, HTsp⟩
  ihave HD' := (wpieces0_0_in (F := F) c) $$ HD
  icases HD' with ⟨HP, HPsp⟩
  isplitl [HP HQ HT]
  · isplitl [HP]
    · iexact HP
    isplitl [HQ]
    · iexact HQ
    iexact HT
  isplitl [HTsp]
  · iexact HTsp
  iexact HPsp
/-- The ring after the last step gives the launch's pieces back. -/
theorem wring0_0_out (c : Dev nD) :
    iprop(wringAt0_0 (F := F) c 32 ∗ wtileSpare0_0 c ∗ wpieceSpare0_0 c)
      ⊢ iprop((∃ d, owns (c : Thread nD τ) scM0_1 fullShare d) ∗ (semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ (∃ f, hbPt0 (F := F) c hbM0_0 f)) := by
  unfold wringAt0_0; rw [Ring.AtBΦ_ge _ _ _ _ _ 32 (by decide), Ring.AtBEnd_frame]; unfold Ring.AtB₀
  rw [← whomes0_0_eq, ← wfrees0_0_eq, wcells0_0_eq]
  iintro ⟨⟨HP, HQ, HT⟩, HTsp, HPsp⟩
  isplitl [HT HTsp]
  · iapply (wtiles0_0_out (F := F) c)
    isplitl [HT]
    · iexact HT
    iexact HTsp
  isplitl [HQ]
  · iexact HQ
  iapply (wpieces0_0_out (F := F) c)
  isplitl [HP]
  · iexact HP
  iexact HPsp

/-! ### The ring's steps, case by case, and the body's offsets in the ring's terms  -/

section WCanon0_0
omit [FloatOps F]
/-- Case A waits for nothing. -/
theorem wstep0_0_A : ∀ t : Fin grid0.N, ¬cond0_0 (grid0.coords t) → cond0_1 (grid0.coords t) → ¬cond0_2 (grid0.coords t) → t.val < 2 ∧ (t.val + 1) = t.val + 1 := by decide +kernel
/-- Case B waits for nothing. -/
theorem wstep0_0_B : ∀ t : Fin grid0.N, ¬cond0_0 (grid0.coords t) → ¬cond0_1 (grid0.coords t) → ¬cond0_2 (grid0.coords t) → t.val < 2 ∧ (t.val + 1) = t.val + 1 := by decide +kernel
/-- Case C waits for the copies of two steps before. -/
theorem wstep0_0_C : ∀ t : Fin grid0.N, cond0_0 (grid0.coords t) → ¬cond0_1 (grid0.coords t) → ¬cond0_2 (grid0.coords t) → 2 ≤ t.val ∧ t.val + 1 < 32 ∧ (t.val + 1) = t.val + 1 := by decide +kernel
/-- Case D waits for the copies of two steps before. -/
theorem wstep0_0_D : ∀ t : Fin grid0.N, cond0_0 (grid0.coords t) → cond0_1 (grid0.coords t) → ¬cond0_2 (grid0.coords t) → 2 ≤ t.val ∧ t.val + 1 < 32 ∧ (t.val + 1) = t.val + 1 := by decide +kernel
/-- Case E is the last step. -/
theorem wstep0_0_E : ∀ t : Fin grid0.N, cond0_0 (grid0.coords t) → ¬cond0_1 (grid0.coords t) → cond0_2 (grid0.coords t) → 2 ≤ t.val ∧ t.val + 1 = 32 ∧ (t.val + 1) = t.val + 1 := by decide +kernel
set_option synthInstance.maxSize 4096 in
theorem wcoff0_0_1 : ∀ t : Fin grid0.N, k0_off14 (grid0.coords t) = ![(Ring.sl 2 t.val).val, 0] := by decide +kernel
@[sl_canon] theorem wcanon0_0_1 (t : Fin grid0.N) :
    (cc0_scratch2.slice (Rect.unit (s := S2x4) (k0_off14 (grid0.coords t)) S1x1.size (k0_off14_inb (grid0.coords t)))).squeeze S_ squeezes_S1x1_S_ = wcellA0_0 (Ring.sl 2 t.val) 0 :=
  congrArg (fun A : DmaSems sig S1x1 => A.squeeze S_ squeezes_S1x1_S_) (SemArray.slice_unit_congr _ (wcoff0_0_1 t) _ _)
@[sl_canon] theorem wcanon0_0_1' (t : Fin grid0.N) :
    (cc0_scratch2.slice (Rect.unit (s := S2x4) (k0_off14 (grid0.coords t)) ![1, 1] (k0_off14_inb (grid0.coords t)))).squeeze S_ squeezes_S1x1_S_ = wcellA0_0 (Ring.sl 2 t.val) 0 :=
  wcanon0_0_1 t
set_option synthInstance.maxSize 4096 in
theorem wcoff0_0_2 : ∀ t : Fin grid0.N, k0_off16 (grid0.coords t) = ![(Ring.sl 2 t.val).val, 0, 0, 0] := by decide +kernel
@[sl_canon] theorem wcanon0_0_2 (t : Fin grid0.N) :
    (scM0_1.slice (Rect.unit (s := S2x4x1024x128) (k0_off16 (grid0.coords t)) S1x1x1024x128.size (k0_off16_inb (grid0.coords t))) (fun _ => rfl)).squeeze S1024x128 squeezes_S1x1x1024x128_S1024x128 = wtile0_0 (Ring.sl 2 t.val) 0 :=
  congrArg (fun M : Memref sig .tc .vmem S1x1x1024x128 .bf16 => M.squeeze S1024x128 squeezes_S1x1x1024x128_S1024x128) (Memref.slice_unit_congr _ (wcoff0_0_2 t) _ _ (fun _ => rfl) (fun _ => rfl))
@[sl_canon] theorem wcanon0_0_2' (t : Fin grid0.N) :
    (scM0_1.slice (Rect.unit (s := S2x4x1024x128) (k0_off16 (grid0.coords t)) ![1, 1, 1024, 128] (k0_off16_inb (grid0.coords t))) (fun _ => rfl)).squeeze S1024x128 squeezes_S1x1x1024x128_S1024x128 = wtile0_0 (Ring.sl 2 t.val) 0 :=
  wcanon0_0_2 t
set_option synthInstance.maxSize 4096 in
theorem wcoff0_0_3 : ∀ t : Fin grid0.N, k0_off15 (grid0.coords t) 0#32 = ![(3072 - 1024 * ((Ring.bk 32 t.val).val % 4)), 128 * ((Ring.bk 32 t.val).val / 4) + 1024 * 0] := by decide +kernel
@[sl_canon] theorem wcanon0_0_3 (t : Fin grid0.N) :
    hbM0_0.slice (Rect.unit (s := S4096x7168) (k0_off15 (grid0.coords t) 0#32) S1024x128.size (k0_off15_inb (grid0.coords t) 0)) (fun _ => rfl) = wpiece0_0 (Ring.bk 32 t.val) 0 :=
  congrArg (fun M : Memref sig .tc .hbm S1024x128 .bf16 => M) (Memref.slice_unit_congr _ (wcoff0_0_3 t) _ _ (fun _ => rfl) (fun _ => rfl))
@[sl_canon] theorem wcanon0_0_3' (t : Fin grid0.N) :
    hbM0_0.slice (Rect.unit (s := S4096x7168) (k0_off15 (grid0.coords t) 0#32) ![1024, 128] (k0_off15_inb (grid0.coords t) 0)) (fun _ => rfl) = wpiece0_0 (Ring.bk 32 t.val) 0 :=
  wcanon0_0_3 t
set_option synthInstance.maxSize 4096 in
theorem wcoff0_0_4 : ∀ t : Fin grid0.N, k0_off17 (grid0.coords t) = ![(Ring.sl 2 t.val).val, 1] := by decide +kernel
@[sl_canon] theorem wcanon0_0_4 (t : Fin grid0.N) :
    (cc0_scratch2.slice (Rect.unit (s := S2x4) (k0_off17 (grid0.coords t)) S1x1.size (k0_off17_inb (grid0.coords t)))).squeeze S_ squeezes_S1x1_S_ = wcellA0_0 (Ring.sl 2 t.val) 1 :=
  congrArg (fun A : DmaSems sig S1x1 => A.squeeze S_ squeezes_S1x1_S_) (SemArray.slice_unit_congr _ (wcoff0_0_4 t) _ _)
@[sl_canon] theorem wcanon0_0_4' (t : Fin grid0.N) :
    (cc0_scratch2.slice (Rect.unit (s := S2x4) (k0_off17 (grid0.coords t)) ![1, 1] (k0_off17_inb (grid0.coords t)))).squeeze S_ squeezes_S1x1_S_ = wcellA0_0 (Ring.sl 2 t.val) 1 :=
  wcanon0_0_4 t
set_option synthInstance.maxSize 4096 in
theorem wcoff0_0_5 : ∀ t : Fin grid0.N, k0_off18 (grid0.coords t) = ![(Ring.sl 2 t.val).val, 1, 0, 0] := by decide +kernel
@[sl_canon] theorem wcanon0_0_5 (t : Fin grid0.N) :
    (scM0_1.slice (Rect.unit (s := S2x4x1024x128) (k0_off18 (grid0.coords t)) S1x1x1024x128.size (k0_off18_inb (grid0.coords t))) (fun _ => rfl)).squeeze S1024x128 squeezes_S1x1x1024x128_S1024x128 = wtile0_0 (Ring.sl 2 t.val) 1 :=
  congrArg (fun M : Memref sig .tc .vmem S1x1x1024x128 .bf16 => M.squeeze S1024x128 squeezes_S1x1x1024x128_S1024x128) (Memref.slice_unit_congr _ (wcoff0_0_5 t) _ _ (fun _ => rfl) (fun _ => rfl))
@[sl_canon] theorem wcanon0_0_5' (t : Fin grid0.N) :
    (scM0_1.slice (Rect.unit (s := S2x4x1024x128) (k0_off18 (grid0.coords t)) ![1, 1, 1024, 128] (k0_off18_inb (grid0.coords t))) (fun _ => rfl)).squeeze S1024x128 squeezes_S1x1x1024x128_S1024x128 = wtile0_0 (Ring.sl 2 t.val) 1 :=
  wcanon0_0_5 t
set_option synthInstance.maxSize 4096 in
theorem wcoff0_0_6 : ∀ t : Fin grid0.N, k0_off15 (grid0.coords t) 8#32 = ![(3072 - 1024 * ((Ring.bk 32 t.val).val % 4)), 128 * ((Ring.bk 32 t.val).val / 4) + 1024 * 1] := by decide +kernel
@[sl_canon] theorem wcanon0_0_6 (t : Fin grid0.N) :
    hbM0_0.slice (Rect.unit (s := S4096x7168) (k0_off15 (grid0.coords t) 8#32) S1024x128.size (k0_off15_inb (grid0.coords t) 1)) (fun _ => rfl) = wpiece0_0 (Ring.bk 32 t.val) 1 :=
  congrArg (fun M : Memref sig .tc .hbm S1024x128 .bf16 => M) (Memref.slice_unit_congr _ (wcoff0_0_6 t) _ _ (fun _ => rfl) (fun _ => rfl))
@[sl_canon] theorem wcanon0_0_6' (t : Fin grid0.N) :
    hbM0_0.slice (Rect.unit (s := S4096x7168) (k0_off15 (grid0.coords t) 8#32) ![1024, 128] (k0_off15_inb (grid0.coords t) 1)) (fun _ => rfl) = wpiece0_0 (Ring.bk 32 t.val) 1 :=
  wcanon0_0_6 t
set_option synthInstance.maxSize 4096 in
theorem wcoff0_0_7 : ∀ t : Fin grid0.N, k0_off19 (grid0.coords t) = ![(Ring.sl 2 t.val).val, 2] := by decide +kernel
@[sl_canon] theorem wcanon0_0_7 (t : Fin grid0.N) :
    (cc0_scratch2.slice (Rect.unit (s := S2x4) (k0_off19 (grid0.coords t)) S1x1.size (k0_off19_inb (grid0.coords t)))).squeeze S_ squeezes_S1x1_S_ = wcellA0_0 (Ring.sl 2 t.val) 2 :=
  congrArg (fun A : DmaSems sig S1x1 => A.squeeze S_ squeezes_S1x1_S_) (SemArray.slice_unit_congr _ (wcoff0_0_7 t) _ _)
@[sl_canon] theorem wcanon0_0_7' (t : Fin grid0.N) :
    (cc0_scratch2.slice (Rect.unit (s := S2x4) (k0_off19 (grid0.coords t)) ![1, 1] (k0_off19_inb (grid0.coords t)))).squeeze S_ squeezes_S1x1_S_ = wcellA0_0 (Ring.sl 2 t.val) 2 :=
  wcanon0_0_7 t
set_option synthInstance.maxSize 4096 in
theorem wcoff0_0_8 : ∀ t : Fin grid0.N, k0_off20 (grid0.coords t) = ![(Ring.sl 2 t.val).val, 2, 0, 0] := by decide +kernel
@[sl_canon] theorem wcanon0_0_8 (t : Fin grid0.N) :
    (scM0_1.slice (Rect.unit (s := S2x4x1024x128) (k0_off20 (grid0.coords t)) S1x1x1024x128.size (k0_off20_inb (grid0.coords t))) (fun _ => rfl)).squeeze S1024x128 squeezes_S1x1x1024x128_S1024x128 = wtile0_0 (Ring.sl 2 t.val) 2 :=
  congrArg (fun M : Memref sig .tc .vmem S1x1x1024x128 .bf16 => M.squeeze S1024x128 squeezes_S1x1x1024x128_S1024x128) (Memref.slice_unit_congr _ (wcoff0_0_8 t) _ _ (fun _ => rfl) (fun _ => rfl))
@[sl_canon] theorem wcanon0_0_8' (t : Fin grid0.N) :
    (scM0_1.slice (Rect.unit (s := S2x4x1024x128) (k0_off20 (grid0.coords t)) ![1, 1, 1024, 128] (k0_off20_inb (grid0.coords t))) (fun _ => rfl)).squeeze S1024x128 squeezes_S1x1x1024x128_S1024x128 = wtile0_0 (Ring.sl 2 t.val) 2 :=
  wcanon0_0_8 t
set_option synthInstance.maxSize 4096 in
theorem wcoff0_0_9 : ∀ t : Fin grid0.N, k0_off15 (grid0.coords t) 16#32 = ![(3072 - 1024 * ((Ring.bk 32 t.val).val % 4)), 128 * ((Ring.bk 32 t.val).val / 4) + 1024 * 2] := by decide +kernel
@[sl_canon] theorem wcanon0_0_9 (t : Fin grid0.N) :
    hbM0_0.slice (Rect.unit (s := S4096x7168) (k0_off15 (grid0.coords t) 16#32) S1024x128.size (k0_off15_inb (grid0.coords t) 2)) (fun _ => rfl) = wpiece0_0 (Ring.bk 32 t.val) 2 :=
  congrArg (fun M : Memref sig .tc .hbm S1024x128 .bf16 => M) (Memref.slice_unit_congr _ (wcoff0_0_9 t) _ _ (fun _ => rfl) (fun _ => rfl))
@[sl_canon] theorem wcanon0_0_9' (t : Fin grid0.N) :
    hbM0_0.slice (Rect.unit (s := S4096x7168) (k0_off15 (grid0.coords t) 16#32) ![1024, 128] (k0_off15_inb (grid0.coords t) 2)) (fun _ => rfl) = wpiece0_0 (Ring.bk 32 t.val) 2 :=
  wcanon0_0_9 t
set_option synthInstance.maxSize 4096 in
theorem wcoff0_0_10 : ∀ t : Fin grid0.N, k0_off21 (grid0.coords t) = ![(Ring.sl 2 t.val).val, 3] := by decide +kernel
@[sl_canon] theorem wcanon0_0_10 (t : Fin grid0.N) :
    (cc0_scratch2.slice (Rect.unit (s := S2x4) (k0_off21 (grid0.coords t)) S1x1.size (k0_off21_inb (grid0.coords t)))).squeeze S_ squeezes_S1x1_S_ = wcellA0_0 (Ring.sl 2 t.val) 3 :=
  congrArg (fun A : DmaSems sig S1x1 => A.squeeze S_ squeezes_S1x1_S_) (SemArray.slice_unit_congr _ (wcoff0_0_10 t) _ _)
@[sl_canon] theorem wcanon0_0_10' (t : Fin grid0.N) :
    (cc0_scratch2.slice (Rect.unit (s := S2x4) (k0_off21 (grid0.coords t)) ![1, 1] (k0_off21_inb (grid0.coords t)))).squeeze S_ squeezes_S1x1_S_ = wcellA0_0 (Ring.sl 2 t.val) 3 :=
  wcanon0_0_10 t
set_option synthInstance.maxSize 4096 in
theorem wcoff0_0_11 : ∀ t : Fin grid0.N, k0_off22 (grid0.coords t) = ![(Ring.sl 2 t.val).val, 3, 0, 0] := by decide +kernel
@[sl_canon] theorem wcanon0_0_11 (t : Fin grid0.N) :
    (scM0_1.slice (Rect.unit (s := S2x4x1024x128) (k0_off22 (grid0.coords t)) S1x1x1024x128.size (k0_off22_inb (grid0.coords t))) (fun _ => rfl)).squeeze S1024x128 squeezes_S1x1x1024x128_S1024x128 = wtile0_0 (Ring.sl 2 t.val) 3 :=
  congrArg (fun M : Memref sig .tc .vmem S1x1x1024x128 .bf16 => M.squeeze S1024x128 squeezes_S1x1x1024x128_S1024x128) (Memref.slice_unit_congr _ (wcoff0_0_11 t) _ _ (fun _ => rfl) (fun _ => rfl))
@[sl_canon] theorem wcanon0_0_11' (t : Fin grid0.N) :
    (scM0_1.slice (Rect.unit (s := S2x4x1024x128) (k0_off22 (grid0.coords t)) ![1, 1, 1024, 128] (k0_off22_inb (grid0.coords t))) (fun _ => rfl)).squeeze S1024x128 squeezes_S1x1x1024x128_S1024x128 = wtile0_0 (Ring.sl 2 t.val) 3 :=
  wcanon0_0_11 t
set_option synthInstance.maxSize 4096 in
theorem wcoff0_0_12 : ∀ t : Fin grid0.N, k0_off15 (grid0.coords t) 24#32 = ![(3072 - 1024 * ((Ring.bk 32 t.val).val % 4)), 128 * ((Ring.bk 32 t.val).val / 4) + 1024 * 3] := by decide +kernel
@[sl_canon] theorem wcanon0_0_12 (t : Fin grid0.N) :
    hbM0_0.slice (Rect.unit (s := S4096x7168) (k0_off15 (grid0.coords t) 24#32) S1024x128.size (k0_off15_inb (grid0.coords t) 3)) (fun _ => rfl) = wpiece0_0 (Ring.bk 32 t.val) 3 :=
  congrArg (fun M : Memref sig .tc .hbm S1024x128 .bf16 => M) (Memref.slice_unit_congr _ (wcoff0_0_12 t) _ _ (fun _ => rfl) (fun _ => rfl))
@[sl_canon] theorem wcanon0_0_12' (t : Fin grid0.N) :
    hbM0_0.slice (Rect.unit (s := S4096x7168) (k0_off15 (grid0.coords t) 24#32) ![1024, 128] (k0_off15_inb (grid0.coords t) 3)) (fun _ => rfl) = wpiece0_0 (Ring.bk 32 t.val) 3 :=
  wcanon0_0_12 t
set_option synthInstance.maxSize 4096 in
theorem wcoff0_0_13 : ∀ t : Fin grid0.N, k0_off1 (grid0.coords t) = ![(Ring.sl 2 t.val).val, 0] := by decide +kernel
@[sl_canon] theorem wcanon0_0_13 (t : Fin grid0.N) (h0 : cond0_0 (grid0.coords t)) :
    (cc0_scratch2.slice (Rect.unit (s := S2x4) (k0_off1 (grid0.coords t)) S1x1.size (k0_off1_inb (grid0.coords t) h0))).squeeze S_ squeezes_S1x1_S_ = wcellA0_0 (Ring.sl 2 t.val) 0 :=
  congrArg (fun A : DmaSems sig S1x1 => A.squeeze S_ squeezes_S1x1_S_) (SemArray.slice_unit_congr _ (wcoff0_0_13 t) _ _)
@[sl_canon] theorem wcanon0_0_13' (t : Fin grid0.N) (h0 : cond0_0 (grid0.coords t)) :
    (cc0_scratch2.slice (Rect.unit (s := S2x4) (k0_off1 (grid0.coords t)) ![1, 1] (k0_off1_inb (grid0.coords t) h0))).squeeze S_ squeezes_S1x1_S_ = wcellA0_0 (Ring.sl 2 t.val) 0 :=
  wcanon0_0_13 t h0
set_option synthInstance.maxSize 4096 in
theorem wcoff0_0_14 : ∀ t : Fin grid0.N, k0_off3 (grid0.coords t) = ![(Ring.sl 2 t.val).val, 0, 0, 0] := by decide +kernel
@[sl_canon] theorem wcanon0_0_14 (t : Fin grid0.N) (h0 : cond0_0 (grid0.coords t)) :
    (scM0_1.slice (Rect.unit (s := S2x4x1024x128) (k0_off3 (grid0.coords t)) S1x1x1024x128.size (k0_off3_inb (grid0.coords t) h0)) (fun _ => rfl)).squeeze S1024x128 squeezes_S1x1x1024x128_S1024x128 = wtile0_0 (Ring.sl 2 t.val) 0 :=
  congrArg (fun M : Memref sig .tc .vmem S1x1x1024x128 .bf16 => M.squeeze S1024x128 squeezes_S1x1x1024x128_S1024x128) (Memref.slice_unit_congr _ (wcoff0_0_14 t) _ _ (fun _ => rfl) (fun _ => rfl))
@[sl_canon] theorem wcanon0_0_14' (t : Fin grid0.N) (h0 : cond0_0 (grid0.coords t)) :
    (scM0_1.slice (Rect.unit (s := S2x4x1024x128) (k0_off3 (grid0.coords t)) ![1, 1, 1024, 128] (k0_off3_inb (grid0.coords t) h0)) (fun _ => rfl)).squeeze S1024x128 squeezes_S1x1x1024x128_S1024x128 = wtile0_0 (Ring.sl 2 t.val) 0 :=
  wcanon0_0_14 t h0
set_option synthInstance.maxSize 4096 in
theorem wcoff0_0_15 : ∀ t : Fin grid0.N, k0_off4 (grid0.coords t) = ![(Ring.sl 2 t.val).val, 1] := by decide +kernel
@[sl_canon] theorem wcanon0_0_15 (t : Fin grid0.N) (h0 : cond0_0 (grid0.coords t)) :
    (cc0_scratch2.slice (Rect.unit (s := S2x4) (k0_off4 (grid0.coords t)) S1x1.size (k0_off4_inb (grid0.coords t) h0))).squeeze S_ squeezes_S1x1_S_ = wcellA0_0 (Ring.sl 2 t.val) 1 :=
  congrArg (fun A : DmaSems sig S1x1 => A.squeeze S_ squeezes_S1x1_S_) (SemArray.slice_unit_congr _ (wcoff0_0_15 t) _ _)
@[sl_canon] theorem wcanon0_0_15' (t : Fin grid0.N) (h0 : cond0_0 (grid0.coords t)) :
    (cc0_scratch2.slice (Rect.unit (s := S2x4) (k0_off4 (grid0.coords t)) ![1, 1] (k0_off4_inb (grid0.coords t) h0))).squeeze S_ squeezes_S1x1_S_ = wcellA0_0 (Ring.sl 2 t.val) 1 :=
  wcanon0_0_15 t h0
set_option synthInstance.maxSize 4096 in
theorem wcoff0_0_16 : ∀ t : Fin grid0.N, k0_off5 (grid0.coords t) = ![(Ring.sl 2 t.val).val, 1, 0, 0] := by decide +kernel
@[sl_canon] theorem wcanon0_0_16 (t : Fin grid0.N) (h0 : cond0_0 (grid0.coords t)) :
    (scM0_1.slice (Rect.unit (s := S2x4x1024x128) (k0_off5 (grid0.coords t)) S1x1x1024x128.size (k0_off5_inb (grid0.coords t) h0)) (fun _ => rfl)).squeeze S1024x128 squeezes_S1x1x1024x128_S1024x128 = wtile0_0 (Ring.sl 2 t.val) 1 :=
  congrArg (fun M : Memref sig .tc .vmem S1x1x1024x128 .bf16 => M.squeeze S1024x128 squeezes_S1x1x1024x128_S1024x128) (Memref.slice_unit_congr _ (wcoff0_0_16 t) _ _ (fun _ => rfl) (fun _ => rfl))
@[sl_canon] theorem wcanon0_0_16' (t : Fin grid0.N) (h0 : cond0_0 (grid0.coords t)) :
    (scM0_1.slice (Rect.unit (s := S2x4x1024x128) (k0_off5 (grid0.coords t)) ![1, 1, 1024, 128] (k0_off5_inb (grid0.coords t) h0)) (fun _ => rfl)).squeeze S1024x128 squeezes_S1x1x1024x128_S1024x128 = wtile0_0 (Ring.sl 2 t.val) 1 :=
  wcanon0_0_16 t h0
set_option synthInstance.maxSize 4096 in
theorem wcoff0_0_17 : ∀ t : Fin grid0.N, k0_off6 (grid0.coords t) = ![(Ring.sl 2 t.val).val, 2] := by decide +kernel
@[sl_canon] theorem wcanon0_0_17 (t : Fin grid0.N) (h0 : cond0_0 (grid0.coords t)) :
    (cc0_scratch2.slice (Rect.unit (s := S2x4) (k0_off6 (grid0.coords t)) S1x1.size (k0_off6_inb (grid0.coords t) h0))).squeeze S_ squeezes_S1x1_S_ = wcellA0_0 (Ring.sl 2 t.val) 2 :=
  congrArg (fun A : DmaSems sig S1x1 => A.squeeze S_ squeezes_S1x1_S_) (SemArray.slice_unit_congr _ (wcoff0_0_17 t) _ _)
@[sl_canon] theorem wcanon0_0_17' (t : Fin grid0.N) (h0 : cond0_0 (grid0.coords t)) :
    (cc0_scratch2.slice (Rect.unit (s := S2x4) (k0_off6 (grid0.coords t)) ![1, 1] (k0_off6_inb (grid0.coords t) h0))).squeeze S_ squeezes_S1x1_S_ = wcellA0_0 (Ring.sl 2 t.val) 2 :=
  wcanon0_0_17 t h0
set_option synthInstance.maxSize 4096 in
theorem wcoff0_0_18 : ∀ t : Fin grid0.N, k0_off7 (grid0.coords t) = ![(Ring.sl 2 t.val).val, 2, 0, 0] := by decide +kernel
@[sl_canon] theorem wcanon0_0_18 (t : Fin grid0.N) (h0 : cond0_0 (grid0.coords t)) :
    (scM0_1.slice (Rect.unit (s := S2x4x1024x128) (k0_off7 (grid0.coords t)) S1x1x1024x128.size (k0_off7_inb (grid0.coords t) h0)) (fun _ => rfl)).squeeze S1024x128 squeezes_S1x1x1024x128_S1024x128 = wtile0_0 (Ring.sl 2 t.val) 2 :=
  congrArg (fun M : Memref sig .tc .vmem S1x1x1024x128 .bf16 => M.squeeze S1024x128 squeezes_S1x1x1024x128_S1024x128) (Memref.slice_unit_congr _ (wcoff0_0_18 t) _ _ (fun _ => rfl) (fun _ => rfl))
@[sl_canon] theorem wcanon0_0_18' (t : Fin grid0.N) (h0 : cond0_0 (grid0.coords t)) :
    (scM0_1.slice (Rect.unit (s := S2x4x1024x128) (k0_off7 (grid0.coords t)) ![1, 1, 1024, 128] (k0_off7_inb (grid0.coords t) h0)) (fun _ => rfl)).squeeze S1024x128 squeezes_S1x1x1024x128_S1024x128 = wtile0_0 (Ring.sl 2 t.val) 2 :=
  wcanon0_0_18 t h0
set_option synthInstance.maxSize 4096 in
theorem wcoff0_0_19 : ∀ t : Fin grid0.N, k0_off8 (grid0.coords t) = ![(Ring.sl 2 t.val).val, 3] := by decide +kernel
@[sl_canon] theorem wcanon0_0_19 (t : Fin grid0.N) (h0 : cond0_0 (grid0.coords t)) :
    (cc0_scratch2.slice (Rect.unit (s := S2x4) (k0_off8 (grid0.coords t)) S1x1.size (k0_off8_inb (grid0.coords t) h0))).squeeze S_ squeezes_S1x1_S_ = wcellA0_0 (Ring.sl 2 t.val) 3 :=
  congrArg (fun A : DmaSems sig S1x1 => A.squeeze S_ squeezes_S1x1_S_) (SemArray.slice_unit_congr _ (wcoff0_0_19 t) _ _)
@[sl_canon] theorem wcanon0_0_19' (t : Fin grid0.N) (h0 : cond0_0 (grid0.coords t)) :
    (cc0_scratch2.slice (Rect.unit (s := S2x4) (k0_off8 (grid0.coords t)) ![1, 1] (k0_off8_inb (grid0.coords t) h0))).squeeze S_ squeezes_S1x1_S_ = wcellA0_0 (Ring.sl 2 t.val) 3 :=
  wcanon0_0_19 t h0
set_option synthInstance.maxSize 4096 in
theorem wcoff0_0_20 : ∀ t : Fin grid0.N, k0_off9 (grid0.coords t) = ![(Ring.sl 2 t.val).val, 3, 0, 0] := by decide +kernel
@[sl_canon] theorem wcanon0_0_20 (t : Fin grid0.N) (h0 : cond0_0 (grid0.coords t)) :
    (scM0_1.slice (Rect.unit (s := S2x4x1024x128) (k0_off9 (grid0.coords t)) S1x1x1024x128.size (k0_off9_inb (grid0.coords t) h0)) (fun _ => rfl)).squeeze S1024x128 squeezes_S1x1x1024x128_S1024x128 = wtile0_0 (Ring.sl 2 t.val) 3 :=
  congrArg (fun M : Memref sig .tc .vmem S1x1x1024x128 .bf16 => M.squeeze S1024x128 squeezes_S1x1x1024x128_S1024x128) (Memref.slice_unit_congr _ (wcoff0_0_20 t) _ _ (fun _ => rfl) (fun _ => rfl))
@[sl_canon] theorem wcanon0_0_20' (t : Fin grid0.N) (h0 : cond0_0 (grid0.coords t)) :
    (scM0_1.slice (Rect.unit (s := S2x4x1024x128) (k0_off9 (grid0.coords t)) ![1, 1, 1024, 128] (k0_off9_inb (grid0.coords t) h0)) (fun _ => rfl)).squeeze S1024x128 squeezes_S1x1x1024x128_S1024x128 = wtile0_0 (Ring.sl 2 t.val) 3 :=
  wcanon0_0_20 t h0
set_option synthInstance.maxSize 4096 in
theorem wcoff0_0_21 : ∀ t : Fin grid0.N, k0_off23 (grid0.coords t) = ![(Ring.sl 2 (t.val + 1)).val, 0] := by decide +kernel
@[sl_canon] theorem wcanon0_0_21 (t : Fin grid0.N) (h2 : cond0_2 (grid0.coords t)) :
    (cc0_scratch2.slice (Rect.unit (s := S2x4) (k0_off23 (grid0.coords t)) S1x1.size (k0_off23_inb (grid0.coords t) h2))).squeeze S_ squeezes_S1x1_S_ = wcellA0_0 (Ring.sl 2 (t.val + 1)) 0 :=
  congrArg (fun A : DmaSems sig S1x1 => A.squeeze S_ squeezes_S1x1_S_) (SemArray.slice_unit_congr _ (wcoff0_0_21 t) _ _)
@[sl_canon] theorem wcanon0_0_21' (t : Fin grid0.N) (h2 : cond0_2 (grid0.coords t)) :
    (cc0_scratch2.slice (Rect.unit (s := S2x4) (k0_off23 (grid0.coords t)) ![1, 1] (k0_off23_inb (grid0.coords t) h2))).squeeze S_ squeezes_S1x1_S_ = wcellA0_0 (Ring.sl 2 (t.val + 1)) 0 :=
  wcanon0_0_21 t h2
set_option synthInstance.maxSize 4096 in
theorem wcoff0_0_22 : ∀ t : Fin grid0.N, k0_off25 (grid0.coords t) = ![(Ring.sl 2 (t.val + 1)).val, 0, 0, 0] := by decide +kernel
@[sl_canon] theorem wcanon0_0_22 (t : Fin grid0.N) (h2 : cond0_2 (grid0.coords t)) :
    (scM0_1.slice (Rect.unit (s := S2x4x1024x128) (k0_off25 (grid0.coords t)) S1x1x1024x128.size (k0_off25_inb (grid0.coords t) h2)) (fun _ => rfl)).squeeze S1024x128 squeezes_S1x1x1024x128_S1024x128 = wtile0_0 (Ring.sl 2 (t.val + 1)) 0 :=
  congrArg (fun M : Memref sig .tc .vmem S1x1x1024x128 .bf16 => M.squeeze S1024x128 squeezes_S1x1x1024x128_S1024x128) (Memref.slice_unit_congr _ (wcoff0_0_22 t) _ _ (fun _ => rfl) (fun _ => rfl))
@[sl_canon] theorem wcanon0_0_22' (t : Fin grid0.N) (h2 : cond0_2 (grid0.coords t)) :
    (scM0_1.slice (Rect.unit (s := S2x4x1024x128) (k0_off25 (grid0.coords t)) ![1, 1, 1024, 128] (k0_off25_inb (grid0.coords t) h2)) (fun _ => rfl)).squeeze S1024x128 squeezes_S1x1x1024x128_S1024x128 = wtile0_0 (Ring.sl 2 (t.val + 1)) 0 :=
  wcanon0_0_22 t h2
set_option synthInstance.maxSize 4096 in
theorem wcoff0_0_23 : ∀ t : Fin grid0.N, k0_off26 (grid0.coords t) = ![(Ring.sl 2 (t.val + 1)).val, 1] := by decide +kernel
@[sl_canon] theorem wcanon0_0_23 (t : Fin grid0.N) (h2 : cond0_2 (grid0.coords t)) :
    (cc0_scratch2.slice (Rect.unit (s := S2x4) (k0_off26 (grid0.coords t)) S1x1.size (k0_off26_inb (grid0.coords t) h2))).squeeze S_ squeezes_S1x1_S_ = wcellA0_0 (Ring.sl 2 (t.val + 1)) 1 :=
  congrArg (fun A : DmaSems sig S1x1 => A.squeeze S_ squeezes_S1x1_S_) (SemArray.slice_unit_congr _ (wcoff0_0_23 t) _ _)
@[sl_canon] theorem wcanon0_0_23' (t : Fin grid0.N) (h2 : cond0_2 (grid0.coords t)) :
    (cc0_scratch2.slice (Rect.unit (s := S2x4) (k0_off26 (grid0.coords t)) ![1, 1] (k0_off26_inb (grid0.coords t) h2))).squeeze S_ squeezes_S1x1_S_ = wcellA0_0 (Ring.sl 2 (t.val + 1)) 1 :=
  wcanon0_0_23 t h2
set_option synthInstance.maxSize 4096 in
theorem wcoff0_0_24 : ∀ t : Fin grid0.N, k0_off27 (grid0.coords t) = ![(Ring.sl 2 (t.val + 1)).val, 1, 0, 0] := by decide +kernel
@[sl_canon] theorem wcanon0_0_24 (t : Fin grid0.N) (h2 : cond0_2 (grid0.coords t)) :
    (scM0_1.slice (Rect.unit (s := S2x4x1024x128) (k0_off27 (grid0.coords t)) S1x1x1024x128.size (k0_off27_inb (grid0.coords t) h2)) (fun _ => rfl)).squeeze S1024x128 squeezes_S1x1x1024x128_S1024x128 = wtile0_0 (Ring.sl 2 (t.val + 1)) 1 :=
  congrArg (fun M : Memref sig .tc .vmem S1x1x1024x128 .bf16 => M.squeeze S1024x128 squeezes_S1x1x1024x128_S1024x128) (Memref.slice_unit_congr _ (wcoff0_0_24 t) _ _ (fun _ => rfl) (fun _ => rfl))
@[sl_canon] theorem wcanon0_0_24' (t : Fin grid0.N) (h2 : cond0_2 (grid0.coords t)) :
    (scM0_1.slice (Rect.unit (s := S2x4x1024x128) (k0_off27 (grid0.coords t)) ![1, 1, 1024, 128] (k0_off27_inb (grid0.coords t) h2)) (fun _ => rfl)).squeeze S1024x128 squeezes_S1x1x1024x128_S1024x128 = wtile0_0 (Ring.sl 2 (t.val + 1)) 1 :=
  wcanon0_0_24 t h2
set_option synthInstance.maxSize 4096 in
theorem wcoff0_0_25 : ∀ t : Fin grid0.N, k0_off28 (grid0.coords t) = ![(Ring.sl 2 (t.val + 1)).val, 2] := by decide +kernel
@[sl_canon] theorem wcanon0_0_25 (t : Fin grid0.N) (h2 : cond0_2 (grid0.coords t)) :
    (cc0_scratch2.slice (Rect.unit (s := S2x4) (k0_off28 (grid0.coords t)) S1x1.size (k0_off28_inb (grid0.coords t) h2))).squeeze S_ squeezes_S1x1_S_ = wcellA0_0 (Ring.sl 2 (t.val + 1)) 2 :=
  congrArg (fun A : DmaSems sig S1x1 => A.squeeze S_ squeezes_S1x1_S_) (SemArray.slice_unit_congr _ (wcoff0_0_25 t) _ _)
@[sl_canon] theorem wcanon0_0_25' (t : Fin grid0.N) (h2 : cond0_2 (grid0.coords t)) :
    (cc0_scratch2.slice (Rect.unit (s := S2x4) (k0_off28 (grid0.coords t)) ![1, 1] (k0_off28_inb (grid0.coords t) h2))).squeeze S_ squeezes_S1x1_S_ = wcellA0_0 (Ring.sl 2 (t.val + 1)) 2 :=
  wcanon0_0_25 t h2
set_option synthInstance.maxSize 4096 in
theorem wcoff0_0_26 : ∀ t : Fin grid0.N, k0_off29 (grid0.coords t) = ![(Ring.sl 2 (t.val + 1)).val, 2, 0, 0] := by decide +kernel
@[sl_canon] theorem wcanon0_0_26 (t : Fin grid0.N) (h2 : cond0_2 (grid0.coords t)) :
    (scM0_1.slice (Rect.unit (s := S2x4x1024x128) (k0_off29 (grid0.coords t)) S1x1x1024x128.size (k0_off29_inb (grid0.coords t) h2)) (fun _ => rfl)).squeeze S1024x128 squeezes_S1x1x1024x128_S1024x128 = wtile0_0 (Ring.sl 2 (t.val + 1)) 2 :=
  congrArg (fun M : Memref sig .tc .vmem S1x1x1024x128 .bf16 => M.squeeze S1024x128 squeezes_S1x1x1024x128_S1024x128) (Memref.slice_unit_congr _ (wcoff0_0_26 t) _ _ (fun _ => rfl) (fun _ => rfl))
@[sl_canon] theorem wcanon0_0_26' (t : Fin grid0.N) (h2 : cond0_2 (grid0.coords t)) :
    (scM0_1.slice (Rect.unit (s := S2x4x1024x128) (k0_off29 (grid0.coords t)) ![1, 1, 1024, 128] (k0_off29_inb (grid0.coords t) h2)) (fun _ => rfl)).squeeze S1024x128 squeezes_S1x1x1024x128_S1024x128 = wtile0_0 (Ring.sl 2 (t.val + 1)) 2 :=
  wcanon0_0_26 t h2
set_option synthInstance.maxSize 4096 in
theorem wcoff0_0_27 : ∀ t : Fin grid0.N, k0_off30 (grid0.coords t) = ![(Ring.sl 2 (t.val + 1)).val, 3] := by decide +kernel
@[sl_canon] theorem wcanon0_0_27 (t : Fin grid0.N) (h2 : cond0_2 (grid0.coords t)) :
    (cc0_scratch2.slice (Rect.unit (s := S2x4) (k0_off30 (grid0.coords t)) S1x1.size (k0_off30_inb (grid0.coords t) h2))).squeeze S_ squeezes_S1x1_S_ = wcellA0_0 (Ring.sl 2 (t.val + 1)) 3 :=
  congrArg (fun A : DmaSems sig S1x1 => A.squeeze S_ squeezes_S1x1_S_) (SemArray.slice_unit_congr _ (wcoff0_0_27 t) _ _)
@[sl_canon] theorem wcanon0_0_27' (t : Fin grid0.N) (h2 : cond0_2 (grid0.coords t)) :
    (cc0_scratch2.slice (Rect.unit (s := S2x4) (k0_off30 (grid0.coords t)) ![1, 1] (k0_off30_inb (grid0.coords t) h2))).squeeze S_ squeezes_S1x1_S_ = wcellA0_0 (Ring.sl 2 (t.val + 1)) 3 :=
  wcanon0_0_27 t h2
set_option synthInstance.maxSize 4096 in
theorem wcoff0_0_28 : ∀ t : Fin grid0.N, k0_off31 (grid0.coords t) = ![(Ring.sl 2 (t.val + 1)).val, 3, 0, 0] := by decide +kernel
@[sl_canon] theorem wcanon0_0_28 (t : Fin grid0.N) (h2 : cond0_2 (grid0.coords t)) :
    (scM0_1.slice (Rect.unit (s := S2x4x1024x128) (k0_off31 (grid0.coords t)) S1x1x1024x128.size (k0_off31_inb (grid0.coords t) h2)) (fun _ => rfl)).squeeze S1024x128 squeezes_S1x1x1024x128_S1024x128 = wtile0_0 (Ring.sl 2 (t.val + 1)) 3 :=
  congrArg (fun M : Memref sig .tc .vmem S1x1x1024x128 .bf16 => M.squeeze S1024x128 squeezes_S1x1x1024x128_S1024x128) (Memref.slice_unit_congr _ (wcoff0_0_28 t) _ _ (fun _ => rfl) (fun _ => rfl))
@[sl_canon] theorem wcanon0_0_28' (t : Fin grid0.N) (h2 : cond0_2 (grid0.coords t)) :
    (scM0_1.slice (Rect.unit (s := S2x4x1024x128) (k0_off31 (grid0.coords t)) ![1, 1, 1024, 128] (k0_off31_inb (grid0.coords t) h2)) (fun _ => rfl)).squeeze S1024x128 squeezes_S1x1x1024x128_S1024x128 = wtile0_0 (Ring.sl 2 (t.val + 1)) 3 :=
  wcanon0_0_28 t h2
set_option synthInstance.maxSize 4096 in
theorem wcoff0_0_29 : ∀ t : Fin grid0.N, k0_off32 (grid0.coords t) = ![(Ring.sl 2 t.val).val, 0] := by decide +kernel
@[sl_canon] theorem wcanon0_0_29 (t : Fin grid0.N) (h2 : cond0_2 (grid0.coords t)) :
    (cc0_scratch2.slice (Rect.unit (s := S2x4) (k0_off32 (grid0.coords t)) S1x1.size (k0_off32_inb (grid0.coords t) h2))).squeeze S_ squeezes_S1x1_S_ = wcellA0_0 (Ring.sl 2 t.val) 0 :=
  congrArg (fun A : DmaSems sig S1x1 => A.squeeze S_ squeezes_S1x1_S_) (SemArray.slice_unit_congr _ (wcoff0_0_29 t) _ _)
@[sl_canon] theorem wcanon0_0_29' (t : Fin grid0.N) (h2 : cond0_2 (grid0.coords t)) :
    (cc0_scratch2.slice (Rect.unit (s := S2x4) (k0_off32 (grid0.coords t)) ![1, 1] (k0_off32_inb (grid0.coords t) h2))).squeeze S_ squeezes_S1x1_S_ = wcellA0_0 (Ring.sl 2 t.val) 0 :=
  wcanon0_0_29 t h2
set_option synthInstance.maxSize 4096 in
theorem wcoff0_0_30 : ∀ t : Fin grid0.N, k0_off33 (grid0.coords t) = ![(Ring.sl 2 t.val).val, 0, 0, 0] := by decide +kernel
@[sl_canon] theorem wcanon0_0_30 (t : Fin grid0.N) (h2 : cond0_2 (grid0.coords t)) :
    (scM0_1.slice (Rect.unit (s := S2x4x1024x128) (k0_off33 (grid0.coords t)) S1x1x1024x128.size (k0_off33_inb (grid0.coords t) h2)) (fun _ => rfl)).squeeze S1024x128 squeezes_S1x1x1024x128_S1024x128 = wtile0_0 (Ring.sl 2 t.val) 0 :=
  congrArg (fun M : Memref sig .tc .vmem S1x1x1024x128 .bf16 => M.squeeze S1024x128 squeezes_S1x1x1024x128_S1024x128) (Memref.slice_unit_congr _ (wcoff0_0_30 t) _ _ (fun _ => rfl) (fun _ => rfl))
@[sl_canon] theorem wcanon0_0_30' (t : Fin grid0.N) (h2 : cond0_2 (grid0.coords t)) :
    (scM0_1.slice (Rect.unit (s := S2x4x1024x128) (k0_off33 (grid0.coords t)) ![1, 1, 1024, 128] (k0_off33_inb (grid0.coords t) h2)) (fun _ => rfl)).squeeze S1024x128 squeezes_S1x1x1024x128_S1024x128 = wtile0_0 (Ring.sl 2 t.val) 0 :=
  wcanon0_0_30 t h2
set_option synthInstance.maxSize 4096 in
theorem wcoff0_0_31 : ∀ t : Fin grid0.N, k0_off34 (grid0.coords t) = ![(Ring.sl 2 t.val).val, 1] := by decide +kernel
@[sl_canon] theorem wcanon0_0_31 (t : Fin grid0.N) (h2 : cond0_2 (grid0.coords t)) :
    (cc0_scratch2.slice (Rect.unit (s := S2x4) (k0_off34 (grid0.coords t)) S1x1.size (k0_off34_inb (grid0.coords t) h2))).squeeze S_ squeezes_S1x1_S_ = wcellA0_0 (Ring.sl 2 t.val) 1 :=
  congrArg (fun A : DmaSems sig S1x1 => A.squeeze S_ squeezes_S1x1_S_) (SemArray.slice_unit_congr _ (wcoff0_0_31 t) _ _)
@[sl_canon] theorem wcanon0_0_31' (t : Fin grid0.N) (h2 : cond0_2 (grid0.coords t)) :
    (cc0_scratch2.slice (Rect.unit (s := S2x4) (k0_off34 (grid0.coords t)) ![1, 1] (k0_off34_inb (grid0.coords t) h2))).squeeze S_ squeezes_S1x1_S_ = wcellA0_0 (Ring.sl 2 t.val) 1 :=
  wcanon0_0_31 t h2
set_option synthInstance.maxSize 4096 in
theorem wcoff0_0_32 : ∀ t : Fin grid0.N, k0_off35 (grid0.coords t) = ![(Ring.sl 2 t.val).val, 1, 0, 0] := by decide +kernel
@[sl_canon] theorem wcanon0_0_32 (t : Fin grid0.N) (h2 : cond0_2 (grid0.coords t)) :
    (scM0_1.slice (Rect.unit (s := S2x4x1024x128) (k0_off35 (grid0.coords t)) S1x1x1024x128.size (k0_off35_inb (grid0.coords t) h2)) (fun _ => rfl)).squeeze S1024x128 squeezes_S1x1x1024x128_S1024x128 = wtile0_0 (Ring.sl 2 t.val) 1 :=
  congrArg (fun M : Memref sig .tc .vmem S1x1x1024x128 .bf16 => M.squeeze S1024x128 squeezes_S1x1x1024x128_S1024x128) (Memref.slice_unit_congr _ (wcoff0_0_32 t) _ _ (fun _ => rfl) (fun _ => rfl))
@[sl_canon] theorem wcanon0_0_32' (t : Fin grid0.N) (h2 : cond0_2 (grid0.coords t)) :
    (scM0_1.slice (Rect.unit (s := S2x4x1024x128) (k0_off35 (grid0.coords t)) ![1, 1, 1024, 128] (k0_off35_inb (grid0.coords t) h2)) (fun _ => rfl)).squeeze S1024x128 squeezes_S1x1x1024x128_S1024x128 = wtile0_0 (Ring.sl 2 t.val) 1 :=
  wcanon0_0_32 t h2
set_option synthInstance.maxSize 4096 in
theorem wcoff0_0_33 : ∀ t : Fin grid0.N, k0_off36 (grid0.coords t) = ![(Ring.sl 2 t.val).val, 2] := by decide +kernel
@[sl_canon] theorem wcanon0_0_33 (t : Fin grid0.N) (h2 : cond0_2 (grid0.coords t)) :
    (cc0_scratch2.slice (Rect.unit (s := S2x4) (k0_off36 (grid0.coords t)) S1x1.size (k0_off36_inb (grid0.coords t) h2))).squeeze S_ squeezes_S1x1_S_ = wcellA0_0 (Ring.sl 2 t.val) 2 :=
  congrArg (fun A : DmaSems sig S1x1 => A.squeeze S_ squeezes_S1x1_S_) (SemArray.slice_unit_congr _ (wcoff0_0_33 t) _ _)
@[sl_canon] theorem wcanon0_0_33' (t : Fin grid0.N) (h2 : cond0_2 (grid0.coords t)) :
    (cc0_scratch2.slice (Rect.unit (s := S2x4) (k0_off36 (grid0.coords t)) ![1, 1] (k0_off36_inb (grid0.coords t) h2))).squeeze S_ squeezes_S1x1_S_ = wcellA0_0 (Ring.sl 2 t.val) 2 :=
  wcanon0_0_33 t h2
set_option synthInstance.maxSize 4096 in
theorem wcoff0_0_34 : ∀ t : Fin grid0.N, k0_off37 (grid0.coords t) = ![(Ring.sl 2 t.val).val, 2, 0, 0] := by decide +kernel
@[sl_canon] theorem wcanon0_0_34 (t : Fin grid0.N) (h2 : cond0_2 (grid0.coords t)) :
    (scM0_1.slice (Rect.unit (s := S2x4x1024x128) (k0_off37 (grid0.coords t)) S1x1x1024x128.size (k0_off37_inb (grid0.coords t) h2)) (fun _ => rfl)).squeeze S1024x128 squeezes_S1x1x1024x128_S1024x128 = wtile0_0 (Ring.sl 2 t.val) 2 :=
  congrArg (fun M : Memref sig .tc .vmem S1x1x1024x128 .bf16 => M.squeeze S1024x128 squeezes_S1x1x1024x128_S1024x128) (Memref.slice_unit_congr _ (wcoff0_0_34 t) _ _ (fun _ => rfl) (fun _ => rfl))
@[sl_canon] theorem wcanon0_0_34' (t : Fin grid0.N) (h2 : cond0_2 (grid0.coords t)) :
    (scM0_1.slice (Rect.unit (s := S2x4x1024x128) (k0_off37 (grid0.coords t)) ![1, 1, 1024, 128] (k0_off37_inb (grid0.coords t) h2)) (fun _ => rfl)).squeeze S1024x128 squeezes_S1x1x1024x128_S1024x128 = wtile0_0 (Ring.sl 2 t.val) 2 :=
  wcanon0_0_34 t h2
set_option synthInstance.maxSize 4096 in
theorem wcoff0_0_35 : ∀ t : Fin grid0.N, k0_off38 (grid0.coords t) = ![(Ring.sl 2 t.val).val, 3] := by decide +kernel
@[sl_canon] theorem wcanon0_0_35 (t : Fin grid0.N) (h2 : cond0_2 (grid0.coords t)) :
    (cc0_scratch2.slice (Rect.unit (s := S2x4) (k0_off38 (grid0.coords t)) S1x1.size (k0_off38_inb (grid0.coords t) h2))).squeeze S_ squeezes_S1x1_S_ = wcellA0_0 (Ring.sl 2 t.val) 3 :=
  congrArg (fun A : DmaSems sig S1x1 => A.squeeze S_ squeezes_S1x1_S_) (SemArray.slice_unit_congr _ (wcoff0_0_35 t) _ _)
@[sl_canon] theorem wcanon0_0_35' (t : Fin grid0.N) (h2 : cond0_2 (grid0.coords t)) :
    (cc0_scratch2.slice (Rect.unit (s := S2x4) (k0_off38 (grid0.coords t)) ![1, 1] (k0_off38_inb (grid0.coords t) h2))).squeeze S_ squeezes_S1x1_S_ = wcellA0_0 (Ring.sl 2 t.val) 3 :=
  wcanon0_0_35 t h2
set_option synthInstance.maxSize 4096 in
theorem wcoff0_0_36 : ∀ t : Fin grid0.N, k0_off39 (grid0.coords t) = ![(Ring.sl 2 t.val).val, 3, 0, 0] := by decide +kernel
@[sl_canon] theorem wcanon0_0_36 (t : Fin grid0.N) (h2 : cond0_2 (grid0.coords t)) :
    (scM0_1.slice (Rect.unit (s := S2x4x1024x128) (k0_off39 (grid0.coords t)) S1x1x1024x128.size (k0_off39_inb (grid0.coords t) h2)) (fun _ => rfl)).squeeze S1024x128 squeezes_S1x1x1024x128_S1024x128 = wtile0_0 (Ring.sl 2 t.val) 3 :=
  congrArg (fun M : Memref sig .tc .vmem S1x1x1024x128 .bf16 => M.squeeze S1024x128 squeezes_S1x1x1024x128_S1024x128) (Memref.slice_unit_congr _ (wcoff0_0_36 t) _ _ (fun _ => rfl) (fun _ => rfl))
@[sl_canon] theorem wcanon0_0_36' (t : Fin grid0.N) (h2 : cond0_2 (grid0.coords t)) :
    (scM0_1.slice (Rect.unit (s := S2x4x1024x128) (k0_off39 (grid0.coords t)) ![1, 1, 1024, 128] (k0_off39_inb (grid0.coords t) h2)) (fun _ => rfl)).squeeze S1024x128 squeezes_S1x1x1024x128_S1024x128 = wtile0_0 (Ring.sl 2 t.val) 3 :=
  wcanon0_0_36 t h2
set_option synthInstance.maxSize 4096 in
theorem wcoff0_0_37 : ∀ t : Fin grid0.N, k0_off10 (grid0.coords t) = ![(Ring.sl 2 t.val).val, 3, 0, 0] := by decide +kernel
/-- The store into tile 3 starts where that tile starts. -/
instance (priority := high) wclosedOff0_0_37 (t : Fin grid0.N) : ClosedOff (k0_off10 (grid0.coords t)) := ⟨![(Ring.sl 2 t.val).val, 3, 0, 0], wcoff0_0_37 t⟩
set_option synthInstance.maxSize 4096 in
theorem wcoff0_0_38 : ∀ t : Fin grid0.N, k0_off11 (grid0.coords t) = ![(Ring.sl 2 t.val).val, 0, 0, 0] := by decide +kernel
/-- The store into tile 0 starts where that tile starts. -/
instance (priority := high) wclosedOff0_0_38 (t : Fin grid0.N) : ClosedOff (k0_off11 (grid0.coords t)) := ⟨![(Ring.sl 2 t.val).val, 0, 0, 0], wcoff0_0_38 t⟩
set_option synthInstance.maxSize 4096 in
theorem wcoff0_0_39 : ∀ t : Fin grid0.N, k0_off12 (grid0.coords t) = ![(Ring.sl 2 t.val).val, 1, 0, 0] := by decide +kernel
/-- The store into tile 1 starts where that tile starts. -/
instance (priority := high) wclosedOff0_0_39 (t : Fin grid0.N) : ClosedOff (k0_off12 (grid0.coords t)) := ⟨![(Ring.sl 2 t.val).val, 1, 0, 0], wcoff0_0_39 t⟩
set_option synthInstance.maxSize 4096 in
theorem wcoff0_0_40 : ∀ t : Fin grid0.N, k0_off13 (grid0.coords t) = ![(Ring.sl 2 t.val).val, 2, 0, 0] := by decide +kernel
/-- The store into tile 2 starts where that tile starts. -/
instance (priority := high) wclosedOff0_0_40 (t : Fin grid0.N) : ClosedOff (k0_off13 (grid0.coords t)) := ⟨![(Ring.sl 2 t.val).val, 2, 0, 0], wcoff0_0_40 t⟩
end WCanon0_0

end Cert.KernelIdeal.Ret

end
-- ==== Proof.Ret.Block.lean ====
module

public import proofs.«01_k».proof.Proof.Gen.KernelIdeal.Skeleton
public import Idealize.ShloMosaic.Lib.Pipeline.FrameBody

/-! # One block of the retention's backward pass, as functions of what the block reads

The body of the kernel reads fifteen arrays of one block and sixteen saved states, and stores four tiles, one row of
weight gradient and one carried state. `Reads` is what it reads; the functions below it are the intermediate values in
the order the body computes them, ending with the six stored ones: `dqTile`, `dkTile`, `dvTile`, `dgTile`, `accNext`,
`stNext`. -/

@[expose] public section

noncomputable section

namespace Cert.KernelIdeal.Ret

open Cert.KernelIdeal.Gen
open Idealize.ShloMosaic

variable {F : FTy → Type} [FloatOps F]

variable (F) in
/-- What one block reads. -/
structure Reads where
  /-- the cosines of the block's rotations -/
  cos : Vec F S1024x128 .f32
  /-- their sines (signed for the two halves) -/
  sin : Vec F S1024x128 .f32
  /-- the queries -/
  q : Vec F S1024x128 .f32
  /-- the keys -/
  k : Vec F S1024x128 .f32
  /-- the values -/
  v : Vec F S1024x128 .f32
  /-- the decay between two rows of one 256-row group -/
  dec : Vec F S1x256x256 .f32
  /-- the keys' decay to the end of their chunk -/
  kd : Vec F S1x1024x128 .f32
  /-- the queries' decay from the start of theirs -/
  qd : Vec F S1x1024x128 .f32
  /-- the decay over a whole chunk -/
  cd : Vec F S1x1x128 .f32
  /-- the group norm's weights -/
  gn : Vec F S1x128 .f32
  /-- the gate's preactivation -/
  gt : Vec F S1024x128 .f32
  /-- the retention's output -/
  y : Vec F S1024x128 .f32
  /-- the cotangent of the mixed output -/
  ct : Vec F S1024x128 .f32
  /-- the weight's gradient summed over the blocks before -/
  acc : Vec F S1x1x128 .f32
  /-- the state gradient carried in from the block before -/
  st : Vec F S128x128 .f32
  /-- the state saved at the start of chunk 0 -/
  p0 : Vec F S1x1x128x128 .bf16
  /-- the state saved at the start of chunk 1 -/
  p1 : Vec F S1x1x128x128 .bf16
  /-- the state saved at the start of chunk 2 -/
  p2 : Vec F S1x1x128x128 .bf16
  /-- the state saved at the start of chunk 3 -/
  p3 : Vec F S1x1x128x128 .bf16
  /-- the state saved at the start of chunk 4 -/
  p4 : Vec F S1x1x128x128 .bf16
  /-- the state saved at the start of chunk 5 -/
  p5 : Vec F S1x1x128x128 .bf16
  /-- the state saved at the start of chunk 6 -/
  p6 : Vec F S1x1x128x128 .bf16
  /-- the state saved at the start of chunk 7 -/
  p7 : Vec F S1x1x128x128 .bf16
  /-- the state saved at the start of chunk 8 -/
  p8 : Vec F S1x1x128x128 .bf16
  /-- the state saved at the start of chunk 9 -/
  p9 : Vec F S1x1x128x128 .bf16
  /-- the state saved at the start of chunk 10 -/
  p10 : Vec F S1x1x128x128 .bf16
  /-- the state saved at the start of chunk 11 -/
  p11 : Vec F S1x1x128x128 .bf16
  /-- the state saved at the start of chunk 12 -/
  p12 : Vec F S1x1x128x128 .bf16
  /-- the state saved at the start of chunk 13 -/
  p13 : Vec F S1x1x128x128 .bf16
  /-- the state saved at the start of chunk 14 -/
  p14 : Vec F S1x1x128x128 .bf16
  /-- the state saved at the start of chunk 15 -/
  p15 : Vec F S1x1x128x128 .bf16

namespace Reads

variable (X : Reads F)

def v19 : FVec F S1024x128 .f32 := k0_pay3 X.cos
def v21 : FVec F S1024x128 .f32 := k0_pay4 X.sin
/-- the queries, rotated -/
def v26 : FVec F S1024x128 .f32 := k0_pay5 X.cos X.sin X.q
/-- the keys, rotated and scaled -/
def v33 : FVec F S1024x128 .f32 := k0_pay6 X.cos X.sin X.k
def v36 : FVec F S256x256 .f32 := k0_pay7 X.dec
def v38 : FVec F S1024x128 .f32 := k0_pay8 X.kd
def v40 : FVec F S1024x128 .f32 := k0_pay9 X.qd
def v42 : FVec F S1x128 .f32 := k0_pay10 X.cd
/-- the keys, decayed to the end of their chunk -/
def v44 : FVec F S1024x128 .f32 := k0_pay11 X.v33 X.kd
/-- the queries, decayed from the start of their chunk -/
def v45 : FVec F S1024x128 .f32 := k0_pay12 X.v26 X.qd
def v49 : FVec F S1024x128 .f32 := k0_pay13 X.gt
def v50 : FVec F S1024x128 .f32 := k0_pay14 X.gt
/-- the reciprocal standard deviation of each row -/
def v64 : FVec F S1024x1 .f32 := k0_pay16 X.y
/-- the normalised rows -/
def v66 : FVec F S1024x128 .f32 := k0_pay17 X.y
def v107 : FVec F S1024x128 .f32 := k0_pay21 X.gn X.ct X.v50 X.v66
def v108 : FVec F S1024x128 .f32 := k0_pay22 X.v64
def cst_66 : FVec F S128x128 .f32 := constant S128x128 .f32 0x00000000#32 -- %cst_66 = arith.constant dense<0.000000e+00> : vector<128x128xf32>
/-- the cotangent of the retention's output -/
def v109 : FVec F S1024x128 .f32 := k0_pay23 X.v107 X.v108
def v114 : FVec F S128x128 .f32 := k0_pay24 X.v45 X.v107 X.v108
def v119 : FVec F S128x128 .f32 := k0_pay25 X.v45 X.v107 X.v108
def v124 : FVec F S128x128 .f32 := k0_pay26 X.v45 X.v107 X.v108
def v129 : FVec F S128x128 .f32 := k0_pay27 X.v45 X.v107 X.v108
def v134 : FVec F S128x128 .f32 := k0_pay28 X.v45 X.v107 X.v108
def v139 : FVec F S128x128 .f32 := k0_pay29 X.v45 X.v107 X.v108
def v144 : FVec F S128x128 .f32 := k0_pay30 X.v45 X.v107 X.v108
def v149 : FVec F S128x128 .f32 := k0_pay31 X.v45 X.v107 X.v108
def v154 : FVec F S128x128 .f32 := k0_pay32 X.v45 X.v107 X.v108
def v157 : FVec F S64x128 .bf16 := k0_pay33 X.v45
def v158 : FVec F S64x128 .bf16 := k0_pay34 X.v107 X.v108
def v159 : FVec F S128x128 .f32 := k0_pay35 X.v157 X.v158 cst_66
def v193 : FVec F S128x128 .f32 := k0_pay36 X.v42 X.v45 X.v109 X.st
def v196 : FVec F S128x128 .f32 := k0_pay37 X.v42 X.v45 X.v109 X.st
def v199 : FVec F S128x128 .f32 := k0_pay38 X.v42 X.v45 X.v109 X.st
def v202 : FVec F S128x128 .f32 := k0_pay39 X.v42 X.v45 X.v109 X.st
def v205 : FVec F S128x128 .f32 := k0_pay40 X.v42 X.v45 X.v109 X.st
def v208 : FVec F S128x128 .f32 := k0_pay41 X.v42 X.v45 X.v109 X.st
def v210 : FVec F S128x128 .f32 := k0_pay42 X.v42 X.v45 X.v109 X.st
def v211 : FVec F S128x128 .f32 := k0_pay43 X.v159 X.v210
def v214 : FVec F S128x128 .f32 := k0_pay44 X.v42 X.v154 X.v159 X.v210
def v217 : FVec F S128x128 .f32 := k0_pay45 X.v42 X.v149 X.v154 X.v159 X.v210
def v220 : FVec F S128x128 .f32 := k0_pay46 X.v42 X.v144 X.v149 X.v154 X.v159 X.v210
def v223 : FVec F S128x128 .f32 := k0_pay47 X.v42 X.v139 X.v144 X.v149 X.v154 X.v159 X.v210
def v226 : FVec F S128x128 .f32 := k0_pay48 X.v42 X.v134 X.v139 X.v144 X.v149 X.v154 X.v159 X.v210
def v229 : FVec F S128x128 .f32 := k0_pay49 X.v42 X.v129 X.v134 X.v139 X.v144 X.v149 X.v154 X.v159 X.v210
def v232 : FVec F S128x128 .f32 := k0_pay50 X.v42 X.v124 X.v129 X.v134 X.v139 X.v144 X.v149 X.v154 X.v159 X.v210
def v235 : FVec F S128x128 .f32 := k0_pay51 X.v42 X.v119 X.v124 X.v129 X.v134 X.v139 X.v144 X.v149 X.v154 X.v159 X.v210
def v246 : FVec F S64x128 .f32 := k0_pay53 X.v109 X.p0
def v251 : FVec F S64x128 .f32 := k0_pay54 X.v109 X.p1
def v252 : FVec F S64x128 .f32 := k0_pay55 X.v109
def v256 : FVec F S64x128 .f32 := k0_pay56 X.v252 X.p2
def v261 : FVec F S64x128 .f32 := k0_pay57 X.v109 X.p3
def v266 : FVec F S64x128 .f32 := k0_pay58 X.v109 X.p4
def v271 : FVec F S64x128 .f32 := k0_pay59 X.v109 X.p5
def v276 : FVec F S64x128 .f32 := k0_pay60 X.v109 X.p6
def v281 : FVec F S64x128 .f32 := k0_pay61 X.v109 X.p7
def v282 : FVec F S64x128 .f32 := k0_pay62 X.v109
def v286 : FVec F S64x128 .f32 := k0_pay63 X.v282 X.p8
def v291 : FVec F S64x128 .f32 := k0_pay64 X.v109 X.p9
def v296 : FVec F S64x128 .f32 := k0_pay65 X.v109 X.p10
def v301 : FVec F S64x128 .f32 := k0_pay66 X.v109 X.p11
def v306 : FVec F S64x128 .f32 := k0_pay67 X.v109 X.p12
def v311 : FVec F S64x128 .f32 := k0_pay68 X.v109 X.p13
def v312 : FVec F S64x128 .f32 := k0_pay69 X.v109
def cst_151 : FVec F S64x128 .f32 := constant S64x128 .f32 0x00000000#32 -- %cst_151 = arith.constant dense<0.000000e+00> : vector<64x128xf32>
/-- the queries' gradient through the saved states -/
def v323 : FVec F S1024x128 .f32 := k0_pay70 X.v40 X.v109 X.v246 X.v251 X.v256 X.v261 X.v266 X.v271 X.v276 X.v281 X.v286 X.v291 X.v296 X.v301 X.v306 X.v311 X.v312 X.p14 X.p15
def v327 : FVec F S64x128 .f32 := k0_pay71 X.v X.v235
def v331 : FVec F S64x128 .f32 := k0_pay72 X.v X.v232
def v335 : FVec F S64x128 .f32 := k0_pay73 X.v X.v229
def v339 : FVec F S64x128 .f32 := k0_pay74 X.v X.v226
def v343 : FVec F S64x128 .f32 := k0_pay75 X.v X.v223
def v347 : FVec F S64x128 .f32 := k0_pay76 X.v X.v220
def v351 : FVec F S64x128 .f32 := k0_pay77 X.v X.v217
def v355 : FVec F S64x128 .f32 := k0_pay78 X.v X.v214
def v357 : FVec F S64x128 .bf16 := k0_pay79 X.v
def v358 : FVec F S128x128 .bf16 := k0_pay80 X.v211
/-- the keys' gradient through the carried state gradients -/
def v389 : FVec F S1024x128 .f32 := k0_pay81 X.v X.v38 X.st X.v193 X.v196 X.v199 X.v202 X.v205 X.v208 X.v327 X.v331 X.v335 X.v339 X.v343 X.v347 X.v351 X.v355 X.v357 X.v358 cst_151
def v393 : FVec F S64x128 .f32 := k0_pay82 X.v44 X.v235
def v397 : FVec F S64x128 .f32 := k0_pay83 X.v44 X.v232
def v401 : FVec F S64x128 .f32 := k0_pay84 X.v44 X.v229
def v405 : FVec F S64x128 .f32 := k0_pay85 X.v44 X.v226
def v407 : FVec F S64x128 .bf16 := k0_pay86 X.v44
/-- the values' gradient through them -/
def v454 : FVec F S1024x128 .f32 := k0_pay87 X.v44 X.st X.v193 X.v196 X.v199 X.v202 X.v205 X.v208 X.v211 X.v214 X.v217 X.v220 X.v223 X.v393 X.v397 X.v401 X.v405 X.v407
def v455 : FVec F S256x128 .f32 := k0_pay88 X.v26
def cst_186 : FVec F S256x128 .f32 := constant S256x128 .f32 0x00000000#32 -- %cst_186 = arith.constant dense<0.000000e+00> : vector<256x128xf32>
def v465 : FVec F S256x128 .f32 := k0_pay92 X.v33 X.v36 X.v109 X.v455
def v472 : FVec F S256x128 .f32 := k0_pay93 X.v33 X.v X.v36 X.v109
def v479 : FVec F S256x128 .f32 := k0_pay94 X.v X.v36 X.v109 X.v455
def v490 : FVec F S256x128 .f32 := k0_pay99 X.v26 X.v33 X.v36 X.v109
def v497 : FVec F S256x128 .f32 := k0_pay100 X.v33 X.v X.v36 X.v109
def v502 : FVec F S256x256 .bf16 := k0_pay101 X.v X.v36 X.v109
def v503 : FVec F S256x128 .bf16 := k0_pay102 X.v26
def v504 : FVec F S256x128 .f32 := k0_pay103 X.v502 X.v503 cst_186
def v515 : FVec F S256x128 .f32 := k0_pay108 X.v26 X.v33 X.v36 X.v109
def v522 : FVec F S256x128 .f32 := k0_pay109 X.v33 X.v X.v36 X.v109
def v529 : FVec F S256x128 .f32 := k0_pay110 X.v26 X.v X.v36 X.v109
def v530 : FVec F S256x128 .f32 := k0_pay111 X.v26
def v540 : FVec F S256x128 .f32 := k0_pay115 X.v26 X.v33 X.v36 X.v109
def v547 : FVec F S256x128 .f32 := k0_pay116 X.v33 X.v X.v36 X.v109
def v552 : FVec F S256x256 .bf16 := k0_pay117 X.v X.v36 X.v109
/-- the tile of the gate's gradient -/
def dgTile : FVec F S1x1x1024x128 .bf16 := k0_pay19 X.gn X.gt X.ct X.v49 X.v66
/-- the weight's gradient, this block added -/
def accNext : FVec F S1x1x128 .f32 := k0_pay20 X.ct X.v50 X.v66 X.acc
/-- the state gradient handed to the next block -/
def stNext : FVec F S128x128 .f32 := k0_pay52 X.v42 X.v114 X.v119 X.v124 X.v129 X.v134 X.v139 X.v144 X.v149 X.v154 X.v159 X.v210
/-- the tile of the queries' gradient -/
def dqTile : FVec F S1x1x1024x128 .bf16 := k0_pay118 X.v19 X.v21 X.v323 X.v472 X.v497 X.v522 X.v547
/-- the tile of the keys' gradient -/
def dkTile : FVec F S1x1x1024x128 .bf16 := k0_pay119 X.v19 X.v21 X.v389 X.v479 X.v504 X.v529 X.v530 X.v552
/-- the tile of the values' gradient -/
def dvTile : FVec F S1x1x1024x128 .bf16 := k0_pay120 X.v454 X.v465 X.v490 X.v515 X.v540

end Reads

/-- One of the sixteen saved states of a block. -/
def chunkOf (x12 : Vec F S1x16x128x128 .bf16) (off : Fin 4 → ℕ) (inb : ∀ a, off a + S1x1x128x128.size a ≤ S1x16x128x128.size a) : Vec F S1x1x128x128 .bf16 :=
  View.ld x12 (Rect.unit (s := S1x16x128x128) off S1x1x128x128.size inb)

/-- What a block reads, from the windows it is given and the two carried values. -/
def readsOf (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (acc : Vec F S1x1x128 .f32) (st : Vec F S128x128 .f32) : Reads F where
  cos := x4
  sin := x5
  q := x0
  k := x1
  v := x2
  dec := x6
  kd := x7
  qd := x8
  cd := x9
  gn := x10
  gt := x3
  y := x11
  ct := x13
  acc := acc
  st := st
  p0 := chunkOf x12 ![0, 0, 0, 0] inb_S1x16x128x128_S1x1x128x128_0_0_0_0
  p1 := chunkOf x12 ![0, 1, 0, 0] inb_S1x16x128x128_S1x1x128x128_0_1_0_0
  p2 := chunkOf x12 ![0, 2, 0, 0] inb_S1x16x128x128_S1x1x128x128_0_2_0_0
  p3 := chunkOf x12 ![0, 3, 0, 0] inb_S1x16x128x128_S1x1x128x128_0_3_0_0
  p4 := chunkOf x12 ![0, 4, 0, 0] inb_S1x16x128x128_S1x1x128x128_0_4_0_0
  p5 := chunkOf x12 ![0, 5, 0, 0] inb_S1x16x128x128_S1x1x128x128_0_5_0_0
  p6 := chunkOf x12 ![0, 6, 0, 0] inb_S1x16x128x128_S1x1x128x128_0_6_0_0
  p7 := chunkOf x12 ![0, 7, 0, 0] inb_S1x16x128x128_S1x1x128x128_0_7_0_0
  p8 := chunkOf x12 ![0, 8, 0, 0] inb_S1x16x128x128_S1x1x128x128_0_8_0_0
  p9 := chunkOf x12 ![0, 9, 0, 0] inb_S1x16x128x128_S1x1x128x128_0_9_0_0
  p10 := chunkOf x12 ![0, 10, 0, 0] inb_S1x16x128x128_S1x1x128x128_0_10_0_0
  p11 := chunkOf x12 ![0, 11, 0, 0] inb_S1x16x128x128_S1x1x128x128_0_11_0_0
  p12 := chunkOf x12 ![0, 12, 0, 0] inb_S1x16x128x128_S1x1x128x128_0_12_0_0
  p13 := chunkOf x12 ![0, 13, 0, 0] inb_S1x16x128x128_S1x1x128x128_0_13_0_0
  p14 := chunkOf x12 ![0, 14, 0, 0] inb_S1x16x128x128_S1x1x128x128_0_14_0_0
  p15 := chunkOf x12 ![0, 15, 0, 0] inb_S1x16x128x128_S1x1x128x128_0_15_0_0

end Cert.KernelIdeal.Ret
end
-- ==== Proof.Ret.Tile.lean ====
module

public import proofs.«01_k».proof.Proof.Ret.Setup
public import proofs.«01_k».proof.Proof.Ret.Block
public import Idealize.ShloMosaic.Lib.WholeRead
public import Idealize.ShloMosaic.Lib.VecWindow
public import Idealize.ShloMosaic.Lib.ViewIndex
public import Idealize.ShloMosaic.Lib.Pipeline.FrameValue
public import Idealize.ShloMosaic.Lib.Pipeline.ValueKit

/-! # The write ring at definite contents

The four tiles a block stores are copied into the result and waited for two blocks later. Let `D` be what the result
holds in the end. A copy in flight then delivers its piece of the result at `D`, a piece behind the ring is held at `D`,
and only the pieces ahead are at anything. -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A stored tile without its two leading axes of extent one. -/
def sq (P : Vec F S1x1x1024x128 .bf16) : Vec F S1024x128 .bf16 :=
  fun j => P (Shape.reshapeEquiv (squeezes_S1x1x1024x128_S1024x128).numel_eq j)

/-- What a tile reads right after the store that fills it. -/
theorem read_tile (g : Fin 2) (m : Fin 4) {off : Fin 4 → ℕ} (h : off = ![g.val, m.val, 0, 0])
    (inb : ∀ a, off a + S1x1x1024x128.size a ≤ S2x4x1024x128.size a) (fe : cc0_scratch1.ty.Contents (Elt F))
    (P : Vec F S1x1x1024x128 .bf16) :
    View.read (Elt F) (wtile0_0 g m).view
      (View.write (Elt F) (scM0_1.access (Rect.unit (s := S2x4x1024x128) off S1x1x1024x128.size inb)) fe P Finset.univ) = sq P := by
  subst h
  funext j
  have := congrFun (View.read_write_univ (Val := Elt F)
    (v := (scM0_1.access (Rect.unit (s := S2x4x1024x128) ![g.val, m.val, 0, 0] S1x1x1024x128.size inb))) fe P)
    (Shape.reshapeEquiv (squeezes_S1x1x1024x128_S1024x128).numel_eq j)
  exact this

/-- A whole buffer loaded whole reads its contents. -/
theorem load_whole {sp : Space} {s : Shape} {e : EltTy} {a : Memref sig .tc sp s e} (h : a.IsWhole) (x : s.Idx → Elt F e)
    {off : Fin s.rank → ℕ} (inb : ∀ k, off k + s.size k ≤ s.size k) (h0 : ∀ k, off k = 0) :
    View.readAt (Elt F) a.view (Rect.unit off s.size inb).toLoadRect (h.unread x) = x :=
  (View.readAt_eq_ld a.view _ _).trans ((congrArg (fun y => View.ld y _) (h.read_unread x)).trans (View.ld_unit_lit inb x h0))

/-- A whole buffer loaded in part reads that part of its contents. -/
theorem load_part {sp : Space} {s : Shape} {e : EltTy} {a : Memref sig .tc sp s e} (h : a.IsWhole) (x : s.Idx → Elt F e)
    (r : Rect s) : View.readAt (Elt F) a.view r.toLoadRect (h.unread x) = View.ld x r :=
  (View.readAt_eq_ld a.view _ _).trans (congrArg (fun y => View.ld y r) (h.read_unread x))

/-- What a block reads, as the body loads it from the buffers its windows stand in. -/
def loadsOf (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (acc : Vec F S1x1x128 .f32) (st : Vec F S128x128 .f32) : Reads F where
  cos := View.readAt (Elt F) arg6.view (Rect.unit (s := S1024x128) ![0, 0] S1024x128.size inb_S1024x128_S1024x128_0_0).toLoadRect (harg6.unread x4)
  sin := View.readAt (Elt F) arg7.view (Rect.unit (s := S1024x128) ![0, 0] S1024x128.size inb_S1024x128_S1024x128_0_0).toLoadRect (harg7.unread x5)
  q := View.readAt (Elt F) arg2.view (Rect.unit (s := S1024x128) ![0, 0] S1024x128.size inb_S1024x128_S1024x128_0_0).toLoadRect (harg2.unread x0)
  k := View.readAt (Elt F) arg3.view (Rect.unit (s := S1024x128) ![0, 0] S1024x128.size inb_S1024x128_S1024x128_0_0).toLoadRect (harg3.unread x1)
  v := View.readAt (Elt F) arg4.view (Rect.unit (s := S1024x128) ![0, 0] S1024x128.size inb_S1024x128_S1024x128_0_0).toLoadRect (harg4.unread x2)
  dec := View.readAt (Elt F) arg8.view (Rect.unit (s := S1x256x256) ![0, 0, 0] S1x256x256.size inb_S1x256x256_S1x256x256_0_0_0).toLoadRect (harg8.unread x6)
  kd := View.readAt (Elt F) arg9.view (Rect.unit (s := S1x1024x128) ![0, 0, 0] S1x1024x128.size inb_S1x1024x128_S1x1024x128_0_0_0).toLoadRect (harg9.unread x7)
  qd := View.readAt (Elt F) arg10.view (Rect.unit (s := S1x1024x128) ![0, 0, 0] S1x1024x128.size inb_S1x1024x128_S1x1024x128_0_0_0).toLoadRect (harg10.unread x8)
  cd := View.readAt (Elt F) arg11.view (Rect.unit (s := S1x1x128) ![0, 0, 0] S1x1x128.size inb_S1x1x128_S1x1x128_0_0_0).toLoadRect (harg11.unread x9)
  gn := View.readAt (Elt F) arg12.view (Rect.unit (s := S1x128) ![0, 0] S1x128.size inb_S1x128_S1x128_0_0).toLoadRect (harg12.unread x10)
  gt := View.readAt (Elt F) arg5.view (Rect.unit (s := S1024x128) ![0, 0] S1024x128.size inb_S1024x128_S1024x128_0_0).toLoadRect (harg5.unread x3)
  y := View.readAt (Elt F) arg13.view (Rect.unit (s := S1024x128) ![0, 0] S1024x128.size inb_S1024x128_S1024x128_0_0).toLoadRect (harg13.unread x11)
  ct := View.readAt (Elt F) arg15.view (Rect.unit (s := S1024x128) ![0, 0] S1024x128.size inb_S1024x128_S1024x128_0_0).toLoadRect (harg15.unread x13)
  acc := acc
  st := st
  p0 := View.readAt (Elt F) arg14.view (Rect.unit (s := S1x16x128x128) ![0, 0, 0, 0] S1x1x128x128.size inb_S1x16x128x128_S1x1x128x128_0_0_0_0).toLoadRect (harg14.unread x12)
  p1 := View.readAt (Elt F) arg14.view (Rect.unit (s := S1x16x128x128) ![0, 1, 0, 0] S1x1x128x128.size inb_S1x16x128x128_S1x1x128x128_0_1_0_0).toLoadRect (harg14.unread x12)
  p2 := View.readAt (Elt F) arg14.view (Rect.unit (s := S1x16x128x128) ![0, 2, 0, 0] S1x1x128x128.size inb_S1x16x128x128_S1x1x128x128_0_2_0_0).toLoadRect (harg14.unread x12)
  p3 := View.readAt (Elt F) arg14.view (Rect.unit (s := S1x16x128x128) ![0, 3, 0, 0] S1x1x128x128.size inb_S1x16x128x128_S1x1x128x128_0_3_0_0).toLoadRect (harg14.unread x12)
  p4 := View.readAt (Elt F) arg14.view (Rect.unit (s := S1x16x128x128) ![0, 4, 0, 0] S1x1x128x128.size inb_S1x16x128x128_S1x1x128x128_0_4_0_0).toLoadRect (harg14.unread x12)
  p5 := View.readAt (Elt F) arg14.view (Rect.unit (s := S1x16x128x128) ![0, 5, 0, 0] S1x1x128x128.size inb_S1x16x128x128_S1x1x128x128_0_5_0_0).toLoadRect (harg14.unread x12)
  p6 := View.readAt (Elt F) arg14.view (Rect.unit (s := S1x16x128x128) ![0, 6, 0, 0] S1x1x128x128.size inb_S1x16x128x128_S1x1x128x128_0_6_0_0).toLoadRect (harg14.unread x12)
  p7 := View.readAt (Elt F) arg14.view (Rect.unit (s := S1x16x128x128) ![0, 7, 0, 0] S1x1x128x128.size inb_S1x16x128x128_S1x1x128x128_0_7_0_0).toLoadRect (harg14.unread x12)
  p8 := View.readAt (Elt F) arg14.view (Rect.unit (s := S1x16x128x128) ![0, 8, 0, 0] S1x1x128x128.size inb_S1x16x128x128_S1x1x128x128_0_8_0_0).toLoadRect (harg14.unread x12)
  p9 := View.readAt (Elt F) arg14.view (Rect.unit (s := S1x16x128x128) ![0, 9, 0, 0] S1x1x128x128.size inb_S1x16x128x128_S1x1x128x128_0_9_0_0).toLoadRect (harg14.unread x12)
  p10 := View.readAt (Elt F) arg14.view (Rect.unit (s := S1x16x128x128) ![0, 10, 0, 0] S1x1x128x128.size inb_S1x16x128x128_S1x1x128x128_0_10_0_0).toLoadRect (harg14.unread x12)
  p11 := View.readAt (Elt F) arg14.view (Rect.unit (s := S1x16x128x128) ![0, 11, 0, 0] S1x1x128x128.size inb_S1x16x128x128_S1x1x128x128_0_11_0_0).toLoadRect (harg14.unread x12)
  p12 := View.readAt (Elt F) arg14.view (Rect.unit (s := S1x16x128x128) ![0, 12, 0, 0] S1x1x128x128.size inb_S1x16x128x128_S1x1x128x128_0_12_0_0).toLoadRect (harg14.unread x12)
  p13 := View.readAt (Elt F) arg14.view (Rect.unit (s := S1x16x128x128) ![0, 13, 0, 0] S1x1x128x128.size inb_S1x16x128x128_S1x1x128x128_0_13_0_0).toLoadRect (harg14.unread x12)
  p14 := View.readAt (Elt F) arg14.view (Rect.unit (s := S1x16x128x128) ![0, 14, 0, 0] S1x1x128x128.size inb_S1x16x128x128_S1x1x128x128_0_14_0_0).toLoadRect (harg14.unread x12)
  p15 := View.readAt (Elt F) arg14.view (Rect.unit (s := S1x16x128x128) ![0, 15, 0, 0] S1x1x128x128.size inb_S1x16x128x128_S1x1x128x128_0_15_0_0).toLoadRect (harg14.unread x12)

theorem loadsOf_eq (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (acc : Vec F S1x1x128 .f32) (st : Vec F S128x128 .f32) :
    loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 acc st = readsOf x0 x1 x2 x3 x4 x5 x6 x7 x8 x9 x10 x11 x12 x13 acc st := by
  unfold loadsOf readsOf chunkOf
  rw [load_whole harg6 x4 _ (by decide), load_whole harg7 x5 _ (by decide), load_whole harg2 x0 _ (by decide), load_whole harg3 x1 _ (by decide), load_whole harg4 x2 _ (by decide), load_whole harg8 x6 _ (by decide), load_whole harg9 x7 _ (by decide), load_whole harg10 x8 _ (by decide), load_whole harg11 x9 _ (by decide), load_whole harg12 x10 _ (by decide), load_whole harg5 x3 _ (by decide), load_whole harg13 x11 _ (by decide), load_whole harg15 x13 _ (by decide), load_part harg14 x12, load_part harg14 x12, load_part harg14 x12, load_part harg14 x12, load_part harg14 x12, load_part harg14 x12, load_part harg14 x12, load_part harg14 x12, load_part harg14 x12, load_part harg14 x12, load_part harg14 x12, load_part harg14 x12, load_part harg14 x12, load_part harg14 x12, load_part harg14 x12, load_part harg14 x12]

section Ring
variable (c : Dev nD) (D : Buf (Elt F) ((c : Thread nD τ).loc main_v84_0))

/-- Step `u`'s piece `m`, written. -/
abbrev pieceV (u : Fin 32) (m : Fin 4) : sProp 𝕄 := wpieceP0_0 (F := F) c u m D
/-- The copy of tile `m` of group `g` in flight, to deliver step `u`'s piece at `D` and the tile. -/
abbrev flightV (g : Fin 2) (m : Fin 4) (u : Fin 32) : sProp 𝕄 :=
  iprop(∃ e, Transfers.Flight countersEmb (c : Thread nD τ) (wcellR0_0 g m) default ((wpiece0_0 u m).view.amount (wcellR0_0 g m))
    iprop(wpieceP0_0 c u m D ∗ wtileP0_0 c g m e))
/-- A group's four copies in flight. -/
abbrev inflV (g : Fin 2) (u : Fin 32) : sProp 𝕄 := iprop(flightV c D g 0 u ∗ flightV c D g 1 u ∗ flightV c D g 2 u ∗ flightV c D g 3 u)
/-- A step's four pieces, written. -/
abbrev doneV (u : Fin 32) : sProp 𝕄 := iprop(pieceV c D u 0 ∗ pieceV c D u 1 ∗ pieceV c D u 2 ∗ pieceV c D u 3)
/-- The ring before step `k`. -/
def ringV (k : ℕ) : sProp 𝕄 := Ring.AtBΦ 2 (wfree0_0 c) (inflV c D) (whome0_0 c) (doneV c D) k

/-- A piece just written whole is the piece at `D`, where `D` reads the same. -/
theorem piece_eq (u : Fin 32) (m : Fin 4) (f : HbBuf0 (F := F) c (wpiece0_0 u m)) (w : Vec F S1024x128 .bf16)
    (h : (wpiece0_0 u m).view.read (Elt F) D = w) :
    wpieceP0_0 (F := F) c u m ((wpiece0_0 u m).view.writes (Elt F) f [⟨Rect.whole S1024x128, w⟩]) = wpieceP0_0 c u m D := by
  refine pointsTo_congr fun i hi => ?_
  obtain ⟨x, -, rfl⟩ := Finset.mem_map.mp hi
  refine View.eq_of_read_eq ?_
  rw [View.read_writes_whole, h]

/-- `D` holds, on step `u`'s pieces, the tiles of a block that reads `X`. -/
def wants (u : Fin 32) (X : Reads F) : Prop :=
  (wpiece0_0 u 0).view.read (Elt F) D = sq X.dqTile ∧ (wpiece0_0 u 1).view.read (Elt F) D = sq X.dkTile
    ∧ (wpiece0_0 u 2).view.read (Elt F) D = sq X.dvTile ∧ (wpiece0_0 u 3).view.read (Elt F) D = sq X.dgTile

/-- A copy started on a tile that holds what `D` wants is a flight towards `D`. -/
theorem started (g : Fin 2) (u : Fin 32) (m : Fin 4) (f : HbBuf0 (F := F) c (wpiece0_0 u m)) (e : HbBuf0 (F := F) c (wtile0_0 g m))
    (w : Vec F S1024x128 .bf16) (h : (wpiece0_0 u m).view.read (Elt F) D = w) :
    Transfers.Flight countersEmb (c : Thread nD τ) (wcellR0_0 g m) default ((wpiece0_0 u m).view.amount (wcellR0_0 g m))
        iprop(wpieceP0_0 c u m ((wpiece0_0 u m).view.writes (Elt F) f [⟨Rect.whole S1024x128, w⟩]) ∗ wtileP0_0 c g m e)
      ⊢ (flightV c D g m u : sProp 𝕄) := by
  rw [piece_eq c D u m f w h]
  iintro H; iexists e; iexact H

/-- A copy that has landed holds its piece at `D`. -/
theorem landed (u : Fin 32) (m : Fin 4) (f : HbBuf0 (F := F) c (wpiece0_0 u m)) (w : Vec F S1024x128 .bf16)
    (h : (wpiece0_0 u m).view.read (Elt F) D = w) :
    wpieceP0_0 (F := F) c u m ((wpiece0_0 u m).view.writes (Elt F) f [⟨Rect.whole S1024x128, w⟩]) ⊢ (pieceV c D u m : sProp 𝕄) := by
  rw [piece_eq c D u m f w h]

end Ring

end Cert.KernelIdeal.Ret
end
-- ==== Proof.Ret.Ring.lean ====
module

public import proofs.«01_k».proof.Proof.Ret.Tile

/-! # What the kernel leaves: the blocks' values, the packed gradient, and the pipeline's invariant

The blocks are visited head by head, in each head from the last to the first. `startsAt` is what a block finds carried
in: the weight's gradient summed so far and the gradient of the state, both zero at a head's first block. `D` is the
packed gradient in the end: four thousand and ninety-six columns come from the blocks' four tiles, the rest is as it was. -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The blocks in order -/

/-- Step `n` as a point of the grid. -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt N_0))

/-- What step `t`'s block reads, beside the two carried values. -/
def blockAt (c : Dev nD) (t : Fin cfg0.N) (acc : Vec F S1x1x128 .f32) (st : Vec F S128x128 .f32) : Reads F :=
  readsOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) acc st

/-- The sum and the state gradient step `n` starts from. -/
def startsAt (c : Dev nD) : ℕ → Vec F S1x1x128 .f32 × Vec F S128x128 .f32
  | 0 => (k0_pay2 (F := F), k0_pay1 (F := F))
  | n + 1 => if (n + 1) % 4 = 0 then (k0_pay2 (F := F), k0_pay1 (F := F))
      else ((blockAt m c (pt n) (startsAt c n).1 (startsAt c n).2).accNext, (blockAt m c (pt n) (startsAt c n).1 (startsAt c n).2).stNext)

/-- What step `t`'s block reads. -/
def readsAt (c : Dev nD) (t : Fin cfg0.N) : Reads F := blockAt m c t (startsAt m c t.val).1 (startsAt m c t.val).2

theorem startsAt_reset (c : Dev nD) (n : ℕ) (h : n % 4 = 0) : startsAt m c n = (k0_pay2 (F := F), k0_pay1 (F := F)) := by
  cases n with
  | zero => rfl
  | succ n => exact if_pos h

theorem startsAt_next (c : Dev nD) (t : Fin cfg0.N) (h : ¬(t.val + 1) % 4 = 0) :
    startsAt m c (t.val + 1) = ((readsAt m c t).accNext, (readsAt m c t).stNext) :=
  (if_neg h).trans (by rw [pt_val]; rfl)

theorem readsAt_reset (c : Dev nD) (t : Fin cfg0.N) (h : t.val % 4 = 0) : readsAt m c t = blockAt m c t (k0_pay2 (F := F)) (k0_pay1 (F := F)) := by
  unfold readsAt; rw [startsAt_reset m c _ h]

/-! ## The packed gradient in the end -/

/-- A block's four tiles in the order of the columns they go to. -/
def tileOf (X : Reads F) (q : ℕ) : Vec F S1024x128 .bf16 :=
  if q = 0 then sq X.dqTile else if q = 1 then sq X.dkTile else if q = 2 then sq X.dvTile else sq X.dgTile

/-- The step that writes row `r`, column `k` of the packed gradient. -/
def stepOf (r k : ℕ) : ℕ := 4 * (k % 1024 / 128) + (3 - r / 1024)

/-- The place in its tile of row `r`, column `k`. -/
def inTile (r k : ℕ) : S1024x128.Idx
  | ⟨0, _⟩ => (⟨r % 1024, Nat.mod_lt _ (by decide)⟩ : Fin 1024)
  | ⟨1, _⟩ => (⟨k % 128, Nat.mod_lt _ (by decide)⟩ : Fin 128)

/-- The packed gradient in the end. -/
def D (c : Dev nD) : Buf (Elt F) ((c : Thread nD τ).loc main_v84_0) := fun (i : S4096x7168.Idx) =>
  if (i 1).val < 4096 then
    tileOf (readsAt m c (pt (stepOf (i 0).val (i 1).val))) ((i 1).val / 1024)
      (inTile (i 0).val (i 1).val)
  else V m c main_v84_0 i

/-- One element of the packed gradient. -/
theorem D_at (c : Dev nD) (u : Fin 32) (q : Fin 4) (j : S1024x128.Idx) :
    (wpiece0_0 u q).view.read (Elt F) (D m c) j = tileOf (readsAt m c (pt u.val)) q.val j := by
  have hu := u.isLt
  have hq := q.isLt
  have h0 : (j 0).val < 1024 := (j 0).isLt
  have h1 : (j 1).val < 128 := (j 1).isLt
  have e : (wpiece0_0 u q).view.read (Elt F) (D m c) j
      = D m c ((Rect.unit (s := S4096x7168) ![(3072 - 1024 * (u.val % 4)), 128 * (u.val / 4) + 1024 * q.val] S1024x128.size (inb_wpiece0_0 u q)).emb j) := rfl
  rw [e]
  have e0 : ((Rect.unit (s := S4096x7168) ![(3072 - 1024 * (u.val % 4)), 128 * (u.val / 4) + 1024 * q.val] S1024x128.size (inb_wpiece0_0 u q)).emb j 0).val
      = 3072 - 1024 * (u.val % 4) + 1 * (j 0).val := rfl
  have e1 : ((Rect.unit (s := S4096x7168) ![(3072 - 1024 * (u.val % 4)), 128 * (u.val / 4) + 1024 * q.val] S1024x128.size (inb_wpiece0_0 u q)).emb j 1).val
      = 128 * (u.val / 4) + 1024 * q.val + 1 * (j 1).val := rfl
  unfold D
  simp only [e0, e1]
  rw [if_pos (by omega)]
  have s0 : stepOf (3072 - 1024 * (u.val % 4) + 1 * (j 0).val) (128 * (u.val / 4) + 1024 * q.val + 1 * (j 1).val) = u.val := by
    unfold stepOf; omega
  rw [s0]
  have s1 : (128 * (u.val / 4) + 1024 * q.val + 1 * (j 1).val) / 1024 = q.val := by omega
  rw [s1]
  congr 1
  funext a
  fin_cases a
  · exact Fin.ext (show (3072 - 1024 * (u.val % 4) + 1 * (j 0).val) % 1024 = (j 0).val by omega)
  · exact Fin.ext (show (128 * (u.val / 4) + 1024 * q.val + 1 * (j 1).val) % 128 = (j 1).val by omega)

theorem wants_D (c : Dev nD) (t : Fin cfg0.N) : wants c (D m c) (Ring.bk 32 t.val) (readsAt m c t) := by
  have e : (readsAt m c (pt (Ring.bk 32 t.val).val)) = readsAt m c t := by
    rw [show pt (Ring.bk 32 t.val).val = t from Fin.ext (by
      have : t.val < 32 := lt_of_lt_of_eq t.isLt N_0
      simp [pt, Ring.bk, Fin.ofNat]; omega)]
  refine ⟨?_, ?_, ?_, ?_⟩ <;> (funext j; rw [D_at, e]; rfl)

end Cert.KernelIdeal.Ret
end
-- ==== Proof.Ret.Data.lean ====
module

public import proofs.«01_k».proof.Proof.Ret.Ring

/-! # The pipeline's invariant at definite contents, entered and left -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The packed gradient as its pieces -/

/-- The elements no piece holds, at the final contents. -/
abbrev spareV (c : Dev nD) : sProp 𝕄 :=
  ((c : Thread nD τ).loc main_v84_0) ↦[Finset.univ \ Finset.univ.biUnion wpieceSet0_0]{fullShare} D m c

/-- Outside the pieces nothing is written. -/
theorem D_spare (c : Dev nD) (i : S4096x7168.Idx) (hi : i ∈ Finset.univ \ Finset.univ.biUnion wpieceSet0_0) :
    V m c main_v84_0 i = D m c i := by
  have hk : ¬(i 1).val < 4096 := fun hk => by
    refine (Finset.mem_sdiff.mp hi).2 ?_
    have h0 : (i 0).val < 4096 := (i 0).isLt
    refine Finset.mem_biUnion.mpr ⟨((⟨stepOf (i 0).val (i 1).val, by unfold stepOf; omega⟩ : Fin 32),
      (⟨(i 1).val / 1024, by omega⟩ : Fin 4)), Finset.mem_univ _, ?_⟩
    refine Rect.mem_set_unit.mpr fun a => ?_
    fin_cases a
    · show (3072 - 1024 * (stepOf (i 0).val (i 1).val % 4)) ≤ (i 0).val ∧ (i 0).val < (3072 - 1024 * (stepOf (i 0).val (i 1).val % 4)) + 1024
      unfold stepOf; omega
    · show 128 * (stepOf (i 0).val (i 1).val / 4) + 1024 * ((i 1).val / 1024) ≤ (i 1).val
        ∧ (i 1).val < 128 * (stepOf (i 0).val (i 1).val / 4) + 1024 * ((i 1).val / 1024) + 128
      unfold stepOf; omega
  exact (if_neg hk).symm

theorem same {P Q : sProp 𝕄} (h : P = Q) : P ⊢ Q := by
  subst h; iintro H; iexact H

theorem pieces_forget (c : Dev nD) :
    (bigSep Finset.univ (fun i : Fin 32 × Fin 4 => ((c : Thread nD τ).loc main_v84_0) ↦[wpieceSet0_0 i]{fullShare} V m c main_v84_0) : sProp 𝕄)
      ⊢ bigSep Finset.univ (fun i : Fin 32 × Fin 4 => iprop(∃ f, wpieceP0_0 (F := F) c i.1 i.2 f)) :=
  BI.bigSep_mono fun i _ =>
    (show (((c : Thread nD τ).loc main_v84_0) ↦[wpieceSet0_0 i]{fullShare} V m c main_v84_0 : sProp 𝕄) ⊢ iprop(∃ f, wpieceP0_0 (F := F) c i.1 i.2 f) from by
      iintro H; iexists (V m c main_v84_0); iapply (same (wpieceP0_0_eq c i.1 i.2 (V m c main_v84_0)).symm); iexact H)

theorem spare_keep (c : Dev nD) :
    (((c : Thread nD τ).loc main_v84_0) ↦[Finset.univ \ Finset.univ.biUnion wpieceSet0_0]{fullShare} V m c main_v84_0 : sProp 𝕄) ⊢ spareV m c := by
  rw [pointsTo_congr (f := V m c main_v84_0) (g := D m c) (ℓ := (c : Thread nD τ).loc main_v84_0) (fun i hi => D_spare m c i hi)]

/-- The packed gradient as launched is its pieces at anything and the rest, which keeps its contents. -/
theorem pieces_in (c : Dev nD) :
    ((((c : Thread nD τ).loc main_v84_0) ↦{fullShare} V m c main_v84_0) : sProp 𝕄)
      ⊢ iprop(bigSep Finset.univ (whome0_0 (F := F) c) ∗ spareV m c) := by
  iintro H
  ihave H' := (pointsTo_split_subset (q := fullShare) (f := V m c main_v84_0) (Finset.subset_univ (Finset.univ.biUnion wpieceSet0_0))).1 $$ H
  icases H' with ⟨Hs, HSp⟩
  isplitl [Hs]
  · ihave HB := (same (pointsTo_biUnion (Ix := Unit) (Name := ℕ) (U := Pipeline.UD sig nD τ) (Lvl := ℕ) (q := fullShare) (f := V m c main_v84_0)
      Finset.univ wpieceSet0_0 (fun i _ i' _ h => wpieces0_0_disjoint i i' h))) $$ Hs
    ihave HC := (pieces_forget m c) $$ HB
    iapply (same (whomes0_0_eq c))
    iexact HC
  iapply (spare_keep m c)
  iexact HSp

/-- The pieces of one step, at the final contents, one by one. -/
theorem doneV_eq (c : Dev nD) (u : Fin 32) :
    (bigSep Finset.univ (fun q : Fin 4 => pieceV c (D m c) u q) : sProp 𝕄) = doneV c (D m c) u := by
  rw [BI.bigSep_eq_bigSepL_of_eq [0, 1, 2, 3] (by decide) (by decide)]; rfl

/-- All pieces at the final contents and the rest are the packed gradient at its final contents. -/
theorem pieces_out (c : Dev nD) :
    (iprop(bigSep Finset.univ (doneV (F := F) c (D m c)) ∗ spareV m c) : sProp 𝕄)
      ⊢ (((c : Thread nD τ).loc main_v84_0) ↦{fullShare} D m c : sProp 𝕄) := by
  have e : (bigSep Finset.univ (doneV (F := F) c (D m c)) : sProp 𝕄)
      = (((c : Thread nD τ).loc main_v84_0) ↦[Finset.univ.biUnion wpieceSet0_0]{fullShare} D m c : sProp 𝕄) := by
    rw [pointsTo_biUnion (Ix := Unit) (Name := ℕ) (U := Pipeline.UD sig nD τ) (Lvl := ℕ) (q := fullShare) (f := D m c)
      Finset.univ wpieceSet0_0 (fun i _ i' _ h => wpieces0_0_disjoint i i' h), BI.bigSep_univ_prod]
    refine BI.bigSep_congr fun u _ => ((doneV_eq m c u).symm.trans ?_)
    exact BI.bigSep_congr fun q _ => wpieceP0_0_eq c u q (D m c)
  rw [e]
  exact (pointsTo_split_subset (q := fullShare) (f := D m c) (Finset.subset_univ (Finset.univ.biUnion wpieceSet0_0))).2

/-! ## The ring, entered and left -/

theorem ringV_in (c : Dev nD) :
    iprop((∃ d, owns (c : Thread nD τ) scM0_1 fullShare d) ∗ (semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ ((c : Thread nD τ).loc main_v84_0) ↦{fullShare} V m c main_v84_0)
      ⊢ (iprop(ringV (F := F) c (D m c) 0 ∗ wtileSpare0_0 c ∗ spareV m c) : sProp 𝕄) := by
  unfold ringV; rw [Ring.AtBΦ_lt _ _ _ _ _ 0 (by decide), Ring.AtB_zero]; unfold Ring.AtB₀
  rw [← wfrees0_0_eq, wcells0_0_eq]
  iintro ⟨HS, HQ, HD⟩
  ihave HS' := (wtiles0_0_in (F := F) c) $$ HS
  icases HS' with ⟨HT, HTsp⟩
  ihave HD' := (pieces_in m c) $$ HD
  icases HD' with ⟨HP, HPsp⟩
  isplitl [HP HQ HT]
  · isplitl [HP]
    · iexact HP
    isplitl [HQ]
    · iexact HQ
    iexact HT
  isplitl [HTsp]
  · iexact HTsp
  iexact HPsp

theorem ringV_out (c : Dev nD) :
    (iprop(ringV (F := F) c (D m c) 32 ∗ wtileSpare0_0 c ∗ spareV m c) : sProp 𝕄)
      ⊢ iprop((∃ d, owns (c : Thread nD τ) scM0_1 fullShare d) ∗ (semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) ∗ ((c : Thread nD τ).loc main_v84_0) ↦{fullShare} D m c) := by
  unfold ringV; rw [Ring.AtBΦ_ge _ _ _ _ _ 32 (by decide)]; unfold Ring.AtBEnd
  rw [← wfrees0_0_eq, wcells0_0_eq]
  iintro ⟨⟨HP, HQ, HT⟩, HTsp, HPsp⟩
  isplitl [HT HTsp]
  · iapply (wtiles0_0_out (F := F) c)
    isplitl [HT]
    · iexact HT
    iexact HTsp
  isplitl [HQ]
  · iexact HQ
  iapply (pieces_out m c)
  isplitl [HP]
  · iexact HP
  iexact HPsp

/-! ## The invariant -/

/-- The carried state gradient before step `k`: anything at first, then what the step before left. -/
def stateV (c : Dev nD) : ℕ → sProp 𝕄
  | 0 => iprop(∃ d, owns (c : Thread nD τ) scM0_0 fullShare d)
  | k + 1 => owns (c : Thread nD τ) scM0_0 fullShare (readsAt m c (pt k)).stNext

/-- The invariant before step `k`. -/
def PhiV (c : Dev nD) (k : ℕ) : sProp 𝕄 :=
  iprop(stateV m c k ∗ (∃ r, prngReg c r) ∗ (ringV c (D m c) k ∗ wtileSpare0_0 c ∗ spareV m c))

/-- Inside a head the state gradient is the one the block starts from. -/
theorem stateV_open (c : Dev nD) (t : Fin cfg0.N) :
    stateV m c t.val ⊢ (iprop(∃ xs, ⌜¬t.val % 4 = 0 → xs = (startsAt m c t.val).2⌝ ∗ owns (c : Thread nD τ) scM0_0 fullShare xs) : sProp 𝕄) := by
  obtain ⟨n, hn⟩ := t
  cases n with
  | zero =>
    show (iprop(∃ d, owns (c : Thread nD τ) scM0_0 fullShare d) : sProp 𝕄) ⊢ _
    iintro ⟨%d, H⟩
    iexists d; isplitr
    · ipureintro; exact fun h => absurd rfl h
    iexact H
  | succ k =>
    show (owns (c : Thread nD τ) scM0_0 fullShare (readsAt m c (pt k)).stNext : sProp 𝕄) ⊢ _
    iintro H
    iexists _; isplitr
    swap; · iexact H
    ipureintro
    intro h
    have hk : k < cfg0.N := Nat.lt_of_succ_lt hn
    have e := startsAt_next m c ⟨k, hk⟩ h
    rw [show pt k = ⟨k, hk⟩ from pt_val ⟨k, hk⟩]
    exact (congrArg Prod.snd e).symm

theorem stateV_next (c : Dev nD) (t : Fin cfg0.N) :
    stateV m c (t.val + 1) = (owns (c : Thread nD τ) scM0_0 fullShare (readsAt m c t).stNext : sProp 𝕄) := by
  show (owns (c : Thread nD τ) scM0_0 fullShare (readsAt m c (pt t.val)).stNext : sProp 𝕄) = _
  rw [pt_val]

/-- What the pipeline's arrays and buffers hold, point by point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (readsAt m c t).accNext
  Φ t := PhiV m c t.val
  q w := Pipeline.shareOf spec0 w
  owed _ := 0

theorem A_eq (c : Dev nD) (w : Fin cfg0.W) : (dats m 0 c).A w = V m c (Pipeline.arrRef spec0 w) := by
  dsimp only [dats]
theorem PhiV_castSucc (c : Dev nD) (t : Fin cfg0.N) : (dats m 0 c).Φ t.castSucc = PhiV m c t.val := by
  dsimp only [dats]; simp only [Fin.coe_castSucc]
theorem PhiV_succ (c : Dev nD) (t : Fin cfg0.N) : (dats m 0 c).Φ t.succ = PhiV m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (readsAt m c t).accNext := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- Inside a head the output's buffer holds the sum the block starts from. -/
theorem before0_14 (c : Dev nD) (t : Fin cfg0.N) (h : ¬t.val % 4 = 0) (d) : (dats m 0 c).before 14 t d = (startsAt m c t.val).1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  rw [after0_14]
  have e := startsAt_next m c ⟨t.val - 1, Nat.lt_of_le_of_lt (Nat.sub_le _ _) t.isLt⟩
    (show ¬(t.val - 1 + 1) % 4 = 0 by omega)
  rw [show t.val - 1 + 1 = t.val by omega] at e
  exact (congrArg Prod.fst e).symm

/-- What the written buffer holds in the end. -/
def G (c : Dev nD) (b : Ref sig .tc) : Buf (Elt F) ((c : Thread nD τ).loc b) :=
  if h : b = main_v84_0 then h ▸ D m c else V m c b

theorem G_eq (c : Dev nD) : G m c main_v84_0 = D m c := dif_pos rfl

theorem hin (c : Dev nD) : Pipeline.ΦDRG osem0 spec0 H0 R0 (V m) (V m) c ⊢ (dats m 0 c).Φ 0 := by
  rw [show (dats m 0 c).Φ 0 = PhiV m c 0 from rfl]
  rw [Pipeline.ΦDRG_eq, scopedRest0_eq, ownSems00_eq, hbmPts0_eq, show R0 = {main_v84_0} from rfl, Pipeline.routed_singleton]
  unfold PhiV
  iintro ⟨⟨HS0, HS1⟩, Hg, HQ, -, Ho0⟩
  isplitl [HS0]
  · unfold stateV; simp only [scM0_0, owns_whole]; iexact HS0
  isplitl [Hg]; · iexact Hg
  iapply (ringV_in m c)
  isplitl [HS1]
  · simp only [scM0_1, owns_whole]; iexact HS1
  isplitl [HQ]; · iexact HQ
  iexact Ho0

theorem hout (c : Dev nD) : (dats m 0 c).Φ (Fin.last cfg0.N) ⊢ Pipeline.ΦDRG osem0 spec0 H0 R0 (V m) (G m) c := by
  rw [show (dats m 0 c).Φ (Fin.last cfg0.N) = PhiV m c grid0.N from rfl]
  rw [Pipeline.ΦDRG_eq, scopedRest0_eq, ownSems00_eq, hbmPts0_eq, show R0 = {main_v84_0} from rfl, Pipeline.routed_singleton]
  rw [G_eq]
  unfold PhiV
  rw [show grid0.N = 32 by rw [N_0]]
  iintro ⟨HS0, Hg, HRW⟩
  ihave HX := (ringV_out m c) $$ HRW
  icases HX with ⟨HS1, HQ, Ho0⟩
  isplitl [HS0 HS1]
  · isplitl [HS0]
    · ihave HS0' := (show stateV m c 32 ⊢ (iprop(∃ d, owns (c : Thread nD τ) scM0_0 fullShare d) : sProp 𝕄) from by
        rw [show (32 : ℕ) = (pt 31).val + 1 from rfl, stateV_next]; iintro H; iexists _; iexact H) $$ HS0
      simp only [scM0_0, owns_whole]; iexact HS0'
    simp only [scM0_1, owns_whole]; iexact HS1
  isplitl [Hg]
  · iexact Hg
  isplitl [HQ]
  · iexact HQ
  isplitr; · iempintro
  iexact Ho0

end Cert.KernelIdeal.Ret
end
-- ==== Proof.Ret.RunA.lean ====
module

public import proofs.«01_k».proof.Proof.Ret.Tile

/-! # One block run: the first step: nothing is waited for, and the sums start from zero -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
/-- The first step: nothing is waited for, and the sums start from zero. The body leaves the six values of `Reads`, the four tiles among them in flight
towards what the result holds in the end. -/
theorem runA (c : Dev nD) (D : Buf (Elt F) ((c : Thread nD τ).loc main_v84_0)) (t : Fin cfg0.N) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (arg17 : Memref sig .tc .vmem S1x1x128 .f32) (harg17 : arg17.IsWhole) (arg18 : Memref sig .tc .vmem S128x128 .f32) (harg18 : arg18.IsWhole)
    (hc0 : ¬cond0_0 (grid0.coords t)) (hc1 : cond0_1 (grid0.coords t)) (hc2 : ¬cond0_2 (grid0.coords t))
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (xo : Vec F S1x1x128 .f32) (xs : Vec F S128x128 .f32)
    (hD : wants c D (Ring.bk 32 t.val) (readsOf x0 x1 x2 x3 x4 x5 x6 x7 x8 x9 x10 x11 x12 x13 (k0_pay2 (F := F)) (k0_pay1 (F := F)))) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare xo ∗ owns (c : Thread nD τ) arg18 fullShare xs ∗ (∃ f, wpieceP0_0 c (Ring.bk 32 t.val) 0 f) ∗ (∃ f, wpieceP0_0 c (Ring.bk 32 t.val) 1 f) ∗ (∃ f, wpieceP0_0 c (Ring.bk 32 t.val) 2 f) ∗ (∃ f, wpieceP0_0 c (Ring.bk 32 t.val) 3 f) ∗ wcellP0_0 c (Ring.sl 2 t.val) 0 ∗ (∃ e, wtileP0_0 c (Ring.sl 2 t.val) 0 e) ∗ wcellP0_0 c (Ring.sl 2 t.val) 1 ∗ (∃ e, wtileP0_0 c (Ring.sl 2 t.val) 1 e) ∗ wcellP0_0 c (Ring.sl 2 t.val) 2 ∗ (∃ e, wtileP0_0 c (Ring.sl 2 t.val) 2 e) ∗ wcellP0_0 c (Ring.sl 2 t.val) 3 ∗ (∃ e, wtileP0_0 c (Ring.sl 2 t.val) 3 e) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare (readsOf x0 x1 x2 x3 x4 x5 x6 x7 x8 x9 x10 x11 x12 x13 (k0_pay2 (F := F)) (k0_pay1 (F := F))).accNext ∗ owns (c : Thread nD τ) arg18 fullShare (readsOf x0 x1 x2 x3 x4 x5 x6 x7 x8 x9 x10 x11 x12 x13 (k0_pay2 (F := F)) (k0_pay1 (F := F))).stNext ∗ flightV c D (Ring.sl 2 t.val) 0 (Ring.bk 32 t.val) ∗ flightV c D (Ring.sl 2 t.val) 1 (Ring.bk 32 t.val) ∗ flightV c D (Ring.sl 2 t.val) 2 (Ring.bk 32 t.val) ∗ flightV c D (Ring.sl 2 t.val) 3 (Ring.bk 32 t.val) ∗ (∃ W', owes (c : Thread nD τ) 0 W')) -∗ K ⟨⟩))
      ⊢ wp frame (wpE (defs₀ (F := F)) Variants.none c none) Set.univ (cc0_retention_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 (Memref.whole main_v84_0) (Memref.isWhole_whole _) arg17 harg17 arg18 harg18 scM0_1 (Memref.isWhole_whole _) cc0_scratch2) K := by
  obtain ⟨hD0, hD1, hD2, hD3⟩ := hD
  haveI : Fact (¬cond0_0 (grid0.coords t)) := ⟨hc0⟩
  haveI : Fact (cond0_1 (grid0.coords t)) := ⟨hc1⟩
  haveI : Fact (¬cond0_2 (grid0.coords t)) := ⟨hc2⟩
  simp only [cc0_retention_bwd_eq_skeleton]; unfold cc0_retention_bwd_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs, %hfs, HS⟩, ⟨%fp0, HP0⟩, ⟨%fp1, HP1⟩, ⟨%fp2, HP2⟩, ⟨%fp3, HP3⟩, HQ0, ⟨%fe0, HT0⟩, HQ1, ⟨%fe1, HT1⟩, HQ2, ⟨%fe2, HT2⟩, HQ3, ⟨%fe3, HT3⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs
  sl_exec (disch := first | sl_exact hc0 | sl_exact hc1 | sl_exact hc2)
  sl_step
  have hX : loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (View.readCov arg17.view [⟨Rect.unit (s := S1x1x128) ![0, 0, 0] S1x1x128.size inb_S1x1x128_S1x1x128_0_0_0, k0_pay2 (F := F)⟩] (Rect.unit (s := S1x1x128) ![0, 0, 0] S1x1x128.size inb_S1x1x128_S1x1x128_0_0_0).toLoadRect) (View.readCov arg18.view [⟨Rect.unit (s := S128x128) ![0, 0] S128x128.size inb_S128x128_S128x128_0_0, k0_pay1 (F := F)⟩] (Rect.unit (s := S128x128) ![0, 0] S128x128.size inb_S128x128_S128x128_0_0).toLoadRect) = readsOf x0 x1 x2 x3 x4 x5 x6 x7 x8 x9 x10 x11 x12 x13 (k0_pay2 (F := F)) (k0_pay1 (F := F)) := (loadsOf_eq _ _ _ _ _ _ _ _ _ _ _ _ _ _ _ _ _ _ _ _ _ _ _ _ _ _ _ _ _ _ _ _ _ _ _ _ _ _ _ _ _ _ _ _).trans (congrArg₂ (readsOf x0 x1 x2 x3 x4 x5 x6 x7 x8 x9 x10 x11 x12 x13) (View.readCov_full _ _ _ _ _) (View.readCov_full _ _ _ _ _))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [HO]
  · iexists _; isplitr
    swap; · iexact HO
    ipureintro
    refine (View.read_writes_full _ _ _ _ _).trans ?_
    exact congrArg Reads.accNext hX
  isplitl [HS]
  · iexists _; isplitr
    swap; · iexact HS
    ipureintro
    refine (View.read_writes_full _ _ _ _ _).trans ?_
    exact congrArg Reads.stNext hX
  isplitl [HQ0]
  · iapply (started c D (Ring.sl 2 t.val) (Ring.bk 32 t.val) 0 fp0 _ _ (hD0.trans (Eq.symm ((read_tile (Ring.sl 2 t.val) 0 (wcoff0_0_38 t) _ _ _).trans (congrArg sq (congrArg Reads.dqTile hX)))))); iexact HQ0
  isplitl [HQ1]
  · iapply (started c D (Ring.sl 2 t.val) (Ring.bk 32 t.val) 1 fp1 _ _ (hD1.trans (Eq.symm ((read_tile (Ring.sl 2 t.val) 1 (wcoff0_0_39 t) _ _ _).trans (congrArg sq (congrArg Reads.dkTile hX)))))); iexact HQ1
  isplitl [HQ2]
  · iapply (started c D (Ring.sl 2 t.val) (Ring.bk 32 t.val) 2 fp2 _ _ (hD2.trans (Eq.symm ((read_tile (Ring.sl 2 t.val) 2 (wcoff0_0_40 t) _ _ _).trans (congrArg sq (congrArg Reads.dvTile hX)))))); iexact HQ2
  isplitl [HQ3]
  · iapply (started c D (Ring.sl 2 t.val) (Ring.bk 32 t.val) 3 fp3 _ _ (hD3.trans (Eq.symm ((read_tile (Ring.sl 2 t.val) 3 (wcoff0_0_37 t) _ _ _).trans (congrArg sq (congrArg Reads.dgTile hX)))))); iexact HQ3
  iexists _; iexact HW

end Cert.KernelIdeal.Ret

end
-- ==== Proof.Ret.RunB.lean ====
module

public import proofs.«01_k».proof.Proof.Ret.Tile

/-! # One block run: the second step: nothing is waited for, and the sums go on -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
/-- The second step: nothing is waited for, and the sums go on. The body leaves the six values of `Reads`, the four tiles among them in flight
towards what the result holds in the end. -/
theorem runB (c : Dev nD) (D : Buf (Elt F) ((c : Thread nD τ).loc main_v84_0)) (t : Fin cfg0.N) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (arg17 : Memref sig .tc .vmem S1x1x128 .f32) (harg17 : arg17.IsWhole) (arg18 : Memref sig .tc .vmem S128x128 .f32) (harg18 : arg18.IsWhole)
    (hc0 : ¬cond0_0 (grid0.coords t)) (hc1 : ¬cond0_1 (grid0.coords t)) (hc2 : ¬cond0_2 (grid0.coords t))
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (xo : Vec F S1x1x128 .f32) (xs : Vec F S128x128 .f32)
    (hD : wants c D (Ring.bk 32 t.val) (readsOf x0 x1 x2 x3 x4 x5 x6 x7 x8 x9 x10 x11 x12 x13 xo xs)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare xo ∗ owns (c : Thread nD τ) arg18 fullShare xs ∗ (∃ f, wpieceP0_0 c (Ring.bk 32 t.val) 0 f) ∗ (∃ f, wpieceP0_0 c (Ring.bk 32 t.val) 1 f) ∗ (∃ f, wpieceP0_0 c (Ring.bk 32 t.val) 2 f) ∗ (∃ f, wpieceP0_0 c (Ring.bk 32 t.val) 3 f) ∗ wcellP0_0 c (Ring.sl 2 t.val) 0 ∗ (∃ e, wtileP0_0 c (Ring.sl 2 t.val) 0 e) ∗ wcellP0_0 c (Ring.sl 2 t.val) 1 ∗ (∃ e, wtileP0_0 c (Ring.sl 2 t.val) 1 e) ∗ wcellP0_0 c (Ring.sl 2 t.val) 2 ∗ (∃ e, wtileP0_0 c (Ring.sl 2 t.val) 2 e) ∗ wcellP0_0 c (Ring.sl 2 t.val) 3 ∗ (∃ e, wtileP0_0 c (Ring.sl 2 t.val) 3 e) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare (readsOf x0 x1 x2 x3 x4 x5 x6 x7 x8 x9 x10 x11 x12 x13 xo xs).accNext ∗ owns (c : Thread nD τ) arg18 fullShare (readsOf x0 x1 x2 x3 x4 x5 x6 x7 x8 x9 x10 x11 x12 x13 xo xs).stNext ∗ flightV c D (Ring.sl 2 t.val) 0 (Ring.bk 32 t.val) ∗ flightV c D (Ring.sl 2 t.val) 1 (Ring.bk 32 t.val) ∗ flightV c D (Ring.sl 2 t.val) 2 (Ring.bk 32 t.val) ∗ flightV c D (Ring.sl 2 t.val) 3 (Ring.bk 32 t.val) ∗ (∃ W', owes (c : Thread nD τ) 0 W')) -∗ K ⟨⟩))
      ⊢ wp frame (wpE (defs₀ (F := F)) Variants.none c none) Set.univ (cc0_retention_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 (Memref.whole main_v84_0) (Memref.isWhole_whole _) arg17 harg17 arg18 harg18 scM0_1 (Memref.isWhole_whole _) cc0_scratch2) K := by
  obtain ⟨hD0, hD1, hD2, hD3⟩ := hD
  haveI : Fact (¬cond0_0 (grid0.coords t)) := ⟨hc0⟩
  haveI : Fact (¬cond0_1 (grid0.coords t)) := ⟨hc1⟩
  haveI : Fact (¬cond0_2 (grid0.coords t)) := ⟨hc2⟩
  simp only [cc0_retention_bwd_eq_skeleton]; unfold cc0_retention_bwd_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs, %hfs, HS⟩, ⟨%fp0, HP0⟩, ⟨%fp1, HP1⟩, ⟨%fp2, HP2⟩, ⟨%fp3, HP3⟩, HQ0, ⟨%fe0, HT0⟩, HQ1, ⟨%fe1, HT1⟩, HQ2, ⟨%fe2, HT2⟩, HQ3, ⟨%fe3, HT3⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs
  sl_exec (disch := first | sl_exact hc0 | sl_exact hc1 | sl_exact hc2)
  sl_step
  have hX : loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (View.readAt (Elt F) arg17.view (Rect.unit (s := S1x1x128) ![0, 0, 0] S1x1x128.size inb_S1x1x128_S1x1x128_0_0_0).toLoadRect (harg17.unread xo)) (View.readAt (Elt F) arg18.view (Rect.unit (s := S128x128) ![0, 0] S128x128.size inb_S128x128_S128x128_0_0).toLoadRect (harg18.unread xs)) = readsOf x0 x1 x2 x3 x4 x5 x6 x7 x8 x9 x10 x11 x12 x13 xo xs := (loadsOf_eq _ _ _ _ _ _ _ _ _ _ _ _ _ _ _ _ _ _ _ _ _ _ _ _ _ _ _ _ _ _ _ _ _ _ _ _ _ _ _ _ _ _ _ _ ).trans (congrArg₂ (readsOf x0 x1 x2 x3 x4 x5 x6 x7 x8 x9 x10 x11 x12 x13) (load_whole harg17 xo _ (by decide)) (load_whole harg18 xs _ (by decide)))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [HO]
  · iexists _; isplitr
    swap; · iexact HO
    ipureintro
    refine (View.read_writes_full _ _ _ _ _).trans ?_
    exact congrArg Reads.accNext hX
  isplitl [HS]
  · iexists _; isplitr
    swap; · iexact HS
    ipureintro
    refine (View.read_writes_full _ _ _ _ _).trans ?_
    exact congrArg Reads.stNext hX
  isplitl [HQ0]
  · iapply (started c D (Ring.sl 2 t.val) (Ring.bk 32 t.val) 0 fp0 _ _ (hD0.trans (Eq.symm ((read_tile (Ring.sl 2 t.val) 0 (wcoff0_0_38 t) _ _ _).trans (congrArg sq (congrArg Reads.dqTile hX)))))); iexact HQ0
  isplitl [HQ1]
  · iapply (started c D (Ring.sl 2 t.val) (Ring.bk 32 t.val) 1 fp1 _ _ (hD1.trans (Eq.symm ((read_tile (Ring.sl 2 t.val) 1 (wcoff0_0_39 t) _ _ _).trans (congrArg sq (congrArg Reads.dkTile hX)))))); iexact HQ1
  isplitl [HQ2]
  · iapply (started c D (Ring.sl 2 t.val) (Ring.bk 32 t.val) 2 fp2 _ _ (hD2.trans (Eq.symm ((read_tile (Ring.sl 2 t.val) 2 (wcoff0_0_40 t) _ _ _).trans (congrArg sq (congrArg Reads.dvTile hX)))))); iexact HQ2
  isplitl [HQ3]
  · iapply (started c D (Ring.sl 2 t.val) (Ring.bk 32 t.val) 3 fp3 _ _ (hD3.trans (Eq.symm ((read_tile (Ring.sl 2 t.val) 3 (wcoff0_0_37 t) _ _ _).trans (congrArg sq (congrArg Reads.dgTile hX)))))); iexact HQ3
  iexists _; iexact HW

end Cert.KernelIdeal.Ret

end
-- ==== Proof.Ret.RunC.lean ====
module

public import proofs.«01_k».proof.Proof.Ret.Tile

/-! # One block run: a step inside a head: the copies of two steps before are waited for, and the sums go on -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
/-- A step inside a head: the copies of two steps before are waited for, and the sums go on. The body leaves the six values of `Reads`, the four tiles among them in flight
towards what the result holds in the end. -/
theorem runC (c : Dev nD) (D : Buf (Elt F) ((c : Thread nD τ).loc main_v84_0)) (t : Fin cfg0.N) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (arg17 : Memref sig .tc .vmem S1x1x128 .f32) (harg17 : arg17.IsWhole) (arg18 : Memref sig .tc .vmem S128x128 .f32) (harg18 : arg18.IsWhole)
    (hc0 : cond0_0 (grid0.coords t)) (hc1 : ¬cond0_1 (grid0.coords t)) (hc2 : ¬cond0_2 (grid0.coords t))
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (xo : Vec F S1x1x128 .f32) (xs : Vec F S128x128 .f32)
    (hD : wants c D (Ring.bk 32 t.val) (readsOf x0 x1 x2 x3 x4 x5 x6 x7 x8 x9 x10 x11 x12 x13 xo xs)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare xo ∗ owns (c : Thread nD τ) arg18 fullShare xs ∗ (∃ f, wpieceP0_0 c (Ring.bk 32 t.val) 0 f) ∗ (∃ f, wpieceP0_0 c (Ring.bk 32 t.val) 1 f) ∗ (∃ f, wpieceP0_0 c (Ring.bk 32 t.val) 2 f) ∗ (∃ f, wpieceP0_0 c (Ring.bk 32 t.val) 3 f) ∗ flightV c D (Ring.sl 2 t.val) 0 (Ring.bk 32 (t.val - 2)) ∗ flightV c D (Ring.sl 2 t.val) 1 (Ring.bk 32 (t.val - 2)) ∗ flightV c D (Ring.sl 2 t.val) 2 (Ring.bk 32 (t.val - 2)) ∗ flightV c D (Ring.sl 2 t.val) 3 (Ring.bk 32 (t.val - 2)) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare (readsOf x0 x1 x2 x3 x4 x5 x6 x7 x8 x9 x10 x11 x12 x13 xo xs).accNext ∗ owns (c : Thread nD τ) arg18 fullShare (readsOf x0 x1 x2 x3 x4 x5 x6 x7 x8 x9 x10 x11 x12 x13 xo xs).stNext ∗ pieceV c D (Ring.bk 32 (t.val - 2)) 0 ∗ pieceV c D (Ring.bk 32 (t.val - 2)) 1 ∗ pieceV c D (Ring.bk 32 (t.val - 2)) 2 ∗ pieceV c D (Ring.bk 32 (t.val - 2)) 3 ∗ flightV c D (Ring.sl 2 t.val) 0 (Ring.bk 32 t.val) ∗ flightV c D (Ring.sl 2 t.val) 1 (Ring.bk 32 t.val) ∗ flightV c D (Ring.sl 2 t.val) 2 (Ring.bk 32 t.val) ∗ flightV c D (Ring.sl 2 t.val) 3 (Ring.bk 32 t.val) ∗ (∃ W', owes (c : Thread nD τ) 0 W')) -∗ K ⟨⟩))
      ⊢ wp frame (wpE (defs₀ (F := F)) Variants.none c none) Set.univ (cc0_retention_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 (Memref.whole main_v84_0) (Memref.isWhole_whole _) arg17 harg17 arg18 harg18 scM0_1 (Memref.isWhole_whole _) cc0_scratch2) K := by
  obtain ⟨hD0, hD1, hD2, hD3⟩ := hD
  haveI : Fact (cond0_0 (grid0.coords t)) := ⟨hc0⟩
  haveI : Fact (¬cond0_1 (grid0.coords t)) := ⟨hc1⟩
  haveI : Fact (¬cond0_2 (grid0.coords t)) := ⟨hc2⟩
  simp only [cc0_retention_bwd_eq_skeleton]; unfold cc0_retention_bwd_skel
  simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs, %hfs, HS⟩, ⟨%fp0, HP0⟩, ⟨%fp1, HP1⟩, ⟨%fp2, HP2⟩, ⟨%fp3, HP3⟩, ⟨%fe0, HF0⟩, ⟨%fe1, HF1⟩, ⟨%fe2, HF2⟩, ⟨%fe3, HF3⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs
  sl_exec (disch := first | sl_exact hc0 | sl_exact hc1 | sl_exact hc2)
  sl_step
  have hX : loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (View.readAt (Elt F) arg17.view (Rect.unit (s := S1x1x128) ![0, 0, 0] S1x1x128.size inb_S1x1x128_S1x1x128_0_0_0).toLoadRect (harg17.unread xo)) (View.readAt (Elt F) arg18.view (Rect.unit (s := S128x128) ![0, 0] S128x128.size inb_S128x128_S128x128_0_0).toLoadRect (harg18.unread xs)) = readsOf x0 x1 x2 x3 x4 x5 x6 x7 x8 x9 x10 x11 x12 x13 xo xs := (loadsOf_eq _ _ _ _ _ _ _ _ _ _ _ _ _ _ _ _ _ _ _ _ _ _ _ _ _ _ _ _ _ _ _ _ _ _ _ _ _ _ _ _ _ _ _ _ ).trans (congrArg₂ (readsOf x0 x1 x2 x3 x4 x5 x6 x7 x8 x9 x10 x11 x12 x13) (load_whole harg17 xo _ (by decide)) (load_whole harg18 xs _ (by decide)))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [HO]
  · iexists _; isplitr
    swap; · iexact HO
    ipureintro
    refine (View.read_writes_full _ _ _ _ _).trans ?_
    exact congrArg Reads.accNext hX
  isplitl [HS]
  · iexists _; isplitr
    swap; · iexact HS
    ipureintro
    refine (View.read_writes_full _ _ _ _ _).trans ?_
    exact congrArg Reads.stNext hX
  isplitl [HF0_dst]; · iexact HF0_dst
  isplitl [HF1_dst]; · iexact HF1_dst
  isplitl [HF2_dst]; · iexact HF2_dst
  isplitl [HF3_dst]; · iexact HF3_dst
  isplitl [HF0]
  · iapply (started c D (Ring.sl 2 t.val) (Ring.bk 32 t.val) 0 fp0 _ _ (hD0.trans (Eq.symm ((read_tile (Ring.sl 2 t.val) 0 (wcoff0_0_38 t) _ _ _).trans (congrArg sq (congrArg Reads.dqTile hX)))))); iexact HF0
  isplitl [HF1]
  · iapply (started c D (Ring.sl 2 t.val) (Ring.bk 32 t.val) 1 fp1 _ _ (hD1.trans (Eq.symm ((read_tile (Ring.sl 2 t.val) 1 (wcoff0_0_39 t) _ _ _).trans (congrArg sq (congrArg Reads.dkTile hX)))))); iexact HF1
  isplitl [HF2]
  · iapply (started c D (Ring.sl 2 t.val) (Ring.bk 32 t.val) 2 fp2 _ _ (hD2.trans (Eq.symm ((read_tile (Ring.sl 2 t.val) 2 (wcoff0_0_40 t) _ _ _).trans (congrArg sq (congrArg Reads.dvTile hX)))))); iexact HF2
  isplitl [HF3]
  · iapply (started c D (Ring.sl 2 t.val) (Ring.bk 32 t.val) 3 fp3 _ _ (hD3.trans (Eq.symm ((read_tile (Ring.sl 2 t.val) 3 (wcoff0_0_37 t) _ _ _).trans (congrArg sq (congrArg Reads.dgTile hX)))))); iexact HF3
  iexists _; iexact HW

end Cert.KernelIdeal.Ret

end
-- ==== Proof.Ret.RunD.lean ====
module

public import proofs.«01_k».proof.Proof.Ret.Tile

/-! # One block run: a later head's first step: the copies of two steps before are waited for, and the sums start from zero -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
/-- A later head's first step: the copies of two steps before are waited for, and the sums start from zero. The body leaves the six values of `Reads`, the four tiles among them in flight
towards what the result holds in the end. -/
theorem runD (c : Dev nD) (D : Buf (Elt F) ((c : Thread nD τ).loc main_v84_0)) (t : Fin cfg0.N) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (arg17 : Memref sig .tc .vmem S1x1x128 .f32) (harg17 : arg17.IsWhole) (arg18 : Memref sig .tc .vmem S128x128 .f32) (harg18 : arg18.IsWhole)
    (hc0 : cond0_0 (grid0.coords t)) (hc1 : cond0_1 (grid0.coords t)) (hc2 : ¬cond0_2 (grid0.coords t))
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (xo : Vec F S1x1x128 .f32) (xs : Vec F S128x128 .f32)
    (hD : wants c D (Ring.bk 32 t.val) (readsOf x0 x1 x2 x3 x4 x5 x6 x7 x8 x9 x10 x11 x12 x13 (k0_pay2 (F := F)) (k0_pay1 (F := F)))) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare xo ∗ owns (c : Thread nD τ) arg18 fullShare xs ∗ (∃ f, wpieceP0_0 c (Ring.bk 32 t.val) 0 f) ∗ (∃ f, wpieceP0_0 c (Ring.bk 32 t.val) 1 f) ∗ (∃ f, wpieceP0_0 c (Ring.bk 32 t.val) 2 f) ∗ (∃ f, wpieceP0_0 c (Ring.bk 32 t.val) 3 f) ∗ flightV c D (Ring.sl 2 t.val) 0 (Ring.bk 32 (t.val - 2)) ∗ flightV c D (Ring.sl 2 t.val) 1 (Ring.bk 32 (t.val - 2)) ∗ flightV c D (Ring.sl 2 t.val) 2 (Ring.bk 32 (t.val - 2)) ∗ flightV c D (Ring.sl 2 t.val) 3 (Ring.bk 32 (t.val - 2)) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare (readsOf x0 x1 x2 x3 x4 x5 x6 x7 x8 x9 x10 x11 x12 x13 (k0_pay2 (F := F)) (k0_pay1 (F := F))).accNext ∗ owns (c : Thread nD τ) arg18 fullShare (readsOf x0 x1 x2 x3 x4 x5 x6 x7 x8 x9 x10 x11 x12 x13 (k0_pay2 (F := F)) (k0_pay1 (F := F))).stNext ∗ pieceV c D (Ring.bk 32 (t.val - 2)) 0 ∗ pieceV c D (Ring.bk 32 (t.val - 2)) 1 ∗ pieceV c D (Ring.bk 32 (t.val - 2)) 2 ∗ pieceV c D (Ring.bk 32 (t.val - 2)) 3 ∗ flightV c D (Ring.sl 2 t.val) 0 (Ring.bk 32 t.val) ∗ flightV c D (Ring.sl 2 t.val) 1 (Ring.bk 32 t.val) ∗ flightV c D (Ring.sl 2 t.val) 2 (Ring.bk 32 t.val) ∗ flightV c D (Ring.sl 2 t.val) 3 (Ring.bk 32 t.val) ∗ (∃ W', owes (c : Thread nD τ) 0 W')) -∗ K ⟨⟩))
      ⊢ wp frame (wpE (defs₀ (F := F)) Variants.none c none) Set.univ (cc0_retention_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 (Memref.whole main_v84_0) (Memref.isWhole_whole _) arg17 harg17 arg18 harg18 scM0_1 (Memref.isWhole_whole _) cc0_scratch2) K := by
  obtain ⟨hD0, hD1, hD2, hD3⟩ := hD
  haveI : Fact (cond0_0 (grid0.coords t)) := ⟨hc0⟩
  haveI : Fact (cond0_1 (grid0.coords t)) := ⟨hc1⟩
  haveI : Fact (¬cond0_2 (grid0.coords t)) := ⟨hc2⟩
  simp only [cc0_retention_bwd_eq_skeleton]; unfold cc0_retention_bwd_skel
  simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs, %hfs, HS⟩, ⟨%fp0, HP0⟩, ⟨%fp1, HP1⟩, ⟨%fp2, HP2⟩, ⟨%fp3, HP3⟩, ⟨%fe0, HF0⟩, ⟨%fe1, HF1⟩, ⟨%fe2, HF2⟩, ⟨%fe3, HF3⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs
  sl_exec (disch := first | sl_exact hc0 | sl_exact hc1 | sl_exact hc2)
  sl_step
  have hX : loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (View.readCov arg17.view [⟨Rect.unit (s := S1x1x128) ![0, 0, 0] S1x1x128.size inb_S1x1x128_S1x1x128_0_0_0, k0_pay2 (F := F)⟩] (Rect.unit (s := S1x1x128) ![0, 0, 0] S1x1x128.size inb_S1x1x128_S1x1x128_0_0_0).toLoadRect) (View.readCov arg18.view [⟨Rect.unit (s := S128x128) ![0, 0] S128x128.size inb_S128x128_S128x128_0_0, k0_pay1 (F := F)⟩] (Rect.unit (s := S128x128) ![0, 0] S128x128.size inb_S128x128_S128x128_0_0).toLoadRect) = readsOf x0 x1 x2 x3 x4 x5 x6 x7 x8 x9 x10 x11 x12 x13 (k0_pay2 (F := F)) (k0_pay1 (F := F)) := (loadsOf_eq _ _ _ _ _ _ _ _ _ _ _ _ _ _ _ _ _ _ _ _ _ _ _ _ _ _ _ _ _ _ _ _ _ _ _ _ _ _ _ _ _ _ _ _).trans (congrArg₂ (readsOf x0 x1 x2 x3 x4 x5 x6 x7 x8 x9 x10 x11 x12 x13) (View.readCov_full _ _ _ _ _) (View.readCov_full _ _ _ _ _))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [HO]
  · iexists _; isplitr
    swap; · iexact HO
    ipureintro
    refine (View.read_writes_full _ _ _ _ _).trans ?_
    exact congrArg Reads.accNext hX
  isplitl [HS]
  · iexists _; isplitr
    swap; · iexact HS
    ipureintro
    refine (View.read_writes_full _ _ _ _ _).trans ?_
    exact congrArg Reads.stNext hX
  isplitl [HF0_dst]; · iexact HF0_dst
  isplitl [HF1_dst]; · iexact HF1_dst
  isplitl [HF2_dst]; · iexact HF2_dst
  isplitl [HF3_dst]; · iexact HF3_dst
  isplitl [HF0]
  · iapply (started c D (Ring.sl 2 t.val) (Ring.bk 32 t.val) 0 fp0 _ _ (hD0.trans (Eq.symm ((read_tile (Ring.sl 2 t.val) 0 (wcoff0_0_38 t) _ _ _).trans (congrArg sq (congrArg Reads.dqTile hX)))))); iexact HF0
  isplitl [HF1]
  · iapply (started c D (Ring.sl 2 t.val) (Ring.bk 32 t.val) 1 fp1 _ _ (hD1.trans (Eq.symm ((read_tile (Ring.sl 2 t.val) 1 (wcoff0_0_39 t) _ _ _).trans (congrArg sq (congrArg Reads.dkTile hX)))))); iexact HF1
  isplitl [HF2]
  · iapply (started c D (Ring.sl 2 t.val) (Ring.bk 32 t.val) 2 fp2 _ _ (hD2.trans (Eq.symm ((read_tile (Ring.sl 2 t.val) 2 (wcoff0_0_40 t) _ _ _).trans (congrArg sq (congrArg Reads.dvTile hX)))))); iexact HF2
  isplitl [HF3]
  · iapply (started c D (Ring.sl 2 t.val) (Ring.bk 32 t.val) 3 fp3 _ _ (hD3.trans (Eq.symm ((read_tile (Ring.sl 2 t.val) 3 (wcoff0_0_37 t) _ _ _).trans (congrArg sq (congrArg Reads.dgTile hX)))))); iexact HF3
  iexists _; iexact HW

end Cert.KernelIdeal.Ret

end
-- ==== Proof.Ret.RunE.lean ====
module

public import proofs.«01_k».proof.Proof.Ret.Tile

/-! # One block run: the last step: the copies of two steps before are waited for, and in the end the last two steps' own -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 40000000 in
/-- The last step: the copies of two steps before are waited for, and in the end the last two steps' own. The body leaves the six values of `Reads`, the four tiles among them in flight
towards what the result holds in the end and landed there. -/
theorem runE (c : Dev nD) (D : Buf (Elt F) ((c : Thread nD τ).loc main_v84_0)) (t : Fin cfg0.N) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x256x256 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1x1x128 .f32) (harg11 : arg11.IsWhole) (arg12 : Memref sig .tc .vmem S1x128 .f32) (harg12 : arg12.IsWhole) (arg13 : Memref sig .tc .vmem S1024x128 .f32) (harg13 : arg13.IsWhole) (arg14 : Memref sig .tc .vmem S1x16x128x128 .bf16) (harg14 : arg14.IsWhole) (arg15 : Memref sig .tc .vmem S1024x128 .f32) (harg15 : arg15.IsWhole) (arg17 : Memref sig .tc .vmem S1x1x128 .f32) (harg17 : arg17.IsWhole) (arg18 : Memref sig .tc .vmem S128x128 .f32) (harg18 : arg18.IsWhole)
    (hc0 : cond0_0 (grid0.coords t)) (hc1 : ¬cond0_1 (grid0.coords t)) (hc2 : cond0_2 (grid0.coords t))
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1x256x256 .f32) (x7 : Vec F S1x1024x128 .f32) (x8 : Vec F S1x1024x128 .f32) (x9 : Vec F S1x1x128 .f32) (x10 : Vec F S1x128 .f32) (x11 : Vec F S1024x128 .f32) (x12 : Vec F S1x16x128x128 .bf16) (x13 : Vec F S1024x128 .f32) (xo : Vec F S1x1x128 .f32) (xs : Vec F S128x128 .f32)
    (hD : wants c D (Ring.bk 32 t.val) (readsOf x0 x1 x2 x3 x4 x5 x6 x7 x8 x9 x10 x11 x12 x13 xo xs)) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare xo ∗ owns (c : Thread nD τ) arg18 fullShare xs ∗ (∃ f, wpieceP0_0 c (Ring.bk 32 t.val) 0 f) ∗ (∃ f, wpieceP0_0 c (Ring.bk 32 t.val) 1 f) ∗ (∃ f, wpieceP0_0 c (Ring.bk 32 t.val) 2 f) ∗ (∃ f, wpieceP0_0 c (Ring.bk 32 t.val) 3 f) ∗ flightV c D (Ring.sl 2 t.val) 0 (Ring.bk 32 (t.val - 2)) ∗ flightV c D (Ring.sl 2 t.val) 1 (Ring.bk 32 (t.val - 2)) ∗ flightV c D (Ring.sl 2 t.val) 2 (Ring.bk 32 (t.val - 2)) ∗ flightV c D (Ring.sl 2 t.val) 3 (Ring.bk 32 (t.val - 2)) ∗ flightV c D (Ring.sl 2 (t.val + 1)) 0 (Ring.bk 32 (t.val - 1)) ∗ flightV c D (Ring.sl 2 (t.val + 1)) 1 (Ring.bk 32 (t.val - 1)) ∗ flightV c D (Ring.sl 2 (t.val + 1)) 2 (Ring.bk 32 (t.val - 1)) ∗ flightV c D (Ring.sl 2 (t.val + 1)) 3 (Ring.bk 32 (t.val - 1)) ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg17 fullShare (readsOf x0 x1 x2 x3 x4 x5 x6 x7 x8 x9 x10 x11 x12 x13 xo xs).accNext ∗ owns (c : Thread nD τ) arg18 fullShare (readsOf x0 x1 x2 x3 x4 x5 x6 x7 x8 x9 x10 x11 x12 x13 xo xs).stNext ∗ pieceV c D (Ring.bk 32 (t.val - 2)) 0 ∗ pieceV c D (Ring.bk 32 (t.val - 2)) 1 ∗ pieceV c D (Ring.bk 32 (t.val - 2)) 2 ∗ pieceV c D (Ring.bk 32 (t.val - 2)) 3 ∗ pieceV c D (Ring.bk 32 (t.val - 1)) 0 ∗ pieceV c D (Ring.bk 32 (t.val - 1)) 1 ∗ pieceV c D (Ring.bk 32 (t.val - 1)) 2 ∗ pieceV c D (Ring.bk 32 (t.val - 1)) 3 ∗ pieceV c D (Ring.bk 32 t.val) 0 ∗ pieceV c D (Ring.bk 32 t.val) 1 ∗ pieceV c D (Ring.bk 32 t.val) 2 ∗ pieceV c D (Ring.bk 32 t.val) 3 ∗ wcellP0_0 c (Ring.sl 2 t.val) 0 ∗ (∃ e, wtileP0_0 c (Ring.sl 2 t.val) 0 e) ∗ wcellP0_0 c (Ring.sl 2 t.val) 1 ∗ (∃ e, wtileP0_0 c (Ring.sl 2 t.val) 1 e) ∗ wcellP0_0 c (Ring.sl 2 t.val) 2 ∗ (∃ e, wtileP0_0 c (Ring.sl 2 t.val) 2 e) ∗ wcellP0_0 c (Ring.sl 2 t.val) 3 ∗ (∃ e, wtileP0_0 c (Ring.sl 2 t.val) 3 e) ∗ wcellP0_0 c (Ring.sl 2 (t.val + 1)) 0 ∗ (∃ e, wtileP0_0 c (Ring.sl 2 (t.val + 1)) 0 e) ∗ wcellP0_0 c (Ring.sl 2 (t.val + 1)) 1 ∗ (∃ e, wtileP0_0 c (Ring.sl 2 (t.val + 1)) 1 e) ∗ wcellP0_0 c (Ring.sl 2 (t.val + 1)) 2 ∗ (∃ e, wtileP0_0 c (Ring.sl 2 (t.val + 1)) 2 e) ∗ wcellP0_0 c (Ring.sl 2 (t.val + 1)) 3 ∗ (∃ e, wtileP0_0 c (Ring.sl 2 (t.val + 1)) 3 e) ∗ (∃ W', owes (c : Thread nD τ) 0 W')) -∗ K ⟨⟩))
      ⊢ wp frame (wpE (defs₀ (F := F)) Variants.none c none) Set.univ (cc0_retention_bwd (grid0.coords t) arg2 harg2 arg3 harg3 arg4 harg4 arg5 harg5 arg6 harg6 arg7 harg7 arg8 harg8 arg9 harg9 arg10 harg10 arg11 harg11 arg12 harg12 arg13 harg13 arg14 harg14 arg15 harg15 (Memref.whole main_v84_0) (Memref.isWhole_whole _) arg17 harg17 arg18 harg18 scM0_1 (Memref.isWhole_whole _) cc0_scratch2) K := by
  obtain ⟨hD0, hD1, hD2, hD3⟩ := hD
  haveI : Fact (cond0_0 (grid0.coords t)) := ⟨hc0⟩
  haveI : Fact (¬cond0_1 (grid0.coords t)) := ⟨hc1⟩
  haveI : Fact (cond0_2 (grid0.coords t)) := ⟨hc2⟩
  simp only [cc0_retention_bwd_eq_skeleton]; unfold cc0_retention_bwd_skel
  simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs, %hfs, HS⟩, ⟨%fp0, HP0⟩, ⟨%fp1, HP1⟩, ⟨%fp2, HP2⟩, ⟨%fp3, HP3⟩, ⟨%fe0, HF0⟩, ⟨%fe1, HF1⟩, ⟨%fe2, HF2⟩, ⟨%fe3, HF3⟩, ⟨%ge0, HG0⟩, ⟨%ge1, HG1⟩, ⟨%ge2, HG2⟩, ⟨%ge3, HG3⟩, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs
  sl_exec (disch := first | sl_exact hc0 | sl_exact hc1 | sl_exact hc2)
  sl_step
  have hX : loadsOf arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 (View.readAt (Elt F) arg17.view (Rect.unit (s := S1x1x128) ![0, 0, 0] S1x1x128.size inb_S1x1x128_S1x1x128_0_0_0).toLoadRect (harg17.unread xo)) (View.readAt (Elt F) arg18.view (Rect.unit (s := S128x128) ![0, 0] S128x128.size inb_S128x128_S128x128_0_0).toLoadRect (harg18.unread xs)) = readsOf x0 x1 x2 x3 x4 x5 x6 x7 x8 x9 x10 x11 x12 x13 xo xs := (loadsOf_eq _ _ _ _ _ _ _ _ _ _ _ _ _ _ _ _ _ _ _ _ _ _ _ _ _ _ _ _ _ _ _ _ _ _ _ _ _ _ _ _ _ _ _ _ ).trans (congrArg₂ (readsOf x0 x1 x2 x3 x4 x5 x6 x7 x8 x9 x10 x11 x12 x13) (load_whole harg17 xo _ (by decide)) (load_whole harg18 xs _ (by decide)))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [HO]
  · iexists _; isplitr
    swap; · iexact HO
    ipureintro
    refine (View.read_writes_full _ _ _ _ _).trans ?_
    exact congrArg Reads.accNext hX
  isplitl [HS]
  · iexists _; isplitr
    swap; · iexact HS
    ipureintro
    refine (View.read_writes_full _ _ _ _ _).trans ?_
    exact congrArg Reads.stNext hX
  isplitl [HF0_dst]; · iexact HF0_dst
  isplitl [HF1_dst]; · iexact HF1_dst
  isplitl [HF2_dst]; · iexact HF2_dst
  isplitl [HF3_dst]; · iexact HF3_dst
  isplitl [HG0_dst]; · iexact HG0_dst
  isplitl [HG1_dst]; · iexact HG1_dst
  isplitl [HG2_dst]; · iexact HG2_dst
  isplitl [HG3_dst]; · iexact HG3_dst
  isplitl [HP0]
  · iapply (landed c D (Ring.bk 32 t.val) 0 fp0 _ (hD0.trans (Eq.symm ((read_tile (Ring.sl 2 t.val) 0 (wcoff0_0_38 t) _ _ _).trans (congrArg sq (congrArg Reads.dqTile hX)))))); iexact HP0
  isplitl [HP1]
  · iapply (landed c D (Ring.bk 32 t.val) 1 fp1 _ (hD1.trans (Eq.symm ((read_tile (Ring.sl 2 t.val) 1 (wcoff0_0_39 t) _ _ _).trans (congrArg sq (congrArg Reads.dkTile hX)))))); iexact HP1
  isplitl [HP2]
  · iapply (landed c D (Ring.bk 32 t.val) 2 fp2 _ (hD2.trans (Eq.symm ((read_tile (Ring.sl 2 t.val) 2 (wcoff0_0_40 t) _ _ _).trans (congrArg sq (congrArg Reads.dvTile hX)))))); iexact HP2
  isplitl [HP3]
  · iapply (landed c D (Ring.bk 32 t.val) 3 fp3 _ (hD3.trans (Eq.symm ((read_tile (Ring.sl 2 t.val) 3 (wcoff0_0_37 t) _ _ _).trans (congrArg sq (congrArg Reads.dgTile hX)))))); iexact HP3
  isplitl [HF0]; · iexact HF0
  isplitl [HF0_src]; · iexists _; iexact HF0_src
  isplitl [HF1]; · iexact HF1
  isplitl [HF1_src]; · iexists _; iexact HF1_src
  isplitl [HF2]; · iexact HF2
  isplitl [HF2_src]; · iexists _; iexact HF2_src
  isplitl [HF3]; · iexact HF3
  isplitl [HF3_src]; · iexists _; iexact HF3_src
  isplitl [HG0]; · iexact HG0
  isplitl [HG0_src]; · iexists _; iexact HG0_src
  isplitl [HG1]; · iexact HG1
  isplitl [HG1_src]; · iexists _; iexact HG1_src
  isplitl [HG2]; · iexact HG2
  isplitl [HG2_src]; · iexists _; iexact HG2_src
  isplitl [HG3]; · iexact HG3
  isplitl [HG3_src]; · iexists _; iexact HG3_src
  iexists _; iexact HW

end Cert.KernelIdeal.Ret

end
-- ==== Proof.Ret.Body.lean ====
module

public import proofs.«01_k».proof.Proof.Ret.Data
public import proofs.«01_k».proof.Proof.Ret.RunA
public import proofs.«01_k».proof.Proof.Ret.RunB
public import proofs.«01_k».proof.Proof.Ret.RunC
public import proofs.«01_k».proof.Proof.Ret.RunD
public import proofs.«01_k».proof.Proof.Ret.RunE

/-! # The pipeline's obligation: the body, at every grid point

At a point the output's buffer and the carried state hold what the point before left, unless the point opens a head. The
run of the point's case then applies, and the invariant is put together again from what the run hands back. -/

@[expose] public section

set_option maxRecDepth 16384

noncomputable section

namespace Cert.KernelIdeal.Ret

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 4000000 in
/-- The first point. -/
theorem bodyA (c : Dev nD) (t : Fin cfg0.N) (h0 : ¬2 ≤ t.val) (h1 : t.val % 4 = 0) (h2 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hW0 : t.val = 0 := by omega
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14]
  rw [PhiV_castSucc m c t, PhiV_succ m c t]
  unfold Dat.owesAt Pipeline.owesWithin
  rw [show (dats m 0 c).owed t.castSucc = 0 from rfl, show (dats m 0 c).owed t.succ = 0 from rfl]
  unfold PhiV ringV
  rw [stateV_next m c t]
  have eR : readsAt m c t = readsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (k0_pay2 (F := F)) (k0_pay1 (F := F)) := readsAt_reset m c t h1
  obtain ⟨-, -⟩ := wstep0_0_A t (fun h => h0 ((hcond0_0 t).mp h)) ((hcond0_1 t).mpr h1) (fun h => h2 ((hcond0_2 t).mp h))
  rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
  rw [eR]
  iintro ⟨⟨HS, Hg, ⟨⟨⟨⟨Hp0, Hp1, Hp2, Hp3⟩, HA⟩, ⟨⟨Hq0, Ht0⟩, ⟨Hq1, Ht1⟩, ⟨Hq2, Ht2⟩, ⟨Hq3, Ht3⟩⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS' := (stateV_open m c t) $$ HS
  icases HS' with ⟨%xs, %hxs, HS⟩
  iapply (runA c (D m c) t _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (eR ▸ wants_D m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [Hp0]; · iexact Hp0
  isplitl [Hp1]; · iexact Hp1
  isplitl [Hp2]; · iexact Hp2
  isplitl [Hp3]; · iexact Hp3
  isplitl [Hq0]; · iexact Hq0
  isplitl [Ht0]; · iexact Ht0
  isplitl [Hq1]; · iexact Hq1
  isplitl [Ht1]; · iexact Ht1
  isplitl [Hq2]; · iexact Hq2
  isplitl [Ht2]; · iexact Ht2
  isplitl [Hq3]; · iexact Hq3
  isplitl [Ht3]; · iexact Ht3
  isplitl [HW]; · iexact HW
  iintro ⟨H0, H1, H2, H3, H4, H5, H6, H7, H8, H9, H10, H11, H12, H13, H14, HS, Hn0, Hn1, Hn2, Hn3, ⟨%W', HW'⟩⟩
  isplitl [HS Hg HA Hcar Hn0 Hn1 Hn2 Hn3 HTsp HPsp]
  · isplitl [HS]
    · iexact HS
    isplitl [Hg]
    · iexact Hg
    isplitl [HA Hcar Hn0 Hn1 Hn2 Hn3]
    · isplitl [HA]
      · iexact HA
      isplitl [Hcar]
      · iexact Hcar
      isplitl [Hn0]
      · iexact Hn0
      isplitl [Hn1]
      · iexact Hn1
      isplitl [Hn2]
      · iexact Hn2
      iexact Hn3
    isplitl [HTsp]
    · iexact HTsp
    iexact HPsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- The second point. -/
theorem bodyB (c : Dev nD) (t : Fin cfg0.N) (h0 : ¬2 ≤ t.val) (h1 : ¬t.val % 4 = 0) (h2 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hW0 : t.val = 1 := by omega
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14]
  rw [PhiV_castSucc m c t, PhiV_succ m c t]
  unfold Dat.owesAt Pipeline.owesWithin
  rw [show (dats m 0 c).owed t.castSucc = 0 from rfl, show (dats m 0 c).owed t.succ = 0 from rfl]
  unfold PhiV ringV
  rw [stateV_next m c t]
  have eR : readsAt m c t = readsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (startsAt m c t.val).1 (startsAt m c t.val).2 := rfl
  simp only [before0_14 m c t h1]
  obtain ⟨-, -⟩ := wstep0_0_B t (fun h => h0 ((hcond0_0 t).mp h)) (fun h => h1 ((hcond0_1 t).mp h)) (fun h => h2 ((hcond0_2 t).mp h))
  rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
  rw [eR]
  iintro ⟨⟨HS, Hg, ⟨⟨⟨⟨Hp0, Hp1, Hp2, Hp3⟩, HA⟩, ⟨⟨Hq0, Ht0⟩, ⟨Hq1, Ht1⟩, ⟨Hq2, Ht2⟩, ⟨Hq3, Ht3⟩⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS' := (stateV_open m c t) $$ HS
  icases HS' with ⟨%xs, %hxs, HS⟩
  obtain rfl := hxs h1
  iapply (runB c (D m c) t _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (eR ▸ wants_D m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [Hp0]; · iexact Hp0
  isplitl [Hp1]; · iexact Hp1
  isplitl [Hp2]; · iexact Hp2
  isplitl [Hp3]; · iexact Hp3
  isplitl [Hq0]; · iexact Hq0
  isplitl [Ht0]; · iexact Ht0
  isplitl [Hq1]; · iexact Hq1
  isplitl [Ht1]; · iexact Ht1
  isplitl [Hq2]; · iexact Hq2
  isplitl [Ht2]; · iexact Ht2
  isplitl [Hq3]; · iexact Hq3
  isplitl [Ht3]; · iexact Ht3
  isplitl [HW]; · iexact HW
  iintro ⟨H0, H1, H2, H3, H4, H5, H6, H7, H8, H9, H10, H11, H12, H13, H14, HS, Hn0, Hn1, Hn2, Hn3, ⟨%W', HW'⟩⟩
  isplitl [HS Hg HA Hcar Hn0 Hn1 Hn2 Hn3 HTsp HPsp]
  · isplitl [HS]
    · iexact HS
    isplitl [Hg]
    · iexact Hg
    isplitl [HA Hcar Hn0 Hn1 Hn2 Hn3]
    · isplitl [HA]
      · iexact HA
      isplitl [Hcar]
      · iexact Hcar
      isplitl [Hn0]
      · iexact Hn0
      isplitl [Hn1]
      · iexact Hn1
      isplitl [Hn2]
      · iexact Hn2
      iexact Hn3
    isplitl [HTsp]
    · iexact HTsp
    iexact HPsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- A point inside a head. -/
theorem bodyC (c : Dev nD) (t : Fin cfg0.N) (h0 : 2 ≤ t.val) (h1 : ¬t.val % 4 = 0) (h2 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14]
  rw [PhiV_castSucc m c t, PhiV_succ m c t]
  unfold Dat.owesAt Pipeline.owesWithin
  rw [show (dats m 0 c).owed t.castSucc = 0 from rfl, show (dats m 0 c).owed t.succ = 0 from rfl]
  unfold PhiV ringV
  rw [stateV_next m c t]
  have eR : readsAt m c t = readsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (startsAt m c t.val).1 (startsAt m c t.val).2 := rfl
  simp only [before0_14 m c t h1]
  obtain ⟨hW2, hWlt, -⟩ := wstep0_0_C t ((hcond0_0 t).mpr h0) (fun h => h1 ((hcond0_1 t).mp h)) (fun h => h2 ((hcond0_2 t).mp h))
  rw [Ring.AtBΦ_lt _ _ _ _ _ t.val (by omega), Ring.AtB22_here _ _ _ _ t.val hW2 (by omega), Ring.AtBΦ_lt _ _ _ _ _ (t.val + 1) hWlt, Ring.AtB22_next _ _ _ _ t.val hW2 (by omega)]
  rw [eR]
  iintro ⟨⟨HS, Hg, ⟨⟨⟨⟨Hp0, Hp1, Hp2, Hp3⟩, HA⟩, HB, ⟨HF0, HF1, HF2, HF3⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS' := (stateV_open m c t) $$ HS
  icases HS' with ⟨%xs, %hxs, HS⟩
  obtain rfl := hxs h1
  iapply (runC c (D m c) t _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (eR ▸ wants_D m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [Hp0]; · iexact Hp0
  isplitl [Hp1]; · iexact Hp1
  isplitl [Hp2]; · iexact Hp2
  isplitl [Hp3]; · iexact Hp3
  isplitl [HF0]; · iexact HF0
  isplitl [HF1]; · iexact HF1
  isplitl [HF2]; · iexact HF2
  isplitl [HF3]; · iexact HF3
  isplitl [HW]; · iexact HW
  iintro ⟨H0, H1, H2, H3, H4, H5, H6, H7, H8, H9, H10, H11, H12, H13, H14, HS, Hl0, Hl1, Hl2, Hl3, Hn0, Hn1, Hn2, Hn3, ⟨%W', HW'⟩⟩
  isplitl [HS Hg HA Hl0 Hl1 Hl2 Hl3 HB Hcar Hn0 Hn1 Hn2 Hn3 HTsp HPsp]
  · isplitl [HS]
    · iexact HS
    isplitl [Hg]
    · iexact Hg
    isplitl [HA Hl0 Hl1 Hl2 Hl3 HB Hcar Hn0 Hn1 Hn2 Hn3]
    · isplitl [HA]
      · iexact HA
      isplitl [Hl0 Hl1 Hl2 Hl3 HB]
      · isplitl [Hl0 Hl1 Hl2 Hl3]
        · isplitl [Hl0]
          · iexact Hl0
          isplitl [Hl1]
          · iexact Hl1
          isplitl [Hl2]
          · iexact Hl2
          iexact Hl3
        iexact HB
      isplitl [Hcar]
      · iexact Hcar
      isplitl [Hn0]
      · iexact Hn0
      isplitl [Hn1]
      · iexact Hn1
      isplitl [Hn2]
      · iexact Hn2
      iexact Hn3
    isplitl [HTsp]
    · iexact HTsp
    iexact HPsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- A later head's first point. -/
theorem bodyD (c : Dev nD) (t : Fin cfg0.N) (h0 : 2 ≤ t.val) (h1 : t.val % 4 = 0) (h2 : ¬t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14]
  rw [PhiV_castSucc m c t, PhiV_succ m c t]
  unfold Dat.owesAt Pipeline.owesWithin
  rw [show (dats m 0 c).owed t.castSucc = 0 from rfl, show (dats m 0 c).owed t.succ = 0 from rfl]
  unfold PhiV ringV
  rw [stateV_next m c t]
  have eR : readsAt m c t = readsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (k0_pay2 (F := F)) (k0_pay1 (F := F)) := readsAt_reset m c t h1
  obtain ⟨hW2, hWlt, -⟩ := wstep0_0_D t ((hcond0_0 t).mpr h0) ((hcond0_1 t).mpr h1) (fun h => h2 ((hcond0_2 t).mp h))
  rw [Ring.AtBΦ_lt _ _ _ _ _ t.val (by omega), Ring.AtB22_here _ _ _ _ t.val hW2 (by omega), Ring.AtBΦ_lt _ _ _ _ _ (t.val + 1) hWlt, Ring.AtB22_next _ _ _ _ t.val hW2 (by omega)]
  rw [eR]
  iintro ⟨⟨HS, Hg, ⟨⟨⟨⟨Hp0, Hp1, Hp2, Hp3⟩, HA⟩, HB, ⟨HF0, HF1, HF2, HF3⟩, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS' := (stateV_open m c t) $$ HS
  icases HS' with ⟨%xs, %hxs, HS⟩
  iapply (runD c (D m c) t _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (eR ▸ wants_D m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [Hp0]; · iexact Hp0
  isplitl [Hp1]; · iexact Hp1
  isplitl [Hp2]; · iexact Hp2
  isplitl [Hp3]; · iexact Hp3
  isplitl [HF0]; · iexact HF0
  isplitl [HF1]; · iexact HF1
  isplitl [HF2]; · iexact HF2
  isplitl [HF3]; · iexact HF3
  isplitl [HW]; · iexact HW
  iintro ⟨H0, H1, H2, H3, H4, H5, H6, H7, H8, H9, H10, H11, H12, H13, H14, HS, Hl0, Hl1, Hl2, Hl3, Hn0, Hn1, Hn2, Hn3, ⟨%W', HW'⟩⟩
  isplitl [HS Hg HA Hl0 Hl1 Hl2 Hl3 HB Hcar Hn0 Hn1 Hn2 Hn3 HTsp HPsp]
  · isplitl [HS]
    · iexact HS
    isplitl [Hg]
    · iexact Hg
    isplitl [HA Hl0 Hl1 Hl2 Hl3 HB Hcar Hn0 Hn1 Hn2 Hn3]
    · isplitl [HA]
      · iexact HA
      isplitl [Hl0 Hl1 Hl2 Hl3 HB]
      · isplitl [Hl0 Hl1 Hl2 Hl3]
        · isplitl [Hl0]
          · iexact Hl0
          isplitl [Hl1]
          · iexact Hl1
          isplitl [Hl2]
          · iexact Hl2
          iexact Hl3
        iexact HB
      isplitl [Hcar]
      · iexact Hcar
      isplitl [Hn0]
      · iexact Hn0
      isplitl [Hn1]
      · iexact Hn1
      isplitl [Hn2]
      · iexact Hn2
      iexact Hn3
    isplitl [HTsp]
    · iexact HTsp
    iexact HPsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- The last point. -/
theorem bodyE (c : Dev nD) (t : Fin cfg0.N) (h0 : 2 ≤ t.val) (h1 : ¬t.val % 4 = 0) (h2 : t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14]
  rw [PhiV_castSucc m c t, PhiV_succ m c t]
  unfold Dat.owesAt Pipeline.owesWithin
  rw [show (dats m 0 c).owed t.castSucc = 0 from rfl, show (dats m 0 c).owed t.succ = 0 from rfl]
  unfold PhiV ringV
  rw [stateV_next m c t]
  have eR : readsAt m c t = readsOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (startsAt m c t.val).1 (startsAt m c t.val).2 := rfl
  simp only [before0_14 m c t h1]
  obtain ⟨hW2, hWend, -⟩ := wstep0_0_E t ((hcond0_0 t).mpr h0) (fun h => h1 ((hcond0_1 t).mp h)) ((hcond0_2 t).mpr h2)
  rw [Ring.AtBΦ_lt _ _ _ _ _ t.val (by omega), Ring.AtB22_here_last _ _ _ _ t.val hW2 hWend, Ring.AtBΦ_end _ _ _ _ _ (t.val + 1) hWend, Ring.AtB22_drained _ _ t.val hW2 hWend]
  rw [eR]
  iintro ⟨⟨HS, Hg, ⟨⟨⟨Hp0, Hp1, Hp2, Hp3⟩, HB, ⟨HF0, HF1, HF2, HF3⟩, ⟨HI0, HI1, HI2, HI3⟩⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS' := (stateV_open m c t) $$ HS
  icases HS' with ⟨%xs, %hxs, HS⟩
  obtain rfl := hxs h1
  iapply (runE c (D m c) t _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (eR ▸ wants_D m c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS]; · iexact HS
  isplitl [Hp0]; · iexact Hp0
  isplitl [Hp1]; · iexact Hp1
  isplitl [Hp2]; · iexact Hp2
  isplitl [Hp3]; · iexact Hp3
  isplitl [HF0]; · iexact HF0
  isplitl [HF1]; · iexact HF1
  isplitl [HF2]; · iexact HF2
  isplitl [HF3]; · iexact HF3
  isplitl [HI0]; · iexact HI0
  isplitl [HI1]; · iexact HI1
  isplitl [HI2]; · iexact HI2
  isplitl [HI3]; · iexact HI3
  isplitl [HW]; · iexact HW
  iintro ⟨H0, H1, H2, H3, H4, H5, H6, H7, H8, H9, H10, H11, H12, H13, H14, HS, Ho0, Ho1, Ho2, Ho3, Hl0, Hl1, Hl2, Hl3, Hm0, Hm1, Hm2, Hm3, Hqo0, Hto0, Hqo1, Hto1, Hqo2, Hto2, Hqo3, Hto3, Hqp0, Htp0, Hqp1, Htp1, Hqp2, Htp2, Hqp3, Htp3, ⟨%W', HW'⟩⟩
  isplitl [HS Hg Hm0 Hm1 Hm2 Hm3 Ho0 Ho1 Ho2 Ho3 Hl0 Hl1 Hl2 Hl3 HB Hqo0 Hto0 Hqo1 Hto1 Hqo2 Hto2 Hqo3 Hto3 Hqp0 Htp0 Hqp1 Htp1 Hqp2 Htp2 Hqp3 Htp3 HTsp HPsp]
  · isplitl [HS]
    · iexact HS
    isplitl [Hg]
    · iexact Hg
    isplitl [Hm0 Hm1 Hm2 Hm3 Ho0 Ho1 Ho2 Ho3 Hl0 Hl1 Hl2 Hl3 HB Hqo0 Hto0 Hqo1 Hto1 Hqo2 Hto2 Hqo3 Hto3 Hqp0 Htp0 Hqp1 Htp1 Hqp2 Htp2 Hqp3 Htp3]
    · isplitl [Hm0 Hm1 Hm2 Hm3 Ho0 Ho1 Ho2 Ho3 Hl0 Hl1 Hl2 Hl3 HB]
      · isplitl [Hm0 Hm1 Hm2 Hm3]
        · isplitl [Hm0]
          · iexact Hm0
          isplitl [Hm1]
          · iexact Hm1
          isplitl [Hm2]
          · iexact Hm2
          iexact Hm3
        isplitl [Ho0 Ho1 Ho2 Ho3]
        · isplitl [Ho0]
          · iexact Ho0
          isplitl [Ho1]
          · iexact Ho1
          isplitl [Ho2]
          · iexact Ho2
          iexact Ho3
        isplitl [Hl0 Hl1 Hl2 Hl3]
        · isplitl [Hl0]
          · iexact Hl0
          isplitl [Hl1]
          · iexact Hl1
          isplitl [Hl2]
          · iexact Hl2
          iexact Hl3
        iexact HB
      isplitl [Hqo0 Hto0 Hqo1 Hto1 Hqo2 Hto2 Hqo3 Hto3]
      · isplitl [Hqo0 Hto0]
        · isplitl [Hqo0]
          · iexact Hqo0
          iexact Hto0
        isplitl [Hqo1 Hto1]
        · isplitl [Hqo1]
          · iexact Hqo1
          iexact Hto1
        isplitl [Hqo2 Hto2]
        · isplitl [Hqo2]
          · iexact Hqo2
          iexact Hto2
        isplitl [Hqo3]
        · iexact Hqo3
        iexact Hto3
      isplitl [Hqp0 Htp0]
      · isplitl [Hqp0]
        · iexact Hqp0
        iexact Htp0
      isplitl [Hqp1 Htp1]
      · isplitl [Hqp1]
        · iexact Hqp1
        iexact Htp1
      isplitl [Hqp2 Htp2]
      · isplitl [Hqp2]
        · iexact Hqp2
        iexact Htp2
      isplitl [Hqp3]
      · iexact Hqp3
      iexact Htp3
    isplitl [HTsp]
    · iexact HTsp
    iexact HPsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  by_cases h0 : 2 ≤ t.val
  · by_cases h1 : t.val % 4 = 0
    · exact bodyD m c t h0 h1 (by omega)
    · by_cases h2 : t.val % 32 = 31
      · exact bodyE m c t h0 h1 h2
      · exact bodyC m c t h0 h1 h2
  · by_cases h1 : t.val % 4 = 0
    · exact bodyA m c t h0 h1 (by omega)
    · exact bodyB m c t h0 h1 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

variable (ρ : Dev nD → PrngReg)

set_option backward.isDefEq.respectTransparency.types false in
/-- The launch: every fair run ends, with the windows' arrays at what the points leave, the packed gradient at `D`, every
other buffer as it was, and every counter back at zero. -/
theorem run_main : θ_run defs (onTc (τ := τ) (main (F := F))) (s₀ m ρ)
    (fun r => (Pipeline.FramePostRG cfgs (dats m) 0 R0 (V m) (G m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (G := G m) (hmain := hmain m Variants.none) (hA := A_eq m)
    (hin := hin m) (hout := hout m)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1.toR) (run_main m ρ)))
    ((θ_run defs _ _).mono (fun _ h => h.2) (run_main m ρ))

end Cert.KernelIdeal.Ret
end
-- ==== Proof.Ret.Bits.lean ====
module

public import proofs.«01_k».proof.Defs
public import proofs.«01_k».proof.Proof.Ret.Body
public import proofs.«01_k».proof.Proof.Gen.Kernel

/-! # The kernel at the bit values

The idealized program is the kernel's own text, so the one run over any float values is, at the bit values, the
kernel's. -/

@[expose] public section

set_option maxRecDepth 16384
set_option maxHeartbeats 8000000

noncomputable section

namespace Cert.KernelIdeal.Ret

open Idealize.ShloMosaic Idealize.SL.Sem

/-- The two programs' kernel functions are one. -/
theorem cc0_bits : Cert.Kernel.cc0_retention_bwd (F := Bits) = Cert.KernelIdeal.cc0_retention_bwd (F := Bits) := by rfl

/-- So are their body tables. -/
theorem defs₀_bits : Cert.Kernel.defs₀ (F := Bits) = Cert.KernelIdeal.defs₀ (F := Bits) := by
  funext p ℓ a
  cases p with
  | tc =>
    match ℓ, a with
    | 0, (t, s) =>
      show Cert.Kernel.cc0_retention_bwd (F := Bits) _ _ _ _ _ _ _ _ _ _ _ _ _ _ _ _ _ _ _ _ _ _ _ _ _ _ _ _ _ _ _ _ _ _ _ _ _ _ = _
      rw [cc0_bits]
      rfl
    | ⟨_ + 1, h⟩, _ => exact absurd h (Nat.not_lt.2 (Nat.le_add_left _ _))
  | scScalar _ => rfl
  | scVector _ _ => rfl

theorem defs_bits : Cert.Kernel.defs (F := Bits) = Cert.KernelIdeal.defs (F := Bits) :=
  congrArg (Pipeline.defs (Cert.Kernel.pcfgs (F := Bits))) defs₀_bits

theorem main_bits : Cert.Kernel.main (F := Bits) = Cert.KernelIdeal.main (F := Bits) := by rfl

/-- A run is carried along equal programs. -/
theorem same_run {D₁ D₂ : Defs Cert.Kernel.nD Cert.Kernel.τ Cert.Kernel.sig (Elt Bits) (Pipeline.Sig Cert.Kernel.Λ₀ (Fin 1) fun p => (Cert.Kernel.pcfgs (F := Bits) p).Adm)}
    {M₁ M₂ : Dev Cert.Kernel.nD → Prog (TpuEff Cert.Kernel.nD Cert.Kernel.τ Cert.Kernel.sig (Elt Bits) (Pipeline.Sig Cert.Kernel.Λ₀ (Fin 1) fun p => (Cert.Kernel.pcfgs (F := Bits) p).Adm) .tc) PUnit}
    (hD : D₁ = D₂) (hM : M₁ = M₂) {s} {Q}
    (h : θ_run D₂ (onTc (τ := Cert.Kernel.τ) M₂) s Q) : θ_run D₁ (onTc (τ := Cert.Kernel.τ) M₁) s Q := by
  subst hD; subst hM; exact h

theorem frame_kernel : Cert.quiescent_Kernel := fun m ρ _ =>
  same_run defs_bits main_bits (Cert.KernelIdeal.Ret.frame (F := Bits) m ρ)

end Cert.KernelIdeal.Ret
end
-- ==== Proof.Val.Windows.lean ====
module

public import proofs.«01_k».proof.Proof.Ret.Ring
public import Idealize.ShloMosaic.Lib.Pointwise
public import Idealize.ShloMosaic.Lib.Pipeline.ValueKit

/-! # What each window's block holds, at an index -/

@[expose] public section

set_option maxRecDepth 16384

noncomputable section

namespace Cert.KernelIdeal.Ret
open Cert.KernelIdeal Cert.KernelIdeal.Gen Idealize.ShloMosaic Idealize.ShloMosaic.TcCoe Idealize.SL.Sem Idealize.ShloMosaic.StableHlo

theorem idx : ∀ t : Fin cfg0.N, win0_0.index t = ![3 - t.val % 4, t.val / 4] ∧ win0_1.index t = ![3 - t.val % 4, 8 + t.val / 4]
    ∧ win0_2.index t = ![3 - t.val % 4, 16 + t.val / 4] ∧ win0_3.index t = ![3 - t.val % 4, 24 + t.val / 4]
    ∧ win0_4.index t = ![3 - t.val % 4, 0] ∧ win0_5.index t = ![3 - t.val % 4, 0]
    ∧ win0_6.index t = ![t.val / 4, 0, 0] ∧ win0_7.index t = ![t.val / 4, 0, 0] ∧ win0_8.index t = ![t.val / 4, 0, 0]
    ∧ win0_9.index t = ![t.val / 4, 0, 0] ∧ win0_10.index t = ![0, t.val / 4] ∧ win0_11.index t = ![3 - t.val % 4, t.val / 4]
    ∧ win0_12.index t = ![t.val / 4, 3 - t.val % 4, 0, 0] ∧ win0_13.index t = ![3 - t.val % 4, t.val / 4]
    ∧ win0_14.index t = ![t.val / 4, 0, 0] :=
  (by decide +kernel : ∀ t : Fin grid0.N, _)

theorem t_lt (t : Fin cfg0.N) : t.val < 32 := N_0 ▸ t.isLt

variable (m : (ℓ : Loc nD τ sig) → Buf (Elt Ideal) ℓ) (c : Dev nD) (t : Fin cfg0.N)

/-- The head of step `t`. -/
def hOf : Fin 8 := ⟨t.val / 4, by have := t_lt t; omega⟩
/-- The row of the array that is row `R` of step `t`'s block. -/
def rowOf (R : Fin 1024) : Fin 4096 := ⟨1024 * (3 - t.val % 4) + R.val, by omega⟩
/-- The column of an array that is column `d` of step `t`'s block, `o` columns on. -/
def colOf {w : ℕ} (o : ℕ) (hw : o + 1024 ≤ w) (d : Fin 128) : Fin w := ⟨o + (t.val / 4 * 128 + d.val), by have := t_lt t; omega⟩

theorem iblk0 (R : Fin 1024) (d : Fin 128) :
    iblk m c 0 t (ix2 R d) = V m c main_arg0 (ix2 (rowOf t R) (colOf t 0 (by norm_num) d)) := by
  blk_ext [iblk, idx t, rowOf, colOf]
theorem iblk1 (R : Fin 1024) (d : Fin 128) :
    iblk m c 1 t (ix2 R d) = V m c main_arg0 (ix2 (rowOf t R) (colOf t 1024 (by norm_num) d)) := by
  blk_ext [iblk, idx t, rowOf, colOf]
theorem iblk2 (R : Fin 1024) (d : Fin 128) :
    iblk m c 2 t (ix2 R d) = V m c main_arg0 (ix2 (rowOf t R) (colOf t 2048 (by norm_num) d)) := by
  blk_ext [iblk, idx t, rowOf, colOf]
theorem iblk3 (R : Fin 1024) (d : Fin 128) :
    iblk m c 3 t (ix2 R d) = V m c main_arg0 (ix2 (rowOf t R) (colOf t 3072 (by norm_num) d)) := by
  blk_ext [iblk, idx t, rowOf, colOf]
theorem iblk4 (R : Fin 1024) (d : Fin 128) : iblk m c 4 t (ix2 R d) = V m c main_v14 (ix2 (rowOf t R) d) := by
  blk_ext [iblk, idx t, rowOf]
theorem iblk5 (R : Fin 1024) (d : Fin 128) : iblk m c 5 t (ix2 R d) = V m c main_v16 (ix2 (rowOf t R) d) := by
  blk_ext [iblk, idx t, rowOf]
theorem iblk6 (R : Fin 256) (d : Fin 256) : iblk m c 6 t (ix3 0 R d) = V m c main_v83 (ix3 (hOf t) R d) := by
  blk_ext [iblk, idx t, hOf]
theorem iblk7 (R : Fin 1024) (d : Fin 128) : iblk m c 7 t (ix3 0 R d) = V m c main_v63 (ix3 (hOf t) R d) := by
  blk_ext [iblk, idx t, hOf]
theorem iblk8 (R : Fin 1024) (d : Fin 128) : iblk m c 8 t (ix3 0 R d) = V m c main_v69 (ix3 (hOf t) R d) := by
  blk_ext [iblk, idx t, hOf]
theorem iblk9 (R : Fin 1) (d : Fin 128) : iblk m c 9 t (ix3 0 R d) = V m c main_v71 (ix3 (hOf t) R d) := by
  blk_ext [iblk, idx t, hOf]
theorem iblk10 (d : Fin 128) : iblk m c 10 t (ix2 0 d) = V m c main_arg1 (ix2 0 (colOf t 0 (by norm_num) d)) := by
  blk_ext [iblk, idx t, colOf]
theorem iblk11 (R : Fin 1024) (d : Fin 128) :
    iblk m c 11 t (ix2 R d) = V m c main_arg2 (ix2 (rowOf t R) (colOf t 0 (by norm_num) d)) := by
  blk_ext [iblk, idx t, rowOf, colOf]
theorem iblk13 (R : Fin 1024) (d : Fin 128) :
    iblk m c 13 t (ix2 R d) = V m c main_arg4 (ix2 (rowOf t R) (colOf t 0 (by norm_num) d)) := by
  blk_ext [iblk, idx t, rowOf, colOf]
theorem iblk12 (n : Fin 16) (d e : Fin 128) : iblk m c 12 t (ix4 0 n d e)
    = V m c main_arg3 (ix4 (hOf t) ⟨16 * (3 - t.val % 4) + n.val, by omega⟩ d e) := by
  blk_ext [iblk, idx t, hOf]

end Cert.KernelIdeal.Ret
end
-- ==== Proof.Val.Norm.lean ====
module

public import Idealize.ShloMosaic.PureOps.Ideal
public import Idealize.ShloMosaic.Lib.Pointwise

/-! # The group norm of one row and its derivative, over the extended reals

A row of one head is a function on the 128 columns. `dyK` is the derivative as the kernel computes it, `dyR` as the chain
rule gives it operation by operation; on finite rows they are one function (`dyR_eq_dyK`). The gate's derivative has two
forms in the same way (`gate_eq`). -/

@[expose] public section

noncomputable section

namespace Cert.Val

open Idealize.ShloMosaic

/-- A function all of whose values are finite. -/
def Fin' {ι : Type} (f : ι → EReal) : Prop := ∃ g : ι → ℝ, f = fun i => (g i : EReal)

/-- The mean of a row. -/
def mean (y : Fin 128 → EReal) : EReal := Ideal.div (∑ x, y x) (Ideal.ofBits FTy.f32 1124073472#32)
/-- The row without its mean. -/
def cen (y : Fin 128 → EReal) (d : Fin 128) : EReal := y d - mean y
/-- The row's variance and the norm's small constant. -/
def var (y : Fin 128 → EReal) : EReal := mean (fun x => cen y x * cen y x) + Ideal.ofBits FTy.f32 925353388#32
/-- The normalised row. -/
def nrm (y : Fin 128 → EReal) (d : Fin 128) : EReal := cen y d * Ideal.rsqrt (var y)

/-- The cotangent `a` of the normalised row brought back to the row, as the kernel does it. -/
def dyK (y a : Fin 128 → EReal) (d : Fin 128) : EReal :=
  Ideal.rsqrt (var y) * (a d - mean a - nrm y d * mean (fun x => a x * nrm y x))

/-- The share of the variance in the derivative. -/
def dvarR (y a : Fin 128 → EReal) : EReal :=
  Ideal.div ((∑ x, cen y x * a x) * (Ideal.ofBits FTy.f32 3204448256#32 * Ideal.div (Ideal.rsqrt (var y)) (var y)))
    (Ideal.ofBits FTy.f32 1124073472#32)

/-- The same cotangent brought back by the chain rule. -/
def dyR (y a : Fin 128 → EReal) (d : Fin 128) : EReal :=
  a d * Ideal.rsqrt (var y) + dvarR y a * (Ideal.ofBits FTy.f32 1073741824#32 * cen y d)
    + Ideal.div (∑ x, -(a x * Ideal.rsqrt (var y)) + ∑ x, -(dvarR y a * (Ideal.ofBits FTy.f32 1073741824#32 * cen y x)))
      (Ideal.ofBits FTy.f32 1124073472#32)

theorem c128 : Ideal.ofBits FTy.f32 1124073472#32 = ((128 : ℝ) : EReal) := by
  simp [Ideal.ofBits, Ideal.ieee, -EReal.coe_mul]; norm_num
theorem c2 : Ideal.ofBits FTy.f32 1073741824#32 = ((2 : ℝ) : EReal) := by
  simp [Ideal.ofBits, Ideal.ieee, -EReal.coe_mul]; norm_num
theorem cmhalf : Ideal.ofBits FTy.f32 3204448256#32 = ((-(1/2) : ℝ) : EReal) := by
  simp [Ideal.ofBits, Ideal.ieee, -EReal.coe_mul]; norm_num
theorem ceps : ∃ e : ℝ, 0 < e ∧ Ideal.ofBits FTy.f32 925353388#32 = (e : EReal) :=
  ⟨10995116 * 2 ^ (-40 : ℤ), by norm_num, by simp [Ideal.ofBits, Ideal.ieee, -EReal.coe_mul]⟩

theorem sum_coe {n : ℕ} (f : Fin n → ℝ) : (∑ x, (f x : EReal)) = ((∑ x, f x : ℝ) : EReal) := by
  induction (Finset.univ : Finset (Fin n)) using Finset.induction_on with
  | empty => simp
  | insert a s h ih => rw [Finset.sum_insert h, Finset.sum_insert h, ih, EReal.coe_add]

theorem mean_coe (f : Fin 128 → ℝ) : mean (fun x => (f x : EReal)) = (((∑ x, f x) / 128 : ℝ) : EReal) := by
  unfold mean
  rw [sum_coe, c128, Ideal.div_coe (by norm_num), ← EReal.coe_mul]
  congr 1; ring

/-- What the finite row's centre, variance and normal form are. -/
theorem parts (Y : Fin 128 → ℝ) : ∃ (C : Fin 128 → ℝ) (v s : ℝ), (∑ x, C x = 0) ∧ v ≠ 0 ∧ s * s * v = 1
    ∧ (cen (fun x => (Y x : EReal)) = fun x => (C x : EReal)) ∧ var (fun x => (Y x : EReal)) = (v : EReal)
    ∧ Ideal.rsqrt (v : EReal) = (s : EReal) := by
  obtain ⟨e, he, hc⟩ := ceps
  have h1 : (cen (fun x => (Y x : EReal)) = fun x => ((Y x - (∑ x, Y x) / 128 : ℝ) : EReal)) := by
    funext d; unfold cen; rw [mean_coe, ← EReal.coe_sub]
  set C : Fin 128 → ℝ := fun x => Y x - (∑ x, Y x) / 128 with hC
  have hp : 0 < (∑ x, C x * C x) / 128 + e :=
    add_pos_of_nonneg_of_pos (div_nonneg (Finset.sum_nonneg fun x _ => mul_self_nonneg _) (by norm_num)) he
  refine ⟨C, (∑ x, C x * C x) / 128 + e, (Real.sqrt ((∑ x, C x * C x) / 128 + e))⁻¹, ?_, hp.ne', ?_, h1, ?_, ?_⟩
  · rw [hC]; simp [Finset.sum_sub_distrib]; ring
  · have := Real.mul_self_sqrt hp.le
    have h0 : Real.sqrt ((∑ x, C x * C x) / 128 + e) ≠ 0 := (Real.sqrt_pos.mpr hp).ne'
    nth_rewrite 3 [← this]
    field_simp
  · unfold var; rw [h1, hc]
    simp only [← EReal.coe_mul]
    rw [mean_coe (fun x => C x * C x), ← EReal.coe_add]
  · rw [Ideal.rsqrt_coe, if_neg (not_lt.mpr hp.le), if_neg hp.ne']

theorem dyR_eq_dyK {y a : Fin 128 → EReal} (hy : Fin' y) (ha : Fin' a) : dyR y a = dyK y a := by
  obtain ⟨Y, rfl⟩ := hy
  obtain ⟨A, rfl⟩ := ha
  obtain ⟨C, v, s, h0, hv, hs, h1, h2, h3⟩ := parts Y
  funext d
  unfold dyR dyK dvarR nrm
  rw [h1, h2, h3, c2, cmhalf, c128, Ideal.div_coe hv]
  simp only [← EReal.coe_mul, ← EReal.coe_neg, mean_coe, sum_coe, ← EReal.coe_sub]
  rw [Ideal.div_coe (by norm_num)]
  simp only [← EReal.coe_mul, ← EReal.coe_neg, mean_coe, sum_coe, ← EReal.coe_sub, ← EReal.coe_add]
  rw [Ideal.div_coe (by norm_num)]
  simp only [← EReal.coe_mul, ← EReal.coe_neg, mean_coe, sum_coe, ← EReal.coe_sub, ← EReal.coe_add]
  congr 1
  have hv' : 1 / v = s * s := by field_simp; linarith
  simp only [hv', Finset.sum_neg_distrib, ← Finset.mul_sum, ← Finset.sum_mul, h0, mul_zero, neg_zero]
  have e1 : ∑ x, A x * (C x * s) = (∑ x, C x * A x) * s := by
    rw [Finset.sum_mul]; exact Finset.sum_congr rfl fun x _ => by ring
  rw [e1]
  ring

/-- The normalised row is finite. -/
theorem nrm_fin {y : Fin 128 → EReal} (hy : Fin' y) : Fin' (nrm y) := by
  obtain ⟨Y, rfl⟩ := hy
  obtain ⟨C, v, s, h0, hv, hs, h1, h2, h3⟩ := parts Y
  refine ⟨fun d => C d * s, ?_⟩
  funext d; unfold nrm; rw [h1, h2, h3, ← EReal.coe_mul]

/-- The gate's derivative in its two forms. -/
theorem gate_eq (c z w t : ℝ) :
    (c * (z * w) : EReal) * Ideal.logistic t + t * (c * (z * w)) * (Ideal.logistic t * (1 - Ideal.logistic t))
      = c * (z * w) * (Ideal.logistic t * (1 + t * (1 - Ideal.logistic t))) := by
  rw [Ideal.logistic_coe]
  simp only [← EReal.coe_mul, ← EReal.coe_one, ← EReal.coe_add, ← EReal.coe_sub]
  congr 1; ring

/-- A product of finite values is finite. -/
theorem Fin'.mul {ι : Type} {f g : ι → EReal} (hf : Fin' f) (hg : Fin' g) : Fin' (fun i => f i * g i) := by
  obtain ⟨F, rfl⟩ := hf; obtain ⟨G, rfl⟩ := hg
  exact ⟨fun i => F i * G i, by simp only [EReal.coe_mul]⟩
theorem Fin'.logistic {ι : Type} {f : ι → EReal} (hf : Fin' f) : Fin' (fun i => Ideal.logistic (f i)) := by
  obtain ⟨F, rfl⟩ := hf
  exact ⟨fun i => (1 + Real.exp (-F i))⁻¹, funext fun i => Ideal.logistic_coe _⟩

end Cert.Val
end
-- ==== Proof.Val.Spec.lean ====
module

public import proofs.«01_k».proof.Proof.Val.Norm

/-! # The gradients of one head of the retention

Every definition is over arrays read at natural-number rows, so that the two programs' tilings meet on the same terms. -/

@[expose] public section

noncomputable section

namespace Cert.Val

open Idealize.ShloMosaic

/-- A matrix read at natural numbers. -/
def get2 {m n : ℕ} (x : Fin m → Fin n → EReal) (r k : ℕ) : EReal := if h : r < m ∧ k < n then x ⟨r, h.1⟩ ⟨k, h.2⟩ else 0

theorem get2_eq {m n : ℕ} (x : Fin m → Fin n → EReal) (a : Fin m) (b : Fin n) : x a b = get2 x a.val b.val := by
  rw [get2, dif_pos ⟨a.isLt, b.isLt⟩]

/-- A natural number as a float. -/
def nat (k : ℕ) : EReal := FloatOps.sitofp (F := Ideal) FTy.f32 (BitVec.ofNat 32 k)

/-- The angle of row `r` at frequency `j`. -/
def ang (r j : ℕ) : EReal :=
  nat r * Ideal.pow (Ideal.ofBits FTy.f32 1176256512#32) (Ideal.div (-nat j) (Ideal.ofBits FTy.f32 1115684864#32))

/-- A row of a head rotated. -/
def rot (f : ℕ → EReal) (r d : ℕ) : EReal :=
  if d < 64 then f d * Ideal.cos (ang r d) - f (d + 64) * Ideal.sin (ang r d)
  else f (d - 64) * Ideal.sin (ang r (d - 64)) + f d * Ideal.cos (ang r (d - 64))

/-- The gradient of a rotated row rotated back. -/
def unrot (f : ℕ → EReal) (r d : ℕ) : EReal :=
  if d < 64 then f (d + 64) * Ideal.sin (ang r d) + f d * Ideal.cos (ang r d)
  else f d * Ideal.cos (ang r (d - 64)) + -f (d - 64) * Ideal.sin (ang r (d - 64))

/-- The logarithm of head `h`'s decay. -/
def lg (h : ℕ) : EReal :=
  Ideal.log1p (-Ideal.exp (Ideal.ofBits FTy.f32 1060205080#32 * -(Ideal.ofBits FTy.f32 1084227584#32 + nat h)))

/-- The decay between two rows of a chunk. -/
def dc (h i j : ℕ) : EReal := Ideal.exp (lg h * FloatOps.absf (F := Ideal) (φ := FTy.f32) (nat i - nat j))
/-- The decay of a query from the start of its chunk. -/
def qd (h i : ℕ) : EReal := Ideal.exp (lg h * (nat i + 1))
/-- The decay of a key to the end of its chunk. -/
def kd (h i : ℕ) : EReal := Ideal.exp (lg h * (Ideal.ofBits FTy.f32 1115422720#32 - nat i))
/-- The decay over a whole chunk. -/
def cd (h : ℕ) : EReal := Ideal.exp (lg h * Ideal.ofBits FTy.f32 1115684864#32)

/-- The scale of the keys. -/
def scl : EReal := Ideal.ofBits FTy.f32 1035273459#32

/-- One head: the rotated queries and keys, the values, the cotangent of the head's output, and the states before the chunks. -/
structure Head where
  Q : ℕ → ℕ → EReal
  K : ℕ → ℕ → EReal
  V : ℕ → ℕ → EReal
  DY : ℕ → ℕ → EReal
  P : ℕ → ℕ → ℕ → EReal
  h : ℕ

namespace Head
variable (H : Head)

/-- What chunk `n` adds to the gradient of the state before it. -/
def dP (n d e : ℕ) : EReal := ∑ i : Fin 64, H.Q (n * 64 + i.val) d * qd H.h i.val * H.DY (n * 64 + i.val) e

/-- The gradient of the state after chunk `63 − k`. -/
def S : ℕ → ℕ → ℕ → EReal
  | 0, _, _ => 0
  | k + 1, d, e => H.dP (63 - k) d e + cd H.h * S k d e

/-- The product of row `R` of `A` with its chunk's rows of `B`, decayed, into the rows of `C`. -/
def intra (A B C : ℕ → ℕ → EReal) (R e : ℕ) : EReal :=
  ∑ i : Fin 64, (∑ k : Fin 128, A R k.val * B (R / 64 * 64 + i.val) k.val) * dc H.h (R % 64) i.val * C (R / 64 * 64 + i.val) e

/-- The values' gradient. -/
def dV (R e : ℕ) : EReal :=
  (∑ d : Fin 128, H.K R d.val * kd H.h (R % 64) * H.S (63 - R / 64) d.val e) + H.intra H.K H.Q H.DY R e
/-- The rotated queries' gradient. -/
def dQ (R d : ℕ) : EReal :=
  (∑ e : Fin 128, H.DY R e.val * H.P (R / 64) d e.val) * qd H.h (R % 64) + H.intra H.DY H.V H.K R d
/-- The rotated and scaled keys' gradient. -/
def dK (R d : ℕ) : EReal :=
  (∑ e : Fin 128, H.V R e.val * H.S (63 - R / 64) d e.val) * kd H.h (R % 64) + H.intra H.V H.DY H.Q R d

end Head

/-- The arguments: the projections, the norm's weight, the head outputs and states saved by the forward pass, and the
cotangent. -/
structure Args where
  x0 : Fin 4096 → Fin 7168 → EReal
  x1 : Fin 1 → Fin 1024 → EReal
  x2 : Fin 4096 → Fin 1024 → EReal
  x3 : Fin 8 → Fin 64 → Fin 128 → Fin 128 → EReal
  x4 : Fin 4096 → Fin 2048 → EReal

namespace Args
variable (A : Args)

/-- The head's output at row `r`. -/
def yr (h r : ℕ) (d : Fin 128) : EReal := get2 A.x2 r (h * 128 + d.val)
/-- The gate at row `r`. -/
def gt (h r : ℕ) (d : Fin 128) : EReal := get2 A.x0 r (3072 + (h * 128 + d.val))
/-- The cotangent at row `r`. -/
def ct (h r : ℕ) (d : Fin 128) : EReal := get2 A.x4 r (h * 128 + d.val)
/-- The norm's weight. -/
def gn (h : ℕ) (d : Fin 128) : EReal := get2 A.x1 0 (h * 128 + d.val)

/-- The cotangent of the normalised head output. -/
def az (h r : ℕ) (d : Fin 128) : EReal := A.ct h r d * (A.gt h r d * Ideal.logistic (A.gt h r d)) * A.gn h d

/-- The gate's gradient. -/
def dg (h r : ℕ) (d : Fin 128) : EReal :=
  A.ct h r d * (nrm (A.yr h r) d * A.gn h d) *
    (Ideal.logistic (A.gt h r d) * (1 + A.gt h r d * (1 - Ideal.logistic (A.gt h r d))))

/-- Row `r`'s share of the gradient of the norm's weight. -/
def dgn (h r : ℕ) (d : Fin 128) : EReal := A.ct h r d * (A.gt h r d * Ideal.logistic (A.gt h r d)) * nrm (A.yr h r) d

/-- The cotangent of the head's output. -/
def dy (h r : ℕ) (d : Fin 128) : EReal := dyK (A.yr h r) (A.az h r) d

/-- Head `h`. -/
def head (h : ℕ) : Head where
  Q r d := rot (fun k => get2 A.x0 r (h * 128 + k)) r d
  K r d := rot (fun k => get2 A.x0 r (1024 + (h * 128 + k))) r d * scl
  V r d := get2 A.x0 r (2048 + (h * 128 + d))
  DY r d := if hd : d < 128 then A.dy h r ⟨d, hd⟩ else 0
  P n d e := if hx : (h < 8 ∧ n < 64) ∧ d < 128 ∧ e < 128 then A.x3 ⟨h, hx.1.1⟩ ⟨n, hx.1.2⟩ ⟨d, hx.2.1⟩ ⟨e, hx.2.2⟩ else 0
  h := h

theorem head_Q (h r d : ℕ) : (A.head h).Q r d = rot (fun k => get2 A.x0 r (h * 128 + k)) r d := rfl
theorem head_K (h r d : ℕ) : (A.head h).K r d = rot (fun k => get2 A.x0 r (1024 + (h * 128 + k))) r d * scl := rfl
theorem head_V (h r d : ℕ) : (A.head h).V r d = get2 A.x0 r (2048 + (h * 128 + d)) := rfl

theorem head_P {h n d e : ℕ} (hh : h < 8) (hn : n < 64) (hd : d < 128) (he : e < 128) :
    (A.head h).P n d e = A.x3 ⟨h, hh⟩ ⟨n, hn⟩ ⟨d, hd⟩ ⟨e, he⟩ := by
  unfold head; exact dif_pos ⟨⟨hh, hn⟩, hd, he⟩

theorem head_DY (h r : ℕ) (d : Fin 128) : (A.head h).DY r d.val = A.dy h r d := by
  unfold head; exact dif_pos d.isLt

/-- The first four blocks of columns of the gradient of the projections. -/
def out (r k : ℕ) : EReal :=
  let h := k % 1024 / 128
  let d := k % 128
  if k < 1024 then unrot (fun d => (A.head h).dQ r d) r d
  else if k < 2048 then unrot (fun d => (A.head h).dK r d * scl) r d
  else if k < 3072 then (A.head h).dV r d
  else A.dg h r ⟨d, Nat.mod_lt _ (by norm_num)⟩

/-- The gradient of the norm's weight. -/
def outg (h : ℕ) (d : Fin 128) : EReal := ∑ r : Fin 4096, A.dgn h r.val d

end Args
end Cert.Val
end
-- ==== Proof.Val.SpecMath.lean ====
module

public import proofs.«01_k».proof.Proof.Val.Spec

/-! # The decays are real, and the state gradients as weighted sums -/

@[expose] public section

noncomputable section

namespace Cert.Val

open Idealize.ShloMosaic

theorem nat_coe {k : ℕ} (h : k < 2 ^ 31) : nat k = ((k : ℝ) : EReal) := by
  have e : (BitVec.ofNat 32 k).toInt = (k : ℤ) := by
    rw [BitVec.toInt_eq_toNat_of_lt (by rw [BitVec.toNat_ofNat]; omega), BitVec.toNat_ofNat]; omega
  show (((BitVec.ofNat 32 k).toInt : ℝ) : EReal) = _
  rw [e]; norm_cast

theorem c64 : Ideal.ofBits FTy.f32 1115684864#32 = ((64 : ℝ) : EReal) := by
  simp [Ideal.ofBits, Ideal.ieee, -EReal.coe_mul]; norm_num

theorem c5 : Ideal.ofBits FTy.f32 1084227584#32 = ((5 : ℝ) : EReal) := by
  simp [Ideal.ofBits, Ideal.ieee, -EReal.coe_mul]; norm_num

theorem cln2 : ∃ c : ℝ, 0 < c ∧ Ideal.ofBits FTy.f32 1060205080#32 = (c : EReal) :=
  ⟨11629080 * 2 ^ (-24 : ℤ), by norm_num, by simp [Ideal.ofBits, Ideal.ieee, -EReal.coe_mul]⟩

/-- A head's decay has a real logarithm. -/
theorem lg_coe {h : ℕ} (hh : h < 8) : ∃ L : ℝ, lg h = (L : EReal) := by
  obtain ⟨c, hc, e⟩ := cln2
  have hx : Real.exp (c * -(5 + (h : ℝ))) < 1 := by
    rw [Real.exp_lt_one_iff]
    have : (0 : ℝ) ≤ h := Nat.cast_nonneg h
    nlinarith
  refine ⟨Real.log (1 + -Real.exp (c * -(5 + (h : ℝ)))), ?_⟩
  unfold lg
  rw [e, c5, nat_coe (by omega), ← EReal.coe_add, ← EReal.coe_neg, ← EReal.coe_mul, Ideal.exp_coe, ← EReal.coe_neg]
  unfold Ideal.log1p
  rw [← EReal.coe_one, ← EReal.coe_add, Ideal.log_coe, if_neg (by linarith)]

theorem dc_symm (h : ℕ) {i j : ℕ} (hi : i < 64) (hj : j < 64) : dc h i j = dc h j i := by
  unfold dc
  congr 2
  rw [nat_coe (by omega), nat_coe (by omega), ← EReal.coe_sub, ← EReal.coe_sub]
  show max (((_ : ℝ)) : EReal) (-(((_ : ℝ)) : EReal)) = max (((_ : ℝ)) : EReal) (-(((_ : ℝ)) : EReal))
  rw [← EReal.coe_neg, ← EReal.coe_neg, neg_sub, neg_sub, max_comm]

/-- How much of what chunk `x` adds reaches the gradient of the state after chunk `n`. -/
def wt (h x n : ℕ) : EReal :=
  if 0 ≤ nat x - nat n - 1 then Ideal.exp (lg h * Ideal.ofBits FTy.f32 1115684864#32 * (nat x - nat n - 1)) else 0

/-- A finite nonnegative factor goes into a sum. -/
theorem mul_sum' {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem wt_coe {h : ℕ} {L : ℝ} (hL : lg h = (L : EReal)) {x n : ℕ} (hx : x < 64) (hn : n < 64) :
    wt h x n = if n + 1 ≤ x then ((Real.exp (L * 64 * ((x : ℝ) - n - 1)) : ℝ) : EReal) else 0 := by
  unfold wt
  rw [hL, c64, nat_coe (by omega), nat_coe (by omega), ← EReal.coe_sub, ← EReal.coe_one, ← EReal.coe_sub, ← EReal.coe_mul, ← EReal.coe_mul, Ideal.exp_coe]
  have : (0 ≤ (((x : ℝ) - n - 1 : ℝ) : EReal)) ↔ n + 1 ≤ x := by
    rw [← EReal.coe_zero, EReal.coe_le_coe_iff, sub_sub, sub_nonneg]; exact_mod_cast Iff.rfl
  simp only [this]

theorem cd_coe {h : ℕ} {L : ℝ} (hL : lg h = (L : EReal)) : cd h = ((Real.exp (L * 64) : ℝ) : EReal) := by
  unfold cd; rw [hL, c64, ← EReal.coe_mul, Ideal.exp_coe]

/-- One chunk earlier the weights are one factor smaller, and the chunk itself comes in. -/
theorem wt_step {h : ℕ} {L : ℝ} (hL : lg h = (L : EReal)) {x n : ℕ} (hx : x < 64) (hn : n + 1 < 64) :
    wt h x n = (if x = n + 1 then 1 else 0) + cd h * wt h x (n + 1) := by
  rw [wt_coe hL hx (by omega), wt_coe hL hx hn, cd_coe hL]
  rcases Nat.lt_trichotomy x (n + 1) with hlt | heq | hgt
  · rw [if_neg (by omega), if_neg (by omega), if_neg (by omega)]; simp
  · subst heq
    rw [if_pos (by omega), if_pos rfl, if_neg (by omega)]
    simp
  · rw [if_pos (by omega), if_neg (by omega), if_pos (by omega), zero_add, ← EReal.coe_mul, ← Real.exp_add]
    congr 2; push_cast; ring

/-- The gradient of the state after chunk `n` is a weighted sum of what the later chunks add. -/
theorem Head.S_eq (H : Head) (hh : H.h < 8) (k : ℕ) (hk : k < 64) (d e : ℕ) :
    H.S k d e = ∑ x : Fin 64, H.dP x.val d e * wt H.h x.val (63 - k) := by
  obtain ⟨L, hL⟩ := lg_coe hh
  induction k with
  | zero =>
    refine (Finset.sum_eq_zero fun x _ => ?_).symm
    rw [wt_coe hL x.isLt (by omega), if_neg (by omega), mul_zero]
  | succ k ih =>
    show H.dP (63 - k) d e + cd H.h * H.S k d e = _
    obtain ⟨n, hn⟩ : ∃ n, 63 - k = n + 1 := ⟨62 - k, by omega⟩
    rw [ih (by omega), hn, show 63 - (k + 1) = n by omega, cd_coe hL, mul_sum' _ (Real.exp_pos _).le]
    rw [← Finset.sum_ite_eq' (Finset.univ : Finset (Fin 64)) (⟨n + 1, by omega⟩ : Fin 64) (fun x => H.dP x.val d e) |>.trans (if_pos (Finset.mem_univ _)), ← Finset.sum_add_distrib]
    refine Finset.sum_congr rfl fun x _ => ?_
    rw [wt_step hL x.isLt (n := n) (by omega), cd_coe hL]
    have h0 : 0 ≤ wt H.h x.val (n + 1) := by
      rw [wt_coe hL x.isLt (by omega)]; split
      · exact_mod_cast (Real.exp_pos _).le
      · exact le_refl _
    rw [EReal.left_distrib_of_nonneg (by split <;> simp) (mul_nonneg (by exact_mod_cast (Real.exp_pos _).le) h0)]
    congr 1
    · by_cases hx : x.val = n + 1
      · rw [if_pos hx, if_pos (Fin.ext hx), mul_one]
      · rw [if_neg hx, if_neg (fun e => hx (congrArg Fin.val e)), mul_zero]
    · rw [← mul_assoc, ← mul_assoc, mul_comm ((Real.exp (L * 64) : ℝ) : EReal)]

end Cert.Val
end
-- ==== Proof.Val.Tables.lean ====
module

public import proofs.«01_k».proof.Proof.Ret.Ring
public import proofs.«01_k».proof.Proof.Val.SpecMath
public import Idealize.ShloMosaic.Lib.Pointwise
public import Idealize.ShloMosaic.Lib.StableHlo.ReadAt

/-! # The tables the kernel is handed, at an index -/

@[expose] public section

set_option maxRecDepth 16384

noncomputable section

namespace Cert.Val
open Idealize.ShloMosaic

/-- The cosines, twice over. -/
def cosT (r j : ℕ) : EReal := if j < 64 then Ideal.cos (ang r j) else Ideal.cos (ang r (j - 64))
/-- The sines, the first half negated. -/
def sinT (r j : ℕ) : EReal := if j < 64 then -Ideal.sin (ang r j) else Ideal.sin (ang r (j - 64))

theorem rot_tab (f : ℕ → EReal) (r d : ℕ) (hd : d < 128) : f d * cosT r d + f ((d + 128 - 64) % 128) * sinT r d = rot f r d := by
  unfold rot cosT sinT
  by_cases h : d < 64
  · rw [if_pos h, if_pos h, if_pos h, show (d + 128 - 64) % 128 = d + 64 by omega, mul_neg, sub_eq_add_neg]
  · rw [if_neg h, if_neg h, if_neg h, show (d + 128 - 64) % 128 = d - 64 by omega, add_comm]

theorem unrot_tab (f : ℕ → EReal) (r d : ℕ) (hd : d < 128) :
    f d * cosT r d + f ((d + 128 - 64) % 128) * sinT r ((d + 128 - 64) % 128) = unrot f r d := by
  unfold unrot cosT sinT
  by_cases h : d < 64
  · rw [if_pos h, if_pos h, show (d + 128 - 64) % 128 = d + 64 by omega, if_neg (by omega), show d + 64 - 64 = d by omega, add_comm]
  · rw [if_neg h, if_neg h, show (d + 128 - 64) % 128 = d - 64 by omega, if_pos (by omega), mul_neg, neg_mul]

end Cert.Val

namespace Cert.KernelIdeal.Ret
open Cert.Val Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

theorem V14_at (r : Fin 4096) (j : Fin 128) : V m c main_v14 (ix2 r j) = cosT r.val j.val := by
  unfold V; after_reads_at; rfl
theorem V16_at (r : Fin 4096) (j : Fin 128) : V m c main_v16 (ix2 r j) = sinT r.val j.val := by
  unfold V; after_reads_at; rfl
theorem V63_at (h : Fin 8) (r : Fin 1024) (j : Fin 128) : V m c main_v63 (ix3 h r j) = kd h.val (r.val % 64) := by
  unfold V; after_reads_at; rfl
theorem V69_at (h : Fin 8) (r : Fin 1024) (j : Fin 128) : V m c main_v69 (ix3 h r j) = qd h.val (r.val % 64) := by
  unfold V; after_reads_at; rfl
theorem V71_at (h : Fin 8) (j : Fin 128) : V m c main_v71 (ix3 h 0 j) = cd h.val := by
  unfold V; after_reads_at; rfl

theorem same_chunk : ∀ a b : Fin 4, IntOp.cmpi CmpIPredicate.eq (IntOp.addi (BitVec.ofNat 32 a.val) 0#32) (BitVec.ofNat 32 b.val)
    = if a.val = b.val then 1#1 else 0#1 := by decide

theorem same_chunk_val (a b : Fin 4) : FloatOps.uitofp (F := Ideal) FTy.f32
    (IntOp.cmpi CmpIPredicate.eq (IntOp.addi (BitVec.ofNat 32 a.val) 0#32) (BitVec.ofNat 32 b.val)) = (if a.val = b.val then 1 else 0 : EReal) := by
  rw [same_chunk]
  split
  · show (((1#1).toNat : ℝ) : EReal) = 1; simp
  · show (((0#1).toNat : ℝ) : EReal) = 0; simp

theorem V83_at (h : Fin 8) (r j : Fin 256) :
    V m c main_v83 (ix3 h r j) = ((if r.val / 64 = j.val / 64 then 1 else 0) * dc h.val (r.val % 64) (j.val % 64) : EReal) := by
  rw [← same_chunk_val ⟨r.val / 64, by omega⟩ ⟨j.val / 64, by omega⟩]
  unfold V; after_reads_at; rfl

end Cert.KernelIdeal.Ret
end
-- ==== Proof.Val.GateBlk.lean ====
module

public import proofs.«01_k».proof.Proof.Ret.Block
public import proofs.«01_k».proof.Proof.Val.Norm
public import Idealize.ShloMosaic.Lib.Pointwise

/-! # One block's gate and group norm, at an index -/

@[expose] public section

set_option maxRecDepth 16384

noncomputable section

namespace Cert.KernelIdeal.Ret.Reads

open Cert.Val Cert.KernelIdeal Cert.KernelIdeal.Gen Idealize.ShloMosaic Idealize.ShloMosaic.TcCoe Idealize.SL.Sem Idealize.ShloMosaic.StableHlo

variable (X : Reads Ideal)

/-- The cotangent of the head's output. -/
theorem v109_at (R : Fin 1024) (d : Fin 128) :
    X.v109 (ix2 R d) = dyK (fun x => X.y (ix2 R x))
      (fun x => X.ct (ix2 R x) * (X.gt (ix2 R x) * Ideal.logistic (X.gt (ix2 R x))) * X.gn (ix2 0 x)) d := by
  pointwise [v109, v107, v108, v66, v50, v64, k0_pay23, k0_pay22, k0_pay21, k0_pay18, k0_pay17, k0_pay16, k0_pay15, k0_pay14, k0_pay13]
  rfl

/-- The gate's gradient. -/
theorem dgTile_at (R : Fin 1024) (d : Fin 128) :
    X.dgTile (ix4 0 0 R d) = X.ct (ix2 R d) * (nrm (fun x => X.y (ix2 R x)) d * X.gn (ix2 0 d)) *
      (Ideal.logistic (X.gt (ix2 R d)) * (1 + X.gt (ix2 R d) * (1 - Ideal.logistic (X.gt (ix2 R d))))) := by
  pointwise [dgTile, v49, v66, k0_pay19, k0_pay17, k0_pay16, k0_pay15, k0_pay13]
  rfl

/-- The sum for the norm's weight. -/
theorem accNext_at (d : Fin 128) :
    X.accNext (ix3 0 0 d) = X.acc (ix3 0 0 d) + ∑ R : Fin 1024, X.ct (ix2 R d) * (X.gt (ix2 R d) * Ideal.logistic (X.gt (ix2 R d))) *
      nrm (fun x => X.y (ix2 R x)) d := by
  pointwise [accNext, v50, v66, k0_pay20, k0_pay18, k0_pay17, k0_pay16, k0_pay15, k0_pay14, k0_pay13]
  rfl

end Cert.KernelIdeal.Ret.Reads
end
-- ==== Proof.Val.States.lean ====
module

public import proofs.«01_k».proof.Proof.Ret.Block
public import Idealize.ShloMosaic.Lib.Pointwise

/-! # One block's state gradients and the products with them, at an index

`gs n` is the gradient of the state that chunk `n` of a block leaves, `dp n` what chunk `n` adds to the gradient of the
state it is given. The three arrays made of sixteen chunk products (`v454`, `v389`, `v323`) are read at a row of the block. -/

@[expose] public section

set_option maxRecDepth 16384

noncomputable section

namespace Cert.KernelIdeal.Ret.Reads

open Cert.KernelIdeal Cert.KernelIdeal.Gen Idealize.ShloMosaic Idealize.ShloMosaic.TcCoe Idealize.SL.Sem Idealize.ShloMosaic.StableHlo

variable (X : Reads Ideal)

/-- The gradients of the states after the sixteen chunks. -/
def gs : Fin 16 → FVec Ideal S128x128 .f32 :=
  ![X.v235, X.v232, X.v229, X.v226, X.v223, X.v220, X.v217, X.v214, X.v211, X.v208, X.v205, X.v202, X.v199, X.v196, X.v193, X.st]

/-- The states before the sixteen chunks. -/
def ps : Fin 16 → FVec Ideal S1x1x128x128 .bf16 :=
  ![X.p0, X.p1, X.p2, X.p3, X.p4, X.p5, X.p6, X.p7, X.p8, X.p9, X.p10, X.p11, X.p12, X.p13, X.p14, X.p15]

/-- Row `i` of chunk `n`. -/
def row (n : Fin 16) (i : Fin 64) : Fin 1024 := ⟨64 * n.val + i.val, by omega⟩

/-- What chunk `n` adds to the gradient of the state before it. -/
def dp (n : Fin 16) (d e : Fin 128) : EReal := ∑ i, X.v45 (ix2 (row n i) d) * X.v109 (ix2 (row n i) e)

theorem gs_last : X.gs 15 = X.st := rfl

/-- Each state gradient from the next one. -/
theorem gs_step (n : Fin 15) (d e : Fin 128) :
    X.gs n.castSucc (ix2 d e) = X.dp n.succ d e + X.cd (ix3 0 0 e) * X.gs n.succ (ix2 d e) := by
  have h42 : X.v42 (ix2 0 e) = X.cd (ix3 0 0 e) := by pointwise [v42, k0_pay10]
  rw [← h42]
  fin_cases n
  · show X.v235 (ix2 d e) = _
    pointwise [v235, k0_pay51, v119, k0_pay25]; rfl
  · show X.v232 (ix2 d e) = _
    pointwise [v232, k0_pay50, v124, k0_pay26]; rfl
  · show X.v229 (ix2 d e) = _
    pointwise [v229, k0_pay49, v129, k0_pay27]; rfl
  · show X.v226 (ix2 d e) = _
    pointwise [v226, k0_pay48, v134, k0_pay28]; rfl
  · show X.v223 (ix2 d e) = _
    pointwise [v223, k0_pay47, v139, k0_pay29]; rfl
  · show X.v220 (ix2 d e) = _
    pointwise [v220, k0_pay46, v144, k0_pay30]; rfl
  · show X.v217 (ix2 d e) = _
    pointwise [v217, k0_pay45, v149, k0_pay31]; rfl
  · show X.v214 (ix2 d e) = _
    pointwise [v214, k0_pay44, v154, k0_pay32]; rfl
  · show X.v211 (ix2 d e) = _
    pointwise [v211, k0_pay43, v159, v210, k0_pay42, k0_pay35, v157, v158, cst_66, k0_pay33, k0_pay34]; rfl
  · show X.v208 (ix2 d e) = _
    pointwise [v208, k0_pay41]; rfl
  · show X.v205 (ix2 d e) = _
    pointwise [v205, k0_pay40]; rfl
  · show X.v202 (ix2 d e) = _
    pointwise [v202, k0_pay39]; rfl
  · show X.v199 (ix2 d e) = _
    pointwise [v199, k0_pay38]; rfl
  · show X.v196 (ix2 d e) = _
    pointwise [v196, k0_pay37]; rfl
  · show X.v193 (ix2 d e) = _
    pointwise [v193, k0_pay36]; rfl

/-- The gradient of the state before the block. -/
theorem st_step (d e : Fin 128) : X.stNext (ix2 d e) = X.dp 0 d e + X.cd (ix3 0 0 e) * X.gs 0 (ix2 d e) := by
  have h42 : X.v42 (ix2 0 e) = X.cd (ix3 0 0 e) := by pointwise [v42, k0_pay10]
  rw [← h42]
  have h : X.stNext (ix2 d e) = X.v114 (ix2 d e) + X.v42 (ix2 0 e) * X.v235 (ix2 d e) := by
    pointwise [stNext, k0_pay52]; rfl
  rw [h]
  congr 1
  pointwise [v114, k0_pay24]
  refine Finset.sum_congr rfl fun i _ => ?_
  have e0 : (⟨i.val, by omega⟩ : Fin 1024) = row 0 i := Fin.ext (by simp [row])
  rw [e0]; rfl

/-- Sixteen chunks of 64 rows one below the other, read at a row. -/
theorem cat16 (g : Fin 16 → Fin 64 → Fin 128 → EReal) {a0 a1 a2 a3 a4 a5 a6 a7 a8 a9 a10 a11 a12 a13 a14 a15 : FVec Ideal S64x128 .f32}
    (h : Shape.Concatenates [S64x128, S64x128, S64x128, S64x128, S64x128, S64x128, S64x128, S64x128, S64x128, S64x128, S64x128, S64x128, S64x128, S64x128, S64x128, S64x128] S1024x128 0)
    (n : Fin 16) (i : Fin 64) (e : Fin 128)
    (ha : ∀ (m : Fin 16) (i : Fin 64), (![a0, a1, a2, a3, a4, a5, a6, a7, a8, a9, a10, a11, a12, a13, a14, a15] m : FVec Ideal S64x128 .f32) (ix2 i e) = g m i e) :
    (concatenate S1024x128 0 [⟨S64x128, a0⟩, ⟨S64x128, a1⟩, ⟨S64x128, a2⟩, ⟨S64x128, a3⟩, ⟨S64x128, a4⟩, ⟨S64x128, a5⟩, ⟨S64x128, a6⟩, ⟨S64x128, a7⟩, ⟨S64x128, a8⟩, ⟨S64x128, a9⟩, ⟨S64x128, a10⟩, ⟨S64x128, a11⟩, ⟨S64x128, a12⟩, ⟨S64x128, a13⟩, ⟨S64x128, a14⟩, ⟨S64x128, a15⟩] h : FVec Ideal S1024x128 .f32) (ix2 (row n i) e) = g n i e :=
  (concatenate_ofFn_apply (0 : Fin S1024x128.rank) (fun m : Fin 16 => (![a0, a1, a2, a3, a4, a5, a6, a7, a8, a9, a10, a11, a12, a13, a14, a15] m : FVec Ideal S64x128 .f32))
    h rfl 64 rfl (ix2 (row n i) e) n (by show (64 * n.val + i.val) / 64 = n.val; omega) (ix2 i e)
    (by show i.val = (64 * n.val + i.val) % 64; omega)
    (fun b hb => by fin_cases b; · exact absurd rfl hb
                    · rfl)).trans (ha n i)

/-- The values' gradient through the state gradients. -/
theorem v454_at (n : Fin 16) (i : Fin 64) (e : Fin 128) :
    X.v454 (ix2 (row n i) e) = ∑ d, X.v44 (ix2 (row n i) d) * X.gs n (ix2 d e) := by
  unfold v454 k0_pay87
  refine cat16 (fun n i e => ∑ d, X.v44 (ix2 (row n i) d) * X.gs n (ix2 d e)) _ n i e fun m i => ?_
  have e0 : (⟨i.val, by omega⟩ : Fin 1024) = row 0 i := Fin.ext (by simp [row])
  fin_cases m
  · show X.v393 (ix2 i e) = _
    pointwise [v393, k0_pay82]
    exact Finset.sum_congr rfl fun x _ => congrArg (fun t => X.v44 (ix2 t x) * X.gs 0 (ix2 x e)) e0
  · show X.v397 (ix2 i e) = _
    pointwise [v397, k0_pay83]; rfl
  · show X.v401 (ix2 i e) = _
    pointwise [v401, k0_pay84]; rfl
  · show X.v405 (ix2 i e) = _
    pointwise [v405, k0_pay85]; rfl
  · dsimp only [Fin.reduceFinMk, Matrix.cons_val]
    pointwise [v407, k0_pay86]; rfl
  all_goals
    dsimp only [Fin.reduceFinMk, Matrix.cons_val]
    pointwise
    rfl

/-- The queries' gradient through the states before the chunks. -/
theorem v323_at (n : Fin 16) (i : Fin 64) (d : Fin 128) :
    X.v323 (ix2 (row n i) d) = (∑ e, X.v109 (ix2 (row n i) e) * X.ps n (ix4 0 0 d e)) * X.qd (ix3 0 (row n i) d) := by
  have h40 : X.v40 (ix2 (row n i) d) = X.qd (ix3 0 (row n i) d) := by pointwise [v40, k0_pay9]
  rw [← h40]
  unfold v323 k0_pay70
  refine congrArg (fun a : EReal => a * X.v40 (ix2 (row n i) d))
    (cat16 (fun n i d => ∑ e, X.v109 (ix2 (row n i) e) * X.ps n (ix4 0 0 d e)) _ n i d fun m i => ?_)
  have e0 : (⟨i.val, by omega⟩ : Fin 1024) = row 0 i := Fin.ext (by simp [row])
  fin_cases m
  · show X.v246 (ix2 i d) = _
    pointwise [v246, k0_pay53]
    exact Finset.sum_congr rfl fun x _ => congrArg (fun t => X.v109 (ix2 t x) * X.p0 (ix4 0 0 d x)) e0
  all_goals
    dsimp only [Fin.reduceFinMk, Matrix.cons_val]
    pointwise [v251, k0_pay54, v252, k0_pay55, v256, k0_pay56, v261, k0_pay57, v266, k0_pay58, v271, k0_pay59, v276, k0_pay60,
      v281, k0_pay61, v282, k0_pay62, v286, k0_pay63, v291, k0_pay64, v296, k0_pay65, v301, k0_pay66, v306, k0_pay67, v311, k0_pay68,
      v312, k0_pay69]
    rfl

/-- The keys' gradient through the state gradients. -/
theorem v389_at (n : Fin 16) (i : Fin 64) (d : Fin 128) :
    X.v389 (ix2 (row n i) d) = (∑ e, X.v (ix2 (row n i) e) * X.gs n (ix2 d e)) * X.kd (ix3 0 (row n i) d) := by
  have h38 : X.v38 (ix2 (row n i) d) = X.kd (ix3 0 (row n i) d) := by pointwise [v38, k0_pay8]
  rw [← h38]
  unfold v389 k0_pay81
  refine congrArg (fun a : EReal => a * X.v38 (ix2 (row n i) d))
    (cat16 (fun n i d => ∑ e, X.v (ix2 (row n i) e) * X.gs n (ix2 d e)) _ n i d fun m i => ?_)
  have e0 : (⟨i.val, by omega⟩ : Fin 1024) = row 0 i := Fin.ext (by simp [row])
  fin_cases m
  · show X.v327 (ix2 i d) = _
    pointwise [v327, k0_pay71]
    exact Finset.sum_congr rfl fun x _ => congrArg (fun t => X.v (ix2 t x) * X.gs 0 (ix2 d x)) e0
  all_goals
    dsimp only [Fin.reduceFinMk, Matrix.cons_val]
    pointwise [v331, k0_pay72, v335, k0_pay73, v339, k0_pay74, v343, k0_pay75, v347, k0_pay76, v351, k0_pay77, v355, k0_pay78,
      v357, k0_pay79, v358, k0_pay80, cst_151]
    rfl

end Cert.KernelIdeal.Ret.Reads
end
-- ==== Proof.Val.Inner.lean ====
module

public import proofs.«01_k».proof.Proof.Val.States

/-! # One block's products inside a chunk, at an index

The block's 1024 rows are worked on in four groups of 256; the factor `dec` keeps a row to its own chunk of 64. -/

@[expose] public section

set_option maxRecDepth 16384

noncomputable section

namespace Cert.KernelIdeal.Ret.Reads

open Cert.KernelIdeal Cert.KernelIdeal.Gen Idealize.ShloMosaic Idealize.ShloMosaic.TcCoe Idealize.SL.Sem Idealize.ShloMosaic.StableHlo

variable (X : Reads Ideal)

/-- Row `x` of group `g`. -/
def grow (g : Fin 4) (x : Fin 256) : Fin 1024 := ⟨256 * g.val + x.val, by omega⟩

/-- The product of `A`'s row with the group's rows of `B`, weighted, into the group's rows of `C`. -/
def inner (A B C : FVec Ideal S1024x128 .f32) (g : Fin 4) (r : Fin 256) (e : Fin 128) : EReal :=
  ∑ x, (∑ k, A (ix2 (grow g r) k) * B (ix2 (grow g x) k)) * X.dec (ix3 0 r x) * C (ix2 (grow g x) e)

/-- Four pieces of 256 rows one below the other. -/
theorem ladder (t : Fin 4 → Fin 256 → EReal) (p0 p1 p2 p3 : Fin 256 → EReal) (g : Fin 4) (r : Fin 256)
    (h0 : ∀ i, p0 i = t 0 i) (h1 : ∀ i, p1 i = t 1 i) (h2 : ∀ i, p2 i = t 2 i) (h3 : ∀ i, p3 i = t 3 i)
    (b1 : ¬(grow g r).val < 256 → ¬ (grow g r).val - 256 < 256 → (grow g r).val - 256 - 256 < 256 → True)
    (b3 : ¬(grow g r).val < 256 → ¬ (grow g r).val - 256 < 256 → ¬(grow g r).val - 256 - 256 < 256 →
      (grow g r).val - 256 - 256 - 256 < 256) :
    (if h : (grow g r).val < 256 then p0 ⟨(grow g r).val, h⟩
      else if h1 : (grow g r).val - 256 < 256 then p1 ⟨(grow g r).val - 256, h1⟩
      else if h2 : (grow g r).val - 256 - 256 < 256 then p2 ⟨(grow g r).val - 256 - 256, h2⟩
      else p3 ⟨(grow g r).val - 256 - 256 - 256, b3 h h1 h2⟩) = t g r := by
  have hr := r.isLt
  have e : (grow g r).val = 256 * g.val + r.val := rfl
  match g, e with
  | 0, e =>
    have e : (grow 0 r).val = r.val := e.trans (by simp)
    rw [dif_pos (by omega), h0]; exact congrArg (t 0) (Fin.ext e)
  | 1, e =>
    have e : (grow 1 r).val = 256 + r.val := e
    rw [dif_neg (by omega), dif_pos (by omega), h1]; exact congrArg (t 1) (Fin.ext (by show (grow 1 r).val - 256 = r.val; omega))
  | 2, e =>
    have e : (grow 2 r).val = 512 + r.val := e
    rw [dif_neg (by omega), dif_neg (by omega), dif_pos (by omega), h2]
    exact congrArg (t 2) (Fin.ext (by show (grow 2 r).val - 256 - 256 = r.val; omega))
  | 3, e =>
    have e : (grow 3 r).val = 768 + r.val := e
    rw [dif_neg (by omega), dif_neg (by omega), dif_neg (by omega), h3]
    exact congrArg (t 3) (Fin.ext (by show (grow 3 r).val - 256 - 256 - 256 = r.val; omega))

theorem grow0 (x : Fin 256) : (⟨x.val, by omega⟩ : Fin 1024) = grow 0 x := Fin.ext (by simp [grow])

theorem v465_at (i : Fin 256) (e : Fin 128) : X.v465 (ix2 i e) = X.inner X.v33 X.v26 X.v109 0 i e := by
  unfold inner; simp only [← grow0]
  pointwise [v465, k0_pay92, v36, k0_pay7, k0_pay89, k0_pay90, k0_pay91, v455, k0_pay88]
theorem v472_at (i : Fin 256) (e : Fin 128) : X.v472 (ix2 i e) = X.inner X.v109 X.v X.v33 0 i e := by
  unfold inner; simp only [← grow0]
  pointwise [v472, k0_pay93, v36, k0_pay7, k0_pay89, k0_pay90, k0_pay91]
theorem v479_at (i : Fin 256) (e : Fin 128) : X.v479 (ix2 i e) = X.inner X.v X.v109 X.v26 0 i e := by
  unfold inner; simp only [← grow0]
  pointwise [v479, k0_pay94, v36, k0_pay7, k0_pay89, k0_pay90, k0_pay91, v455, k0_pay88]
theorem v490_at (i : Fin 256) (e : Fin 128) : X.v490 (ix2 i e) = X.inner X.v33 X.v26 X.v109 1 i e := by
  pointwise [inner, v490, k0_pay99, v36, k0_pay7, k0_pay95, k0_pay96, k0_pay97, k0_pay98]; rfl
theorem v497_at (i : Fin 256) (e : Fin 128) : X.v497 (ix2 i e) = X.inner X.v109 X.v X.v33 1 i e := by
  pointwise [inner, v497, k0_pay100, v36, k0_pay7, k0_pay95, k0_pay96, k0_pay97, k0_pay98]; rfl
theorem v504_at (i : Fin 256) (e : Fin 128) : X.v504 (ix2 i e) = X.inner X.v X.v109 X.v26 1 i e := by
  pointwise [inner, v504, k0_pay103, v502, k0_pay101, v503, k0_pay102, cst_186, v36, k0_pay7, k0_pay95, k0_pay96, k0_pay97, k0_pay98]; rfl
theorem v515_at (i : Fin 256) (e : Fin 128) : X.v515 (ix2 i e) = X.inner X.v33 X.v26 X.v109 2 i e := by
  pointwise [inner, v515, k0_pay108, v36, k0_pay7, k0_pay104, k0_pay105, k0_pay106, k0_pay107]; rfl
theorem v522_at (i : Fin 256) (e : Fin 128) : X.v522 (ix2 i e) = X.inner X.v109 X.v X.v33 2 i e := by
  pointwise [inner, v522, k0_pay109, v36, k0_pay7, k0_pay104, k0_pay105, k0_pay106, k0_pay107]; rfl
theorem v529_at (i : Fin 256) (e : Fin 128) : X.v529 (ix2 i e) = X.inner X.v X.v109 X.v26 2 i e := by
  pointwise [inner, v529, k0_pay110, v36, k0_pay7, k0_pay104, k0_pay105, k0_pay106, k0_pay107]; rfl
theorem v540_at (i : Fin 256) (e : Fin 128) : X.v540 (ix2 i e) = X.inner X.v33 X.v26 X.v109 3 i e := by
  pointwise [inner, v540, k0_pay115, v36, k0_pay7, k0_pay111, k0_pay112, k0_pay113, k0_pay114]; rfl
theorem v547_at (i : Fin 256) (e : Fin 128) : X.v547 (ix2 i e) = X.inner X.v109 X.v X.v33 3 i e := by
  pointwise [inner, v547, k0_pay116, v36, k0_pay7, k0_pay111, k0_pay112, k0_pay113, k0_pay114]; rfl
theorem v552_at (i : Fin 256) (e : Fin 128) :
    (∑ x, X.v552 (ix2 i x) * X.v530 (ix2 x e) : EReal) = X.inner X.v X.v109 X.v26 3 i e := by
  pointwise [inner, v552, v530, k0_pay117, v36, k0_pay7, k0_pay111, k0_pay112, k0_pay113, k0_pay114]; rfl

/-- The values' gradient, before it is rounded. -/
def dvv (g : Fin 4) (r : Fin 256) (e : Fin 128) : EReal := X.v454 (ix2 (grow g r) e) + X.inner X.v33 X.v26 X.v109 g r e
/-- The rotated queries' gradient. -/
def dqq (g : Fin 4) (r : Fin 256) (d : Fin 128) : EReal := X.v323 (ix2 (grow g r) d) + X.inner X.v109 X.v X.v33 g r d
/-- The rotated and scaled keys' gradient. -/
def dkk (g : Fin 4) (r : Fin 256) (d : Fin 128) : EReal := X.v389 (ix2 (grow g r) d) + X.inner X.v X.v109 X.v26 g r d

/-- The column a rotation pairs with `e`. -/
def flip (e : Fin 128) : Fin 128 := ⟨(e.val + 128 - 64) % 128, Nat.mod_lt _ (by norm_num)⟩

theorem dvTile_at (g : Fin 4) (r : Fin 256) (e : Fin 128) : X.dvTile (ix4 0 0 (grow g r) e) = X.dvv g r e := by
  pointwise [dvTile, k0_pay120]
  exact congrArg (X.v454 (ix2 (grow g r) e) + ·) (ladder (fun g r => X.inner X.v33 X.v26 X.v109 g r e) (fun i => X.v465 (ix2 i e))
    (fun i => X.v490 (ix2 i e)) (fun i => X.v515 (ix2 i e)) (fun i => X.v540 (ix2 i e)) g r (fun i => X.v465_at i e) (fun i => X.v490_at i e)
    (fun i => X.v515_at i e) (fun i => X.v540_at i e) (fun _ _ _ => trivial) (fun _ _ _ => by omega))

theorem dqTile_at (g : Fin 4) (r : Fin 256) (e : Fin 128) :
    X.dqTile (ix4 0 0 (grow g r) e) = X.dqq g r e * X.cos (ix2 (grow g r) e) + X.dqq g r (flip e) * X.sin (ix2 (grow g r) (flip e)) := by
  have L := fun e => ladder (fun g r => X.inner X.v109 X.v X.v33 g r e) (fun i => X.v472 (ix2 i e))
    (fun i => X.v497 (ix2 i e)) (fun i => X.v522 (ix2 i e)) (fun i => X.v547 (ix2 i e)) g r (fun i => X.v472_at i e) (fun i => X.v497_at i e)
    (fun i => X.v522_at i e) (fun i => X.v547_at i e) (fun _ _ _ => trivial) (fun _ _ _ => by omega)
  pointwise [dqTile, k0_pay118, v19, v21, k0_pay3, k0_pay4]
  unfold dqq
  exact congrArg₂ (fun a b : EReal => (X.v323 (ix2 (grow g r) e) + a) * X.cos (ix2 (grow g r) e) +
    (X.v323 (ix2 (grow g r) (flip e)) + b) * X.sin (ix2 (grow g r) (flip e))) (L e) (L (flip e))

theorem dkTile_at (g : Fin 4) (r : Fin 256) (e : Fin 128) :
    X.dkTile (ix4 0 0 (grow g r) e) = X.dkk g r e * Ideal.ofBits FTy.f32 1035273459#32 * X.cos (ix2 (grow g r) e) +
      X.dkk g r (flip e) * Ideal.ofBits FTy.f32 1035273459#32 * X.sin (ix2 (grow g r) (flip e)) := by
  have L := fun e => ladder (fun g r => X.inner X.v X.v109 X.v26 g r e) (fun i => X.v479 (ix2 i e))
    (fun i => X.v504 (ix2 i e)) (fun i => X.v529 (ix2 i e)) (fun i => ∑ x, X.v552 (ix2 i x) * X.v530 (ix2 x e)) g r
    (fun i => X.v479_at i e) (fun i => X.v504_at i e)
    (fun i => X.v529_at i e) (fun i => X.v552_at i e) (fun _ _ _ => trivial) (fun _ _ _ => by omega)
  pointwise [dkTile, k0_pay119, v19, v21, k0_pay3, k0_pay4]
  unfold dkk
  exact congrArg₂ (fun a b : EReal => (X.v389 (ix2 (grow g r) e) + a) * Ideal.ofBits FTy.f32 1035273459#32 * X.cos (ix2 (grow g r) e) +
    (X.v389 (ix2 (grow g r) (flip e)) + b) * Ideal.ofBits FTy.f32 1035273459#32 * X.sin (ix2 (grow g r) (flip e))) (L e) (L (flip e))

theorem v26_at (R : Fin 1024) (e : Fin 128) :
    X.v26 (ix2 R e) = X.q (ix2 R e) * X.cos (ix2 R e) + X.q (ix2 R (flip e)) * X.sin (ix2 R e) := by
  pointwise [v26, k0_pay3, k0_pay4, k0_pay5]; rfl

theorem v33_at (R : Fin 1024) (e : Fin 128) :
    X.v33 (ix2 R e) = (X.k (ix2 R e) * X.cos (ix2 R e) + X.k (ix2 R (flip e)) * X.sin (ix2 R e)) * Ideal.ofBits FTy.f32 1035273459#32 := by
  pointwise [v33, k0_pay3, k0_pay4, k0_pay6]; rfl

theorem v44_at (R : Fin 1024) (d : Fin 128) : X.v44 (ix2 R d) = X.v33 (ix2 R d) * X.kd (ix3 0 R d) := by
  pointwise [v44, k0_pay8, k0_pay9, k0_pay11]

theorem v45_at (R : Fin 1024) (d : Fin 128) : X.v45 (ix2 R d) = X.v26 (ix2 R d) * X.qd (ix3 0 R d) := by
  pointwise [v45, k0_pay8, k0_pay9, k0_pay12]

end Cert.KernelIdeal.Ret.Reads
end
-- ==== Proof.Val.KerHead.lean ====
module

public import proofs.«01_k».proof.Proof.Val.Inner
public import proofs.«01_k».proof.Proof.Val.SpecMath

/-! # One block of the kernel works out its rows of the head's gradients -/

@[expose] public section

set_option maxRecDepth 16384

noncomputable section

namespace Cert.KernelIdeal.Ret.Reads

open Cert.Val Cert.KernelIdeal Cert.KernelIdeal.Gen Idealize.ShloMosaic Idealize.ShloMosaic.TcCoe Idealize.SL.Sem Idealize.ShloMosaic.StableHlo

/-- What a block reads is block `b` of head `H`. -/
structure IsHead (X : Reads Ideal) (H : Head) (b : ℕ) : Prop where
  hb : b < 4
  hQ : ∀ R d, X.v26 (ix2 R d) = H.Q (1024 * b + R.val) d.val
  hK : ∀ R d, X.v33 (ix2 R d) = H.K (1024 * b + R.val) d.val
  hV : ∀ R d, X.v (ix2 R d) = H.V (1024 * b + R.val) d.val
  hDY : ∀ R d, X.v109 (ix2 R d) = H.DY (1024 * b + R.val) d.val
  hqd : ∀ R d, X.qd (ix3 0 R d) = Val.qd H.h (R.val % 64)
  hkd : ∀ R d, X.kd (ix3 0 R d) = Val.kd H.h (R.val % 64)
  hcd : ∀ e, X.cd (ix3 0 0 e) = Val.cd H.h
  hdec : ∀ r x, X.dec (ix3 0 r x) = (if r.val / 64 = x.val / 64 then 1 else 0) * dc H.h (r.val % 64) (x.val % 64)
  hst : ∀ d e, X.st (ix2 d e) = H.S (16 * (3 - b)) d.val e.val
  hP : ∀ n d e, X.ps n (ix4 0 0 d e) = H.P (16 * b + n.val) d.val e.val

namespace IsHead
variable {X : Reads Ideal} {H : Head} {b : ℕ} (I : IsHead X H b)
include I

theorem dp_eq (n : Fin 16) (d e : Fin 128) : X.dp n d e = H.dP (16 * b + n.val) d.val e.val := by
  unfold dp Head.dP
  refine Finset.sum_congr rfl fun i _ => ?_
  have hi := i.isLt
  rw [v45_at, I.hQ, I.hDY, I.hqd]
  have e1 : 1024 * b + (row n i).val = (16 * b + n.val) * 64 + i.val := by show 1024 * b + (64 * n.val + i.val) = _; omega
  have e2 : (row n i).val % 64 = i.val := by show (64 * n.val + i.val) % 64 = _; omega
  rw [e1, e2]

theorem gs_eq (k : ℕ) (hk : k < 16) (d e : Fin 128) : X.gs ⟨15 - k, by omega⟩ (ix2 d e) = H.S (16 * (3 - b) + k) d.val e.val := by
  induction k with
  | zero => exact I.hst d e
  | succ k ih =>
    have hb := I.hb
    have s := X.gs_step ⟨14 - k, by omega⟩ d e
    have e1 : (⟨14 - k, by omega⟩ : Fin 15).castSucc = (⟨15 - (k + 1), by omega⟩ : Fin 16) := Fin.ext (by show 14 - k = 15 - (k + 1); omega)
    have e2 : (⟨14 - k, by omega⟩ : Fin 15).succ = (⟨15 - k, by omega⟩ : Fin 16) := Fin.ext (by show 14 - k + 1 = 15 - k; omega)
    rw [e1, e2, ih (by omega), I.dp_eq, I.hcd] at s
    rw [s]
    show H.dP (16 * b + (15 - k)) d.val e.val + _ = H.dP (63 - (16 * (3 - b) + k)) d.val e.val + _
    rw [show 16 * b + (15 - k) = 63 - (16 * (3 - b) + k) by omega]; rfl

theorem gs_at (n : Fin 16) (d e : Fin 128) : X.gs n (ix2 d e) = H.S (63 - (16 * b + n.val)) d.val e.val := by
  have hb := I.hb
  have hn := n.isLt
  have := I.gs_eq (15 - n.val) (by omega) d e
  rw [show 16 * (3 - b) + (15 - n.val) = 63 - (16 * b + n.val) by omega] at this
  rw [← this]; congr 2; exact Fin.ext (by show n.val = 15 - (15 - n.val); omega)

/-- The state gradient a block passes on. -/
theorem stNext_eq (d e : Fin 128) : X.stNext (ix2 d e) = H.S (16 * (4 - b)) d.val e.val := by
  have hb := I.hb
  rw [st_step, I.dp_eq, I.hcd, I.gs_at]
  obtain ⟨k, hk⟩ : ∃ k, 16 * (4 - b) = k + 1 := ⟨16 * (4 - b) - 1, by omega⟩
  rw [hk]
  show H.dP (16 * b + 0) _ _ + _ * H.S (63 - (16 * b + 0)) _ _ = H.dP (63 - k) _ _ + _ * H.S k _ _
  rw [show 63 - k = 16 * b + 0 by omega, show 63 - (16 * b + 0) = k by omega]

/-- The products inside a chunk. -/
theorem inner_eq {A B C : FVec Ideal S1024x128 .f32} {a b' c : ℕ → ℕ → EReal} (hA : ∀ R d, A (ix2 R d) = a (1024 * b + R.val) d.val)
    (hB : ∀ R d, B (ix2 R d) = b' (1024 * b + R.val) d.val) (hC : ∀ R d, C (ix2 R d) = c (1024 * b + R.val) d.val)
    (g : Fin 4) (r : Fin 256) (e : Fin 128) : X.inner A B C g r e = H.intra a b' c (1024 * b + (256 * g.val + r.val)) e.val := by
  have hr := r.isLt
  unfold inner Head.intra
  rw [Fin.sum_univ_tiles 4 64 rfl, Finset.sum_eq_single (⟨r.val / 64, by omega⟩ : Fin 4)]
  · refine Finset.sum_congr rfl fun i _ => ?_
    have hi := i.isLt
    simp only [hA, hB, hC, I.hdec]
    rw [if_pos (by omega), one_mul]
    have e1 : 1024 * b + (grow g ⟨r.val / 64 * 64 + i.val, by omega⟩).val = (1024 * b + (256 * g.val + r.val)) / 64 * 64 + i.val := by
      show 1024 * b + (256 * g.val + (r.val / 64 * 64 + i.val)) = _; omega
    have e2 : (r.val / 64 * 64 + i.val) % 64 = i.val := by omega
    have e3 : (1024 * b + (256 * g.val + r.val)) % 64 = r.val % 64 := by omega
    rw [e1, e2, e3]
    rfl
  · intro j _ hj
    refine Finset.sum_eq_zero fun i _ => ?_
    have hi := i.isLt
    rw [I.hdec, if_neg (fun h => hj (Fin.ext (by show j.val = r.val / 64; have h : r.val / 64 = (j.val * 64 + i.val) / 64 := h; omega))), zero_mul, mul_zero, zero_mul]
  · intro h; exact absurd (Finset.mem_univ _) h

theorem dvv_eq (g : Fin 4) (r : Fin 256) (e : Fin 128) : X.dvv g r e = H.dV (1024 * b + (256 * g.val + r.val)) e.val := by
  have hr := r.isLt
  have e0 : grow g r = row ⟨4 * g.val + r.val / 64, by omega⟩ ⟨r.val % 64, by omega⟩ :=
    Fin.ext (by show 256 * g.val + r.val = 64 * (4 * g.val + r.val / 64) + r.val % 64; omega)
  unfold dvv Head.dV
  rw [I.inner_eq I.hK I.hQ I.hDY, e0, v454_at, ← e0]
  refine congrArg (fun a : EReal => a + _) (Finset.sum_congr rfl fun d _ => ?_)
  rw [v44_at, I.hK, I.hkd, I.gs_at]
  have e1 : (grow g r).val = 256 * g.val + r.val := rfl
  rw [e1, show (1024 * b + (256 * g.val + r.val)) % 64 = (256 * g.val + r.val) % 64 by omega,
    show (1024 * b + (256 * g.val + r.val)) / 64 = 16 * b + (4 * g.val + r.val / 64) by omega]

theorem dqq_eq (g : Fin 4) (r : Fin 256) (d : Fin 128) : X.dqq g r d = H.dQ (1024 * b + (256 * g.val + r.val)) d.val := by
  have hr := r.isLt
  have e0 : grow g r = row ⟨4 * g.val + r.val / 64, by omega⟩ ⟨r.val % 64, by omega⟩ :=
    Fin.ext (by show 256 * g.val + r.val = 64 * (4 * g.val + r.val / 64) + r.val % 64; omega)
  unfold dqq Head.dQ
  rw [I.inner_eq I.hDY I.hV I.hK, e0, v323_at, ← e0, I.hqd]
  have e1 : (grow g r).val = 256 * g.val + r.val := rfl
  simp only [I.hDY, I.hP]
  rw [e1, show (1024 * b + (256 * g.val + r.val)) % 64 = (256 * g.val + r.val) % 64 by omega,
    show (1024 * b + (256 * g.val + r.val)) / 64 = 16 * b + (4 * g.val + r.val / 64) by omega]

theorem dkk_eq (g : Fin 4) (r : Fin 256) (d : Fin 128) : X.dkk g r d = H.dK (1024 * b + (256 * g.val + r.val)) d.val := by
  have hr := r.isLt
  have e0 : grow g r = row ⟨4 * g.val + r.val / 64, by omega⟩ ⟨r.val % 64, by omega⟩ :=
    Fin.ext (by show 256 * g.val + r.val = 64 * (4 * g.val + r.val / 64) + r.val % 64; omega)
  unfold dkk Head.dK
  rw [I.inner_eq I.hV I.hDY I.hQ, e0, v389_at, ← e0, I.hkd]
  have e1 : (grow g r).val = 256 * g.val + r.val := rfl
  simp only [I.hV, I.gs_at]
  rw [e1, show (1024 * b + (256 * g.val + r.val)) % 64 = (256 * g.val + r.val) % 64 by omega,
    show (1024 * b + (256 * g.val + r.val)) / 64 = 16 * b + (4 * g.val + r.val / 64) by omega]

end IsHead
end Cert.KernelIdeal.Ret.Reads
end
-- ==== Proof.Val.Link.lean ====
module

public import proofs.«01_k».proof.Proof.Val.Windows
public import proofs.«01_k».proof.Proof.Val.Tables
public import proofs.«01_k».proof.Proof.Val.GateBlk
public import proofs.«01_k».proof.Proof.Val.KerHead

/-! # Each block the kernel visits is a block of rows of one head -/

@[expose] public section

set_option maxRecDepth 16384

noncomputable section

namespace Cert.KernelIdeal.Ret
open Cert.Val Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The arguments on device `c`. -/
def kargs : Args where
  x0 r k := m ((c : Thread nD τ).loc main_arg0) (ix2 r k)
  x1 r k := m ((c : Thread nD τ).loc main_arg1) (ix2 r k)
  x2 r k := m ((c : Thread nD τ).loc main_arg2) (ix2 r k)
  x3 h n d e := m ((c : Thread nD τ).loc main_arg3) (ix4 h n d e)
  x4 r k := m ((c : Thread nD τ).loc main_arg4) (ix2 r k)

section Block
variable (t : Fin cfg0.N) (acc : Vec Ideal S1x1x128 .f32) (st : Vec Ideal S128x128 .f32)

/-- The block's number in its head. -/
def bOf : ℕ := 3 - t.val % 4

theorem q_at (R : Fin 1024) (d : Fin 128) : (blockAt m c t acc st).q (ix2 R d)
    = get2 (kargs m c).x0 (1024 * bOf t + R.val) (0 + ((hOf t).val * 128 + d.val)) :=
  (iblk0 m c t R d).trans ((congrFun (V_main_arg0 m c) _).trans (get2_eq (kargs m c).x0 (rowOf t R) (colOf t 0 (by norm_num) d)))
theorem k_at (R : Fin 1024) (d : Fin 128) : (blockAt m c t acc st).k (ix2 R d)
    = get2 (kargs m c).x0 (1024 * bOf t + R.val) (1024 + ((hOf t).val * 128 + d.val)) :=
  (iblk1 m c t R d).trans ((congrFun (V_main_arg0 m c) _).trans (get2_eq (kargs m c).x0 (rowOf t R) (colOf t 1024 (by norm_num) d)))
theorem v_at (R : Fin 1024) (d : Fin 128) : (blockAt m c t acc st).v (ix2 R d)
    = get2 (kargs m c).x0 (1024 * bOf t + R.val) (2048 + ((hOf t).val * 128 + d.val)) :=
  (iblk2 m c t R d).trans ((congrFun (V_main_arg0 m c) _).trans (get2_eq (kargs m c).x0 (rowOf t R) (colOf t 2048 (by norm_num) d)))
theorem gt_at (R : Fin 1024) (d : Fin 128) : (blockAt m c t acc st).gt (ix2 R d)
    = (kargs m c).gt (hOf t).val (1024 * bOf t + R.val) d :=
  (iblk3 m c t R d).trans ((congrFun (V_main_arg0 m c) _).trans (get2_eq (kargs m c).x0 (rowOf t R) (colOf t 3072 (by norm_num) d)))
theorem gn_at (d : Fin 128) : (blockAt m c t acc st).gn (ix2 0 d) = (kargs m c).gn (hOf t).val d :=
  (iblk10 m c t d).trans ((congrFun (V_main_arg1 m c) _).trans ((get2_eq (kargs m c).x1 0 (colOf t 0 (by norm_num) d)).trans
    (congrArg (get2 (kargs m c).x1 0) (Nat.zero_add _))))
theorem y_at (R : Fin 1024) (d : Fin 128) : (blockAt m c t acc st).y (ix2 R d)
    = (kargs m c).yr (hOf t).val (1024 * bOf t + R.val) d :=
  (iblk11 m c t R d).trans ((congrFun (V_main_arg2 m c) _).trans ((get2_eq (kargs m c).x2 (rowOf t R) (colOf t 0 (by norm_num) d)).trans
    (congrArg (get2 (kargs m c).x2 _) (Nat.zero_add _))))
theorem ct_at (R : Fin 1024) (d : Fin 128) : (blockAt m c t acc st).ct (ix2 R d)
    = (kargs m c).ct (hOf t).val (1024 * bOf t + R.val) d :=
  (iblk13 m c t R d).trans ((congrFun (V_main_arg4 m c) _).trans ((get2_eq (kargs m c).x4 (rowOf t R) (colOf t 0 (by norm_num) d)).trans
    (congrArg (get2 (kargs m c).x4 _) (Nat.zero_add _))))
theorem cos_at (R : Fin 1024) (d : Fin 128) : (blockAt m c t acc st).cos (ix2 R d) = cosT (1024 * bOf t + R.val) d.val :=
  (iblk4 m c t R d).trans (V14_at m c _ _)
theorem sin_at (R : Fin 1024) (d : Fin 128) : (blockAt m c t acc st).sin (ix2 R d) = sinT (1024 * bOf t + R.val) d.val :=
  (iblk5 m c t R d).trans (V16_at m c _ _)

theorem chunkOf_at (x : Vec Ideal S1x16x128x128 .bf16) (n : ℕ) (hn : n < 16) (inb) (d e : Fin 128) :
    chunkOf x ![0, n, 0, 0] inb (ix4 0 0 d e) = x (ix4 0 ⟨n, hn⟩ d e) := by
  refine congrArg x (funext fun a => ?_)
  fin_cases a
  · rfl
  · exact Fin.ext (show n + 1 * 0 = n by omega)
  · exact Fin.ext (show 0 + 1 * d.val = d.val by omega)
  · exact Fin.ext (show 0 + 1 * e.val = e.val by omega)

theorem ps_of (x0 : Vec Ideal S1024x128 .f32) (x1 : Vec Ideal S1024x128 .f32) (x2 : Vec Ideal S1024x128 .f32) (x3 : Vec Ideal S1024x128 .f32) (x4 : Vec Ideal S1024x128 .f32) (x5 : Vec Ideal S1024x128 .f32) (x6 : Vec Ideal S1x256x256 .f32) (x7 : Vec Ideal S1x1024x128 .f32) (x8 : Vec Ideal S1x1024x128 .f32) (x9 : Vec Ideal S1x1x128 .f32) (x10 : Vec Ideal S1x128 .f32) (x11 : Vec Ideal S1024x128 .f32) (x12 : Vec Ideal S1x16x128x128 .bf16) (x13 : Vec Ideal S1024x128 .f32) (acc : Vec Ideal S1x1x128 .f32) (st : Vec Ideal S128x128 .f32) (n : Fin 16) (d e : Fin 128) :
    (readsOf x0 x1 x2 x3 x4 x5 x6 x7 x8 x9 x10 x11 x12 x13 acc st).ps n (ix4 0 0 d e) = x12 (ix4 0 n d e) := by
  obtain ⟨n, hn⟩ := n
  interval_cases n
  · exact chunkOf_at x12 0 _ _ d e
  · exact chunkOf_at x12 1 _ _ d e
  · exact chunkOf_at x12 2 _ _ d e
  · exact chunkOf_at x12 3 _ _ d e
  · exact chunkOf_at x12 4 _ _ d e
  · exact chunkOf_at x12 5 _ _ d e
  · exact chunkOf_at x12 6 _ _ d e
  · exact chunkOf_at x12 7 _ _ d e
  · exact chunkOf_at x12 8 _ _ d e
  · exact chunkOf_at x12 9 _ _ d e
  · exact chunkOf_at x12 10 _ _ d e
  · exact chunkOf_at x12 11 _ _ d e
  · exact chunkOf_at x12 12 _ _ d e
  · exact chunkOf_at x12 13 _ _ d e
  · exact chunkOf_at x12 14 _ _ d e
  · exact chunkOf_at x12 15 _ _ d e

theorem ps_win (n : Fin 16) (d e : Fin 128) : (blockAt m c t acc st).ps n (ix4 0 0 d e) = iblk m c 12 t (ix4 0 n d e) :=
  ps_of _ _ _ _ _ _ _ _ _ _ _ _ (iblk m c 12 t) _ _ _ n d e

theorem qd_at (R : Fin 1024) (d : Fin 128) : (blockAt m c t acc st).qd (ix3 0 R d) = Val.qd (hOf t).val (R.val % 64) :=
  (iblk8 m c t R d).trans (V69_at m c (hOf t) R d)
theorem kd_at (R : Fin 1024) (d : Fin 128) : (blockAt m c t acc st).kd (ix3 0 R d) = Val.kd (hOf t).val (R.val % 64) :=
  (iblk7 m c t R d).trans (V63_at m c (hOf t) R d)
theorem cd_at (e : Fin 128) : (blockAt m c t acc st).cd (ix3 0 0 e) = Val.cd (hOf t).val :=
  (iblk9 m c t 0 e).trans (V71_at m c (hOf t) e)
theorem dec_at (r x : Fin 256) : (blockAt m c t acc st).dec (ix3 0 r x)
    = (if r.val / 64 = x.val / 64 then 1 else 0) * dc (hOf t).val (r.val % 64) (x.val % 64) :=
  (iblk6 m c t r x).trans (V83_at m c (hOf t) r x)

theorem bOf_lt : bOf t < 4 := by unfold bOf; omega

theorem ps_at (n : Fin 16) (d e : Fin 128) : (blockAt m c t acc st).ps n (ix4 0 0 d e)
    = ((kargs m c).head (hOf t).val).P (16 * bOf t + n.val) d.val e.val :=
  (ps_win m c t acc st n d e).trans ((iblk12 m c t n d e).trans ((congrFun (V_main_arg3 m c) _).trans
    ((kargs m c).head_P (hOf t).isLt (show 16 * bOf t + n.val < 64 by have := bOf_lt t; omega) d.isLt e.isLt).symm))

end Block

/-- What a block reads are its rows of a head. -/
structure Reads.Fits (X : Reads Ideal) (A : Args) (h b : ℕ) : Prop where
  q : ∀ R d, X.q (ix2 R d) = get2 A.x0 (1024 * b + R.val) (0 + (h * 128 + d.val))
  k : ∀ R d, X.k (ix2 R d) = get2 A.x0 (1024 * b + R.val) (1024 + (h * 128 + d.val))
  cos : ∀ R d, X.cos (ix2 R d) = cosT (1024 * b + R.val) d.val
  sin : ∀ R d, X.sin (ix2 R d) = sinT (1024 * b + R.val) d.val
  gt : ∀ R d, X.gt (ix2 R d) = A.gt h (1024 * b + R.val) d
  gn : ∀ d, X.gn (ix2 0 d) = A.gn h d
  y : ∀ R d, X.y (ix2 R d) = A.yr h (1024 * b + R.val) d
  ct : ∀ R d, X.ct (ix2 R d) = A.ct h (1024 * b + R.val) d

theorem Reads.Fits.v109 {X : Reads Ideal} {A : Args} {h b : ℕ} (I : X.Fits A h b) (R : Fin 1024) (d : Fin 128) :
    X.v109 (ix2 R d) = (A.head h).DY (1024 * b + R.val) d.val := by
  have e1 : (fun x => X.y (ix2 R x)) = A.yr h (1024 * b + R.val) := funext fun x => I.y R x
  rw [Reads.v109_at, Args.head_DY, e1]
  unfold Args.dy
  congr 1
  funext x
  rw [I.ct, I.gt, I.gn]; rfl

theorem Reads.Fits.v26 {X : Reads Ideal} {A : Args} {h b : ℕ} (I : X.Fits A h b) (R : Fin 1024) (d : Fin 128) :
    X.v26 (ix2 R d) = (A.head h).Q (1024 * b + R.val) d.val := by
  rw [Reads.v26_at, I.q, I.q, I.cos, I.sin, Args.head_Q, ← rot_tab _ _ _ d.isLt, Nat.zero_add, Nat.zero_add]; rfl

theorem Reads.Fits.v33 {X : Reads Ideal} {A : Args} {h b : ℕ} (I : X.Fits A h b) (R : Fin 1024) (d : Fin 128) :
    X.v33 (ix2 R d) = (A.head h).K (1024 * b + R.val) d.val := by
  rw [Reads.v33_at, I.k, I.k, I.cos, I.sin, Args.head_K, ← rot_tab _ _ _ d.isLt]; rfl

theorem Reads.Fits.dgTile {X : Reads Ideal} {A : Args} {h b : ℕ} (I : X.Fits A h b) (R : Fin 1024) (d : Fin 128) :
    X.dgTile (ix4 0 0 R d) = A.dg h (1024 * b + R.val) d := by
  have e1 : (fun x => X.y (ix2 R x)) = A.yr h (1024 * b + R.val) := funext fun x => I.y R x
  rw [Reads.dgTile_at, e1, I.ct, I.gt, I.gn]; rfl

theorem Reads.Fits.accNext {X : Reads Ideal} {A : Args} {h b : ℕ} (I : X.Fits A h b) (d : Fin 128) :
    X.accNext (ix3 0 0 d) = X.acc (ix3 0 0 d) + ∑ R : Fin 1024, A.dgn h (1024 * b + R.val) d := by
  rw [Reads.accNext_at]
  refine congrArg (fun a : EReal => X.acc (ix3 0 0 d) + a) (Finset.sum_congr rfl fun R _ => ?_)
  have e1 : (fun x => X.y (ix2 R x)) = A.yr h (1024 * b + R.val) := funext fun x => I.y R x
  rw [e1, I.ct, I.gt]; rfl

section Block
variable (t : Fin cfg0.N) (acc : Vec Ideal S1x1x128 .f32) (st : Vec Ideal S128x128 .f32)

/-- Each step's block is rows of its head. -/
theorem fits : (blockAt m c t acc st).Fits (kargs m c) (hOf t).val (bOf t) where
  q := q_at m c t acc st
  k := k_at m c t acc st
  cos := cos_at m c t acc st
  sin := sin_at m c t acc st
  gt := gt_at m c t acc st
  gn := gn_at m c t acc st
  y := y_at m c t acc st
  ct := ct_at m c t acc st

/-- A block is its rows of its head, if the state it starts from is the head's. -/
theorem isHead (hst : ∀ d e, st (ix2 d e) = ((kargs m c).head (hOf t).val).S (16 * (3 - bOf t)) d.val e.val) :
    (blockAt m c t acc st).IsHead ((kargs m c).head (hOf t).val) (bOf t) where
  hb := bOf_lt t
  hQ := (fits m c t acc st).v26
  hK := (fits m c t acc st).v33
  hV := v_at m c t acc st
  hDY := (fits m c t acc st).v109
  hqd := qd_at m c t acc st
  hkd := kd_at m c t acc st
  hcd := cd_at m c t acc st
  hdec := dec_at m c t acc st
  hst := hst
  hP := ps_at m c t acc st

end Block

/-- The state each step starts from. -/
theorem starts_st (n : ℕ) (hn : n < 32) (d e : Fin 128) :
    (startsAt m c n).2 (ix2 d e) = ((kargs m c).head (n / 4)).S (16 * (n % 4)) d.val e.val := by
  induction n generalizing d e with
  | zero => pointwise [startsAt, k0_pay1]; rfl
  | succ n ih =>
    by_cases h : (n + 1) % 4 = 0
    · rw [startsAt_reset m c _ h, h]; pointwise [k0_pay1]; rfl
    · have ht : n < cfg0.N := lt_of_lt_of_eq (by omega) N_0.symm
      have I := isHead m c ⟨n, ht⟩ (startsAt m c n).1 (startsAt m c n).2 (fun d e => by
        rw [ih (by omega)]; congr 1; show _ = 16 * (3 - (3 - n % 4)); omega)
      have e1 := startsAt_next m c ⟨n, ht⟩ h
      have e2 := I.stNext_eq d e
      rw [e1]
      refine e2.trans ?_
      show ((kargs m c).head (n / 4)).S (16 * (4 - (3 - n % 4))) _ _ = _
      rw [show (n + 1) / 4 = n / 4 by omega, show 16 * (4 - (3 - n % 4)) = 16 * ((n + 1) % 4) by omega]

/-- Each step's block is a block of its head. -/
theorem readsAt_isHead (t : Fin cfg0.N) : (readsAt m c t).IsHead ((kargs m c).head (hOf t).val) (bOf t) :=
  isHead m c t _ _ fun d e => by
    rw [starts_st m c t.val (t_lt t)]
    show ((kargs m c).head (t.val / 4)).S _ _ _ = ((kargs m c).head (t.val / 4)).S (16 * (3 - (3 - t.val % 4))) _ _
    rw [show 16 * (3 - (3 - t.val % 4)) = 16 * (t.val % 4) by omega]

/-- The sum each step's block passes on. -/
theorem accNext_eq (t : Fin cfg0.N) (d : Fin 128) :
    (readsAt m c t).accNext (ix3 0 0 d) = (startsAt m c t.val).1 (ix3 0 0 d)
      + ∑ R : Fin 1024, (kargs m c).dgn (hOf t).val (1024 * bOf t + R.val) d :=
  (fits m c t _ _).accNext d

end Cert.KernelIdeal.Ret
end
-- ==== Proof.Val.Done.lean ====
module

public import proofs.«01_k».proof.Proof.Val.Link
public import proofs.«01_k».proof.Proof.Ret.Data

/-! # The two results of the kernel are the gradients -/

@[expose] public section

set_option maxRecDepth 16384

noncomputable section

namespace Cert.KernelIdeal.Ret
open Cert.Val Cert.KernelIdeal Cert.KernelIdeal.Gen Idealize.ShloMosaic Idealize.ShloMosaic.TcCoe Idealize.SL.Sem Idealize.ShloMosaic.StableHlo

theorem grow_eq (R : Fin 1024) : ∃ (g : Fin 4) (r : Fin 256), R = Reads.grow g r :=
  ⟨⟨R.val / 256, by omega⟩, ⟨R.val % 256, by omega⟩, Fin.ext (by show R.val = 256 * (R.val / 256) + R.val % 256; omega)⟩

section Tiles
variable {X : Reads Ideal} {A : Args} {h b : ℕ} (I : X.Fits A h b) (J : X.IsHead (A.head h) b) (R : Fin 1024) (d : Fin 128)
include I J

theorem dv_tile : X.dvTile (ix4 0 0 R d) = (A.head h).dV (1024 * b + R.val) d.val := by
  obtain ⟨g, r, rfl⟩ := grow_eq R
  exact (X.dvTile_at g r d).trans (J.dvv_eq g r d)

theorem dq_tile : X.dqTile (ix4 0 0 R d) = unrot (fun d => (A.head h).dQ (1024 * b + R.val) d) (1024 * b + R.val) d.val := by
  obtain ⟨g, r, rfl⟩ := grow_eq R
  rw [← unrot_tab _ _ _ d.isLt, X.dqTile_at g r d, J.dqq_eq, J.dqq_eq, I.cos, I.sin]; rfl

theorem dk_tile : X.dkTile (ix4 0 0 R d) = unrot (fun d => (A.head h).dK (1024 * b + R.val) d * scl) (1024 * b + R.val) d.val := by
  obtain ⟨g, r, rfl⟩ := grow_eq R
  rw [← unrot_tab _ _ _ d.isLt, X.dkTile_at g r d, J.dkk_eq, J.dkk_eq, I.cos, I.sin]; rfl

end Tiles

theorem sq_at (P : Vec Ideal S1x1x1024x128 .bf16) (R : Fin 1024) (d : Fin 128) : sq P (ix2 R d) = P (ix4 0 0 R d) := by
  pointwise [sq]

theorem tile_out {X : Reads Ideal} {A : Args} {k b : ℕ} (I : X.Fits A (k % 1024 / 128) b) (J : X.IsHead (A.head (k % 1024 / 128)) b)
    (R : Fin 1024) (hk : k < 4096) :
    tileOf X (k / 1024) (ix2 R ⟨k % 128, Nat.mod_lt _ (by norm_num)⟩) = A.out (1024 * b + R.val) k := by
  unfold tileOf Args.out
  dsimp only
  by_cases h0 : k < 1024
  · rw [if_pos (by omega : k / 1024 = 0), if_pos h0, sq_at, dq_tile I J]
  by_cases h1 : k < 2048
  · rw [if_neg (by omega : ¬k / 1024 = 0), if_pos (by omega : k / 1024 = 1), if_neg h0, if_pos h1, sq_at, dk_tile I J]
  by_cases h2 : k < 3072
  · rw [if_neg (by omega : ¬k / 1024 = 0), if_neg (by omega : ¬k / 1024 = 1), if_pos (by omega : k / 1024 = 2), if_neg h0, if_neg h1,
      if_pos h2, sq_at, dv_tile I J]
  · rw [if_neg (by omega : ¬k / 1024 = 0), if_neg (by omega : ¬k / 1024 = 1), if_neg (by omega : ¬k / 1024 = 2), if_neg h0, if_neg h1,
      if_neg h2, sq_at, I.dgTile]

variable (m : (ℓ : Loc nD τ sig) → Buf (Elt Ideal) ℓ) (c : Dev nD)

theorem readsAt_fits (t : Fin cfg0.N) : (readsAt m c t).Fits (kargs m c) (hOf t).val (bOf t) := fits m c t _ _

/-- Every written element of the packed gradient. -/
theorem D_out (r : Fin 4096) (k : Fin 7168) (hk : k.val < 4096) : D m c (ix2 r k) = (kargs m c).out r.val k.val := by
  have hr := r.isLt
  obtain ⟨t, ht⟩ : ∃ t, t = pt (stepOf r.val k.val) := ⟨_, rfl⟩
  have hv : t.val = stepOf r.val k.val := by
    rw [ht]; show stepOf r.val k.val % 32 = _; unfold stepOf; omega
  have hh : (hOf t).val = k.val % 1024 / 128 := by show t.val / 4 = _; rw [hv]; unfold stepOf; omega
  have hb : 1024 * bOf t + r.val % 1024 = r.val := by unfold bOf; rw [hv]; unfold stepOf; omega
  have J := readsAt_isHead m c t
  have I := readsAt_fits m c t
  rw [hh] at I J
  have e : D m c (ix2 r k) = tileOf (readsAt m c t) (k.val / 1024) (ix2 ⟨r.val % 1024, by omega⟩ ⟨k.val % 128, by omega⟩) := by
    rw [ht]; exact (if_pos hk).trans (congrArg _ (funext fun a => by fin_cases a <;> rfl))
  have T := tile_out I J ⟨r.val % 1024, by omega⟩ hk
  refine e.trans (T.trans ?_)
  show (kargs m c).out (1024 * bOf t + r.val % 1024) k.val = _
  rw [hb]

/-- The sum each step starts from. -/
theorem starts_acc (n : ℕ) (hn : n < 32) (d : Fin 128) : (startsAt m c n).1 (ix3 0 0 d)
    = ∑ j ∈ Finset.range (n % 4), ∑ R : Fin 1024, (kargs m c).dgn (n / 4) (1024 * (3 - j) + R.val) d := by
  induction n with
  | zero => pointwise [startsAt, k0_pay2]; rfl
  | succ n ih =>
    by_cases h : (n + 1) % 4 = 0
    · rw [startsAt_reset m c _ h, h]; pointwise [k0_pay2]; rfl
    · have ht : n < cfg0.N := lt_of_lt_of_eq (by omega) N_0.symm
      have e1 := startsAt_next m c ⟨n, ht⟩ h
      have e2 := accNext_eq m c ⟨n, ht⟩ d
      rw [show (n + 1) % 4 = n % 4 + 1 by omega, Finset.sum_range_succ, show (n + 1) / 4 = n / 4 by omega, ← ih (by omega), e1]
      exact e2

/-- The sum of a head's last block. -/
theorem acc_last (t : Fin cfg0.N) (h : t.val % 4 = 3) (d : Fin 128) :
    (readsAt m c t).accNext (ix3 0 0 d) = (kargs m c).outg (hOf t).val d := by
  have hb : bOf t = 0 := by unfold bOf; omega
  have hs : (kargs m c).outg (hOf t).val d = ∑ j : Fin 4, ∑ R : Fin 1024, (kargs m c).dgn (hOf t).val (j.val * 1024 + R.val) d :=
    Fin.sum_univ_tiles 4 1024 (by norm_num) _
  rw [hs, Fin.sum_univ_four, accNext_eq, starts_acc m c t.val (t_lt t), h, hb]
  simp only [Finset.sum_range_succ, Finset.sum_range_zero, zero_add, Nat.mul_comm 1024]
  show ((∑ R : Fin 1024, (kargs m c).dgn (hOf t).val (3 * 1024 + R.val) d) + (∑ R : Fin 1024, (kargs m c).dgn (hOf t).val (2 * 1024 + R.val) d)
    + (∑ R : Fin 1024, (kargs m c).dgn (hOf t).val (1 * 1024 + R.val) d)) + (∑ R : Fin 1024, (kargs m c).dgn (hOf t).val (0 * 1024 + R.val) d)
    = (∑ R : Fin 1024, (kargs m c).dgn (hOf t).val (0 * 1024 + R.val) d) + (∑ R : Fin 1024, (kargs m c).dgn (hOf t).val (1 * 1024 + R.val) d)
    + (∑ R : Fin 1024, (kargs m c).dgn (hOf t).val (2 * 1024 + R.val) d) + (∑ R : Fin 1024, (kargs m c).dgn (hOf t).val (3 * 1024 + R.val) d)
  abel

theorem acc_all (t : Fin cfg0.N) (h : t.val % 4 = 3) (j : S1x1x128.Idx) :
    (readsAt m c t).accNext j = (kargs m c).outg (hOf t).val (j 2) := by
  rw [← acc_last m c t h (j 2)]
  congr 1
  funext a
  fin_cases a
  · exact Fin.ext (show (j 0).val = 0 by have : (j 0).val < 1 := (j 0).isLt; omega)
  · exact Fin.ext (show (j 1).val = 0 by have : (j 1).val < 1 := (j 1).isLt; omega)
  · rfl

/-- The gradient of the norm's weight, as an array. -/
def OG : Buf (Elt Ideal) ((c : Thread nD τ).loc main_v84_1) := fun (i : S8x1x128.Idx) => (kargs m c).outg (i 0).val (i 2)

/-- The second result. -/
theorem arr14 : (dats m 0 c).arrAt 14 cfg0.N = OG m c := by
  refine (dats m 0 c).arrAt_eq_of_covers 14 (OG m c) (by decide +kernel) fun t hf y => ?_
  have h3 : t.val % 4 = 3 := by have := (flush0_14 t).mp hf; omega
  rw [after0_14]
  refine (acc_all m c t h3 ((cfg0.win 14).xinj (cfg0.grid.coords t) y)).trans ?_
  have hi : win0_14.index t = ![t.val / 4, 0, 0] := (idx t).2.2.2.2.2.2.2.2.2.2.2.2.2.2
  have y0 : (y 0).val = 0 := by have : (y 0).val < 1 := ((cfg0.win 14).xinj (cfg0.grid.coords t) y 0).isLt; omega
  have h0 : ((cfg0.win 14).blk t).view.emb y 0 = hOf t := Fin.ext ((win0_14.rect_emb_val t y 0).trans (by
    rw [hi]; show t.val / 4 * 1 + (y 0).val = t.val / 4; omega))
  have h2 : ((cfg0.win 14).blk t).view.emb y 2 = (cfg0.win 14).xinj (cfg0.grid.coords t) y 2 := Fin.ext ((win0_14.rect_emb_val t y 2).trans (by
    rw [hi]; show 0 * 128 + (y 2).val = (y 2).val; omega))
  unfold OG
  rw [h0, h2]

end Cert.KernelIdeal.Ret
end
-- ==== Proof.Val.Pre.lean ====
module

public import proofs.«01_k».proof.Defs
public import proofs.«01_k».proof.Proof.Val.Spec
public import Idealize.ShloMosaic.Lib.Pointwise
public import Idealize.ShloMosaic.Lib.ReduceAll
public import Idealize.ShloMosaic.Lib.WordCmp

/-! # What the precondition and the mask say -/

@[expose] public section

set_option maxRecDepth 16384

noncomputable section

namespace Cert.Val
open Cert.Pre_finite Idealize.ShloMosaic

theorem facts_finite : Cert.Pre_finite.Facts where
  slices_S4096x7168_S4096x1024_0_3072 := by decide
  slices_S4096x2048_S4096x1024_0_0 := by decide
  bcast_S_S4096x1024 := by decide
  reducesTo_S4096x1024_S_d0_1 := by decide
  h_S_ := by decide
  bcast_S_S1x1024 := by decide
  reducesTo_S1x1024_S_d0_1 := by decide

theorem facts_written : Cert.On_written.Facts where
  bcast_S_S4096x7168 := by decide
  bcast_S_S8x1x128 := by decide

theorem top_bits : FloatOps.ofBits (F := Ideal) FTy.f32 0x7F800000#32 = (⊤ : EReal) := by
  show Ideal.ofBits FTy.f32 0x7F800000#32 = ⊤
  simp [Ideal.ofBits, Ideal.ieee]

/-- A value whose magnitude is below infinity is real. -/
theorem real_of_lt {x : EReal} (h : FloatOps.cmpf (F := Ideal) (φ := FTy.f32) .olt (FloatOps.hostAbsf (F := Ideal) (φ := FTy.f32) x)
    (FloatOps.ofBits (F := Ideal) FTy.f32 0x7F800000#32) = 1#1) : ∃ r : ℝ, x = r := by
  rw [top_bits] at h
  induction x with
  | bot => exfalso; revert h; simp [FloatOps.cmpf, FloatOps.hostAbsf, Ideal.cmp]
  | top => exfalso; revert h; simp [FloatOps.cmpf, FloatOps.hostAbsf, Ideal.cmp]
  | coe r => exact ⟨r, rfl⟩

section
variable (x0 : FVec Ideal S4096x7168 .f32) (x1 : FVec Ideal S1x1024 .f32) (x2 : FVec Ideal S4096x1024 .f32)
  (x3 : FVec Ideal S8x64x128x128 .bf16) (x4 : FVec Ideal S4096x2048 .f32)

instance : Subsingleton S_.Idx := ⟨fun _ _ => funext fun a => a.elim0⟩

theorem andi_one {a b : BitVec 1} (h : IntOp.andi a b = 1#1) : a = 1#1 ∧ b = 1#1 := by
  revert a b; decide

/-- The four arrays the precondition names are real. -/
theorem finite_real [Cert.Pre_finite.Facts] (h : Cert.Pre_finite.fn (F := Ideal) x0 x1 x2 x3 x4 = fun _ => 1#1) :
    (∀ (r : Fin 4096) (k : Fin 1024), ∃ a : ℝ, x0 (ix2 r ⟨3072 + k.val, by omega⟩) = a) ∧ (∀ k : Fin 1024, ∃ a : ℝ, x1 (ix2 0 k) = a)
      ∧ (∀ (r : Fin 4096) (k : Fin 1024), ∃ a : ℝ, x2 (ix2 r k) = a) ∧ (∀ (r : Fin 4096) (k : Fin 1024), ∃ a : ℝ, x4 (ix2 r ⟨k.val, by omega⟩) = a) := by
  have h0 := congrFun h (fun a => a.elim0)
  unfold Cert.Pre_finite.fn Cert.Pre_finite.fn_part1 at h0
  dsimp only at h0
  obtain ⟨h123, h4⟩ := andi_one h0
  obtain ⟨h12, h3⟩ := andi_one h123
  obtain ⟨h1, h2⟩ := andi_one h12
  refine ⟨fun r k => ?_, fun k => ?_, fun r k => ?_, fun r k => ?_⟩
  · have := Host.reduce_andi_all _ _ _ _ _ h1 (ix2 r k)
    pointwise at this
    exact real_of_lt this
  · have := Host.reduce_andi_all _ _ _ _ _ h2 (ix2 0 k)
    exact real_of_lt this
  · have := Host.reduce_andi_all _ _ _ _ _ h3 (ix2 r k)
    exact real_of_lt this
  · have := Host.reduce_andi_all _ _ _ _ _ h4 (ix2 r k)
    pointwise at this
    exact real_of_lt this

/-- Where the mask is set the column is below 4096. -/
theorem written_lt [Cert.On_written.Facts] (r : Fin 4096) (k : Fin 7168)
    (h : (Cert.On_written.fn (F := Ideal) x0 x1 x2 x3 x4).1 (ix2 r k) = 1#1) : k.val < 4096 := by
  have h' : IntOp.cmpi CmpIPredicate.slt (BitVec.ofNat 32 k.val) 4096#32 = 1#1 := h
  rw [show (4096#32) = BitVec.ofNat 32 4096 from rfl, WordCmp.cmpi_slt_ofNat (by have := k.isLt; omega) (by norm_num)] at h'
  by_contra hc
  rw [decide_eq_false hc] at h'
  exact absurd h' (by decide)
end

end Cert.Val
end
-- ==== Proof.Val.RefGate.lean ====
module

public import proofs.«01_k».proof.Proof.Gen.ReferenceIdeal.Read
public import proofs.«01_k».proof.Proof.Val.Spec
public import Idealize.ShloMosaic.Lib.Pointwise

/-! # The reference's gate and group norm, at an index -/

@[expose] public section

set_option maxRecDepth 16384

noncomputable section

namespace Cert.ReferenceIdeal.Val
open Cert.Val Cert.ReferenceIdeal Cert.ReferenceIdeal.Gen Cert.ReferenceIdeal.Read Idealize.ShloMosaic Idealize.ShloMosaic.TcCoe Idealize.SL.Sem Idealize.ShloMosaic.StableHlo

variable (x0 : FVec Ideal S4096x7168 .f32) (x1 : FVec Ideal S1x1024 .f32) (x2 : FVec Ideal S4096x1024 .f32) (x3 : FVec Ideal S8x64x128x128 .bf16) (x4 : FVec Ideal S4096x2048 .f32)

/-- The arguments of the specification. -/
def args : Args where
  x0 r k := x0 (ix2 r k)
  x1 r k := x1 (ix2 r k)
  x2 r k := x2 (ix2 r k)
  x3 h n d e := x3 (ix4 h n d e)
  x4 r k := x4 (ix2 r k)

theorem yr_eq (r : Fin 4096) (h : Fin 8) : (args x0 x1 x2 x3 x4).yr h.val r.val = fun d => x2 (ix2 r ⟨h.val * 128 + d.val, by omega⟩) :=
  funext fun d => (get2_eq (args x0 x1 x2 x3 x4).x2 r ⟨h.val * 128 + d.val, by omega⟩).symm
theorem gt_eq (r : Fin 4096) (h : Fin 8) : (args x0 x1 x2 x3 x4).gt h.val r.val = fun d => x0 (ix2 r ⟨3072 + (h.val * 128 + d.val), by omega⟩) :=
  funext fun d => (get2_eq (args x0 x1 x2 x3 x4).x0 r ⟨3072 + (h.val * 128 + d.val), by omega⟩).symm
theorem ct_eq (r : Fin 4096) (h : Fin 8) : (args x0 x1 x2 x3 x4).ct h.val r.val = fun d => x4 (ix2 r ⟨h.val * 128 + d.val, by omega⟩) :=
  funext fun d => (get2_eq (args x0 x1 x2 x3 x4).x4 r ⟨h.val * 128 + d.val, by omega⟩).symm
theorem gn_eq (h : Fin 8) : (args x0 x1 x2 x3 x4).gn h.val = fun d => x1 (ix2 0 ⟨h.val * 128 + d.val, by omega⟩) :=
  funext fun d => (get2_eq (args x0 x1 x2 x3 x4).x1 0 ⟨h.val * 128 + d.val, by omega⟩).symm

theorem v28_at (r : Fin 4096) (h : Fin 8) (d : Fin 128) : val_main_v28 (F := Ideal) x2 (ix3 r h d) = nrm ((args x0 x1 x2 x3 x4).yr h.val r.val) d := by
  rw [yr_eq]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v33_0, val_main_v33_1, val_main_v33_2, val_main_v4, val_main_v5, val_main_v6, val_main_v7, val_main_v8, val_main_v9]
  rfl

theorem v39_at (r : Fin 4096) (h : Fin 8) (d : Fin 128) :
    val_main_v39 (F := Ideal) x0 x4 (ix3 r h d) = (args x0 x1 x2 x3 x4).ct h.val r.val d * ((args x0 x1 x2 x3 x4).gt h.val r.val d * Ideal.logistic ((args x0 x1 x2 x3 x4).gt h.val r.val d)) := by
  rw [ct_eq, gt_eq]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v0, val_main_v1, val_main_v2, val_main_v3, val_main_v33_0, val_main_v33_1, val_main_v33_2, val_main_v35, val_main_v36, val_main_v37, val_main_v38, val_main_v39]
  exact mul_comm _ _

theorem v40_at (hct : ∀ (h : Fin 8) (r : Fin 4096), Fin' ((args x0 x1 x2 x3 x4).ct h.val r.val)) (hgt : ∀ (h : Fin 8) (r : Fin 4096), Fin' ((args x0 x1 x2 x3 x4).gt h.val r.val)) (hy : ∀ (h : Fin 8) (r : Fin 4096), Fin' ((args x0 x1 x2 x3 x4).yr h.val r.val)) (hgn : ∀ h : Fin 8, Fin' ((args x0 x1 x2 x3 x4).gn h.val))
    (r : Fin 4096) (h : Fin 8) (d : Fin 128) :
    val_main_v40 (F := Ideal) x0 x1 x2 x4 (ix2 r ⟨h.val*128+d.val, by omega⟩) = (args x0 x1 x2 x3 x4).dg h.val r.val d := by
  obtain ⟨c, hc⟩ := hct h r
  obtain ⟨t, ht⟩ := hgt h r
  obtain ⟨w, hw⟩ := hgn h
  obtain ⟨z, hz⟩ := nrm_fin (hy h r)
  have key := gate_eq (c d) (z d) (w d) (t d)
  have hc' := congrFun hc d; have ht' := congrFun ht d; have hw' := congrFun hw d; have hz' := congrFun hz d
  rw [← hc', ← ht', ← hw', ← hz'] at key
  unfold Args.dg
  rw [← key, ← v28_at x0 x1 x2 x3 x4 r h d, ct_eq, gt_eq, gn_eq]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v0, val_main_v1, val_main_v2, val_main_v29, val_main_v3, val_main_v30, val_main_v31, val_main_v32, val_main_v33_0, val_main_v33_1, val_main_v33_2, val_main_v34, val_main_v35, val_main_v36, val_main_v37, val_main_v38, val_main_v39, val_main_v4, val_main_v40]
  rfl

theorem v71_at (hct : ∀ (h : Fin 8) (r : Fin 4096), Fin' ((args x0 x1 x2 x3 x4).ct h.val r.val)) (hgt : ∀ (h : Fin 8) (r : Fin 4096), Fin' ((args x0 x1 x2 x3 x4).gt h.val r.val)) (hy : ∀ (h : Fin 8) (r : Fin 4096), Fin' ((args x0 x1 x2 x3 x4).yr h.val r.val)) (hgn : ∀ h : Fin 8, Fin' ((args x0 x1 x2 x3 x4).gn h.val))
    (r : Fin 4096) (h : Fin 8) (d : Fin 128) :
    val_main_v71 (F := Ideal) x0 x1 x2 x4 (ix3 r h d) = (args x0 x1 x2 x3 x4).dy h.val r.val d := by
  have ha : Fin' ((args x0 x1 x2 x3 x4).az h.val r.val) := ((hct h r).mul ((hgt h r).mul (hgt h r).logistic)).mul (hgn h)
  unfold Args.dy
  rw [← dyR_eq_dyK (hy h r) ha]
  have e39 := fun d => v39_at x0 x1 x2 x3 x4 r h d
  have e30 : ∀ d, val_main_v30 (F := Ideal) x1 (ix3 0 h d) = (args x0 x1 x2 x3 x4).gn h.val d := fun d => by
    rw [gn_eq]; pointwise [val_main_v30, val_main_v29, val_main_v4]
  have e20 : ∀ d, val_main_v20 (F := Ideal) x2 (ix3 r h d) = cen ((args x0 x1 x2 x3 x4).yr h.val r.val) d := fun d => by
    rw [yr_eq]; pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v10, val_main_v11, val_main_v12, val_main_v13, val_main_v14, val_main_v15, val_main_v16, val_main_v17, val_main_v18, val_main_v19, val_main_v20, val_main_v33_0, val_main_v33_1, val_main_v33_2, val_main_v4, val_main_v5, val_main_v6, val_main_v7, val_main_v8, val_main_v9]; rfl
  have e22 : val_main_v22 (F := Ideal) x2 (ix3 r h 0) = var ((args x0 x1 x2 x3 x4).yr h.val r.val) := by
    rw [yr_eq]; pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v10, val_main_v11, val_main_v12, val_main_v13, val_main_v14, val_main_v15, val_main_v16, val_main_v17, val_main_v18, val_main_v19, val_main_v20, val_main_v21, val_main_v22, val_main_v33_0, val_main_v33_1, val_main_v33_2, val_main_v4, val_main_v5, val_main_v6, val_main_v7, val_main_v8, val_main_v9]; rfl
  have e23 : val_main_v23 (F := Ideal) x2 (ix3 r h 0) = Ideal.rsqrt (var ((args x0 x1 x2 x3 x4).yr h.val r.val)) := by
    rw [← e22]; pointwise [val_main_v23]
  have e26 : ∀ x, val_main_v26 (F := Ideal) x2 (ix3 r h x) = Ideal.ofBits FTy.f32 3204448256#32 * Ideal.div (Ideal.rsqrt (var ((args x0 x1 x2 x3 x4).yr h.val r.val))) (var ((args x0 x1 x2 x3 x4).yr h.val r.val)) := fun x => by
    obtain rfl : x = 0 := Subsingleton.elim _ _
    rw [← e22]; pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v23, val_main_v24, val_main_v25, val_main_v26, val_main_v33_0, val_main_v33_1, val_main_v33_2]
  have e14 : ∀ d, val_main_v14 (F := Ideal) x2 (ix3 r h d) = Ideal.ofBits FTy.f32 1073741824#32 * cen ((args x0 x1 x2 x3 x4).yr h.val r.val) d := fun d => by
    rw [yr_eq]; pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v10, val_main_v11, val_main_v12, val_main_v13, val_main_v14, val_main_v33_0, val_main_v33_1, val_main_v33_2, val_main_v4, val_main_v5, val_main_v6, val_main_v7, val_main_v8, val_main_v9]; rfl
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v33_0, val_main_v33_1, val_main_v33_2, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71]
  simp only [Finset.univ_unique, Finset.sum_singleton, e39, e30, e20, e23, e26, e14]
  rfl

theorem v299_at (h : Fin 8) (d : Fin 128) : val_main_v299 (F := Ideal) x0 x2 x4 (ix3 h 0 d) = (args x0 x1 x2 x3 x4).outg h.val d := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v299, val_main_v33_0, val_main_v33_1, val_main_v33_2, val_main_v41, val_main_v42, val_main_v43, val_main_v44, val_main_v45, val_main_v46, val_main_v47]
  simp only [Finset.univ_unique, Finset.sum_singleton, v28_at x0 x1 x2 x3 x4, v39_at x0 x1 x2 x3 x4]
  exact Finset.sum_congr rfl fun r _ => mul_comm _ _

end Cert.ReferenceIdeal.Val
end
-- ==== Proof.Val.RefRet.lean ====
module

public import proofs.«01_k».proof.Proof.Val.RefGate
public import proofs.«01_k».proof.Proof.Val.SpecMath
public import Idealize.ShloMosaic.Lib.Pointwise

/-! # The reference's retention gradients, at an index -/

@[expose] public section

set_option maxRecDepth 16384

noncomputable section

namespace Cert.ReferenceIdeal.Val
open Cert.Val Cert.ReferenceIdeal Cert.ReferenceIdeal.Gen Cert.ReferenceIdeal.Read Idealize.ShloMosaic Idealize.ShloMosaic.TcCoe Idealize.SL.Sem Idealize.ShloMosaic.StableHlo

variable (x0 : FVec Ideal S4096x7168 .f32) (x1 : FVec Ideal S1x1024 .f32) (x2 : FVec Ideal S4096x1024 .f32) (x3 : FVec Ideal S8x64x128x128 .bf16) (x4 : FVec Ideal S4096x2048 .f32)

/-- The reference's way of writing a rotated row. -/
theorem rot_eq (f : ℕ → EReal) (r d : ℕ) (hd : d < 128) :
    (if d < 64 then f d * Ideal.cos (ang r d) - f (64 + d) * Ideal.sin (ang r d)
      else f (d - 64) * Ideal.sin (ang r (d - 64)) + f (64 + (d - 64)) * Ideal.cos (ang r (d - 64))) = rot f r d := by
  unfold rot
  split
  · rw [Nat.add_comm 64 d]
  · rw [show 64 + (d - 64) = d by omega]

theorem x0_eq (a : Fin 4096) (b : Fin 7168) : x0 (ix2 a b) = get2 (args x0 x1 x2 x3 x4).x0 a.val b.val := get2_eq (args x0 x1 x2 x3 x4).x0 a b

theorem v103_at (n i : Fin 64) (h : Fin 8) (d : Fin 128) :
    val_main_v103 (F := Ideal) x0 (ix4 n i h d) = ((args x0 x1 x2 x3 x4).head h.val).Q (n.val * 64 + i.val) d.val := by
  rw [Args.head_Q, ← rot_eq _ _ _ d.isLt]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v0, val_main_v100, val_main_v101, val_main_v102, val_main_v103, val_main_v33_0, val_main_v33_1, val_main_v33_2, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99]
  split <;> rename_i hd
  · simp only [x0_eq x0 x1 x2 x3 x4]; rfl
  · simp only [x0_eq x0 x1 x2 x3 x4]; rfl

theorem v136_at (n i : Fin 64) (h : Fin 8) (d : Fin 128) :
    val_main_v136 (F := Ideal) x0 (ix4 n i h d) = ((args x0 x1 x2 x3 x4).head h.val).K (n.val * 64 + i.val) d.val := by
  rw [Args.head_K, ← rot_eq _ _ _ d.isLt]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v1, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v33_0, val_main_v33_1, val_main_v33_2]
  refine congrArg (fun a : EReal => a * _) ?_
  split <;> rename_i hd
  · simp only [x0_eq x0 x1 x2 x3 x4]; rfl
  · simp only [x0_eq x0 x1 x2 x3 x4]; rfl

theorem v137_at (n i : Fin 64) (h : Fin 8) (d : Fin 128) :
    val_main_v137 (F := Ideal) x0 (ix4 n i h d) = ((args x0 x1 x2 x3 x4).head h.val).V (n.val * 64 + i.val) d.val := by
  rw [Args.head_V]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v137, val_main_v2, val_main_v33_0, val_main_v33_1, val_main_v33_2]
  exact get2_eq (args x0 x1 x2 x3 x4).x0 _ _

theorem v139_at (n : Fin 64) (h : Fin 8) (d e : Fin 128) :
    val_main_v139 (F := Ideal) x3 (ix4 n h d e) = ((args x0 x1 x2 x3 x4).head h.val).P n.val d.val e.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v138, val_main_v139, val_main_v33_0, val_main_v33_1, val_main_v33_2]
  exact ((args x0 x1 x2 x3 x4).head_P h.isLt n.isLt d.isLt e.isLt).symm

theorem v161_at (i j : Fin 64) (h : Fin 8) : val_main_v161 (F := Ideal) (ix3 h i j) = dc h.val i.val j.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v33_0, val_main_v33_1, val_main_v33_2]; rfl

theorem v177_at (i : Fin 64) (h : Fin 8) : val_main_v177 (F := Ideal) (ix4 0 i h 0) = qd h.val i.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v140, val_main_v141, val_main_v142, val_main_v143, val_main_v144, val_main_v145, val_main_v146, val_main_v147, val_main_v148, val_main_v149, val_main_v166, val_main_v167, val_main_v168, val_main_v169, val_main_v170, val_main_v171, val_main_v172, val_main_v173, val_main_v174, val_main_v175, val_main_v176, val_main_v177, val_main_v33_0, val_main_v33_1, val_main_v33_2]; rfl

theorem v221_at (i : Fin 64) (h : Fin 8) : val_main_v221 (F := Ideal) (ix4 0 i h 0) = kd h.val i.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v140, val_main_v141, val_main_v142, val_main_v143, val_main_v144, val_main_v145, val_main_v146, val_main_v147, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v33_0, val_main_v33_1, val_main_v33_2]; rfl

theorem v223_at (n i : Fin 64) (h : Fin 8) (d : Fin 128) :
    val_main_v223 (F := Ideal) x0 (ix4 n i h d) = ((args x0 x1 x2 x3 x4).head h.val).K (n.val * 64 + i.val) d.val * kd h.val i.val := by
  rw [← v221_at, ← v136_at x0 x1 x2 x3 x4]
  pointwise [val_main_v223, val_main_v222]

theorem v243_at (n x : Fin 64) (h : Fin 8) : val_main_v243 (F := Ideal) (ix3 h x n) = wt h.val x.val n.val := by
  have e0 : (constant S_ .f32 0#32 : FVec Ideal S_ .f32) ix0 = (0 : EReal) := by pointwise
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v33_0, val_main_v33_1, val_main_v33_2, val_main_call2_v0, val_main_call2_v1, val_main_call2_v2]
  unfold wt
  split <;> rename_i hx
  · exact (if_pos hx).symm
  · exact e0.trans (if_neg hx).symm

section
variable (hct : ∀ (h : Fin 8) (r : Fin 4096), Fin' ((args x0 x1 x2 x3 x4).ct h.val r.val)) (hgt : ∀ (h : Fin 8) (r : Fin 4096), Fin' ((args x0 x1 x2 x3 x4).gt h.val r.val)) (hy : ∀ (h : Fin 8) (r : Fin 4096), Fin' ((args x0 x1 x2 x3 x4).yr h.val r.val)) (hgn : ∀ h : Fin 8, Fin' ((args x0 x1 x2 x3 x4).gn h.val))
include hct hgt hy hgn

theorem v183_at (n i : Fin 64) (h : Fin 8) (d : Fin 128) :
    val_main_v183 (F := Ideal) x0 x1 x2 x4 (ix4 n i h d) = ((args x0 x1 x2 x3 x4).head h.val).DY (n.val * 64 + i.val) d.val := by
  pointwise [val_main_v183, val_main_v72]
  rw [v71_at x0 x1 x2 x3 x4 hct hgt hy hgn]
  exact ((args x0 x1 x2 x3 x4).head_DY h.val _ d).symm

theorem v188_at (n : Fin 64) (h : Fin 8) (d e : Fin 128) :
    val_main_v188 (F := Ideal) x0 x1 x2 x4 (ix4 n h d e) = ((args x0 x1 x2 x3 x4).head h.val).dP n.val d.val e.val := by
  have eq : ∀ i : Fin 64, val_main_v179 (F := Ideal) x0 (ix4 n i h d) = ((args x0 x1 x2 x3 x4).head h.val).Q (n.val * 64 + i.val) d.val * qd h.val i.val := fun i => by
    rw [← v177_at, ← v103_at x0 x1 x2 x3 x4]
    pointwise [val_main_v179, val_main_v178]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v184, val_main_v185, val_main_v186, val_main_v187, val_main_v188, val_main_v33_0, val_main_v33_1, val_main_v33_2]
  simp only [v183_at x0 x1 x2 x3 x4 hct hgt hy hgn, eq]
  exact Finset.sum_congr rfl fun i _ => mul_comm _ _

theorem v248_at (n : Fin 64) (h : Fin 8) (d e : Fin 128) :
    val_main_v248 (F := Ideal) x0 x1 x2 x4 (ix4 n h d e) = ((args x0 x1 x2 x3 x4).head h.val).S (63 - n.val) d.val e.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v244, val_main_v245, val_main_v246, val_main_v247, val_main_v248, val_main_v33_0, val_main_v33_1, val_main_v33_2]
  simp only [v188_at x0 x1 x2 x3 x4 hct hgt hy hgn, v243_at]
  have := ((args x0 x1 x2 x3 x4).head h.val).S_eq h.isLt (63 - n.val) (by omega) d.val e.val
  rw [this, show 63 - (63 - n.val) = n.val by omega]
  rfl

theorem v201_at (n i : Fin 64) (h : Fin 8) (d : Fin 128) :
    val_main_v201 (F := Ideal) x0 x1 x2 x3 x4 (ix4 n i h d) = ((args x0 x1 x2 x3 x4).head h.val).dQ (n.val * 64 + i.val) d.val := by
  have e163 : ∀ i x, val_main_v163 (F := Ideal) (ix4 0 h i x) = dc h.val i.val x.val := fun i x => by
    rw [← v161_at]; pointwise [val_main_v163]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v180, val_main_v181, val_main_v182, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v33_0, val_main_v33_1, val_main_v33_2]
  simp only [v183_at x0 x1 x2 x3 x4 hct hgt hy hgn, v177_at, v139_at x0 x1 x2 x3 x4, v137_at x0 x1 x2 x3 x4, v136_at x0 x1 x2 x3 x4, e163]
  unfold Head.dQ Head.intra
  rw [show (n.val * 64 + i.val) / 64 = n.val by omega, show (n.val * 64 + i.val) % 64 = i.val by omega]
  rfl

theorem v295_at (n i : Fin 64) (h : Fin 8) (d : Fin 128) :
    val_main_v295 (F := Ideal) x0 x1 x2 x4 (ix2 ⟨n.val * 64 + i.val, by omega⟩ ⟨h.val * 128 + d.val, by omega⟩) = ((args x0 x1 x2 x3 x4).head h.val).dV (n.val * 64 + i.val) d.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v162, val_main_v163, val_main_v164, val_main_v165, val_main_v191, val_main_v192, val_main_v193, val_main_v194, val_main_v249, val_main_v250, val_main_v251, val_main_v294, val_main_v295, val_main_v33_0, val_main_v33_1, val_main_v33_2]
  simp only [v183_at x0 x1 x2 x3 x4 hct hgt hy hgn, v103_at x0 x1 x2 x3 x4, v136_at x0 x1 x2 x3 x4, v161_at, v248_at x0 x1 x2 x3 x4 hct hgt hy hgn, v223_at x0 x1 x2 x3 x4]
  unfold Head.dV Head.intra
  rw [show (n.val * 64 + i.val) / 64 = n.val by omega, show (n.val * 64 + i.val) % 64 = i.val by omega, add_comm]
  refine congrArg₂ (fun a b : EReal => a + b) (Finset.sum_congr rfl fun x _ => mul_comm _ _) (Finset.sum_congr rfl fun x _ => ?_)
  rw [mul_comm, dc_symm h.val x.isLt i.isLt]
  refine congrArg (fun a : EReal => a * _ * _) (Finset.sum_congr rfl fun k _ => mul_comm _ _)

theorem v273_at (n i : Fin 64) (h : Fin 8) (d : Fin 128) :
    val_main_v273 (F := Ideal) x0 x1 x2 x4 (ix4 n i h d) = ((args x0 x1 x2 x3 x4).head h.val).dK (n.val * 64 + i.val) d.val := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v162, val_main_v163, val_main_v164, val_main_v165, val_main_v191, val_main_v192, val_main_v193, val_main_v194, val_main_v195, val_main_v196, val_main_v197, val_main_v198, val_main_v199, val_main_v200, val_main_v251, val_main_v252, val_main_v253, val_main_v254, val_main_v273, val_main_v33_0, val_main_v33_1, val_main_v33_2]
  simp only [v183_at x0 x1 x2 x3 x4 hct hgt hy hgn, v103_at x0 x1 x2 x3 x4, v137_at x0 x1 x2 x3 x4, v161_at, v248_at x0 x1 x2 x3 x4 hct hgt hy hgn, v221_at]
  unfold Head.dK Head.intra
  rw [show (n.val * 64 + i.val) / 64 = n.val by omega, show (n.val * 64 + i.val) % 64 = i.val by omega, add_comm]
  refine congrArg₂ (fun a b : EReal => a * _ + b) (Finset.sum_congr rfl fun x _ => mul_comm _ _) (Finset.sum_congr rfl fun x _ => ?_)
  rw [dc_symm h.val x.isLt i.isLt]
  refine congrArg (fun a : EReal => a * _ * _) (Finset.sum_congr rfl fun k _ => mul_comm _ _)

end
end Cert.ReferenceIdeal.Val
end
-- ==== Proof.Val.RefOut.lean ====
module

public import proofs.«01_k».proof.Proof.Val.RefRet
public import Idealize.ShloMosaic.Lib.Pointwise

/-! # The reference's two results, at an index -/

@[expose] public section

set_option maxRecDepth 16384

noncomputable section

namespace Cert.ReferenceIdeal.Val
open Cert.Val Cert.ReferenceIdeal Cert.ReferenceIdeal.Gen Cert.ReferenceIdeal.Read Idealize.ShloMosaic Idealize.ShloMosaic.TcCoe Idealize.SL.Sem Idealize.ShloMosaic.StableHlo

variable (x0 : FVec Ideal S4096x7168 .f32) (x1 : FVec Ideal S1x1024 .f32) (x2 : FVec Ideal S4096x1024 .f32) (x3 : FVec Ideal S8x64x128x128 .bf16) (x4 : FVec Ideal S4096x2048 .f32)

/-- The reference's way of rotating a gradient back: two halves padded with zeros. -/
theorem unrot_eq (f : Fin 128 → EReal) (g : ℕ → EReal) (r : ℕ) (d : Fin 128) (hfg : ∀ d, f d = g d.val) :
    ((if h : 64 ≤ d.val ∧ d.val - 64 < 64 then
        f ⟨64 + (d.val - 64), by omega⟩ * Ideal.cos (ang r (d.val - 64)) + -f ⟨d.val - 64, by omega⟩ * Ideal.sin (ang r (d.val - 64)) else 0)
      + if h : d.val < 64 then f ⟨64 + d.val, by omega⟩ * Ideal.sin (ang r d.val) + f d * Ideal.cos (ang r d.val) else 0) = unrot g r d.val := by
  unfold unrot
  simp only [hfg]
  by_cases hd : d.val < 64
  · rw [dif_neg (by omega), dif_pos hd, if_pos hd, zero_add, Nat.add_comm 64]
  · rw [dif_pos (by omega), dif_neg hd, if_neg hd, add_zero, show 64 + (d.val - 64) = d.val by omega]

theorem v87_at (r : Fin 4096) (j : Fin 64) : val_main_v87 (F := Ideal) (ix3 r 0 j) = Ideal.cos (ang r.val j.val) := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v33_0, val_main_v33_1, val_main_v33_2, val_main_v73, val_main_v74, val_main_v75, val_main_v76, val_main_v77, val_main_v78, val_main_v79, val_main_v80, val_main_v81, val_main_v82, val_main_v83, val_main_v84, val_main_v85, val_main_v86, val_main_v87]; rfl
theorem v89_at (r : Fin 4096) (j : Fin 64) : val_main_v89 (F := Ideal) (ix3 r 0 j) = Ideal.sin (ang r.val j.val) := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v33_0, val_main_v33_1, val_main_v33_2, val_main_v73, val_main_v74, val_main_v75, val_main_v76, val_main_v77, val_main_v78, val_main_v79, val_main_v80, val_main_v81, val_main_v82, val_main_v83, val_main_v84, val_main_v85, val_main_v86, val_main_v87, val_main_v88, val_main_v89]; rfl
theorem v118_at (r : Fin 4096) (j : Fin 64) : val_main_v118 (F := Ideal) (ix3 r 0 j) = Ideal.cos (ang r.val j.val) := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v104, val_main_v105, val_main_v106, val_main_v107, val_main_v108, val_main_v109, val_main_v110, val_main_v111, val_main_v112, val_main_v113, val_main_v114, val_main_v115, val_main_v116, val_main_v117, val_main_v118, val_main_v33_0, val_main_v33_1, val_main_v33_2]; rfl
theorem v120_at (r : Fin 4096) (j : Fin 64) : val_main_v120 (F := Ideal) (ix3 r 0 j) = Ideal.sin (ang r.val j.val) := by
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v33_0, val_main_v33_1, val_main_v33_2]; rfl

section
variable (hct : ∀ (h : Fin 8) (r : Fin 4096), Fin' ((args x0 x1 x2 x3 x4).ct h.val r.val)) (hgt : ∀ (h : Fin 8) (r : Fin 4096), Fin' ((args x0 x1 x2 x3 x4).gt h.val r.val)) (hy : ∀ (h : Fin 8) (r : Fin 4096), Fin' ((args x0 x1 x2 x3 x4).yr h.val r.val)) (hgn : ∀ h : Fin 8, Fin' ((args x0 x1 x2 x3 x4).gn h.val))
include hct hgt hy hgn

theorem v272_at (r : Fin 4096) (h : Fin 8) (d : Fin 128) :
    val_main_v272 (F := Ideal) x0 x1 x2 x3 x4 (ix2 r ⟨h.val*128+d.val, by omega⟩) = unrot (fun d => ((args x0 x1 x2 x3 x4).head h.val).dQ r.val d) r.val d.val := by
  have e : ∀ d : Fin 128, val_main_v201 (F := Ideal) x0 x1 x2 x3 x4 (ix4 ⟨r.val / 64, by omega⟩ ⟨r.val % 64, by omega⟩ h d) = ((args x0 x1 x2 x3 x4).head h.val).dQ r.val d.val := fun d => by
    rw [v201_at x0 x1 x2 x3 x4 hct hgt hy hgn, show r.val / 64 * 64 + r.val % 64 = r.val by omega]
  rw [← unrot_eq (fun d => val_main_v201 (F := Ideal) x0 x1 x2 x3 x4 (ix4 ⟨r.val / 64, by omega⟩ ⟨r.val % 64, by omega⟩ h d)) _ r.val d e]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v33_0, val_main_v33_1, val_main_v33_2]
  simp only [v87_at, v89_at]

theorem v293_at (r : Fin 4096) (h : Fin 8) (d : Fin 128) :
    val_main_v293 (F := Ideal) x0 x1 x2 x4 (ix2 r ⟨h.val*128+d.val, by omega⟩) = unrot (fun d => ((args x0 x1 x2 x3 x4).head h.val).dK r.val d * scl) r.val d.val := by
  have e : ∀ d : Fin 128, val_main_v275 (F := Ideal) x0 x1 x2 x4 (ix4 ⟨r.val / 64, by omega⟩ ⟨r.val % 64, by omega⟩ h d) = ((args x0 x1 x2 x3 x4).head h.val).dK r.val d.val * scl := fun d => by
    have : val_main_v275 (F := Ideal) x0 x1 x2 x4 (ix4 ⟨r.val / 64, by omega⟩ ⟨r.val % 64, by omega⟩ h d)
        = val_main_v273 (F := Ideal) x0 x1 x2 x4 (ix4 ⟨r.val / 64, by omega⟩ ⟨r.val % 64, by omega⟩ h d) * scl := by
      pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v274, val_main_v275, val_main_v33_0, val_main_v33_1, val_main_v33_2]; rfl
    rw [this, v273_at x0 x1 x2 x3 x4 hct hgt hy hgn, show r.val / 64 * 64 + r.val % 64 = r.val by omega]
  rw [← unrot_eq (fun d => val_main_v275 (F := Ideal) x0 x1 x2 x4 (ix4 ⟨r.val / 64, by omega⟩ ⟨r.val % 64, by omega⟩ h d)) _ r.val d e]
  pointwise [val_main_call0_cst, val_main_call0_cst_0, val_main_call0_cst_1, val_main_call0_v0, val_main_call0_v1, val_main_call0_v2, val_main_call0_v3, val_main_call0_v4, val_main_call0_v6, val_main_call0_v7, val_main_call1_v0, val_main_call1_v1, val_main_call1_v2, val_main_cst, val_main_cst_0, val_main_cst_1, val_main_cst_10, val_main_cst_11, val_main_cst_12, val_main_cst_13, val_main_cst_14, val_main_cst_15, val_main_cst_16, val_main_cst_17, val_main_cst_18, val_main_cst_19, val_main_cst_2, val_main_cst_20, val_main_cst_21, val_main_cst_22, val_main_cst_23, val_main_cst_24, val_main_cst_25, val_main_cst_26, val_main_cst_27, val_main_cst_28, val_main_cst_29, val_main_cst_3, val_main_cst_30, val_main_cst_31, val_main_cst_32, val_main_cst_33, val_main_cst_34, val_main_cst_35, val_main_cst_4, val_main_cst_5, val_main_cst_6, val_main_cst_7, val_main_cst_8, val_main_cst_9, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v33_0, val_main_v33_1, val_main_v33_2]
  simp only [v118_at, v120_at]

omit hct hgt hy hgn in
theorem v298_ladder (r : Fin 4096) (k : Fin 7168) :
    val_main_v298 (F := Ideal) x0 x1 x2 x3 x4 (ix2 r k) =
      if h : k.val < 1024 then val_main_v272 (F := Ideal) x0 x1 x2 x3 x4 (ix2 r ⟨k.val, h⟩)
      else if h : k.val - 1024 < 1024 then val_main_v293 (F := Ideal) x0 x1 x2 x4 (ix2 r ⟨k.val - 1024, h⟩)
      else if h : k.val - 1024 - 1024 < 1024 then val_main_v295 (F := Ideal) x0 x1 x2 x4 (ix2 r ⟨k.val - 1024 - 1024, h⟩)
      else if h : k.val - 1024 - 1024 - 1024 < 1024 then val_main_v40 (F := Ideal) x0 x1 x2 x4 (ix2 r ⟨k.val - 1024 - 1024 - 1024, h⟩)
      else val_main_v296 (F := Ideal) (ix2 r ⟨k.val - 1024 - 1024 - 1024 - 1024, by omega⟩) := by
  pointwise [val_main_v298, val_main_v297]

theorem v298_at (r : Fin 4096) (k : Fin 7168) (hk : k.val < 4096) :
    val_main_v298 (F := Ideal) x0 x1 x2 x3 x4 (ix2 r k) = (args x0 x1 x2 x3 x4).out r.val k.val := by
  obtain ⟨q, h, d, hk'⟩ : ∃ (q : Fin 4) (h : Fin 8) (d : Fin 128), k.val = 1024 * q.val + (h.val * 128 + d.val) :=
    ⟨⟨k.val / 1024, by omega⟩, ⟨k.val % 1024 / 128, by omega⟩, ⟨k.val % 128, by omega⟩, by show k.val = 1024 * (k.val / 1024) + (k.val % 1024 / 128 * 128 + k.val % 128); omega⟩
  have hh : k.val % 1024 / 128 = h.val := by omega
  have hd : k.val % 128 = d.val := by omega
  unfold Args.out
  simp only [hh, hd]
  rw [v298_ladder]
  match q, hk' with
  | 0, hk' =>
    have hk' : k.val = h.val * 128 + d.val := by simpa using hk'
    rw [dif_pos (by omega), if_pos (by omega), ← v272_at x0 x1 x2 x3 x4 hct hgt hy hgn]
    simp only [hk']
  | 1, hk' =>
    have hk' : k.val = 1024 + (h.val * 128 + d.val) := hk'
    rw [dif_neg (by omega), dif_pos (by omega), if_neg (by omega), if_pos (by omega), ← v293_at x0 x1 x2 x3 x4 hct hgt hy hgn]
    congr 2; exact Fin.ext (by show k.val - 1024 = h.val * 128 + d.val; omega)
  | 2, hk' =>
    have hk' : k.val = 2048 + (h.val * 128 + d.val) := hk'
    rw [dif_neg (by omega), dif_neg (by omega), dif_pos (by omega), if_neg (by omega), if_neg (by omega), if_pos (by omega)]
    have := v295_at x0 x1 x2 x3 x4 hct hgt hy hgn ⟨r.val / 64, by omega⟩ ⟨r.val % 64, by omega⟩ h d
    simp only [show r.val / 64 * 64 + r.val % 64 = r.val by omega] at this
    rw [← this]
    congr 2; exact Fin.ext (by show k.val - 1024 - 1024 = h.val * 128 + d.val; omega)
  | 3, hk' =>
    have hk' : k.val = 3072 + (h.val * 128 + d.val) := hk'
    rw [dif_neg (by omega), dif_neg (by omega), dif_neg (by omega), dif_pos (by omega), if_neg (by omega), if_neg (by omega), if_neg (by omega)]
    refine Eq.trans ?_ (v40_at x0 x1 x2 x3 x4 hct hgt hy hgn r h d)
    congr 2; exact Fin.ext (by show k.val - 1024 - 1024 - 1024 = h.val * 128 + d.val; omega)

end
end Cert.ReferenceIdeal.Val
end
-- ==== Proof.Val.Close.lean ====
module

public import proofs.«01_k».proof.Proof.Val.Done
public import proofs.«01_k».proof.Proof.Val.Pre
public import proofs.«01_k».proof.Proof.Val.RefOut
public import proofs.«01_k».proof.Proof.Ret.Body
public import proofs.«01_k».proof.Proof.Gen.ReferenceIdeal.Run

/-! # The kernel and the reference leave the same two results

`Args.out` and `Args.outg` are what both leave: the kernel's runs by `D_out` and `arr14`, the reference's by `v298_at`
and `v299_at`, whose hypotheses the precondition gives. -/

@[expose] public section

set_option maxRecDepth 16384

noncomputable section

namespace Cert.Close
open Cert.Val Idealize.ShloMosaic Idealize.ShloMosaic.TcCoe Idealize.SL.Sem Idealize.ShloMosaic.StableHlo

section Kernel
open Cert.KernelIdeal Cert.KernelIdeal.Ret

variable (m : (ℓ : Loc nD τ sig) → Buf (Elt Ideal) ℓ) (ρ : Dev nD → PrngReg)

/-- What the kernel leaves. -/
theorem run_kernel : θ_run defs (onTc (τ := τ) (main (F := Ideal))) ⟨m, fun _ => 0, ρ⟩ (fun r => ∀ c : Dev nD,
      r.2.mem ((c.tc : Thread nD τ).loc main_v84_0) = D m c ∧ r.2.mem ((c.tc : Thread nD τ).loc main_v84_1) = OG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1.2 c main_v84_0 (Finset.mem_singleton_self _)).trans (G_eq m c)),
    ((h.1.1.1 c).1 14).trans (arr14 m c), (h.2.1 c).1, (h.2.1 c).2.1, (h.2.1 c).2.2.1, (h.2.1 c).2.2.2.1, (h.2.1 c).2.2.2.2⟩)
    (θ_run_and (run_main m ρ) (frame m ρ))

end Kernel

section Reference
open Cert.ReferenceIdeal Cert.ReferenceIdeal.Read Cert.ReferenceIdeal.Val

variable (m : (ℓ : Loc nD τ sig) → Buf (Elt Ideal) ℓ) (ρ : Dev nD → PrngReg)

/-- What the reference leaves. -/
theorem run_reference : θ_run defs (onTc (τ := τ) (main (F := Ideal))) ⟨m, fun _ => 0, ρ⟩ (fun r => ∀ c : Dev nD,
      r.2.mem ((c.tc : Thread nD τ).loc main_v298) = val_main_v298 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v299) = val_main_v299 (F := Ideal) (m ((c.tc : Thread nD τ).loc main_arg0))
        (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (val_main_v298_eq (F := Ideal) (launchContents m c)),
    (h c).2.1.trans (val_main_v299_eq (F := Ideal) (launchContents m c)), (h c).2.2⟩) (Cert.ReferenceIdeal.Value.run (F := Ideal) m ρ)

variable (x0 : FVec Ideal S4096x7168 .f32) (x1 : FVec Ideal S1x1024 .f32) (x2 : FVec Ideal S4096x1024 .f32)
  (x3 : FVec Ideal S8x64x128x128 .bf16) (x4 : FVec Ideal S4096x2048 .f32)

theorem fin_of {f : Fin 128 → EReal} (h : ∀ d, ∃ a : ℝ, f d = a) : Fin' f :=
  ⟨fun d => (h d).choose, funext fun d => (h d).choose_spec⟩

/-- Under the precondition the reference's first result is the gradient. -/
theorem v298_out [Cert.Pre_finite.Facts] (h : Cert.Pre_finite.fn (F := Ideal) x0 x1 x2 x3 x4 = fun _ => 1#1)
    (r : Fin 4096) (k : Fin 7168) (hk : k.val < 4096) :
    val_main_v298 (F := Ideal) x0 x1 x2 x3 x4 (ix2 r k) = (args x0 x1 x2 x3 x4).out r.val k.val := by
  obtain ⟨hg, hn, hy, hc⟩ := finite_real x0 x1 x2 x3 x4 h
  refine v298_at x0 x1 x2 x3 x4 (fun h r => fin_of fun d => ?_) (fun h r => fin_of fun d => ?_) (fun h r => fin_of fun d => ?_)
    (fun h => fin_of fun d => ?_) r k hk
  · obtain ⟨a, ha⟩ := hc r ⟨h.val * 128 + d.val, by omega⟩
    exact ⟨a, ((get2_eq (args x0 x1 x2 x3 x4).x4 r ⟨h.val * 128 + d.val, by omega⟩).symm.trans ha)⟩
  · obtain ⟨a, ha⟩ := hg r ⟨h.val * 128 + d.val, by omega⟩
    exact ⟨a, ((get2_eq (args x0 x1 x2 x3 x4).x0 r ⟨3072 + (h.val * 128 + d.val), by omega⟩).symm.trans ha)⟩
  · obtain ⟨a, ha⟩ := hy r ⟨h.val * 128 + d.val, by omega⟩
    exact ⟨a, ((get2_eq (args x0 x1 x2 x3 x4).x2 r ⟨h.val * 128 + d.val, by omega⟩).symm.trans ha)⟩
  · obtain ⟨a, ha⟩ := hn ⟨h.val * 128 + d.val, by omega⟩
    exact ⟨a, ((get2_eq (args x0 x1 x2 x3 x4).x1 0 ⟨h.val * 128 + d.val, by omega⟩).symm.trans ha)⟩

end Reference

/-- The two programs' arguments read alike. -/
theorem kargs_eq (m : (ℓ : Loc Cert.KernelIdeal.nD Cert.KernelIdeal.τ Cert.KernelIdeal.sig) → Buf (Elt Ideal) ℓ) (c : Dev Cert.KernelIdeal.nD) :
    Cert.KernelIdeal.Ret.kargs m c = Cert.ReferenceIdeal.Val.args (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := rfl

theorem ix2_eta {a b : ℕ} (i : (⟨2, ![a, b]⟩ : Shape).Idx) : i = ix2 (i 0) (i 1) := by
  funext x; fin_cases x <;> rfl

theorem ix3_eta (i : (⟨3, ![8, 1, 128]⟩ : Shape).Idx) : i = ix3 (i 0) 0 (i 2) := by
  funext x
  fin_cases x
  · rfl
  · exact Fin.ext (show (i 1).val = 0 by have : (i 1).val < 1 := (i 1).isLt; omega)
  · rfl

/-- The kernel and the reference agree wherever the mask is set. -/
theorem algebraic [Cert.Pre_finite.Facts] [Cert.On_written.Facts] : Cert.algebraic_KernelIdeal_ReferenceIdeal_on_written_pre_finite := by
  intro m g m' g' hpre hargs
  refine ⟨fun c => Cert.KernelIdeal.Ret.D m c, fun c => Cert.KernelIdeal.Ret.OG m c, ?_, ?_⟩
  · exact (θ_run Cert.KernelIdeal.defs _ _).mono (fun _ h c => ⟨fun i _ => congrFun (h c).1 i, fun i _ => congrFun (h c).2.1 i, (h c).2.2⟩)
      (run_kernel m g)
  · refine (θ_run Cert.ReferenceIdeal.defs _ _).mono (fun _ h c => ⟨fun i hi => ?_, fun i _ => ?_, (h c).2.2⟩) (run_reference m' g')
    · obtain ⟨e0, e1, e2, e3, e4⟩ := hargs c
      refine (congrFun (h c).1 i).trans ?_
      rw [e0, e1, e2, e3, e4]
      obtain ⟨r, k, rfl⟩ : ∃ (r : Fin 4096) (k : Fin 7168), i = ix2 r k := ⟨i 0, i 1, ix2_eta i⟩
      have hk := written_lt _ _ _ _ _ r k hi
      exact (v298_out _ _ _ _ _ (hpre c) r k hk).trans
        ((congrArg (fun A : Args => A.out r.val k.val) (kargs_eq m c)).symm.trans (Cert.KernelIdeal.Ret.D_out m c r k hk).symm)
    · obtain ⟨e0, e1, e2, e3, e4⟩ := hargs c
      refine (congrFun (h c).2.1 i).trans ?_
      rw [e0, e2, e4]
      obtain ⟨h, d, rfl⟩ : ∃ (h : Fin 8) (d : Fin 128), i = ix3 h 0 d := ⟨i 0, i 2, ix3_eta i⟩
      exact (Cert.ReferenceIdeal.Val.v299_at _ (m ((c.tc : Thread Cert.KernelIdeal.nD Cert.KernelIdeal.τ).loc Cert.KernelIdeal.main_arg1)) _
        (m ((c.tc : Thread Cert.KernelIdeal.nD Cert.KernelIdeal.τ).loc Cert.KernelIdeal.main_arg3)) _ h d).trans
        (congrArg (fun A : Args => A.outg h.val d) (kargs_eq m c)).symm

end Cert.Close
end
-- ==== Proof.Mat.Act.lean ====
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
public import Idealize.ShloMosaic.Lib.Pipeline.ReadBack
public import Idealize.ShloMosaic.Lib.Pipeline.ValueKit

/-! # The gradient through the feed-forward layer's second product and its squared ReLU

A tile of the result is the product of the cotangent's rows with the weight's rows, times twice the positive part of the
saved pre-activation; the derivative of the square of the ReLU is that, chosen to be zero where the pre-activation isn't
positive. -/

@[expose] public section

set_option maxRecDepth 16384

noncomputable section

namespace Cert.Kernel2Ideal.Act
open Cert.Kernel2Ideal Cert.Kernel2Ideal.Gen Idealize.ShloMosaic Idealize.ShloMosaic.TcCoe Idealize.ShloMosaic.StableHlo Idealize.SL.Sem
open Cert.Reference2Ideal.Read

variable (m : (ℓ : Loc nD τ sig) → Buf (Elt Ideal) ℓ) (c : Dev nD)

theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

theorem two : Ideal.ofBits FTy.f32 1073741824#32 = (2 : EReal) := by
  simp [Ideal.ofBits, Ideal.ieee, -EReal.coe_mul]
  norm_num
  rfl

/-- The tile's arithmetic at an index. -/
theorem pay (a b : FVec Ideal S1024x2048 .bf16) (u : FVec Ideal S1024x1024 .f32) (y : S1024x1024.Idx) :
    k0_pay1 (F := Ideal) a b u y = (∑ k : Fin 2048, a (ix2 (y 0) k) * b (ix2 (y 1) k)) * (2 * max (u y) 0) := by
  pointwise [k0_pay1]
  rw [two]

/-- The reference's arithmetic at an index. -/
theorem ref (a : FVec Ideal S4096x2048 .bf16) (b : FVec Ideal S8192x2048 .bf16) (u : FVec Ideal S4096x8192 .f32) (i : S4096x8192.Idx) :
    val_main_v14 (F := Ideal) a b u i = (∑ k : Fin 2048, a (ix2 (i 0) k) * b (ix2 (i 1) k)) * (2 * max (u i) 0) := by
  pointwise [val_main_v14, val_main_v13, val_main_v2, val_main_v11, val_main_v12, val_main_v10, val_main_v6, val_main_v5,
    val_main_v0, val_main_v1, val_main_call0_v0, val_main_call0_cst, val_main_v7, val_main_v9, val_main_cst, val_main_cst_1, val_main_cst_2]
  rw [two]
  split_ifs with h
  · rfl
  · rw [max_eq_right (not_lt.mp h), mul_zero, mul_zero]

/-- The array that the kernel leaves. -/
theorem final : (dats m 0 c).arrAt 3 cfg0.N = val_main_v14 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  rw [pay, ref]
  blk_point [iblk, V, idx t]

/-- The reference declares no semaphore and writes no argument. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result is the same array. -/
theorem algebraic : Cert.algebraic_Kernel2Ideal_Reference2Ideal := by
  intro m g m' g' _ hargs
  refine ⟨fun c => val_main_v14 (F := Ideal) (m ((c.tc : Thread nD τ).loc main_arg0)) (m ((c.tc : Thread nD τ).loc main_arg1))
    (m ((c.tc : Thread nD τ).loc main_arg2)), ?_, ?_⟩
  · exact (θ_run Cert.Kernel2Ideal.defs _ _).mono (fun _ h c => ⟨(h c).1.trans (final m c), (h c).2⟩) (Value.run_blocks m g)
  · refine (θ_run Cert.Reference2Ideal.defs _ _).mono (fun _ h c => ⟨?_, (h c).2⟩) (Cert.Reference2Ideal.Value.run (F := Ideal) m' g')
    obtain ⟨e0, e1, e2⟩ := hargs c
    exact (h c).1.trans ((show _ = val_main_v14 (F := Ideal) _ _ _ from rfl).trans (by rw [e0, e1, e2]))

end Cert.Kernel2Ideal.Act
end
-- ==== Proof.Mat.DwFf2.lean ====
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Pipeline.ReadBack
public import Idealize.ShloMosaic.Lib.Pipeline.ValueKit

/-! # The gradient of the feed-forward layer's second weight

A tile of the result sums, over two grid points, the products of two blocks of rows of the activation and of the
cotangent; the two sums are the one over all the rows. -/

@[expose] public section

set_option maxRecDepth 16384

noncomputable section

namespace Cert.Kernel3Ideal.DwFf2
open Cert.Kernel3Ideal Cert.Kernel3Ideal.Gen Idealize.ShloMosaic Idealize.ShloMosaic.TcCoe Idealize.ShloMosaic.StableHlo Idealize.SL.Sem
open Cert.Reference3Ideal.Read

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The scratch's arithmetic at an index. -/
theorem pay (s : FVec Ideal S1024x1024 .f32) (a b : FVec Ideal S2048x1024 .bf16) (y : S1024x1024.Idx) :
    k0_pay2 (F := Ideal) s a b y = s y + ∑ k : Fin 2048, a (ix2 k (y 0)) * b (ix2 k (y 1)) := by
  pointwise [k0_pay2]
theorem zero (y : S1024x1024.Idx) : k0_pay1 (F := Ideal) y = 0 := by
  pointwise [k0_pay1]
theorem cast (s : FVec Ideal S1024x1024 .f32) (y : S1024x1024.Idx) : k0_pay3 (F := Ideal) s y = s y := by
  pointwise [k0_pay3]

/-- The reference's arithmetic at an index. -/
theorem ref (a : FVec Ideal S4096x8192 .bf16) (b : FVec Ideal S4096x2048 .bf16) (i : S8192x2048.Idx) :
    val_main_v6 (F := Ideal) a b i = ∑ k : Fin 4096, a (ix2 k (i 0)) * b (ix2 k (i 1)) := by
  pointwise [val_main_v6, val_main_v5, val_main_v4, val_main_v3, val_main_v1]
  exact Finset.sum_congr rfl fun k _ => mul_comm _ _

/-- Where a tile is written, what is written is the scratch. -/
theorem out (t : Fin cfg0.N) (ht : t.val % 2 = 1) (y : S1024x1024.Idx) :
    (outsAt0 m c t.val t.isLt).1 y = (outsAt0 m c t.val t.isLt).2 y := by
  rw [outsAt0_B m c t (by omega) ht]
  frame_out
  rw [cast]

/-- The array that the kernel leaves. -/
theorem final : (dats m 0 c).arrAt 2 cfg0.N = val_main_v6 (F := Ideal) (m ((c : Thread nD τ).loc main_arg0))
    (m ((c : Thread nD τ).loc main_arg1)) := by
  refine (dats m 0 c).arrAt_eq_of_covers 2 _ (by decide +kernel) fun t hf y => ?_
  blk_simp
  have ht := (flush0_2 t).mp hf
  rw [after0_2, ref]
  refine (out m c t ht y).trans ?_
  refine (Pipeline.eq_sum_fin_of_reset_step_apply_of_flush (fun n h => (outsAt0 m c n h).2) 2 (fun _ => 0) _
    (fun t h j => by rw [outsAt0_A m c t h (by omega)]; frame_out; rw [pay, zero])
    (fun t h j => by rw [outsAt0_B m c t h (by omega)]; frame_out; rw [read_unread_whole, pay]) t ht y).trans ?_
  rw [zero_add]
  refine Fin.sum_mul_add_congr fun s k hl => ?_
  blk_point [iblk, V, idx t, idx ⟨_, Pipeline.run_point_lt_of_flush t ht s⟩]

/-- The reference declares no semaphore and writes no argument. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result is the same array. -/
theorem algebraic : Cert.algebraic_Kernel3Ideal_Reference3Ideal := by
  intro m g m' g' _ hargs
  refine ⟨fun c => val_main_v6 (F := Ideal) (m ((c.tc : Thread nD τ).loc main_arg0)) (m ((c.tc : Thread nD τ).loc main_arg1)), ?_, ?_⟩
  · exact (θ_run Cert.Kernel3Ideal.defs _ _).mono (fun _ h c => ⟨(h c).1.trans (final m c), (h c).2⟩) (Value.run_blocks m g)
  · refine (θ_run Cert.Reference3Ideal.defs _ _).mono (fun _ h c => ⟨?_, (h c).2⟩) (Cert.Reference3Ideal.Value.run (F := Ideal) m' g')
    obtain ⟨e0, e1⟩ := hargs c
    exact (h c).1.trans ((show _ = val_main_v6 (F := Ideal) _ _ from rfl).trans (by rw [e0, e1]))

end Cert.Kernel3Ideal.DwFf2
end
-- ==== Proof.Mat.DwFf1.lean ====
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise
public import Idealize.ShloMosaic.Lib.Pipeline.ReadBack
public import Idealize.ShloMosaic.Lib.Pipeline.ValueKit

/-! # The gradient of the feed-forward layer's first weight

A tile of the result sums, over two grid points, the products of two blocks of rows of the normalised input and of the
cotangent. The weight's columns are cut over the chips, and the result has an axis for the cut. -/

@[expose] public section

set_option maxRecDepth 16384

noncomputable section

namespace Cert.Kernel4Ideal.DwFf1
open Cert.Kernel4Ideal Cert.Kernel4Ideal.Gen Idealize.ShloMosaic Idealize.ShloMosaic.TcCoe Idealize.ShloMosaic.StableHlo Idealize.SL.Sem
open Cert.Reference4Ideal.Read

variable (m : (ℓ : Loc nD τ sig) → Buf (Elt Ideal) ℓ) (c : Dev nD)

theorem idx : ∀ t : Fin cfg0.N, win0_0.index t = ![t.val % 2, t.val / 16] ∧ win0_1.index t = ![t.val % 2, t.val / 2 % 8]
    ∧ win0_2.index t = ![t.val / 4 % 4, t.val / 16, t.val / 2 % 2] :=
  (by decide +kernel : ∀ t : Fin grid0.N, _)

/-- The scratch's arithmetic at an index. -/
theorem pay (s : FVec Ideal S1024x1024 .f32) (a b : FVec Ideal S2048x1024 .bf16) (y : S1024x1024.Idx) :
    k0_pay2 (F := Ideal) s a b y = s y + ∑ k : Fin 2048, a (ix2 k (y 0)) * b (ix2 k (y 1)) := by
  pointwise [k0_pay2]
theorem zero (y : S1024x1024.Idx) : k0_pay1 (F := Ideal) y = 0 := by
  pointwise [k0_pay1]
theorem cast (s : FVec Ideal S1024x1024 .f32) (y : S1x1024x1024.Idx) : k0_pay3 (F := Ideal) s y = s (ix2 (y 1) (y 2)) := by
  pointwise [k0_pay3]

theorem col_lt (i : S4x2048x2048.Idx) : (i 0).val * 2048 + (i 2).val < 8192 := by
  have h0 : (i 0).val < 4 := (i 0).isLt
  have h2 : (i 2).val < 2048 := (i 2).isLt
  omega

/-- The reference's arithmetic at an index. -/
theorem ref (a : FVec Ideal S4096x2048 .bf16) (b : FVec Ideal S4096x8192 .bf16) (i : S4x2048x2048.Idx) :
    val_main_v10 (F := Ideal) a b i = ∑ k : Fin 4096, a (ix2 k (i 1)) * b (ix2 k ⟨(i 0).val * 2048 + (i 2).val, col_lt i⟩) := by
  pointwise [val_main_v10, val_main_v9, val_main_v8, val_main_v7, val_main_v6, val_main_v5, val_main_v1]
  exact Finset.sum_congr rfl fun k _ => mul_comm _ _

/-- Where a tile is written, what is written is the scratch. -/
theorem out (t : Fin cfg0.N) (ht : t.val % 2 = 1) (y : S1x1024x1024.Idx) :
    (outsAt0 m c t.val t.isLt).1 y = (outsAt0 m c t.val t.isLt).2 (ix2 (y 1) (y 2)) := by
  rw [outsAt0_B m c t (by omega) ht]
  frame_out
  rw [cast]

/-- The array that the kernel leaves. -/
theorem final : (dats m 0 c).arrAt 2 cfg0.N = val_main_v10 (F := Ideal) (m ((c : Thread nD τ).loc main_arg0))
    (m ((c : Thread nD τ).loc main_arg1)) := by
  refine (dats m 0 c).arrAt_eq_of_covers 2 _ (by decide +kernel) fun t hf y => ?_
  blk_simp
  have ht := (flush0_2 t).mp hf
  rw [after0_2, ref]
  refine (out m c t ht y).trans ?_
  refine (Pipeline.eq_sum_fin_of_reset_step_apply_of_flush (fun n h => (outsAt0 m c n h).2) 2 (fun _ => 0) _
    (fun t h j => by rw [outsAt0_A m c t h (by omega)]; frame_out; rw [pay, zero])
    (fun t h j => by rw [outsAt0_B m c t h (by omega)]; frame_out; rw [read_unread_whole, pay]) t ht (ix2 (y 1) (y 2))).trans ?_
  rw [zero_add]
  refine Fin.sum_mul_add_congr fun s k hl => ?_
  blk_point [iblk, V, idx t, idx ⟨_, Pipeline.run_point_lt_of_flush t ht s⟩]

/-- The reference declares no semaphore and writes no argument. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's result is the same array. -/
theorem algebraic : Cert.algebraic_Kernel4Ideal_Reference4Ideal := by
  intro m g m' g' _ hargs
  refine ⟨fun c => val_main_v10 (F := Ideal) (m ((c.tc : Thread nD τ).loc main_arg0)) (m ((c.tc : Thread nD τ).loc main_arg1)), ?_, ?_⟩
  · exact (θ_run Cert.Kernel4Ideal.defs _ _).mono (fun _ h c => ⟨(h c).1.trans (final m c), (h c).2⟩) (Value.run_blocks m g)
  · refine (θ_run Cert.Reference4Ideal.defs _ _).mono (fun _ h c => ⟨?_, (h c).2⟩) (Cert.Reference4Ideal.Value.run (F := Ideal) m' g')
    obtain ⟨e0, e1⟩ := hargs c
    exact (h c).1.trans ((show _ = val_main_v10 (F := Ideal) _ _ from rfl).trans (by rw [e0, e1]))

end Cert.Kernel4Ideal.DwFf1
end
-- ==== Proof.Mat.DH2.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise
public import Idealize.ShloMosaic.Lib.Pipeline.ReadBack
public import Idealize.ShloMosaic.Lib.Pipeline.ValueKit

/-! # The cotangent of the feed-forward layer's normalised input

A tile of the result sums, over four grid points, the products of a block of the cotangent with one chip's block of the
weight's columns. -/

@[expose] public section

set_option maxRecDepth 16384

noncomputable section

namespace Cert.Kernel5Ideal.DH2
open Cert.Kernel5Ideal Cert.Kernel5Ideal.Gen Idealize.ShloMosaic Idealize.ShloMosaic.TcCoe Idealize.ShloMosaic.StableHlo Idealize.SL.Sem
open Cert.Reference5Ideal.Read

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The scratch's arithmetic at an index. -/
theorem pay (s : FVec Ideal S1024x1024 .f32) (a : FVec Ideal S1024x2048 .bf16) (b : FVec Ideal S1x1024x2048 .bf16) (y : S1024x1024.Idx) :
    k0_pay2 (F := Ideal) s a b y = s y + ∑ k : Fin 2048, a (ix2 (y 0) k) * b (ix3 0 (y 1) k) := by
  pointwise [k0_pay2]
theorem zero (y : S1024x1024.Idx) : k0_pay1 (F := Ideal) y = 0 := by
  pointwise [k0_pay1]

/-- The reference's arithmetic at an index. -/
theorem ref (a : FVec Ideal S4096x8192 .bf16) (b : FVec Ideal S4x2048x2048 .bf16) (i : S4096x2048.Idx) :
    val_main_v6 (F := Ideal) a b i
      = ∑ k : Fin 8192, a (ix2 (i 0) k) * b (ix3 ⟨k.val / 2048, by omega⟩ (i 1) ⟨k.val % 2048, by omega⟩) := by
  pointwise [val_main_v6, val_main_v5, val_main_v3, val_main_v2, val_main_v1]

/-- Where a tile is written, what is written is the scratch. -/
theorem out (t : Fin cfg0.N) (ht : t.val % 4 = 3) (y : S1024x1024.Idx) :
    (outsAt0 m c t.val t.isLt).1 y = (outsAt0 m c t.val t.isLt).2 y := by
  rw [outsAt0_C m c t (by omega) ht]
  frame_out

/-- The array that the kernel leaves. -/
theorem final : (dats m 0 c).arrAt 2 cfg0.N = val_main_v6 (F := Ideal) (m ((c : Thread nD τ).loc main_arg0))
    (m ((c : Thread nD τ).loc main_arg1)) := by
  refine (dats m 0 c).arrAt_eq_of_covers 2 _ (by decide +kernel) fun t hf y => ?_
  blk_simp
  have ht := (flush0_2 t).mp hf
  rw [after0_2, ref]
  refine (out m c t ht y).trans ?_
  refine (Pipeline.eq_sum_fin_of_reset_step_apply_of_flush (fun n h => (outsAt0 m c n h).2) 4 (fun _ => 0) _
    (fun t h j => by rw [outsAt0_A m c t h (by omega)]; frame_out; rw [pay, zero])
    (fun t h j => ?_) t ht y).trans ?_
  · by_cases h3 : t.val % 4 = 3
    · rw [outsAt0_C m c t h h3]; frame_out; rw [read_unread_whole, pay]
    · rw [outsAt0_B m c t h h3]; frame_out; rw [read_unread_whole, pay]
  rw [zero_add]
  refine Fin.sum_mul_add_congr fun s k hl => ?_
  blk_point [iblk, V, idx t, idx ⟨_, Pipeline.run_point_lt_of_flush t ht s⟩]

/-- The reference declares no semaphore and writes no argument. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's result is the same array. -/
theorem algebraic : Cert.algebraic_Kernel5Ideal_Reference5Ideal := by
  intro m g m' g' _ hargs
  refine ⟨fun c => val_main_v6 (F := Ideal) (m ((c.tc : Thread nD τ).loc main_arg0)) (m ((c.tc : Thread nD τ).loc main_arg1)), ?_, ?_⟩
  · exact (θ_run Cert.Kernel5Ideal.defs _ _).mono (fun _ h c => ⟨(h c).1.trans (final m c), (h c).2⟩) (Value.run_blocks m g)
  · refine (θ_run Cert.Reference5Ideal.defs _ _).mono (fun _ h c => ⟨?_, (h c).2⟩) (Cert.Reference5Ideal.Value.run (F := Ideal) m' g')
    obtain ⟨e0, e1⟩ := hargs c
    exact (h c).1.trans ((show _ = val_main_v6 (F := Ideal) _ _ from rfl).trans (by rw [e0, e1]))

end Cert.Kernel5Ideal.DH2
end
-- ==== Proof.Mat.DwIn.lean ====
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ReadBack
public import Idealize.ShloMosaic.Lib.Pipeline.ValueKit

/-! # The gradient of the input projection's weight

As for the feed-forward layer's first weight, with tiles of half a chip's columns. -/

@[expose] public section

set_option maxRecDepth 16384

noncomputable section

namespace Cert.Kernel6Ideal.DwIn
open Cert.Kernel6Ideal Cert.Kernel6Ideal.Gen Idealize.ShloMosaic Idealize.ShloMosaic.TcCoe Idealize.ShloMosaic.StableHlo Idealize.SL.Sem
open Cert.Reference6Ideal.Read

variable (m : (ℓ : Loc nD τ sig) → Buf (Elt Ideal) ℓ) (c : Dev nD)

theorem idx : ∀ t : Fin cfg0.N, win0_0.index t = ![t.val % 2, t.val / 16] ∧ win0_1.index t = ![t.val % 2, t.val / 2 % 8]
    ∧ win0_2.index t = ![t.val / 4 % 4, t.val / 16, t.val / 2 % 2] :=
  (by decide +kernel : ∀ t : Fin grid0.N, _)

/-- The scratch's arithmetic at an index. -/
theorem pay (s : FVec Ideal S1024x896 .f32) (a : FVec Ideal S2048x1024 .bf16) (b : FVec Ideal S2048x896 .bf16) (y : S1024x896.Idx) :
    k0_pay2 (F := Ideal) s a b y = s y + ∑ k : Fin 2048, a (ix2 k (y 0)) * b (ix2 k (y 1)) := by
  pointwise [k0_pay2]
theorem zero (y : S1024x896.Idx) : k0_pay1 (F := Ideal) y = 0 := by
  pointwise [k0_pay1]
theorem cast (s : FVec Ideal S1024x896 .f32) (y : S1x1024x896.Idx) : k0_pay3 (F := Ideal) s y = s (ix2 (y 1) (y 2)) := by
  pointwise [k0_pay3]

theorem col_lt (i : S4x2048x1792.Idx) : (i 0).val * 1792 + (i 2).val < 7168 := by
  have h0 : (i 0).val < 4 := (i 0).isLt
  have h2 : (i 2).val < 1792 := (i 2).isLt
  omega

/-- The reference's arithmetic at an index. -/
theorem ref (a : FVec Ideal S4096x2048 .bf16) (b : FVec Ideal S4096x7168 .bf16) (i : S4x2048x1792.Idx) :
    val_main_v10 (F := Ideal) a b i = ∑ k : Fin 4096, a (ix2 k (i 1)) * b (ix2 k ⟨(i 0).val * 1792 + (i 2).val, col_lt i⟩) := by
  pointwise [val_main_v10, val_main_v9, val_main_v8, val_main_v7, val_main_v6, val_main_v5, val_main_v1]
  exact Finset.sum_congr rfl fun k _ => mul_comm _ _

/-- Where a tile is written, what is written is the scratch. -/
theorem out (t : Fin cfg0.N) (ht : t.val % 2 = 1) (y : S1x1024x896.Idx) :
    (outsAt0 m c t.val t.isLt).1 y = (outsAt0 m c t.val t.isLt).2 (ix2 (y 1) (y 2)) := by
  rw [outsAt0_B m c t (by omega) ht]
  frame_out
  rw [cast]

/-- The array that the kernel leaves. -/
theorem final : (dats m 0 c).arrAt 2 cfg0.N = val_main_v10 (F := Ideal) (m ((c : Thread nD τ).loc main_arg0))
    (m ((c : Thread nD τ).loc main_arg1)) := by
  refine (dats m 0 c).arrAt_eq_of_covers 2 _ (by decide +kernel) fun t hf y => ?_
  blk_simp
  have ht := (flush0_2 t).mp hf
  rw [after0_2, ref]
  refine (out m c t ht y).trans ?_
  refine (Pipeline.eq_sum_fin_of_reset_step_apply_of_flush (fun n h => (outsAt0 m c n h).2) 2 (fun _ => 0) _
    (fun t h j => by rw [outsAt0_A m c t h (by omega)]; frame_out; rw [pay, zero])
    (fun t h j => by rw [outsAt0_B m c t h (by omega)]; frame_out; rw [read_unread_whole, pay]) t ht (ix2 (y 1) (y 2))).trans ?_
  rw [zero_add]
  refine Fin.sum_mul_add_congr fun s k hl => ?_
  blk_point [iblk, V, idx t, idx ⟨_, Pipeline.run_point_lt_of_flush t ht s⟩]

/-- The reference declares no semaphore and writes no argument. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's result is the same array. -/
theorem algebraic : Cert.algebraic_Kernel6Ideal_Reference6Ideal := by
  intro m g m' g' _ hargs
  refine ⟨fun c => val_main_v10 (F := Ideal) (m ((c.tc : Thread nD τ).loc main_arg0)) (m ((c.tc : Thread nD τ).loc main_arg1)), ?_, ?_⟩
  · exact (θ_run Cert.Kernel6Ideal.defs _ _).mono (fun _ h c => ⟨(h c).1.trans (final m c), (h c).2⟩) (Value.run_blocks m g)
  · refine (θ_run Cert.Reference6Ideal.defs _ _).mono (fun _ h c => ⟨?_, (h c).2⟩) (Cert.Reference6Ideal.Value.run (F := Ideal) m' g')
    obtain ⟨e0, e1⟩ := hargs c
    exact (h c).1.trans ((show _ = val_main_v10 (F := Ideal) _ _ from rfl).trans (by rw [e0, e1]))

end Cert.Kernel6Ideal.DwIn
end
-- ==== Proof.Mat.DH1.lean ====
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pointwise
public import Idealize.ShloMosaic.Lib.Pipeline.ReadBack
public import Idealize.ShloMosaic.Lib.Pipeline.ValueKit

/-! # The cotangent of the input projection's normalised input

A tile of the result sums, over eight grid points, the products of a block of the cotangent with half of one chip's block of
the weight's columns; the halves are two arrays, taken in turn. -/

@[expose] public section

set_option maxRecDepth 16384

noncomputable section

namespace Cert.Kernel7Ideal.DH1
open Cert.Kernel7Ideal Cert.Kernel7Ideal.Gen Idealize.ShloMosaic Idealize.ShloMosaic.TcCoe Idealize.ShloMosaic.StableHlo Idealize.SL.Sem
open Cert.Reference7Ideal.Read

variable (m : (ℓ : Loc nD τ sig) → Buf (Elt Ideal) ℓ) (c : Dev nD)

theorem idx : ∀ t : Fin cfg0.N, win0_0.index t = ![t.val / 16, t.val % 8] ∧ win0_1.index t = ![t.val % 8 / 2, t.val / 8 % 2, 0]
    ∧ win0_2.index t = ![t.val % 8 / 2, t.val / 8 % 2, 0] ∧ win0_3.index t = ![t.val / 16, t.val / 8 % 2] :=
  (by decide +kernel : ∀ t : Fin grid0.N, _)

/-- The scratch's arithmetic at an index, from the first halves and from the second. -/
theorem pay (s : FVec Ideal S1024x1024 .f32) (a : FVec Ideal S1024x896 .bf16) (b : FVec Ideal S1x1024x896 .bf16) (y : S1024x1024.Idx) :
    k0_pay2 (F := Ideal) s a b y = s y + ∑ k : Fin 896, a (ix2 (y 0) k) * b (ix3 0 (y 1) k) := by
  pointwise [k0_pay2]
theorem pay' (s : FVec Ideal S1024x1024 .f32) (a : FVec Ideal S1024x896 .bf16) (b : FVec Ideal S1x1024x896 .bf16) (y : S1024x1024.Idx) :
    k0_pay3 (F := Ideal) s a b y = s y + ∑ k : Fin 896, a (ix2 (y 0) k) * b (ix3 0 (y 1) k) := by
  pointwise [k0_pay3]
theorem zero (y : S1024x1024.Idx) : k0_pay1 (F := Ideal) y = 0 := by
  pointwise [k0_pay1]

/-- The reference's arithmetic at an index. -/
theorem ref (a : FVec Ideal S4096x7168 .bf16) (b b' : FVec Ideal S4x2048x896 .bf16) (i : S4096x2048.Idx) :
    val_main_v7 (F := Ideal) a b b' i
      = ∑ k : Fin 7168, a (ix2 (i 0) k) * if k.val / 896 % 2 = 0 then b (ix3 ⟨k.val / 1792, by omega⟩ (i 1) ⟨k.val % 896, by omega⟩)
          else b' (ix3 ⟨k.val / 1792, by omega⟩ (i 1) ⟨k.val % 896, by omega⟩) := by
  pointwise [val_main_v7, val_main_v6, val_main_v4, val_main_v3, val_main_v2, val_main_v1]
  refine Finset.sum_congr rfl fun k _ => congrArg (a (ix2 (i 0) k) * ·) ?_
  by_cases h : k.val % 1792 < 896
  · refine (dif_pos h).trans (Eq.trans ?_ (if_pos (show k.val / 896 % 2 = 0 by omega)).symm)
    exact congrArg (fun l => b (ix3 ⟨k.val / 1792, by omega⟩ (i 1) l)) (Fin.ext (show k.val % 1792 = k.val % 896 by omega))
  · refine (dif_neg h).trans (Eq.trans ?_ (if_neg (show ¬k.val / 896 % 2 = 0 by omega)).symm)
    exact congrArg (fun l => b' (ix3 ⟨k.val / 1792, by omega⟩ (i 1) l)) (Fin.ext (show k.val % 1792 - 896 = k.val % 896 by omega))

/-- Where a tile is written, what is written is the scratch. -/
theorem out (t : Fin cfg0.N) (ht : t.val % 8 = 7) (y : S1024x1024.Idx) :
    (outsAt0 m c t.val t.isLt).1 y = (outsAt0 m c t.val t.isLt).2 y := by
  rw [outsAt0_D m c t (by omega) (by omega) (by omega) ht]
  frame_out

/-- What a grid point adds, from the first halves where `p` holds and from the second elsewhere. -/
def part (p : Prop) [Decidable p] (a : FVec Ideal S1024x896 .bf16) (b b' : FVec Ideal S1x1024x896 .bf16) (y : S1024x1024.Idx) : EReal :=
  ∑ k : Fin 896, a (ix2 (y 0) k) * if p then b (ix3 0 (y 1) k) else b' (ix3 0 (y 1) k)

theorem part_pos (p : Prop) [Decidable p] (h : p) (a : FVec Ideal S1024x896 .bf16) (b b' : FVec Ideal S1x1024x896 .bf16) (y : S1024x1024.Idx) :
    part p a b b' y = ∑ k : Fin 896, a (ix2 (y 0) k) * b (ix3 0 (y 1) k) := by
  simp only [part, if_pos h]
theorem part_neg (p : Prop) [Decidable p] (h : ¬p) (a : FVec Ideal S1024x896 .bf16) (b b' : FVec Ideal S1x1024x896 .bf16) (y : S1024x1024.Idx) :
    part p a b b' y = ∑ k : Fin 896, a (ix2 (y 0) k) * b' (ix3 0 (y 1) k) := by
  simp only [part, if_neg h]

/-- The array that the kernel leaves. -/
theorem final : (dats m 0 c).arrAt 3 cfg0.N = val_main_v7 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have ht := (flush0_3 t).mp hf
  rw [after0_3, ref]
  refine (out m c t ht y).trans ?_
  refine (Pipeline.eq_sum_fin_of_reset_step_apply_of_flush (fun n h => (outsAt0 m c n h).2) 8 (fun _ => 0)
    (fun t j => part (t.val % 2 = 0) (iblk m c 0 t) (iblk m c 1 t) (iblk m c 2 t) j)
    (fun t h j => ?_) (fun t h j => ?_) t ht y).trans ?_
  · rw [outsAt0_A m c t h (by omega) (by omega) (by omega)]; frame_out; rw [pay, zero, part_pos _ (by omega)]
  · by_cases h2 : t.val % 2 = 0
    · rw [outsAt0_C m c t h h2 (by omega) (by omega), part_pos _ h2]; frame_out; rw [read_unread_whole, pay]
    · rw [part_neg _ h2]
      by_cases h3 : t.val % 8 = 7
      · rw [outsAt0_D m c t h h2 (by omega) h3]; frame_out; rw [read_unread_whole, pay']
      · rw [outsAt0_B m c t h h2 (by omega) h3]; frame_out; rw [read_unread_whole, pay']
  rw [zero_add]
  unfold part
  refine Fin.sum_mul_add_congr fun s k hl => ?_
  dsimp only
  by_cases hs : s.val % 2 = 0
  · rw [if_pos (show (8 * (t.val / 8) + s.val) % 2 = 0 by omega), if_pos (show (s.val * 896 + k.val) / 896 % 2 = 0 by omega)]
    blk_point [iblk, V, idx t, idx ⟨_, Pipeline.run_point_lt_of_flush t ht s⟩]
  · rw [if_neg (show ¬(8 * (t.val / 8) + s.val) % 2 = 0 by omega), if_neg (show ¬(s.val * 896 + k.val) / 896 % 2 = 0 by omega)]
    blk_point [iblk, V, idx t, idx ⟨_, Pipeline.run_point_lt_of_flush t ht s⟩]

/-- The reference declares no semaphore and writes no argument. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference's result is the same array. -/
theorem algebraic : Cert.algebraic_Kernel7Ideal_Reference7Ideal := by
  intro m g m' g' _ hargs
  refine ⟨fun c => val_main_v7 (F := Ideal) (m ((c.tc : Thread nD τ).loc main_arg0)) (m ((c.tc : Thread nD τ).loc main_arg1))
    (m ((c.tc : Thread nD τ).loc main_arg2)), ?_, ?_⟩
  · exact (θ_run Cert.Kernel7Ideal.defs _ _).mono (fun _ h c => ⟨(h c).1.trans (final m c), (h c).2⟩) (Value.run_blocks m g)
  · refine (θ_run Cert.Reference7Ideal.defs _ _).mono (fun _ h c => ⟨?_, (h c).2⟩) (Cert.Reference7Ideal.Value.run (F := Ideal) m' g')
    obtain ⟨e0, e1, e2⟩ := hargs c
    exact (h c).1.trans ((show _ = val_main_v7 (F := Ideal) _ _ _ from rfl).trans (by rw [e0, e1, e2]))

end Cert.Kernel7Ideal.DH1
end
-- ==== Proof.Mat.DMix.lean ====
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ReadBack
public import Idealize.ShloMosaic.Lib.Pipeline.ValueKit

/-! # The cotangent of the mixed heads

A tile of the result is the product of the cotangent's rows with the weight's rows. -/

@[expose] public section

set_option maxRecDepth 16384

noncomputable section

namespace Cert.Kernel8Ideal.DMix
open Cert.Kernel8Ideal Cert.Kernel8Ideal.Gen Idealize.ShloMosaic Idealize.ShloMosaic.TcCoe Idealize.ShloMosaic.StableHlo Idealize.SL.Sem
open Cert.Reference8Ideal.Read

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The tile's arithmetic at an index. -/
theorem pay (a b : FVec Ideal S1024x2048 .bf16) (y : S1024x1024.Idx) :
    k0_pay1 (F := Ideal) a b y = ∑ k : Fin 2048, a (ix2 (y 0) k) * b (ix2 (y 1) k) := by
  pointwise [k0_pay1]

/-- The reference's arithmetic at an index. -/
theorem ref (a : FVec Ideal S4096x2048 .bf16) (b : FVec Ideal S2048x2048 .bf16) (i : S4096x2048.Idx) :
    val_main_v4 (F := Ideal) a b i = ∑ k : Fin 2048, a (ix2 (i 0) k) * b (ix2 (i 1) k) := by
  pointwise [val_main_v4, val_main_v3, val_main_v1]

/-- The array that the kernel leaves. -/
theorem final : (dats m 0 c).arrAt 2 cfg0.N = val_main_v4 (F := Ideal) (m ((c : Thread nD τ).loc main_arg0))
    (m ((c : Thread nD τ).loc main_arg1)) := by
  refine (dats m 0 c).arrAt_eq_of_covers 2 _ (by decide +kernel) fun t _ y => ?_
  blk_simp
  rw [after0_2]
  unfold outsAt0
  frame_out
  rw [pay, ref]
  blk_point [iblk, V, idx t]

/-- The reference declares no semaphore and writes no argument. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference's result is the same array. -/
theorem algebraic : Cert.algebraic_Kernel8Ideal_Reference8Ideal := by
  intro m g m' g' _ hargs
  refine ⟨fun c => val_main_v4 (F := Ideal) (m ((c.tc : Thread nD τ).loc main_arg0)) (m ((c.tc : Thread nD τ).loc main_arg1)), ?_, ?_⟩
  · exact (θ_run Cert.Kernel8Ideal.defs _ _).mono (fun _ h c => ⟨(h c).1.trans (final m c), (h c).2⟩) (Value.run_blocks m g)
  · refine (θ_run Cert.Reference8Ideal.defs _ _).mono (fun _ h c => ⟨?_, (h c).2⟩) (Cert.Reference8Ideal.Value.run (F := Ideal) m' g')
    obtain ⟨e0, e1⟩ := hargs c
    exact (h c).1.trans ((show _ = val_main_v4 (F := Ideal) _ _ from rfl).trans (by rw [e0, e1]))

end Cert.Kernel8Ideal.DMix
end
-- ==== Proof.Mat.DwOut.lean ====
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pointwise
public import Idealize.ShloMosaic.Lib.Pipeline.ReadBack
public import Idealize.ShloMosaic.Lib.Pipeline.ValueKit

/-! # The gradient of the output projection's weight

As for the feed-forward layer's second weight, of the mixed heads. -/

@[expose] public section

set_option maxRecDepth 16384

noncomputable section

namespace Cert.Kernel9Ideal.DwOut
open Cert.Kernel9Ideal Cert.Kernel9Ideal.Gen Idealize.ShloMosaic Idealize.ShloMosaic.TcCoe Idealize.ShloMosaic.StableHlo Idealize.SL.Sem
open Cert.Reference9Ideal.Read

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The scratch's arithmetic at an index. -/
theorem pay (s : FVec Ideal S1024x1024 .f32) (a b : FVec Ideal S2048x1024 .bf16) (y : S1024x1024.Idx) :
    k0_pay2 (F := Ideal) s a b y = s y + ∑ k : Fin 2048, a (ix2 k (y 0)) * b (ix2 k (y 1)) := by
  pointwise [k0_pay2]
theorem zero (y : S1024x1024.Idx) : k0_pay1 (F := Ideal) y = 0 := by
  pointwise [k0_pay1]
theorem cast (s : FVec Ideal S1024x1024 .f32) (y : S1024x1024.Idx) : k0_pay3 (F := Ideal) s y = s y := by
  pointwise [k0_pay3]

/-- The reference's arithmetic at an index. -/
theorem ref (a : FVec Ideal S4096x2048 .bf16) (b : FVec Ideal S4096x2048 .bf16) (i : S2048x2048.Idx) :
    val_main_v6 (F := Ideal) a b i = ∑ k : Fin 4096, a (ix2 k (i 0)) * b (ix2 k (i 1)) := by
  pointwise [val_main_v6, val_main_v5, val_main_v4, val_main_v3, val_main_v1]
  exact Finset.sum_congr rfl fun k _ => mul_comm _ _

/-- Where a tile is written, what is written is the scratch. -/
theorem out (t : Fin cfg0.N) (ht : t.val % 2 = 1) (y : S1024x1024.Idx) :
    (outsAt0 m c t.val t.isLt).1 y = (outsAt0 m c t.val t.isLt).2 y := by
  rw [outsAt0_B m c t (by omega) ht]
  frame_out
  rw [cast]

/-- The array that the kernel leaves. -/
theorem final : (dats m 0 c).arrAt 2 cfg0.N = val_main_v6 (F := Ideal) (m ((c : Thread nD τ).loc main_arg0))
    (m ((c : Thread nD τ).loc main_arg1)) := by
  refine (dats m 0 c).arrAt_eq_of_covers 2 _ (by decide +kernel) fun t hf y => ?_
  blk_simp
  have ht := (flush0_2 t).mp hf
  rw [after0_2, ref]
  refine (out m c t ht y).trans ?_
  refine (Pipeline.eq_sum_fin_of_reset_step_apply_of_flush (fun n h => (outsAt0 m c n h).2) 2 (fun _ => 0) _
    (fun t h j => by rw [outsAt0_A m c t h (by omega)]; frame_out; rw [pay, zero])
    (fun t h j => by rw [outsAt0_B m c t h (by omega)]; frame_out; rw [read_unread_whole, pay]) t ht y).trans ?_
  rw [zero_add]
  refine Fin.sum_mul_add_congr fun s k hl => ?_
  blk_point [iblk, V, idx t, idx ⟨_, Pipeline.run_point_lt_of_flush t ht s⟩]

/-- The reference declares no semaphore and writes no argument. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's result is the same array. -/
theorem algebraic : Cert.algebraic_Kernel9Ideal_Reference9Ideal := by
  intro m g m' g' _ hargs
  refine ⟨fun c => val_main_v6 (F := Ideal) (m ((c.tc : Thread nD τ).loc main_arg0)) (m ((c.tc : Thread nD τ).loc main_arg1)), ?_, ?_⟩
  · exact (θ_run Cert.Kernel9Ideal.defs _ _).mono (fun _ h c => ⟨(h c).1.trans (final m c), (h c).2⟩) (Value.run_blocks m g)
  · refine (θ_run Cert.Reference9Ideal.defs _ _).mono (fun _ h c => ⟨?_, (h c).2⟩) (Cert.Reference9Ideal.Value.run (F := Ideal) m' g')
    obtain ⟨e0, e1⟩ := hargs c
    exact (h c).1.trans ((show _ = val_main_v6 (F := Ideal) _ _ from rfl).trans (by rw [e0, e1]))

end Cert.Kernel9Ideal.DwOut
end
-- ==== Proof.Fwd.Ff1.lean ====
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pointwise
public import Idealize.ShloMosaic.Lib.Pipeline.ReadBack
public import Idealize.ShloMosaic.Lib.Pipeline.ValueKit

/-! # The feed-forward layer's first product and its squared ReLU

A tile of the first result is the product of the rows of the normalised input with the columns of a chip's block of the
weight; the second result is the square of its positive part. -/

@[expose] public section

set_option maxRecDepth 16384

noncomputable section

namespace Cert.Kernel10Ideal.Ff1
open Cert.Kernel10Ideal Cert.Kernel10Ideal.Gen Idealize.ShloMosaic Idealize.ShloMosaic.TcCoe Idealize.ShloMosaic.StableHlo Idealize.SL.Sem
open Cert.Reference10Ideal.Read

variable (m : (ℓ : Loc nD τ sig) → Buf (Elt Ideal) ℓ) (c : Dev nD)

theorem idx : ∀ t : Fin cfg0.N, win0_0.index t = ![t.val / 8, 0] ∧ win0_1.index t = ![t.val % 8 / 2, 0, t.val % 2]
    ∧ win0_2.index t = ![t.val / 8, t.val % 8] ∧ win0_3.index t = ![t.val / 8, t.val % 8] :=
  (by decide +kernel : ∀ t : Fin grid0.N, _)

/-- The tile's product at an index. -/
theorem pay (a : FVec Ideal S1024x2048 .bf16) (b : FVec Ideal S1x2048x1024 .bf16) (y : S1024x1024.Idx) :
    k0_pay1 (F := Ideal) a b y = ∑ k : Fin 2048, a (ix2 (y 0) k) * b (ix3 0 k (y 1)) := by
  pointwise [k0_pay1]
/-- The square of its positive part. -/
theorem pay_act (a : FVec Ideal S1024x2048 .bf16) (b : FVec Ideal S1x2048x1024 .bf16) (y : S1024x1024.Idx) :
    k0_pay2 (F := Ideal) a b y = max (k0_pay1 (F := Ideal) a b y) 0 * max (k0_pay1 (F := Ideal) a b y) 0 := by
  pointwise [k0_pay2]

/-- The reference's product at an index. -/
theorem ref (a : FVec Ideal S4096x2048 .bf16) (b : FVec Ideal S4x2048x2048 .bf16) (i : S4096x8192.Idx) :
    val_main_v4 (F := Ideal) a b i
      = ∑ k : Fin 2048, a (ix2 (i 0) k) * b (ix3 ⟨(i 1).val / 2048, by have h : (i 1).val < 8192 := (i 1).isLt; omega⟩ k ⟨(i 1).val % 2048, by omega⟩) := by
  pointwise [val_main_v4, val_main_v3, val_main_v2, val_main_v1, val_main_v0]
theorem ref_act (a : FVec Ideal S4096x2048 .bf16) (b : FVec Ideal S4x2048x2048 .bf16) (i : S4096x8192.Idx) :
    val_main_v7 (F := Ideal) a b i = max (val_main_v4 (F := Ideal) a b i) 0 * max (val_main_v4 (F := Ideal) a b i) 0 := by
  pointwise [val_main_v7, val_main_v6, val_main_v5, val_main_call0_v0, val_main_call0_cst]

/-- The first array that the kernel leaves. -/
theorem final : (dats m 0 c).arrAt 2 cfg0.N = val_main_v4 (F := Ideal) (m ((c : Thread nD τ).loc main_arg0))
    (m ((c : Thread nD τ).loc main_arg1)) := by
  refine (dats m 0 c).arrAt_eq_of_covers 2 _ (by decide +kernel) fun t _ y => ?_
  blk_simp
  rw [after0_2]
  unfold outsAt0
  frame_out
  rw [pay, ref]
  blk_point [iblk, V, idx t]
/-- The second. -/
theorem final_act : (dats m 0 c).arrAt 3 cfg0.N = val_main_v7 (F := Ideal) (m ((c : Thread nD τ).loc main_arg0))
    (m ((c : Thread nD τ).loc main_arg1)) := by
  refine (dats m 0 c).arrAt_eq_of_covers 3 _ (by decide +kernel) fun t _ y => ?_
  blk_simp
  rw [after0_3]
  unfold outsAt0
  frame_out
  rw [pay_act, ref_act, pay, ref]
  blk_point [iblk, V, idx t]

/-- The reference declares no semaphore and writes no argument. -/
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The reference's results are the same arrays. -/
theorem algebraic : Cert.algebraic_Kernel10Ideal_Reference10Ideal := by
  intro m g m' g' _ hargs
  refine ⟨fun c => val_main_v4 (F := Ideal) (m ((c.tc : Thread nD τ).loc main_arg0)) (m ((c.tc : Thread nD τ).loc main_arg1)),
    fun c => val_main_v7 (F := Ideal) (m ((c.tc : Thread nD τ).loc main_arg0)) (m ((c.tc : Thread nD τ).loc main_arg1)), ?_, ?_⟩
  · exact (θ_run Cert.Kernel10Ideal.defs _ _).mono (fun _ h c => ⟨(h c).1.trans (final m c), (h c).2.1.trans (final_act m c), (h c).2.2⟩)
      (Value.run_blocks m g)
  · refine (θ_run Cert.Reference10Ideal.defs _ _).mono (fun _ h c => ?_) (Cert.Reference10Ideal.Value.run (F := Ideal) m' g')
    obtain ⟨e0, e1⟩ := hargs c
    refine ⟨?_, ?_, (h c).2.2⟩
    · exact (h c).1.trans ((show _ = val_main_v4 (F := Ideal) _ _ from rfl).trans (by rw [e0, e1]))
    · exact (h c).2.1.trans ((show _ = val_main_v7 (F := Ideal) _ _ from rfl).trans (by rw [e0, e1]))

end Cert.Kernel10Ideal.Ff1
end
-- ==== Proof.Val.Rms.lean ====
module

public import Idealize.ShloMosaic.PureOps.Ideal
public import Idealize.ShloMosaic.Lib.Pointwise
public import proofs.«01_k».proof.Proof.Val.Norm

/-! # The RMS norm of one row of 2048 numbers, over the extended reals -/

@[expose] public section

noncomputable section

namespace Cert.Val

open Idealize.ShloMosaic

/-- The mean of a row of the residual stream. -/
def rmean (x : Fin 2048 → EReal) : EReal := Ideal.div (∑ k, x k) (Ideal.ofBits FTy.f32 1157627904#32)
/-- The mean square and the norm's small constant. -/
def msq (x : Fin 2048 → EReal) : EReal := rmean (fun k => x k * x k) + Ideal.ofBits FTy.f32 897988541#32
/-- The normalised row times the gain. -/
def rms (x g : Fin 2048 → EReal) (d : Fin 2048) : EReal := x d * Ideal.rsqrt (msq x) * g d

end Cert.Val

end
-- ==== Proof.Fwd.Loss.lean ====
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Val.Rms
public import Idealize.ShloMosaic.Lib.Pointwise
public import Idealize.ShloMosaic.Lib.Pipeline.ReadBack
public import Idealize.ShloMosaic.Lib.Pipeline.ValueKit

/-! # The feed-forward layer's second product, the loss and its gradient

The scratch gathers the product over four steps; at the last the tile of the gradient is the difference from the target
over the row's length, and the tile of the squares' sums is taken down the tile's rows. -/

@[expose] public section

set_option maxRecDepth 16384

noncomputable section

namespace Cert.Kernel11Ideal.Loss
open Cert.Kernel11Ideal Cert.Kernel11Ideal.Gen Idealize.ShloMosaic Idealize.ShloMosaic.TcCoe Idealize.ShloMosaic.StableHlo Idealize.SL.Sem
open Cert.Reference11Ideal.Read

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2]
    ∧ win0_4.index t = ![t.val / 8, t.val / 4 % 2] ∧ win0_5.index t = ![t.val / 8, t.val / 4 % 2]
    ∧ win0_6.index t = ![t.val / 8, 0, t.val / 4 % 2] :=
  (by decide +kernel : ∀ t : Fin grid0.N, _)

/-- The scratch's arithmetic at an index. -/
theorem pay (s : FVec Ideal S1024x1024 .f32) (a : FVec Ideal S1024x2048 .bf16) (b : FVec Ideal S2048x1024 .bf16) (y : S1024x1024.Idx) :
    k0_pay2 (F := Ideal) s a b y = s y + ∑ k : Fin 2048, a (ix2 (y 0) k) * b (ix2 k (y 1)) := by
  pointwise [k0_pay2]
theorem zero (y : S1024x1024.Idx) : k0_pay1 (F := Ideal) y = 0 := by
  pointwise [k0_pay1]

variable (s x z : FVec Ideal S1024x1024 .f32)
/-- The difference from the target, of a tile. -/
theorem pay_diff (y : S1024x1024.Idx) : k0_pay3 (F := Ideal) s x z y = x y + s y - z y := by
  pointwise [k0_pay3]
/-- The gradient's tile. -/
theorem pay_grad (y : S1024x1024.Idx) :
    k0_pay4 (F := Ideal) s x z y = Ideal.div (x y + s y - z y) (Ideal.ofBits FTy.f32 1157627904#32) := by
  pointwise [k0_pay4, k0_pay3]
theorem pay_round (y : S1024x1024.Idx) : k0_pay5 (F := Ideal) s x z y = k0_pay4 (F := Ideal) s x z y := by
  pointwise [k0_pay5]
/-- The sums of the squares down the tile's rows. -/
theorem pay_cols (y : S1x1x1024.Idx) : k0_pay6 (F := Ideal) s x z y
    = ∑ r : Fin 1024, k0_pay3 (F := Ideal) s x z (ix2 r (y 2)) * k0_pay3 (F := Ideal) s x z (ix2 r (y 2)) := by
  pointwise [k0_pay6]

variable (a : FVec Ideal S4096x8192 .bf16) (b : FVec Ideal S8192x2048 .bf16) (x1 tgt : FVec Ideal S4096x2048 .f32)
/-- The reference's product at an index. -/
theorem ref (i : S4096x2048.Idx) : val_main_v2 (F := Ideal) a b i = ∑ k : Fin 8192, a (ix2 (i 0) k) * b (ix2 k (i 1)) := by
  pointwise [val_main_v2, val_main_v1, val_main_v0]
theorem ref_diff (i : S4096x2048.Idx) : val_main_v19 (F := Ideal) a b x1 tgt i = x1 i + val_main_v2 (F := Ideal) a b i - tgt i := by
  pointwise [val_main_v19, val_main_v3]

theorem c2048 : Ideal.ofBits FTy.f32 1157627904#32 = ((2048 : ℝ) : EReal) := by
  simp [Ideal.ofBits, Ideal.ieee, -EReal.coe_mul]; norm_num
theorem chalf : Ideal.ofBits FTy.f32 1056964608#32 = ((1/2 : ℝ) : EReal) := by
  simp [Ideal.ofBits, Ideal.ieee, -EReal.coe_mul]; norm_num

/-- The loss's derivative is the difference over the row's length. -/
theorem ref_grad (i : S4096x2048.Idx) : val_main_v18 (F := Ideal) a b x1 tgt i
    = Ideal.div (x1 i + val_main_v2 (F := Ideal) a b i - tgt i) (Ideal.ofBits FTy.f32 1157627904#32) := by
  pointwise [val_main_v3, val_main_v4, val_main_v5, val_main_cst, val_main_v6, val_main_v7, val_main_cst_0, val_main_v8, val_main_cst_1, val_main_v9, val_main_v10, val_main_cst_2, val_main_v11, val_main_cst_3, val_main_v12, val_main_cst_4, val_main_cst_5, val_main_v13, val_main_v14, val_main_cst_6, val_main_v15, val_main_v16, val_main_v17, val_main_v18, val_main_v19, val_main_v20, val_main_v21, val_main_v22, val_main_cst_7, val_main_v23, val_main_v24]
  rw [c2048, chalf, Cert.Val.c2, Ideal.div_coe (by norm_num), Ideal.div_coe (by norm_num), ← EReal.coe_mul, ← mul_assoc,
    ← EReal.coe_mul, mul_comm]
  norm_num
theorem ref_cols (i : S4x1x2048.Idx) : val_main_v24 (F := Ideal) a b x1 tgt i
    = ∑ r : Fin 1024, val_main_v19 (F := Ideal) a b x1 tgt (ix2 ⟨(i 0).val * 1024 + r.val, by have h : (i 0).val < 4 := (i 0).isLt; omega⟩ (i 2))
      * val_main_v19 (F := Ideal) a b x1 tgt (ix2 ⟨(i 0).val * 1024 + r.val, by have h : (i 0).val < 4 := (i 0).isLt; omega⟩ (i 2)) := by
  pointwise [val_main_v24, val_main_v23, val_main_v21, val_main_v20, val_main_cst_7]

/-- Where a tile is written, the scratch holds the product's tile. -/
theorem acc (t : Fin cfg0.N) (ht : t.val % 4 = 3) (y : S1024x1024.Idx) : (outsAt0 m c t.val t.isLt).2.2.2 y
    = val_main_v2 (F := Ideal) (m ((c : Thread nD τ).loc main_arg0)) (m ((c : Thread nD τ).loc main_arg1))
      (ix2 ⟨t.val / 8 * 1024 + (y 0).val, by have h : (y 0).val < 1024 := (y 0).isLt; have : t.val < 32 := t.isLt; omega⟩
        ⟨t.val / 4 % 2 * 1024 + (y 1).val, by have h : (y 1).val < 1024 := (y 1).isLt; omega⟩) := by
  rw [ref]
  refine (Pipeline.eq_sum_fin_of_reset_step_apply_of_flush (fun n h => (outsAt0 m c n h).2.2.2) 4 (fun _ => 0) _
    (fun t h j => by rw [outsAt0_A m c t h (by omega)]; frame_out; rw [pay, zero])
    (fun t h j => ?_) t ht y).trans ?_
  · by_cases h3 : t.val % 4 = 3
    · rw [outsAt0_C m c t h h3]; frame_out; rw [read_unread_whole, pay]
    · rw [outsAt0_B m c t h h3]; frame_out; rw [read_unread_whole, pay]
  rw [zero_add]
  refine Fin.sum_mul_add_congr fun s k hl => ?_
  blk_point [iblk, V, idx t, idx ⟨_, Pipeline.run_point_lt_of_flush t ht s⟩]

/-- What is written there. -/
theorem out (t : Fin cfg0.N) (ht : t.val % 4 = 3) (y : S1024x1024.Idx) : (outsAt0 m c t.val t.isLt).1 y
    = k0_pay4 (F := Ideal) (outsAt0 m c t.val t.isLt).2.2.2 (iblk m c 2 t) (iblk m c 3 t) y := by
  rw [outsAt0_C m c t (by omega) ht]
  frame_out
theorem out_round (t : Fin cfg0.N) (ht : t.val % 4 = 3) (y : S1024x1024.Idx) : (outsAt0 m c t.val t.isLt).2.1 y
    = k0_pay5 (F := Ideal) (outsAt0 m c t.val t.isLt).2.2.2 (iblk m c 2 t) (iblk m c 3 t) y := by
  rw [outsAt0_C m c t (by omega) ht]
  frame_out
theorem out_cols (t : Fin cfg0.N) (ht : t.val % 4 = 3) (y : S1x1x1024.Idx) : (outsAt0 m c t.val t.isLt).2.2.1 y
    = k0_pay6 (F := Ideal) (outsAt0 m c t.val t.isLt).2.2.2 (iblk m c 2 t) (iblk m c 3 t) y := by
  rw [outsAt0_C m c t (by omega) ht]
  frame_out

/-- The gradient that the kernel leaves. -/
theorem final : (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have ht := (flush0_4 t).mp hf
  rw [after0_4, ref_grad]
  refine (out m c t ht y).trans ?_
  rw [pay_grad, acc m c t ht]
  blk_point [iblk, V, idx t]
/-- The same, rounded. -/
theorem final_round : (dats m 0 c).arrAt 5 cfg0.N = val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have ht := (flush0_5 t).mp hf
  rw [after0_5]
  refine ((out_round m c t ht y).trans ?_).trans (ref_grad _ _ _ _ _).symm
  rw [pay_round, pay_grad, acc m c t ht]
  blk_point [iblk, V, idx t]
/-- The sums of the squares. -/
theorem final_cols : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have ht := (flush0_6 t).mp hf
  rw [after0_6, ref_cols]
  refine (out_cols m c t ht y).trans ?_
  rw [pay_cols]
  refine Finset.sum_congr rfl fun r _ => ?_
  rw [pay_diff, ref_diff, acc m c t ht]
  blk_point [iblk, V, idx t]

/-- The reference declares no semaphore and writes no argument. -/
theorem frame_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The reference's results are the same arrays. -/
theorem algebraic : Cert.algebraic_Kernel11Ideal_Reference11Ideal := by
  intro m g m' g' _ hargs
  refine ⟨fun c => val_main_v18 (F := Ideal) (m ((c.tc : Thread nD τ).loc main_arg0)) (m ((c.tc : Thread nD τ).loc main_arg1)) (m ((c.tc : Thread nD τ).loc main_arg2)) (m ((c.tc : Thread nD τ).loc main_arg3)),
    fun c => val_main_v22 (F := Ideal) (m ((c.tc : Thread nD τ).loc main_arg0)) (m ((c.tc : Thread nD τ).loc main_arg1)) (m ((c.tc : Thread nD τ).loc main_arg2)) (m ((c.tc : Thread nD τ).loc main_arg3)),
    fun c => val_main_v24 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.Kernel11Ideal.defs _ _).mono (fun _ h c => ⟨(h c).1.trans (final m c), (h c).2.1.trans (final_round m c), (h c).2.2.1.trans (final_cols m c), (h c).2.2.2⟩)
      (Value.run_blocks m g)
  · refine (θ_run Cert.Reference11Ideal.defs _ _).mono (fun _ h c => ?_) (Cert.Reference11Ideal.Value.run (F := Ideal) m' g')
    obtain ⟨e0, e1, e2, e3⟩ := hargs c
    refine ⟨?_, ?_, ?_, (h c).2.2.2⟩
    · exact (h c).1.trans ((show _ = val_main_v18 (F := Ideal) _ _ _ _ from rfl).trans (by rw [e0, e1, e2, e3]))
    · exact (h c).2.1.trans ((show _ = val_main_v22 (F := Ideal) _ _ _ _ from rfl).trans (by rw [e0, e1, e2, e3]))
    · exact (h c).2.2.1.trans ((show _ = val_main_v24 (F := Ideal) _ _ _ _ from rfl).trans (by rw [e0, e1, e2, e3]))

end Cert.Kernel11Ideal.Loss
end
-- ==== Proof.Fwd.OutProj.lean ====
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Val.Rms
public import Idealize.ShloMosaic.Lib.Pointwise
public import Idealize.ShloMosaic.Lib.Pipeline.ReadBack
public import Idealize.ShloMosaic.Lib.Pipeline.ValueKit

/-! # The mixers' output projection, the residual and the second RMS norm

A block of the first result is the rows of the input plus the product of the mixed rows with the weight; the second is the
norm of these rows. -/

@[expose] public section

set_option maxRecDepth 16384

noncomputable section

namespace Cert.Kernel12Ideal.OutProj
open Cert.Kernel12Ideal Cert.Kernel12Ideal.Gen Idealize.ShloMosaic Idealize.ShloMosaic.TcCoe Idealize.ShloMosaic.StableHlo Idealize.SL.Sem
open Cert.Val (rms rmean msq)
open Cert.Reference12Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The block's residual at an index. -/
theorem pay (a : FVec Ideal S512x2048 .bf16) (w : FVec Ideal S2048x2048 .bf16) (x : FVec Ideal S512x2048 .f32) (y : S512x2048.Idx) :
    k0_pay1 (F := Ideal) a w x y = x y + ∑ k : Fin 2048, a (ix2 (y 0) k) * w (ix2 k (y 1)) := by
  pointwise [k0_pay1]
/-- The block's norm at an index. -/
theorem pay_norm (a : FVec Ideal S512x2048 .bf16) (w : FVec Ideal S2048x2048 .bf16) (x : FVec Ideal S512x2048 .f32) (g : FVec Ideal S1x2048 .f32)
    (y : S512x2048.Idx) : k0_pay2 (F := Ideal) a w x g y
      = rms (fun k => k0_pay1 (F := Ideal) a w x (ix2 (y 0) k)) (fun k => g (ix2 0 k)) (y 1) := by
  unfold rms msq rmean
  pointwise [k0_pay2]

/-- The reference's residual at an index. -/
theorem ref (a : FVec Ideal S4096x2048 .bf16) (w : FVec Ideal S2048x2048 .bf16) (x : FVec Ideal S4096x2048 .f32) (i : S4096x2048.Idx) :
    val_main_v3 (F := Ideal) a w x i = x i + ∑ k : Fin 2048, a (ix2 (i 0) k) * w (ix2 k (i 1)) := by
  pointwise [val_main_v3, val_main_v2, val_main_v1, val_main_v0]
/-- The reference's norm at an index. -/
theorem ref_norm (a : FVec Ideal S4096x2048 .bf16) (w : FVec Ideal S2048x2048 .bf16) (x : FVec Ideal S4096x2048 .f32) (g : FVec Ideal S1x2048 .f32)
    (i : S4096x2048.Idx) : val_main_v18 (F := Ideal) a w x g i
      = rms (fun k => val_main_v3 (F := Ideal) a w x (ix2 (i 0) k)) (fun k => g (ix2 0 k)) (i 1) := by
  unfold rms msq rmean
  pointwise [val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18]

/-- The first array that the kernel leaves. -/
theorem final : (dats m 0 c).arrAt 4 cfg0.N = val_main_v3 (F := Ideal) (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  rw [pay, ref]
  blk_point [iblk, V, idx t]
/-- The second. -/
theorem final_norm : (dats m 0 c).arrAt 5 cfg0.N = val_main_v18 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  rw [pay_norm, ref_norm]
  simp only [pay, ref]
  blk_point [iblk, V, idx t]

/-- The reference declares no semaphore and writes no argument. -/
theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The reference's results are the same arrays. -/
theorem algebraic : Cert.algebraic_Kernel12Ideal_Reference12Ideal := by
  intro m g m' g' _ hargs
  refine ⟨fun c => val_main_v3 (F := Ideal) (m ((c.tc : Thread nD τ).loc main_arg0)) (m ((c.tc : Thread nD τ).loc main_arg1)) (m ((c.tc : Thread nD τ).loc main_arg2)),
    fun c => val_main_v18 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.Kernel12Ideal.defs _ _).mono (fun _ h c => ⟨(h c).1.trans (final m c), (h c).2.1.trans (final_norm m c), (h c).2.2⟩)
      (Value.run_blocks m g)
  · refine (θ_run Cert.Reference12Ideal.defs _ _).mono (fun _ h c => ?_) (Cert.Reference12Ideal.Value.run (F := Ideal) m' g')
    obtain ⟨e0, e1, e2, e3⟩ := hargs c
    refine ⟨?_, ?_, (h c).2.2⟩
    · exact (h c).1.trans ((show _ = val_main_v3 (F := Ideal) _ _ _ from rfl).trans (by rw [e0, e1, e2]))
    · exact (h c).2.1.trans ((show _ = val_main_v18 (F := Ideal) _ _ _ _ from rfl).trans (by rw [e0, e1, e2, e3]))

end Cert.Kernel12Ideal.OutProj
end
-- ==== Proof.Fwd.Proj0.lean ====
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pointwise
public import Idealize.ShloMosaic.Lib.Pipeline.ReadBack
public import Idealize.ShloMosaic.Lib.Pipeline.ValueKit

/-! # The input projection, first halves

The call writes the first half of each of four column blocks; the second halves are left to the next call, so the claim
reads the first halves. -/

@[expose] public section

set_option maxRecDepth 16384

noncomputable section

namespace Cert.Kernel13Ideal.Proj0
open Cert.Kernel13Ideal Cert.Kernel13Ideal.Gen Idealize.ShloMosaic Idealize.ShloMosaic.TcCoe Idealize.ShloMosaic.StableHlo Idealize.SL.Sem
open Cert.Reference13Ideal.Read

variable (m : (ℓ : Loc nD τ sig) → Buf (Elt Ideal) ℓ) (c : Dev nD)

theorem idx : ∀ t : Fin cfg0.N, win0_0.index t = ![t.val / 4, 0] ∧ win0_1.index t = ![t.val % 4, 0, 0]
    ∧ win0_2.index t = ![t.val / 4, 2 * (t.val % 4)] :=
  (by decide +kernel : ∀ t : Fin grid0.N, _)

/-- The product of the rows with the column blocks, a column of a half standing for the column at the same place of the block. -/
def prod (a : FVec Ideal S4096x2048 .bf16) (w : FVec Ideal S4x2048x896 .bf16) : FVec Ideal S4096x7168 .f32 := fun i =>
  ∑ l : Fin 2048, a (ix2 ⟨(i 0).val, (i 0).isLt⟩ l)
    * w (ix3 ⟨(i 1).val / 1792, by have h : (i 1).val < 7168 := (i 1).isLt; omega⟩ l ⟨(i 1).val % 896, by omega⟩)

/-- The block at an index. -/
theorem pay (a : FVec Ideal S1024x2048 .bf16) (w : FVec Ideal S1x2048x896 .bf16) (y : S1024x896.Idx) :
    k0_pay1 (F := Ideal) a w y = ∑ k : Fin 2048, a (ix2 (y 0) k) * w (ix3 0 k (y 1)) := by
  pointwise [k0_pay1]

/-- The reference's product at an index. -/
theorem ref (a : FVec Ideal S4096x2048 .bf16) (w : FVec Ideal S4x2048x896 .bf16) (r : Fin 4096) (q : Fin 4) (k : Fin 896) :
    val_main_v5 (F := Ideal) a w (ix4 r q 0 k) = ∑ l : Fin 2048, a (ix2 r l) * w (ix3 q l k) := by
  pointwise [val_main_v5, val_main_v4, val_main_v3, val_main_v2, val_main_v1, val_main_v0]

/-- Where the first halves lie the reference holds the product. -/
theorem ref_first (a : FVec Ideal S4096x2048 .bf16) (w : FVec Ideal S4x2048x896 .bf16) (i : S4096x7168.Idx)
    (h : (i 1).val / 896 % 2 = 0) : val_main_v8 (F := Ideal) a w i = prod a w i := by
  have h0 : (i 0).val < 4096 := (i 0).isLt
  have h1 : (i 1).val < 7168 := (i 1).isLt
  rw [val_main_v8_apply]
  unfold prod
  rw [← ref]
  unfold val_main_v7
  refine concatenate_pair_apply_left (t := Cert.Reference13Ideal.S4096x4x2x896) (s₁ := Cert.Reference13Ideal.S4096x4x1x896) (s₂ := Cert.Reference13Ideal.S4096x4x1x896) 2
    (val_main_v5 (F := Ideal) a w) (val_main_v6 (F := Ideal)) _ _ rfl
    (ix4 (⟨(i 0).val, h0⟩ : Fin 4096) (⟨(i 1).val / 1792, by omega⟩ : Fin 4) (0 : Fin 1) (⟨(i 1).val % 896, by omega⟩ : Fin 896)) (fun b => ?_)
  fin_cases b
  · show (i 0).val = ((i 0).val * 7168 + (i 1).val) / 7168
    omega
  · show (i 1).val / 1792 = ((i 0).val * 7168 + (i 1).val) / 1792 % 4
    omega
  · show 0 = ((i 0).val * 7168 + (i 1).val) / 896 % 2
    omega
  · show (i 1).val % 896 = ((i 0).val * 7168 + (i 1).val) % 896
    omega

/-- The array that the kernel leaves: products where the first halves lie. -/
theorem final_if : (dats m 0 c).arrAt 2 cfg0.N = fun i : S4096x7168.Idx => if (i 1).val / 896 % 2 = 0
    then prod (m ((c : Thread nD τ).loc main_arg0)) (m ((c : Thread nD τ).loc main_arg1)) i
    else (dats m 0 c).A 2 i := by
  refine (dats m 0 c).arrAt_eq_of_coversWhere 2 _ (fun β => β 1 % 2 = 0) (by decide +kernel) (fun t _ y => ?_)
    (fun j => by blk_simp [Pipeline.Window.cell_apply])
  blk_simp
  rw [after0_2]
  unfold outsAt0
  frame_out
  rw [pay]
  unfold prod
  blk_point [iblk, V, idx t]

/-- The mask's side conditions. -/
theorem facts_first_halves : Cert.On_first_halves.Facts where
  bcast_S_S4096x4x2x896 := by decide
  shapeCasts_S4096x4x2x896_S4096x7168 := by decide

/-- The mask is set only where the first halves lie. -/
theorem mask [Cert.On_first_halves.Facts] (a : FVec Ideal S4096x2048 .bf16) (w : FVec Ideal S4x2048x896 .bf16) (i : S4096x7168.Idx)
    (h : Cert.On_first_halves.fn (F := Ideal) a w i = 1#1) : (i 1).val / 896 % 2 = 0 := by
  have h0 : (i 0).val < 4096 := (i 0).isLt
  have h1 : (i 1).val < 7168 := (i 1).isLt
  unfold Cert.On_first_halves.fn at h
  dsimp only at h
  have h' : IntOp.cmpi CmpIPredicate.eq (BitVec.ofNat 32 ((i 1).val / 896 % 2)) 0#32 = 1#1 := (shapeCast_apply _ _ i
    (ix4 (⟨(i 0).val, h0⟩ : Fin 4096) (⟨(i 1).val / 1792, by omega⟩ : Fin 4) (⟨(i 1).val / 896 % 2, by omega⟩ : Fin 2) (⟨(i 1).val % 896, by omega⟩ : Fin 896))
    (by
      rewrite [Shape.rowMajor_val_four, Shape.rowMajor_val_two]
      show (((i 0).val * 4 + (i 1).val / 1792) * 2 + (i 1).val / 896 % 2) * 896 + (i 1).val % 896 = (i 0).val * 7168 + (i 1).val
      omega)).symm.trans h
  rcases Nat.mod_two_eq_zero_or_one ((i 1).val / 896) with e | e
  · exact e
  · rw [e] at h'
    exact absurd h' (by decide)

/-- The reference declares no semaphore and writes no argument. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Where the mask is set the reference's result is the same array. -/
theorem algebraic [Cert.On_first_halves.Facts] : Cert.algebraic_Kernel13Ideal_Reference13Ideal_on_first_halves := by
  intro m g m' g' _ hargs
  refine ⟨fun c => val_main_v8 (F := Ideal) (m ((c.tc : Thread nD τ).loc main_arg0)) (m ((c.tc : Thread nD τ).loc main_arg1)), ?_, ?_⟩
  · refine (θ_run Cert.Kernel13Ideal.defs _ _).mono (fun _ h c => ⟨fun i hi => ?_, (h c).2⟩) (Value.run_blocks m g)
    have hm := mask _ _ i hi
    exact (congrFun ((h c).1.trans (final_if m c)) i).trans ((if_pos hm).trans (ref_first _ _ i hm).symm)
  · refine (θ_run Cert.Reference13Ideal.defs _ _).mono (fun _ h c => ?_) (Cert.Reference13Ideal.Value.run (F := Ideal) m' g')
    obtain ⟨e0, e1⟩ := hargs c
    exact ⟨fun i _ => congrFun ((h c).1.trans ((show _ = val_main_v8 (F := Ideal) _ _ from rfl).trans (by rw [e0, e1]))) i, (h c).2⟩

end Cert.Kernel13Ideal.Proj0
end
-- ==== Proof.Opt.Adamw.lean ====
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pointwise
public import Idealize.ShloMosaic.Lib.Pipeline.ReadBack
public import Idealize.ShloMosaic.Lib.Pipeline.ValueKit

/-! # The AdamW step of one weight

Every tile of every result is the same operations on the tile's elements as the reference's on the whole arrays. -/

@[expose] public section

set_option maxRecDepth 16384

noncomputable section

namespace Cert.Kernel14Ideal.Adamw
open Cert.Kernel14Ideal Cert.Kernel14Ideal.Gen Idealize.ShloMosaic Idealize.ShloMosaic.TcCoe Idealize.ShloMosaic.StableHlo Idealize.SL.Sem
open Cert.Reference14Ideal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (w g p q : FVec Ideal S256x2048 .f32) (w' g' p' q' : FVec Ideal S2048x2048 .f32) (y : S256x2048.Idx) (i : S2048x2048.Idx)

/-- The first moment of a tile's element is the reference's of the array's element that it is. -/
theorem moment1 (hg : g y = g' i) (hp : p y = p' i) : k0_pay1 (F := Ideal) g p y = val_main_v4 (F := Ideal) g' p' i := by
  pointwise [k0_pay1, val_main_cst, val_main_v0, val_main_v1, val_main_cst_0, val_main_v2, val_main_v3, val_main_v4]
  rw [hg, hp]
/-- The second moment. -/
theorem moment2 (hg : g y = g' i) (hq : q y = q' i) : k0_pay2 (F := Ideal) g q y = val_main_v10 (F := Ideal) g' q' i := by
  pointwise [k0_pay2, val_main_cst_1, val_main_v5, val_main_v6, val_main_v7, val_main_cst_2, val_main_v8, val_main_v9, val_main_v10]
  rw [hg, hq]
/-- The step. -/
theorem step (hw : w y = w' i) (hg : g y = g' i) (hp : p y = p' i) (hq : q y = q' i) :
    k0_pay3 (F := Ideal) g w p q y = val_main_v23 (F := Ideal) w' g' p' q' i := by
  pointwise [k0_pay3, k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [hg, hq, hp, hw]

/-- The gradient is handed on as it came. -/
theorem final_grad : (dats m 0 c).arrAt 4 cfg0.N = m ((c : Thread nD τ).loc main_arg1) := by
  refine (dats m 0 c).arrAt_eq_of_covers 4 _ (by decide +kernel) fun t _ y => ?_
  blk_simp
  rw [after0_4]
  frame_out
  blk_point [iblk, V, idx t]
/-- The step's array. -/
theorem final_step : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine step _ _ _ _ _ _ _ _ _ _ ?_ ?_ ?_ ?_ <;> blk_point [iblk, V, idx t]
/-- The first moment's array. -/
theorem final_m : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  refine moment1 _ _ _ _ _ _ ?_ ?_ <;> blk_point [iblk, V, idx t]
/-- The second moment's array. -/
theorem final_v : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  refine moment2 _ _ _ _ _ _ ?_ ?_ <;> blk_point [iblk, V, idx t]

/-- The reference declares no semaphore and writes no argument. -/
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The reference's results are the same arrays. -/
theorem algebraic : Cert.algebraic_Kernel14Ideal_Reference14Ideal := by
  intro m g m' g' _ hargs
  refine ⟨fun c => m ((c.tc : Thread nD τ).loc main_arg1),
    fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg1)) (m ((c.tc : Thread nD τ).loc main_arg2)),
    fun c => val_main_v10 (F := Ideal) (m ((c.tc : Thread nD τ).loc main_arg1)) (m ((c.tc : Thread nD τ).loc main_arg3)), ?_, ?_⟩
  · exact (θ_run Cert.Kernel14Ideal.defs _ _).mono (fun _ h c => ⟨(h c).1.trans (final_grad m c), (h c).2.1.trans (final_step m c), (h c).2.2.1.trans (final_m m c), (h c).2.2.2.1.trans (final_v m c), (h c).2.2.2.2⟩)
      (Value.run_blocks m g)
  · refine (θ_run Cert.Reference14Ideal.defs _ _).mono (fun _ h c => ?_) (Cert.Reference14Ideal.Value.run (F := Ideal) m' g')
    obtain ⟨e0, e1, e2, e3⟩ := hargs c
    refine ⟨?_, ?_, ?_, ?_, (h c).2.2.2.2⟩
    · exact (h c).1.trans e1
    · exact (h c).2.1.trans ((show _ = val_main_v23 (F := Ideal) _ _ _ _ from rfl).trans (by rw [e0, e1, e2, e3]))
    · exact (h c).2.2.1.trans ((show _ = val_main_v4 (F := Ideal) _ _ from rfl).trans (by rw [e1, e2]))
    · exact (h c).2.2.2.1.trans ((show _ = val_main_v10 (F := Ideal) _ _ from rfl).trans (by rw [e1, e3]))

end Cert.Kernel14Ideal.Adamw
end
-- ==== Proof.Val.RmsBack.lean ====
module

public import proofs.«01_k».proof.Proof.Val.Norm
public import proofs.«01_k».proof.Proof.Val.Rms

/-! # The derivative of the RMS norm of one row

`dxK` is the derivative as the kernel computes it, `dxR` as the chain rule gives it operation by operation; `a` is the
cotangent times the gain. On finite rows they are one function. -/

@[expose] public section

noncomputable section

namespace Cert.Val

open Idealize.ShloMosaic

/-- The cotangent `a` brought back to the row, as the kernel does it. -/
def dxK (x a : Fin 2048 → EReal) (d : Fin 2048) : EReal :=
  Ideal.rsqrt (msq x) * (a d - x d * Ideal.rsqrt (msq x) * rmean (fun k => a k * (x k * Ideal.rsqrt (msq x))))

/-- The share of the mean square in the derivative. -/
def dmsqR (x a : Fin 2048 → EReal) : EReal :=
  Ideal.div ((∑ k, x k * a k) * (Ideal.ofBits FTy.f32 3204448256#32 * Ideal.div (Ideal.rsqrt (msq x)) (msq x)))
    (Ideal.ofBits FTy.f32 1157627904#32)

/-- The same cotangent brought back by the chain rule. -/
def dxR (x a : Fin 2048 → EReal) (d : Fin 2048) : EReal :=
  a d * Ideal.rsqrt (msq x) + x d * dmsqR x a + dmsqR x a * x d

theorem c2048 : Ideal.ofBits FTy.f32 1157627904#32 = ((2048 : ℝ) : EReal) := by
  simp [Ideal.ofBits, Ideal.ieee, -EReal.coe_mul]; norm_num
theorem crms : ∃ e : ℝ, 0 < e ∧ Ideal.ofBits FTy.f32 897988541#32 = (e : EReal) :=
  ⟨8796093 * 2 ^ (-43 : ℤ), by norm_num, by simp [Ideal.ofBits, Ideal.ieee, -EReal.coe_mul]⟩

theorem rmean_coe (f : Fin 2048 → ℝ) : rmean (fun x => (f x : EReal)) = (((∑ x, f x) / 2048 : ℝ) : EReal) := by
  unfold rmean
  rw [sum_coe, c2048, Ideal.div_coe (by norm_num), ← EReal.coe_mul]
  congr 1; ring

/-- What the finite row's mean square and the root's inverse are. -/
theorem rms_parts (X : Fin 2048 → ℝ) : ∃ v s : ℝ, v ≠ 0 ∧ s * s * v = 1 ∧ msq (fun x => (X x : EReal)) = (v : EReal)
    ∧ Ideal.rsqrt (v : EReal) = (s : EReal) := by
  obtain ⟨e, he, hc⟩ := crms
  have hp : 0 < (∑ x, X x * X x) / 2048 + e :=
    add_pos_of_nonneg_of_pos (div_nonneg (Finset.sum_nonneg fun x _ => mul_self_nonneg _) (by norm_num)) he
  refine ⟨(∑ x, X x * X x) / 2048 + e, (Real.sqrt ((∑ x, X x * X x) / 2048 + e))⁻¹, hp.ne', ?_, ?_, ?_⟩
  · have := Real.mul_self_sqrt hp.le
    have h0 : Real.sqrt ((∑ x, X x * X x) / 2048 + e) ≠ 0 := (Real.sqrt_pos.mpr hp).ne'
    nth_rewrite 3 [← this]
    field_simp
  · unfold msq
    simp only [← EReal.coe_mul]
    rw [hc, rmean_coe (fun x => X x * X x), ← EReal.coe_add]
  · rw [Ideal.rsqrt_coe, if_neg (not_lt.mpr hp.le), if_neg hp.ne']

theorem dxR_eq_dxK {x a : Fin 2048 → EReal} (hx : Fin' x) (ha : Fin' a) : dxR x a = dxK x a := by
  obtain ⟨X, rfl⟩ := hx
  obtain ⟨A, rfl⟩ := ha
  obtain ⟨v, s, hv, hs, h2, h3⟩ := rms_parts X
  funext d
  unfold dxR dxK dmsqR
  rw [h2, h3, cmhalf, c2048, Ideal.div_coe hv]
  simp only [← EReal.coe_mul, rmean_coe, sum_coe, ← EReal.coe_sub]
  rw [Ideal.div_coe (by norm_num)]
  simp only [← EReal.coe_mul, ← EReal.coe_add]
  congr 1
  have hv' : 1 / v = s * s := by field_simp; linarith
  have e1 : ∑ x, A x * (X x * s) = (∑ x, X x * A x) * s := by
    rw [Finset.sum_mul]; exact Finset.sum_congr rfl fun x _ => by ring
  simp only [hv', e1]
  ring

end Cert.Val
end
-- ==== Proof.Mat.RmsBack.lean ====
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Val.RmsBack
public import proofs.«01_k».proof.Proof.Val.Pre
public import Idealize.ShloMosaic.Lib.Pointwise
public import Idealize.ShloMosaic.Lib.Pipeline.ReadBack
public import Idealize.ShloMosaic.Lib.Pipeline.ValueKit

/-! # The backward of the RMS norm

A block of the first result is the residual's cotangent plus the norm's derivative; the second is the first, rounded; the
third sums the gain's derivative over the eight blocks of rows. -/

@[expose] public section

set_option maxRecDepth 16384

noncomputable section

namespace Cert.Kernel15Ideal.RmsBack
open Cert.Kernel15Ideal Cert.Kernel15Ideal.Gen Idealize.ShloMosaic Idealize.ShloMosaic.TcCoe Idealize.ShloMosaic.StableHlo Idealize.SL.Sem
open Cert.Val (dxK dxR dmsqR msq rmean Fin' dxR_eq_dxK andi_one real_of_lt)
open Cert.Reference15Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The block's derivative at an index. -/
theorem pay (x dh : FVec Ideal S512x2048 .f32) (g : FVec Ideal S1x2048 .f32) (r : FVec Ideal S512x2048 .f32) (y : S512x2048.Idx) :
    k0_pay6 (F := Ideal) x dh g r y
      = r y + dxK (fun k => x (ix2 (y 0) k)) (fun k => dh (ix2 (y 0) k) * g (ix2 0 k)) (y 1) := by
  unfold dxK msq rmean
  pointwise [k0_pay6, k0_pay3, k0_pay2]
theorem cast (s : FVec Ideal S512x2048 .f32) (y : S512x2048.Idx) : k0_pay1 (F := Ideal) s y = s y := by
  pointwise [k0_pay1]
/-- The block's part of the gain's derivative. -/
theorem pay_gain (x dh : FVec Ideal S512x2048 .f32) (s : FVec Ideal S1x2048 .f32) (y : S1x2048.Idx) :
    k0_pay5 (F := Ideal) x dh s y
      = s y + ∑ k : Fin 512, dh (ix2 k (y 1)) * (x (ix2 k (y 1)) * Ideal.rsqrt (msq fun l => x (ix2 k l))) := by
  unfold msq rmean
  pointwise [k0_pay5, k0_pay3, k0_pay2]
theorem zero (y : S1x2048.Idx) : k0_pay4 (F := Ideal) y = 0 := by
  pointwise [k0_pay4]

/-- The reference's derivative at an index. -/
theorem ref (x : FVec Ideal S4096x2048 .f32) (g : FVec Ideal S1x2048 .f32) (dh r : FVec Ideal S4096x2048 .f32) (i : S4096x2048.Idx) :
    val_main_v37 (F := Ideal) x g dh r i
      = r i + dxR (fun k => x (ix2 (i 0) k)) (fun k => dh (ix2 (i 0) k) * g (ix2 0 k)) (i 1) := by
  unfold dxR dmsqR msq rmean
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
  simp only [Fin.sum_univ_one]
theorem ref_cast (x : FVec Ideal S4096x2048 .f32) (g : FVec Ideal S1x2048 .f32) (dh r : FVec Ideal S4096x2048 .f32) (i : S4096x2048.Idx) :
    val_main_v38 (F := Ideal) x g dh r i = val_main_v37 (F := Ideal) x g dh r i := by
  pointwise [val_main_v38]
/-- The reference's gain derivative at an index. -/
theorem ref_gain (x dh : FVec Ideal S4096x2048 .f32) (i : S1x2048.Idx) : val_main_v39 (F := Ideal) x dh i
      = ∑ k : Fin 4096, dh (ix2 k (i 1)) * (x (ix2 k (i 1)) * Ideal.rsqrt (msq fun l => x (ix2 k l))) := by
  unfold msq rmean
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38, val_main_v39]
  simp only [Fin.sum_univ_one]
  exact Finset.sum_congr rfl fun k _ => mul_comm _ _

/-- The precondition's side conditions. -/
theorem facts_finite_rows : Cert.Pre_finite_rows.Facts where
  bcast_S_S4096x2048 := by decide
  reducesTo_S4096x2048_S_d0_1 := by decide
  h_S_ := by decide
  bcast_S_S1x2048 := by decide
  reducesTo_S1x2048_S_d0_1 := by decide

/-- Under the precondition the rows, the gain and the cotangents are real. -/
theorem finite_real [Cert.Pre_finite_rows.Facts] (x : FVec Ideal S4096x2048 .f32) (g : FVec Ideal S1x2048 .f32) (dh r : FVec Ideal S4096x2048 .f32)
    (h : Cert.Pre_finite_rows.fn (F := Ideal) x g dh r = fun _ => 1#1) :
    (∀ i, ∃ a : ℝ, x i = a) ∧ (∀ i, ∃ a : ℝ, g i = a) ∧ ∀ i, ∃ a : ℝ, dh i = a := by
  have h0 := congrFun h (fun a => a.elim0)
  unfold Cert.Pre_finite_rows.fn at h0
  dsimp only at h0
  obtain ⟨h12, h3⟩ := andi_one h0
  obtain ⟨h1, h2⟩ := andi_one h12
  refine ⟨fun i => ?_, fun i => ?_, fun i => ?_⟩
  · exact real_of_lt (Host.reduce_andi_all _ _ _ _ _ h1 i)
  · exact real_of_lt (Host.reduce_andi_all _ _ _ _ _ h2 i)
  · exact real_of_lt (Host.reduce_andi_all _ _ _ _ _ h3 i)

/-- A family of real values is finite. -/
theorem fin_of {f : Fin 2048 → EReal} (h : ∀ d, ∃ a : ℝ, f d = a) : Fin' f :=
  ⟨fun d => (h d).choose, funext fun d => (h d).choose_spec⟩

/-- On finite rows the reference's derivative is the kernel's. -/
theorem ref_fin {x : FVec Ideal S4096x2048 .f32} {g : FVec Ideal S1x2048 .f32} {dh : FVec Ideal S4096x2048 .f32}
    (h : (∀ i, ∃ a : ℝ, x i = a) ∧ (∀ i, ∃ a : ℝ, g i = a) ∧ ∀ i, ∃ a : ℝ, dh i = a) (r : FVec Ideal S4096x2048 .f32) (i : S4096x2048.Idx) :
    val_main_v37 (F := Ideal) x g dh r i
      = r i + dxK (fun k => x (ix2 (i 0) k)) (fun k => dh (ix2 (i 0) k) * g (ix2 0 k)) (i 1) := by
  rw [ref, dxR_eq_dxK (fin_of fun _ => h.1 _) ((fin_of fun _ => h.2.2 _).mul (fin_of fun _ => h.2.1 _))]

/-- What a point leaves in the first block. -/
theorem out (t : Fin cfg0.N) (y : S512x2048.Idx) : (outsAt0 m c t.val t.isLt).1 y
    = k0_pay6 (F := Ideal) (iblk m c 0 t) (iblk m c 2 t) (iblk m c 1 t) (iblk m c 3 t) y := by
  by_cases h : t.val % 8 = 0
  · rw [outsAt0_A m c t h]; frame_out
  · rw [outsAt0_B m c t h]; frame_out
/-- The second block is the first, rounded. -/
theorem out_cast (t : Fin cfg0.N) (y : S512x2048.Idx) : (outsAt0 m c t.val t.isLt).2.1 y
    = k0_pay6 (F := Ideal) (iblk m c 0 t) (iblk m c 2 t) (iblk m c 1 t) (iblk m c 3 t) y := by
  by_cases h : t.val % 8 = 0
  · rw [outsAt0_A m c t h]; frame_out; rw [cast]
  · rw [outsAt0_B m c t h]; frame_out; rw [cast]

/-- The reference declares no semaphore and writes no argument. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

variable [Cert.Pre_finite_rows.Facts] (hp : Cert.Pre_Kernel15Ideal_finite_rows m)
include hp

/-- The first array that the kernel leaves. -/
theorem final : (dats m 0 c).arrAt 4 cfg0.N = val_main_v37 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine (out m c t y).trans ?_
  rw [pay, ref_fin (finite_real _ _ _ _ (hp c))]
  blk_point [iblk, V, idx t]
/-- The second. -/
theorem final_cast : (dats m 0 c).arrAt 5 cfg0.N = val_main_v38 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine (out_cast m c t y).trans ?_
  rw [pay, ref_cast, ref_fin (finite_real _ _ _ _ (hp c))]
  blk_point [iblk, V, idx t]
omit hp
/-- The gain's derivative. -/
theorem final_gain : (dats m 0 c).arrAt 6 cfg0.N = val_main_v39 (F := Ideal) (m ((c : Thread nD τ).loc main_arg0))
    (m ((c : Thread nD τ).loc main_arg2)) := by
  refine (dats m 0 c).arrAt_eq_of_covers 6 _ (by decide +kernel) fun t hf y => ?_
  blk_simp
  have ht := (flush0_6 t).mp hf
  rw [after0_6, ref_gain]
  refine (Pipeline.eq_sum_fin_of_reset_step_apply_of_flush (fun n h => (outsAt0 m c n h).2.2) 8 (fun _ => 0) _
    (fun t h j => by rw [outsAt0_A m c t h]; frame_out; rw [pay_gain, zero])
    (fun t h j => by rw [outsAt0_B m c t h]; frame_out; rw [pay_gain]) t ht y).trans ?_
  rw [zero_add]
  refine Fin.sum_mul_add_congr fun s k hl => ?_
  blk_point [iblk, V, idx t, idx ⟨_, Pipeline.run_point_lt_of_flush t ht s⟩]

/-- Under the precondition the reference's results are the same arrays. -/
theorem algebraic : Cert.algebraic_Kernel15Ideal_Reference15Ideal_pre_finite_rows := by
  intro m g m' g' hp hargs
  refine ⟨fun c => val_main_v37 (F := Ideal) (m ((c.tc : Thread nD τ).loc main_arg0)) (m ((c.tc : Thread nD τ).loc main_arg1)) (m ((c.tc : Thread nD τ).loc main_arg2)) (m ((c.tc : Thread nD τ).loc main_arg3)),
    fun c => val_main_v38 (F := Ideal) (m ((c.tc : Thread nD τ).loc main_arg0)) (m ((c.tc : Thread nD τ).loc main_arg1)) (m ((c.tc : Thread nD τ).loc main_arg2)) (m ((c.tc : Thread nD τ).loc main_arg3)),
    fun c => val_main_v39 (F := Ideal) (m ((c.tc : Thread nD τ).loc main_arg0)) (m ((c.tc : Thread nD τ).loc main_arg2)), ?_, ?_⟩
  · exact (θ_run Cert.Kernel15Ideal.defs _ _).mono (fun _ h c => ⟨(h c).1.trans (final m c hp), (h c).2.1.trans (final_cast m c hp),
      (h c).2.2.1.trans (final_gain m c), (h c).2.2.2⟩) (Value.run_blocks m g)
  · refine (θ_run Cert.Reference15Ideal.defs _ _).mono (fun _ h c => ?_) (Cert.Reference15Ideal.Value.run (F := Ideal) m' g')
    obtain ⟨e0, e1, e2, e3⟩ := hargs c
    refine ⟨?_, ?_, ?_, (h c).2.2.2⟩
    · exact (h c).1.trans ((show _ = val_main_v37 (F := Ideal) _ _ _ _ from rfl).trans (by rw [e0, e1, e2, e3]))
    · exact (h c).2.1.trans ((show _ = val_main_v38 (F := Ideal) _ _ _ _ from rfl).trans (by rw [e0, e1, e2, e3]))
    · exact (h c).2.2.1.trans ((show _ = val_main_v39 (F := Ideal) _ _ from rfl).trans (by rw [e0, e2]))

end Cert.Kernel15Ideal.RmsBack
end
-- ==== Proof.Fwd.Norm1.lean ====
module

public import proofs.«01_k».proof.Defs
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Val.Rms
public import Idealize.ShloMosaic.Lib.Pointwise
public import Idealize.ShloMosaic.Lib.Pipeline.ReadBack
public import Idealize.ShloMosaic.Lib.Pipeline.ValueKit

/-! # The first RMS norm

A block of the result is the norm of the block's rows. -/

@[expose] public section

set_option maxRecDepth 16384

noncomputable section

namespace Cert.Kernel16Ideal.Norm1
open Cert.Kernel16Ideal Cert.Kernel16Ideal.Gen Idealize.ShloMosaic Idealize.ShloMosaic.TcCoe Idealize.ShloMosaic.StableHlo Idealize.SL.Sem
open Cert.Val (rms rmean msq)
open Cert.Reference16Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The block's arithmetic at an index. -/
theorem pay (x : FVec Ideal S512x2048 .f32) (g : FVec Ideal S1x2048 .f32) (y : S512x2048.Idx) :
    k0_pay1 (F := Ideal) x g y = rms (fun k => x (ix2 (y 0) k)) (fun k => g (ix2 0 k)) (y 1) := by
  unfold rms msq rmean
  pointwise [k0_pay1]
/-- The reference's. -/
theorem ref (x : FVec Ideal S4096x2048 .f32) (g : FVec Ideal S1x2048 .f32) (i : S4096x2048.Idx) :
    val_main_v14 (F := Ideal) x g i = rms (fun k => x (ix2 (i 0) k)) (fun k => g (ix2 0 k)) (i 1) := by
  unfold rms msq rmean
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

/-- The array that the kernel leaves. -/
theorem final : (dats m 0 c).arrAt 2 cfg0.N = val_main_v14 (F := Ideal) (m ((c : Thread nD τ).loc main_arg0))
    (m ((c : Thread nD τ).loc main_arg1)) := by
  refine (dats m 0 c).arrAt_eq_of_covers 2 _ (by decide +kernel) fun t _ y => ?_
  blk_simp
  rw [after0_2]
  frame_out
  rw [pay, ref]
  blk_point [iblk, V, idx t]

/-- The reference declares no semaphore and writes no argument. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The reference's results are the same arrays. -/
theorem algebraic : Cert.algebraic_Kernel16Ideal_Reference16Ideal := by
  intro m g m' g' _ hargs
  refine ⟨fun c => val_main_v14 (F := Ideal) (m ((c.tc : Thread nD τ).loc main_arg0)) (m ((c.tc : Thread nD τ).loc main_arg1)), ?_, ?_⟩
  · exact (θ_run Cert.Kernel16Ideal.defs _ _).mono (fun _ h c => ⟨(h c).1.trans (final m c), (h c).2⟩)
      (Value.run_blocks m g)
  · refine (θ_run Cert.Reference16Ideal.defs _ _).mono (fun _ h c => ?_) (Cert.Reference16Ideal.Value.run (F := Ideal) m' g')
    obtain ⟨e0, e1⟩ := hargs c
    refine ⟨?_, (h c).2⟩
    · exact (h c).1.trans ((show _ = val_main_v14 (F := Ideal) _ _ from rfl).trans (by rw [e0, e1]))

end Cert.Kernel16Ideal.Norm1
end
-- ==== Proof.Fwd.Proj1.lean ====
module

public import proofs.«01_k».proof.Defs
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pointwise
public import Idealize.ShloMosaic.Lib.Pipeline.ReadBack
public import Idealize.ShloMosaic.Lib.Pipeline.ValueKit

/-! # The input projection, second halves

The call writes the second half of each of four column blocks into the array that it is given and keeps the first halves. -/

@[expose] public section

set_option maxRecDepth 16384

noncomputable section

namespace Cert.Kernel17Ideal.Proj1
open Cert.Kernel17Ideal Cert.Kernel17Ideal.Gen Idealize.ShloMosaic Idealize.ShloMosaic.TcCoe Idealize.ShloMosaic.StableHlo Idealize.SL.Sem
open Cert.Reference17Ideal.Read

variable (m : (ℓ : Loc nD τ sig) → Buf (Elt Ideal) ℓ) (c : Dev nD)

theorem idx : ∀ t : Fin cfg0.N, win0_0.index t = ![t.val / 4, 0] ∧ win0_1.index t = ![t.val % 4, 0, 0]
    ∧ win0_2.index t = ![t.val / 4, 2 * (t.val % 4) + 1] :=
  (by decide +kernel : ∀ t : Fin grid0.N, _)

/-- The product of the rows with the column blocks, a column of a half standing for the column at the same place of the block. -/
def prod (a : FVec Ideal S4096x2048 .bf16) (w : FVec Ideal S4x2048x896 .bf16) : FVec Ideal S4096x7168 .f32 := fun i =>
  ∑ l : Fin 2048, a (ix2 ⟨(i 0).val, (i 0).isLt⟩ l)
    * w (ix3 ⟨(i 1).val / 1792, by have h : (i 1).val < 7168 := (i 1).isLt; omega⟩ l ⟨(i 1).val % 896, by omega⟩)

/-- The block at an index. -/
theorem pay (a : FVec Ideal S1024x2048 .bf16) (w : FVec Ideal S1x2048x896 .bf16) (y : S1024x896.Idx) :
    k0_pay1 (F := Ideal) a w y = ∑ k : Fin 2048, a (ix2 (y 0) k) * w (ix3 0 k (y 1)) := by
  pointwise [k0_pay1]

/-- The reference's product at an index. -/
theorem ref (a : FVec Ideal S4096x2048 .bf16) (w : FVec Ideal S4x2048x896 .bf16) (r : Fin 4096) (q : Fin 4) (k : Fin 896) :
    val_main_v5 (F := Ideal) a w (ix4 r q 0 k) = ∑ l : Fin 2048, a (ix2 r l) * w (ix3 q l k) := by
  pointwise [val_main_v5, val_main_v4, val_main_v3, val_main_v2, val_main_v1, val_main_v0]

/-- Where the second halves lie the reference holds the product. -/
theorem ref_second (a : FVec Ideal S4096x2048 .bf16) (w : FVec Ideal S4x2048x896 .bf16) (p : FVec Ideal S4096x7168 .f32) (i : S4096x7168.Idx)
    (h : (i 1).val / 896 % 2 = 1) : val_main_v9 (F := Ideal) a w p i = prod a w i := by
  have h0 : (i 0).val < 4096 := (i 0).isLt
  have h1 : (i 1).val < 7168 := (i 1).isLt
  rw [val_main_v9_apply]
  unfold prod
  rw [← ref]
  unfold val_main_v8
  refine concatenate_pair_apply_right (t := Cert.Reference17Ideal.S4096x4x2x896) (s₁ := Cert.Reference17Ideal.S4096x4x1x896) (s₂ := Cert.Reference17Ideal.S4096x4x1x896) 2
    (val_main_v7 (F := Ideal) p) (val_main_v5 (F := Ideal) a w) _ _ rfl rfl
    (ix4 (⟨(i 0).val, h0⟩ : Fin 4096) (⟨(i 1).val / 1792, by omega⟩ : Fin 4) (0 : Fin 1) (⟨(i 1).val % 896, by omega⟩ : Fin 896)) (fun b hb => ?_) ?_
  · fin_cases b
    · show (i 0).val = ((i 0).val * 7168 + (i 1).val) / 7168
      omega
    · show (i 1).val / 1792 = ((i 0).val * 7168 + (i 1).val) / 1792 % 4
      omega
    · exact absurd rfl hb
    · show (i 1).val % 896 = ((i 0).val * 7168 + (i 1).val) % 896
      omega
  · show 0 + 1 = ((i 0).val * 7168 + (i 1).val) / 896 % 2
    omega
/-- Elsewhere it holds its argument. -/
theorem ref_first (a : FVec Ideal S4096x2048 .bf16) (w : FVec Ideal S4x2048x896 .bf16) (p : FVec Ideal S4096x7168 .f32) (i : S4096x7168.Idx)
    (h : ¬(i 1).val / 896 % 2 = 1) : val_main_v9 (F := Ideal) a w p i = p i := by
  have h0 : (i 0).val < 4096 := (i 0).isLt
  have h1 : (i 1).val < 7168 := (i 1).isLt
  rw [val_main_v9_apply]
  unfold val_main_v8
  refine (concatenate_pair_apply_left (t := Cert.Reference17Ideal.S4096x4x2x896) (s₁ := Cert.Reference17Ideal.S4096x4x1x896) (s₂ := Cert.Reference17Ideal.S4096x4x1x896) 2
    (val_main_v7 (F := Ideal) p) (val_main_v5 (F := Ideal) a w) _ _ rfl
    (ix4 (⟨(i 0).val, h0⟩ : Fin 4096) (⟨(i 1).val / 1792, by omega⟩ : Fin 4) (0 : Fin 1) (⟨(i 1).val % 896, by omega⟩ : Fin 896)) (fun b => ?_)).trans ?_
  · fin_cases b
    · show (i 0).val = ((i 0).val * 7168 + (i 1).val) / 7168
      omega
    · show (i 1).val / 1792 = ((i 0).val * 7168 + (i 1).val) / 1792 % 4
      omega
    · show 0 = ((i 0).val * 7168 + (i 1).val) / 896 % 2
      omega
    · show (i 1).val % 896 = ((i 0).val * 7168 + (i 1).val) % 896
      omega
  · rw [val_main_v7_apply, val_main_v6_apply]
    refine congrArg p (funext fun b => Fin.ext ?_)
    fin_cases b
    · show ((((i 0).val * 4 + (i 1).val / 1792) * 2 + 0) * 896 + (i 1).val % 896) / 7168 = (i 0).val
      omega
    · show ((((i 0).val * 4 + (i 1).val / 1792) * 2 + 0) * 896 + (i 1).val % 896) % 7168 = (i 1).val
      omega

/-- The array that the kernel leaves: products where the second halves lie, the argument elsewhere. -/
theorem final_if : (dats m 0 c).arrAt 2 cfg0.N = fun i : S4096x7168.Idx => if (i 1).val / 896 % 2 = 1
    then prod (m ((c : Thread nD τ).loc main_arg0)) (m ((c : Thread nD τ).loc main_arg1)) i
    else (dats m 0 c).A 2 i := by
  refine (dats m 0 c).arrAt_eq_of_coversWhere 2 _ (fun β => β 1 % 2 = 1) (by decide +kernel) (fun t _ y => ?_)
    (fun j => by blk_simp [Pipeline.Window.cell_apply])
  blk_simp
  rw [after0_2]
  unfold outsAt0
  frame_out
  rw [pay]
  unfold prod
  blk_point [iblk, V, idx t]

/-- It is the reference's. -/
theorem final : (dats m 0 c).arrAt 2 cfg0.N = val_main_v9 (F := Ideal) (m ((c : Thread nD τ).loc main_arg0))
    (m ((c : Thread nD τ).loc main_arg1)) (m ((c : Thread nD τ).loc main_arg2)) := by
  rw [final_if]
  funext i
  split
  · rename_i h
    exact (ref_second _ _ _ i h).symm
  · rename_i h
    rw [ref_first _ _ _ i h, A_eq]
    unfold V
    after_results
    try rfl

/-- The reference declares no semaphore and writes no argument. -/
theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The reference's result is the same array. -/
theorem algebraic : Cert.algebraic_Kernel17Ideal_Reference17Ideal := by
  intro m g m' g' _ hargs
  refine ⟨fun c => val_main_v9 (F := Ideal) (m ((c.tc : Thread nD τ).loc main_arg0)) (m ((c.tc : Thread nD τ).loc main_arg1)) (m ((c.tc : Thread nD τ).loc main_arg2)), ?_, ?_⟩
  · exact (θ_run Cert.Kernel17Ideal.defs _ _).mono (fun _ h c => ⟨(h c).1.trans (final m c), (h c).2⟩) (Value.run_blocks m g)
  · refine (θ_run Cert.Reference17Ideal.defs _ _).mono (fun _ h c => ?_) (Cert.Reference17Ideal.Value.run (F := Ideal) m' g')
    obtain ⟨e0, e1, e2⟩ := hargs c
    exact ⟨(h c).1.trans ((show _ = val_main_v9 (F := Ideal) _ _ _ from rfl).trans (by rw [e0, e1, e2])), (h c).2⟩

end Cert.Kernel17Ideal.Proj1
end
-- ==== Proof.Opt.AdamwIn.lean ====
module

public import proofs.«01_k».proof.Defs
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pointwise
public import Idealize.ShloMosaic.Lib.Pipeline.ReadBack
public import Idealize.ShloMosaic.Lib.Pipeline.ValueKit

/-! # The AdamW step of the input projection's shard

Every tile of every result is the same operations on the tile's elements as the reference's on the whole arrays. -/

@[expose] public section

set_option maxRecDepth 16384

noncomputable section

namespace Cert.Kernel18Ideal.AdamwIn
open Cert.Kernel18Ideal Cert.Kernel18Ideal.Gen Idealize.ShloMosaic Idealize.ShloMosaic.TcCoe Idealize.ShloMosaic.StableHlo Idealize.SL.Sem
open Cert.Reference18Ideal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (w g p q : FVec Ideal S256x1792 .f32) (w' g' p' q' : FVec Ideal S2048x1792 .f32) (y : S256x1792.Idx) (i : S2048x1792.Idx)

/-- The first moment of a tile's element is the reference's of the array's element that it is. -/
theorem moment1 (hg : g y = g' i) (hp : p y = p' i) : k0_pay1 (F := Ideal) g p y = val_main_v4 (F := Ideal) g' p' i := by
  pointwise [k0_pay1, val_main_cst, val_main_v0, val_main_v1, val_main_cst_0, val_main_v2, val_main_v3, val_main_v4]
  rw [hg, hp]
/-- The second moment. -/
theorem moment2 (hg : g y = g' i) (hq : q y = q' i) : k0_pay2 (F := Ideal) g q y = val_main_v10 (F := Ideal) g' q' i := by
  pointwise [k0_pay2, val_main_cst_1, val_main_v5, val_main_v6, val_main_v7, val_main_cst_2, val_main_v8, val_main_v9, val_main_v10]
  rw [hg, hq]
/-- The step. -/
theorem step (hw : w y = w' i) (hg : g y = g' i) (hp : p y = p' i) (hq : q y = q' i) :
    k0_pay3 (F := Ideal) g w p q y = val_main_v23 (F := Ideal) w' g' p' q' i := by
  pointwise [k0_pay3, k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [hg, hq, hp, hw]

/-- The gradient is handed on as it came. -/
theorem final_grad : (dats m 0 c).arrAt 4 cfg0.N = m ((c : Thread nD τ).loc main_arg1) := by
  refine (dats m 0 c).arrAt_eq_of_covers 4 _ (by decide +kernel) fun t _ y => ?_
  blk_simp
  rw [after0_4]
  frame_out
  blk_point [iblk, V, idx t]
/-- The step's array. -/
theorem final_step : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine step _ _ _ _ _ _ _ _ _ _ ?_ ?_ ?_ ?_ <;> blk_point [iblk, V, idx t]
/-- The first moment's array. -/
theorem final_m : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  refine moment1 _ _ _ _ _ _ ?_ ?_ <;> blk_point [iblk, V, idx t]
/-- The second moment's array. -/
theorem final_v : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  refine moment2 _ _ _ _ _ _ ?_ ?_ <;> blk_point [iblk, V, idx t]

/-- The reference declares no semaphore and writes no argument. -/
theorem frame_reference : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The reference's results are the same arrays. -/
theorem algebraic : Cert.algebraic_Kernel18Ideal_Reference18Ideal := by
  intro m g m' g' _ hargs
  refine ⟨fun c => m ((c.tc : Thread nD τ).loc main_arg1),
    fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg1)) (m ((c.tc : Thread nD τ).loc main_arg2)),
    fun c => val_main_v10 (F := Ideal) (m ((c.tc : Thread nD τ).loc main_arg1)) (m ((c.tc : Thread nD τ).loc main_arg3)), ?_, ?_⟩
  · exact (θ_run Cert.Kernel18Ideal.defs _ _).mono (fun _ h c => ⟨(h c).1.trans (final_grad m c), (h c).2.1.trans (final_step m c), (h c).2.2.1.trans (final_m m c), (h c).2.2.2.1.trans (final_v m c), (h c).2.2.2.2⟩)
      (Value.run_blocks m g)
  · refine (θ_run Cert.Reference18Ideal.defs _ _).mono (fun _ h c => ?_) (Cert.Reference18Ideal.Value.run (F := Ideal) m' g')
    obtain ⟨e0, e1, e2, e3⟩ := hargs c
    refine ⟨?_, ?_, ?_, ?_, (h c).2.2.2.2⟩
    · exact (h c).1.trans e1
    · exact (h c).2.1.trans ((show _ = val_main_v23 (F := Ideal) _ _ _ _ from rfl).trans (by rw [e0, e1, e2, e3]))
    · exact (h c).2.2.1.trans ((show _ = val_main_v4 (F := Ideal) _ _ from rfl).trans (by rw [e1, e2]))
    · exact (h c).2.2.2.1.trans ((show _ = val_main_v10 (F := Ideal) _ _ from rfl).trans (by rw [e1, e3]))

end Cert.Kernel18Ideal.AdamwIn
end
-- ==== Proof.Opt.AdamwOut.lean ====
module

public import proofs.«01_k».proof.Defs
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pointwise
public import Idealize.ShloMosaic.Lib.Pipeline.ReadBack
public import Idealize.ShloMosaic.Lib.Pipeline.ValueKit

/-! # The AdamW step of the output projection's shard

Every tile of every result is the same operations on the tile's elements as the reference's on the whole arrays. -/

@[expose] public section

set_option maxRecDepth 16384

noncomputable section

namespace Cert.Kernel19Ideal.AdamwOut
open Cert.Kernel19Ideal Cert.Kernel19Ideal.Gen Idealize.ShloMosaic Idealize.ShloMosaic.TcCoe Idealize.ShloMosaic.StableHlo Idealize.SL.Sem
open Cert.Reference19Ideal.Read

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (w g p q : FVec Ideal S256x2048 .f32) (w' g' p' q' : FVec Ideal S512x2048 .f32) (y : S256x2048.Idx) (i : S512x2048.Idx)

/-- The first moment of a tile's element is the reference's of the array's element that it is. -/
theorem moment1 (hg : g y = g' i) (hp : p y = p' i) : k0_pay1 (F := Ideal) g p y = val_main_v4 (F := Ideal) g' p' i := by
  pointwise [k0_pay1, val_main_cst, val_main_v0, val_main_v1, val_main_cst_0, val_main_v2, val_main_v3, val_main_v4]
  rw [hg, hp]
/-- The second moment. -/
theorem moment2 (hg : g y = g' i) (hq : q y = q' i) : k0_pay2 (F := Ideal) g q y = val_main_v10 (F := Ideal) g' q' i := by
  pointwise [k0_pay2, val_main_cst_1, val_main_v5, val_main_v6, val_main_v7, val_main_cst_2, val_main_v8, val_main_v9, val_main_v10]
  rw [hg, hq]
/-- The step. -/
theorem step (hw : w y = w' i) (hg : g y = g' i) (hp : p y = p' i) (hq : q y = q' i) :
    k0_pay3 (F := Ideal) g w p q y = val_main_v23 (F := Ideal) w' g' p' q' i := by
  pointwise [k0_pay3, k0_pay2, k0_pay1, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [hg, hq, hp, hw]

/-- The gradient is handed on as it came. -/
theorem final_grad : (dats m 0 c).arrAt 4 cfg0.N = m ((c : Thread nD τ).loc main_arg1) := by
  refine (dats m 0 c).arrAt_eq_of_covers 4 _ (by decide +kernel) fun t _ y => ?_
  blk_simp
  rw [after0_4]
  frame_out
  blk_point [iblk, V, idx t]
/-- The step's array. -/
theorem final_step : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  refine step _ _ _ _ _ _ _ _ _ _ ?_ ?_ ?_ ?_ <;> blk_point [iblk, V, idx t]
/-- The first moment's array. -/
theorem final_m : (dats m 0 c).arrAt 6 cfg0.N = val_main_v4 (F := Ideal) (m ((c : Thread nD τ).loc main_arg1)) (m ((c : Thread nD τ).loc main_arg2)) := by
  refine (dats m 0 c).arrAt_eq_of_covers 6 _ (by decide +kernel) fun t _ y => ?_
  blk_simp
  rw [after0_6]
  frame_out
  refine moment1 _ _ _ _ _ _ ?_ ?_ <;> blk_point [iblk, V, idx t]
/-- The second moment's array. -/
theorem final_v : (dats m 0 c).arrAt 7 cfg0.N = val_main_v10 (F := Ideal) (m ((c : Thread nD τ).loc main_arg1)) (m ((c : Thread nD τ).loc main_arg3)) := by
  refine (dats m 0 c).arrAt_eq_of_covers 7 _ (by decide +kernel) fun t _ y => ?_
  blk_simp
  rw [after0_7]
  frame_out
  refine moment2 _ _ _ _ _ _ ?_ ?_ <;> blk_point [iblk, V, idx t]

/-- The reference declares no semaphore and writes no argument. -/
theorem frame_reference : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- The reference's results are the same arrays. -/
theorem algebraic : Cert.algebraic_Kernel19Ideal_Reference19Ideal := by
  intro m g m' g' _ hargs
  refine ⟨fun c => m ((c.tc : Thread nD τ).loc main_arg1),
    fun c => val_main_v23 (F := Ideal) (m ((c.tc : Thread nD τ).loc main_arg0)) (m ((c.tc : Thread nD τ).loc main_arg1)) (m ((c.tc : Thread nD τ).loc main_arg2)) (m ((c.tc : Thread nD τ).loc main_arg3)),
    fun c => val_main_v4 (F := Ideal) (m ((c.tc : Thread nD τ).loc main_arg1)) (m ((c.tc : Thread nD τ).loc main_arg2)),
    fun c => val_main_v10 (F := Ideal) (m ((c.tc : Thread nD τ).loc main_arg1)) (m ((c.tc : Thread nD τ).loc main_arg3)), ?_, ?_⟩
  · exact (θ_run Cert.Kernel19Ideal.defs _ _).mono (fun _ h c => ⟨(h c).1.trans (final_grad m c), (h c).2.1.trans (final_step m c), (h c).2.2.1.trans (final_m m c), (h c).2.2.2.1.trans (final_v m c), (h c).2.2.2.2⟩)
      (Value.run_blocks m g)
  · refine (θ_run Cert.Reference19Ideal.defs _ _).mono (fun _ h c => ?_) (Cert.Reference19Ideal.Value.run (F := Ideal) m' g')
    obtain ⟨e0, e1, e2, e3⟩ := hargs c
    refine ⟨?_, ?_, ?_, ?_, (h c).2.2.2.2⟩
    · exact (h c).1.trans e1
    · exact (h c).2.1.trans ((show _ = val_main_v23 (F := Ideal) _ _ _ _ from rfl).trans (by rw [e0, e1, e2, e3]))
    · exact (h c).2.2.1.trans ((show _ = val_main_v4 (F := Ideal) _ _ from rfl).trans (by rw [e1, e2]))
    · exact (h c).2.2.2.1.trans ((show _ = val_main_v10 (F := Ideal) _ _ from rfl).trans (by rw [e1, e3]))

end Cert.Kernel19Ideal.AdamwOut
end
-- ==== Proof.RetF.Block.lean ====
module

public import proofs.«01_k».proof.Proof.Gen.Kernel20Ideal.Skeleton
public import Idealize.ShloMosaic.Lib.Pipeline.FrameBody

/-! # One block of the retention's forward pass, as functions of what the block reads

`Reads` is what the body reads of one block; the functions below it are the intermediate values in the order the body
computes them, `p0` … `p15` the states it saves, and `stNext`, `yTile` and `retTile` what it carries on and stores. -/

@[expose] public section

noncomputable section

namespace Cert.Kernel20Ideal.RetF

open Cert.Kernel20Ideal Cert.Kernel20Ideal.Gen
open Idealize.ShloMosaic

variable {F : FTy → Type} [FloatOps F]

variable (F) in
/-- What one block reads. -/
structure Reads where
  /-- the queries -/
  q : Vec F S1024x128 .f32
  /-- the keys -/
  k : Vec F S1024x128 .f32
  /-- the values -/
  v : Vec F S1024x128 .f32
  /-- the gate's preactivation -/
  gt : Vec F S1024x128 .f32
  /-- the cosines of the block's rotations -/
  cos : Vec F S1024x128 .f32
  /-- their sines (signed for the two halves) -/
  sin : Vec F S1024x128 .f32
  /-- the decay between two rows of one 256-row group -/
  dec : Vec F S1x256x256 .f32
  /-- the keys' decay to the end of their chunk -/
  kd : Vec F S1x1024x128 .f32
  /-- the queries' decay from the start of theirs -/
  qd : Vec F S1x1024x128 .f32
  /-- the decay over a whole chunk -/
  cd : Vec F S1x1x128 .f32
  /-- the group norm's weights -/
  gn : Vec F S1x128 .f32
  /-- the state before the block -/
  st : Vec F S128x128 .f32

namespace Reads

variable (X : Reads F)

/-- the queries, rotated -/
def v11 : FVec F S1024x128 .f32 := k0_pay6 X.cos X.sin X.q
/-- the keys, rotated and scaled -/
def v18 : FVec F S1024x128 .f32 := k0_pay7 X.cos X.sin X.k
def v22 : FVec F S256x256 .f32 := k0_pay8 X.dec
def v24 : FVec F S1x128 .f32 := k0_pay9 X.cd
/-- the keys, decayed to the end of their chunk -/
def v28 : FVec F S1024x128 .f32 := k0_pay10 X.cos X.sin X.k X.kd
/-- the queries, decayed from the start of their chunk -/
def v31 : FVec F S1024x128 .f32 := k0_pay11 X.v11 X.qd
def v36 : FVec F S128x128 .f32 := k0_pay12 X.v X.v28
def v41 : FVec F S128x128 .f32 := k0_pay13 X.v X.v28
def v46 : FVec F S128x128 .f32 := k0_pay14 X.v X.v28
def v51 : FVec F S128x128 .f32 := k0_pay15 X.v X.v28
def v56 : FVec F S128x128 .f32 := k0_pay16 X.v X.v28
def v61 : FVec F S128x128 .f32 := k0_pay17 X.v X.v28
def v66 : FVec F S128x128 .f32 := k0_pay18 X.v X.v28
def v71 : FVec F S128x128 .f32 := k0_pay19 X.v X.v28
def v76 : FVec F S128x128 .f32 := k0_pay20 X.v X.v28
def v81 : FVec F S128x128 .f32 := k0_pay21 X.v X.v28
def v86 : FVec F S128x128 .f32 := k0_pay22 X.v X.v28
def v91 : FVec F S128x128 .f32 := k0_pay23 X.v X.v28
def v96 : FVec F S128x128 .f32 := k0_pay24 X.v X.v28
def v101 : FVec F S128x128 .f32 := k0_pay25 X.v X.v28
def v106 : FVec F S128x128 .f32 := k0_pay26 X.v X.v28
def v111 : FVec F S128x128 .f32 := k0_pay27 X.v X.v28
def p0 : FVec F S1x1x128x128 .bf16 := k0_pay28 X.st
def v119 : FVec F S128x128 .f32 := k0_pay29 X.v24 X.v36 X.st
def v120 : FVec F S128x128 .bf16 := k0_pay30 X.v24 X.v36 X.st
def p1 : FVec F S1x1x128x128 .bf16 := k0_pay31 X.v120
def v126 : FVec F S128x128 .f32 := k0_pay32 X.v24 X.v41 X.v119
def p2 : FVec F S1x1x128x128 .bf16 := k0_pay33 X.v24 X.v41 X.v119
def v133 : FVec F S128x128 .f32 := k0_pay34 X.v24 X.v41 X.v46 X.v119
def p3 : FVec F S1x1x128x128 .bf16 := k0_pay35 X.v24 X.v41 X.v46 X.v119
def v140 : FVec F S128x128 .f32 := k0_pay36 X.v24 X.v41 X.v46 X.v51 X.v119
def p4 : FVec F S1x1x128x128 .bf16 := k0_pay37 X.v24 X.v41 X.v46 X.v51 X.v119
def v147 : FVec F S128x128 .f32 := k0_pay38 X.v24 X.v41 X.v46 X.v51 X.v56 X.v119
def p5 : FVec F S1x1x128x128 .bf16 := k0_pay39 X.v24 X.v41 X.v46 X.v51 X.v56 X.v119
def v154 : FVec F S128x128 .f32 := k0_pay40 X.v24 X.v41 X.v46 X.v51 X.v56 X.v61 X.v119
def v155 : FVec F S128x128 .bf16 := k0_pay41 X.v24 X.v41 X.v46 X.v51 X.v56 X.v61 X.v119
def p6 : FVec F S1x1x128x128 .bf16 := k0_pay42 X.v155
def v161 : FVec F S128x128 .f32 := k0_pay43 X.v24 X.v66 X.v154
def p7 : FVec F S1x1x128x128 .bf16 := k0_pay44 X.v24 X.v66 X.v154
def v168 : FVec F S128x128 .f32 := k0_pay45 X.v24 X.v66 X.v71 X.v154
def p8 : FVec F S1x1x128x128 .bf16 := k0_pay46 X.v24 X.v66 X.v71 X.v154
def v175 : FVec F S128x128 .f32 := k0_pay47 X.v24 X.v66 X.v71 X.v76 X.v154
def p9 : FVec F S1x1x128x128 .bf16 := k0_pay48 X.v24 X.v66 X.v71 X.v76 X.v154
def v182 : FVec F S128x128 .f32 := k0_pay49 X.v24 X.v66 X.v71 X.v76 X.v81 X.v154
def p10 : FVec F S1x1x128x128 .bf16 := k0_pay50 X.v24 X.v66 X.v71 X.v76 X.v81 X.v154
def v189 : FVec F S128x128 .f32 := k0_pay51 X.v24 X.v66 X.v71 X.v76 X.v81 X.v86 X.v154
def v190 : FVec F S128x128 .bf16 := k0_pay52 X.v24 X.v66 X.v71 X.v76 X.v81 X.v86 X.v154
def p11 : FVec F S1x1x128x128 .bf16 := k0_pay53 X.v190
def v196 : FVec F S128x128 .f32 := k0_pay54 X.v24 X.v91 X.v189
def p12 : FVec F S1x1x128x128 .bf16 := k0_pay55 X.v24 X.v91 X.v189
def v203 : FVec F S128x128 .f32 := k0_pay56 X.v24 X.v91 X.v96 X.v189
def p13 : FVec F S1x1x128x128 .bf16 := k0_pay57 X.v24 X.v91 X.v96 X.v189
def v210 : FVec F S128x128 .f32 := k0_pay58 X.v24 X.v91 X.v96 X.v101 X.v189
def p14 : FVec F S1x1x128x128 .bf16 := k0_pay59 X.v24 X.v91 X.v96 X.v101 X.v189
def v217 : FVec F S128x128 .f32 := k0_pay60 X.v24 X.v91 X.v96 X.v101 X.v106 X.v189
def p15 : FVec F S1x1x128x128 .bf16 := k0_pay61 X.v24 X.v91 X.v96 X.v101 X.v106 X.v189
def v224 : FVec F S128x128 .f32 := k0_pay62 X.v24 X.v91 X.v96 X.v101 X.v106 X.v111 X.v189
/-- the state carried on -/
def stNext : FVec F S128x128 .f32 := k0_pay63 X.v224
def v231 : FVec F S64x128 .f32 := k0_pay64 X.v31 X.st
def v235 : FVec F S64x128 .f32 := k0_pay65 X.v31 X.v119
def v239 : FVec F S64x128 .f32 := k0_pay66 X.v31 X.v126
def v243 : FVec F S64x128 .f32 := k0_pay67 X.v31 X.v133
def v247 : FVec F S64x128 .f32 := k0_pay68 X.v31 X.v140
def v251 : FVec F S64x128 .f32 := k0_pay69 X.v31 X.v147
def v255 : FVec F S64x128 .f32 := k0_pay70 X.v31 X.v154
def v259 : FVec F S64x128 .f32 := k0_pay71 X.v31 X.v161
def v263 : FVec F S64x128 .f32 := k0_pay72 X.v31 X.v168
def v267 : FVec F S64x128 .f32 := k0_pay73 X.v31 X.v175
def v271 : FVec F S64x128 .f32 := k0_pay74 X.v31 X.v182
def v273 : FVec F S64x128 .bf16 := k0_pay75 X.v31
/-- what the states before the chunks give -/
def v292 : FVec F S1024x128 .f32 := k0_pay76 X.v31 X.v189 X.v196 X.v203 X.v210 X.v217 X.v231 X.v235 X.v239 X.v243 X.v247 X.v251 X.v255 X.v259 X.v263 X.v267 X.v271 X.v273
def v302 : FVec F S256x128 .f32 := k0_pay77 X.v11 X.v18 X.v X.v22
def v312 : FVec F S256x128 .f32 := k0_pay78 X.v11 X.v18 X.v X.v22
def v322 : FVec F S256x128 .f32 := k0_pay79 X.v11 X.v18 X.v X.v22
/-- the retention's output -/
def yTile : FVec F S1024x128 .f32 := k0_pay1 X.v11 X.v18 X.v X.v22 X.v292 X.v302 X.v312 X.v322
/-- the gated and normalised output -/
def retTile : FVec F S1024x128 .bf16 := k0_pay2 X.v11 X.v18 X.v X.gt X.v22 X.gn X.v292 X.v302 X.v312 X.v322

end Reads
end Cert.Kernel20Ideal.RetF
end
-- ==== Proof.RetF.At.lean ====
module

public import proofs.«01_k».proof.Proof.RetF.Block
public import proofs.«01_k».proof.Proof.Val.Inner
public import proofs.«01_k».proof.Proof.Val.Spec

/-! # What one block of the forward pass stores, at an index

`ss n` is the state before chunk `n` of the block and `cp n` what the chunk adds to it. The attention inside the chunks is
worked out in four groups of 256 rows, as in the gradient. -/

@[expose] public section

set_option maxRecDepth 16384

noncomputable section

namespace Cert.Kernel20Ideal.RetF.Reads

open Cert.Val Cert.Kernel20Ideal Cert.Kernel20Ideal.Gen Idealize.ShloMosaic Idealize.ShloMosaic.TcCoe Idealize.SL.Sem Idealize.ShloMosaic.StableHlo
open Cert.KernelIdeal.Ret.Reads (row grow grow0 flip ladder)

variable (X : Reads Ideal)

/-- The states before the sixteen chunks. -/
def ss : Fin 16 → FVec Ideal S128x128 .f32 :=
  ![X.st, X.v119, X.v126, X.v133, X.v140, X.v147, X.v154, X.v161, X.v168, X.v175, X.v182, X.v189, X.v196, X.v203, X.v210, X.v217]

/-- The same as they are stored. -/
def ps : Fin 16 → FVec Ideal S1x1x128x128 .bf16 :=
  ![X.p0, X.p1, X.p2, X.p3, X.p4, X.p5, X.p6, X.p7, X.p8, X.p9, X.p10, X.p11, X.p12, X.p13, X.p14, X.p15]

/-- What chunk `n` adds to the state. -/
def cp (n : Fin 16) (d e : Fin 128) : EReal := ∑ i, X.v28 (ix2 (row n i) d) * X.v (ix2 (row n i) e)

theorem row0 (i : Fin 64) : (⟨i.val, by omega⟩ : Fin 1024) = row 0 i := Fin.ext (by simp [row])

theorem v24_at (e : Fin 128) : X.v24 (ix2 0 e) = X.cd (ix3 0 0 e) := by pointwise [v24, k0_pay9]

/-- Each state from the one before. -/
theorem ss_step (n : Fin 15) (d e : Fin 128) :
    X.ss n.succ (ix2 d e) = X.cd (ix3 0 0 e) * X.ss n.castSucc (ix2 d e) + X.cp n.castSucc d e := by
  rw [← v24_at]
  fin_cases n
  · show X.v119 (ix2 d e) = _
    unfold cp
    simp only [show ((⟨0, by norm_num⟩ : Fin 15)).castSucc = (0 : Fin 16) from rfl, ← row0]
    pointwise [v119, k0_pay29, v36, k0_pay12]; rfl
  · show X.v126 (ix2 d e) = _
    pointwise [v126, k0_pay32, v41, k0_pay13]; rfl
  · show X.v133 (ix2 d e) = _
    pointwise [v133, k0_pay34, v46, k0_pay14]; rfl
  · show X.v140 (ix2 d e) = _
    pointwise [v140, k0_pay36, v51, k0_pay15]; rfl
  · show X.v147 (ix2 d e) = _
    pointwise [v147, k0_pay38, v56, k0_pay16]; rfl
  · show X.v154 (ix2 d e) = _
    pointwise [v154, k0_pay40, v61, k0_pay17]; rfl
  · show X.v161 (ix2 d e) = _
    pointwise [v161, k0_pay43, v66, k0_pay18]; rfl
  · show X.v168 (ix2 d e) = _
    pointwise [v168, k0_pay45, v71, k0_pay19]; rfl
  · show X.v175 (ix2 d e) = _
    pointwise [v175, k0_pay47, v76, k0_pay20]; rfl
  · show X.v182 (ix2 d e) = _
    pointwise [v182, k0_pay49, v81, k0_pay21]; rfl
  · show X.v189 (ix2 d e) = _
    pointwise [v189, k0_pay51, v86, k0_pay22]; rfl
  · show X.v196 (ix2 d e) = _
    pointwise [v196, k0_pay54, v91, k0_pay23]; rfl
  · show X.v203 (ix2 d e) = _
    pointwise [v203, k0_pay56, v96, k0_pay24]; rfl
  · show X.v210 (ix2 d e) = _
    pointwise [v210, k0_pay58, v101, k0_pay25]; rfl
  · show X.v217 (ix2 d e) = _
    pointwise [v217, k0_pay60, v106, k0_pay26]; rfl

/-- The state carried on. -/
theorem st_step (d e : Fin 128) : X.stNext (ix2 d e) = X.cd (ix3 0 0 e) * X.ss 15 (ix2 d e) + X.cp 15 d e := by
  rw [← v24_at]
  pointwise [stNext, k0_pay63, v224, k0_pay62, v111, k0_pay27]; rfl

/-- The states are stored as they are. -/
theorem ps_at (n : Fin 16) (d e : Fin 128) : X.ps n (ix4 0 0 d e) = X.ss n (ix2 d e) := by
  fin_cases n
  · show X.p0 (ix4 0 0 d e) = X.st (ix2 d e)
    pointwise [p0, k0_pay28]
  all_goals
    dsimp only [ps, ss, Fin.reduceFinMk, Matrix.cons_val]
    pointwise [p1, k0_pay31, v120, k0_pay30, v119, p2, k0_pay33, v126, p3, k0_pay35, v133, p4, k0_pay37, v140, p5, k0_pay39, v147,
      p6, k0_pay42, v155, k0_pay41, v154, p7, k0_pay44, v161, p8, k0_pay46, v168, p9, k0_pay48, v175, p10, k0_pay50, v182,
      p11, k0_pay53, v190, k0_pay52, v189, p12, k0_pay55, v196, p13, k0_pay57, v203, p14, k0_pay59, v210, p15, k0_pay61, v217]

/-- What the states before the chunks give. -/
theorem v292_at (n : Fin 16) (i : Fin 64) (e : Fin 128) :
    X.v292 (ix2 (row n i) e) = ∑ d, X.v31 (ix2 (row n i) d) * X.ss n (ix2 d e) := by
  unfold v292 k0_pay76
  refine Cert.KernelIdeal.Ret.Reads.cat16 (fun n i e => ∑ d, X.v31 (ix2 (row n i) d) * X.ss n (ix2 d e)) _ n i e fun m i => ?_
  fin_cases m
  · show X.v231 (ix2 i e) = _
    pointwise [v231, k0_pay64]
    exact Finset.sum_congr rfl fun x _ => congrArg (fun t => X.v31 (ix2 t x) * X.st (ix2 x e)) (row0 i)
  all_goals
    dsimp only [Fin.reduceFinMk, Matrix.cons_val]
    pointwise [v235, k0_pay65, v239, k0_pay66, v243, k0_pay67, v247, k0_pay68, v251, k0_pay69, v255, k0_pay70, v259, k0_pay71,
      v263, k0_pay72, v267, k0_pay73, v271, k0_pay74, v273, k0_pay75]
    rfl

/-- The product inside the group of rows. -/
def inner (g : Fin 4) (r : Fin 256) (e : Fin 128) : EReal :=
  ∑ x, (∑ k, X.v11 (ix2 (grow g r) k) * X.v18 (ix2 (grow g x) k)) * X.dec (ix3 0 r x) * X.v (ix2 (grow g x) e)

theorem v302_at (i : Fin 256) (e : Fin 128) : X.v302 (ix2 i e) = X.inner 0 i e := by
  unfold inner; simp only [← grow0]
  pointwise [v302, k0_pay77, v22, k0_pay8]
theorem v312_at (i : Fin 256) (e : Fin 128) : X.v312 (ix2 i e) = X.inner 1 i e := by
  pointwise [inner, v312, k0_pay78, v22, k0_pay8]; rfl
theorem v322_at (i : Fin 256) (e : Fin 128) : X.v322 (ix2 i e) = X.inner 2 i e := by
  pointwise [inner, v322, k0_pay79, v22, k0_pay8]; rfl

/-- The retention's output in a row. -/
def yy (g : Fin 4) (r : Fin 256) (e : Fin 128) : EReal := X.inner g r e + X.v292 (ix2 (grow g r) e)

theorem yTile_at (g : Fin 4) (r : Fin 256) (e : Fin 128) : X.yTile (ix2 (grow g r) e) = X.yy g r e := by
  have h3 : ∀ i : Fin 256, (∑ x : Fin 256, (∑ k : Fin 128, X.v11 (ix2 (grow 3 i) k) * X.v18 (ix2 (grow 3 x) k)) * X.dec (ix3 0 i x)
      * X.v (ix2 (grow 3 x) e) : EReal) = X.inner 3 i e := fun i => rfl
  pointwise [yTile, k0_pay1, v22, k0_pay8]
  exact congrArg (· + X.v292 (ix2 (grow g r) e)) (ladder (fun g r => X.inner g r e) (fun i => X.v302 (ix2 i e))
    (fun i => X.v312 (ix2 i e)) (fun i => X.v322 (ix2 i e)) (fun i => X.inner 3 i e) g r (fun i => X.v302_at i e) (fun i => X.v312_at i e)
    (fun i => X.v322_at i e) h3 (fun _ _ _ => trivial) (fun _ _ _ => by omega))

/-- The gated and normalised output. -/
theorem retTile_at (R : Fin 1024) (d : Fin 128) : X.retTile (ix2 R d)
    = X.gt (ix2 R d) * Ideal.logistic (X.gt (ix2 R d)) * (nrm (fun x => X.yTile (ix2 R x)) d * X.gn (ix2 0 d)) := by
  unfold retTile k0_pay2
  rw [← yTile]
  pointwise
  rfl

theorem v11_at (R : Fin 1024) (e : Fin 128) :
    X.v11 (ix2 R e) = X.q (ix2 R e) * X.cos (ix2 R e) + X.q (ix2 R (flip e)) * X.sin (ix2 R e) := by
  pointwise [v11, k0_pay4, k0_pay5, k0_pay6]; rfl

theorem v18_at (R : Fin 1024) (e : Fin 128) :
    X.v18 (ix2 R e) = (X.k (ix2 R e) * X.cos (ix2 R e) + X.k (ix2 R (flip e)) * X.sin (ix2 R e)) * scl := by
  pointwise [v18, k0_pay4, k0_pay5, k0_pay7]; rfl

theorem v28_at (R : Fin 1024) (d : Fin 128) : X.v28 (ix2 R d) = X.v18 (ix2 R d) * X.kd (ix3 0 R d) := by
  pointwise [v28, v18, k0_pay10]

theorem v31_at (R : Fin 1024) (d : Fin 128) : X.v31 (ix2 R d) = X.v11 (ix2 R d) * X.qd (ix3 0 R d) := by
  pointwise [v31, k0_pay11]

end Cert.Kernel20Ideal.RetF.Reads
end
-- ==== Proof.RetF.Spec.lean ====
module

public import proofs.«01_k».proof.Proof.Val.SpecMath

/-! # The forward pass of one head of the retention

The states are defined by their recursion and are weighted sums of what the earlier chunks add. -/

@[expose] public section

noncomputable section

namespace Cert.Val

open Idealize.ShloMosaic

/-- One chunk later the weights are one factor smaller, and the chunk itself comes in. -/
theorem wt_next {h : ℕ} {L : ℝ} (hL : lg h = (L : EReal)) {x n : ℕ} (hx : x + 1 < 64) (hn : n < 64) :
    wt h (x + 1) n = (if n = x then 1 else 0) + cd h * wt h x n := by
  rw [wt_coe hL hx hn, wt_coe hL (by omega) hn, cd_coe hL]
  rcases Nat.lt_trichotomy n x with hlt | heq | hgt
  · rw [if_pos (by omega), if_neg (by omega), if_pos (by omega), zero_add, ← EReal.coe_mul, ← Real.exp_add]
    congr 2; push_cast; ring
  · subst heq
    rw [if_pos (by omega), if_pos rfl, if_neg (by omega)]
    simp
  · rw [if_neg (by omega), if_neg (by omega), if_neg (by omega)]; simp

namespace Head
variable (H : Head)

/-- What chunk `n` adds to the state. -/
def cP (n d e : ℕ) : EReal := ∑ i : Fin 64, H.K (n * 64 + i.val) d * kd H.h i.val * H.V (n * 64 + i.val) e

/-- The state before chunk `n`. -/
def T : ℕ → ℕ → ℕ → EReal
  | 0, _, _ => 0
  | n + 1, d, e => cd H.h * T n d e + H.cP n d e

/-- The head's output. -/
def Y (R e : ℕ) : EReal :=
  H.intra H.Q H.K H.V R e + ∑ d : Fin 128, H.Q R d.val * qd H.h (R % 64) * H.T (R / 64) d.val e

/-- The state before chunk `n` is a weighted sum of what the earlier chunks add. -/
theorem T_eq (hh : H.h < 8) (n : ℕ) (hn : n < 64) (d e : ℕ) :
    H.T n d e = ∑ x : Fin 64, H.cP x.val d e * wt H.h n x.val := by
  obtain ⟨L, hL⟩ := lg_coe hh
  induction n with
  | zero =>
    refine (Finset.sum_eq_zero fun x _ => ?_).symm
    rw [wt_coe hL (by omega) x.isLt, if_neg (by omega), mul_zero]
  | succ n ih =>
    show cd H.h * H.T n d e + H.cP n d e = _
    rw [ih (by omega), cd_coe hL, mul_sum' _ (Real.exp_pos _).le, add_comm]
    rw [← Finset.sum_ite_eq' (Finset.univ : Finset (Fin 64)) (⟨n, by omega⟩ : Fin 64) (fun x => H.cP x.val d e) |>.trans (if_pos (Finset.mem_univ _)), ← Finset.sum_add_distrib]
    refine Finset.sum_congr rfl fun x _ => ?_
    rw [wt_next hL hn x.isLt, cd_coe hL]
    have h0 : 0 ≤ wt H.h n x.val := by
      rw [wt_coe hL (by omega) x.isLt]; split
      · exact_mod_cast (Real.exp_pos _).le
      · exact le_refl _
    rw [EReal.left_distrib_of_nonneg (by split <;> simp) (mul_nonneg (by exact_mod_cast (Real.exp_pos _).le) h0)]
    congr 1
    · by_cases hx : x.val = n
      · rw [if_pos hx, if_pos (Fin.ext hx), mul_one]
      · rw [if_neg hx, if_neg (fun e => hx (congrArg Fin.val e)), mul_zero]
    · rw [← mul_assoc, ← mul_assoc, mul_comm ((Real.exp (L * 64) : ℝ) : EReal)]

end Head

namespace Args
variable (A : Args)

/-- The output of head `h` at row `r`. -/
def fy (h r : ℕ) (d : Fin 128) : EReal := (A.head h).Y r d.val

/-- The gated and normalised output. -/
def ret (h r : ℕ) (d : Fin 128) : EReal :=
  A.gt h r d * Ideal.logistic (A.gt h r d) * (nrm (A.fy h r) d * A.gn h d)

end Args
end Cert.Val
end
-- ==== Proof.RetF.Head.lean ====
module

public import proofs.«01_k».proof.Proof.RetF.At
public import proofs.«01_k».proof.Proof.RetF.Spec

/-! # One block of the forward pass works out its rows of the head -/

@[expose] public section

set_option maxRecDepth 16384

noncomputable section

namespace Cert.Kernel20Ideal.RetF.Reads

open Cert.Val Cert.Kernel20Ideal Cert.Kernel20Ideal.Gen Idealize.ShloMosaic Idealize.ShloMosaic.TcCoe Idealize.SL.Sem Idealize.ShloMosaic.StableHlo
open Cert.KernelIdeal.Ret.Reads (row grow)

/-- What a block reads is block `b` of head `H`. -/
structure IsHead (X : Reads Ideal) (H : Head) (b : ℕ) : Prop where
  hb : b < 4
  hQ : ∀ R d, X.v11 (ix2 R d) = H.Q (1024 * b + R.val) d.val
  hK : ∀ R d, X.v18 (ix2 R d) = H.K (1024 * b + R.val) d.val
  hV : ∀ R d, X.v (ix2 R d) = H.V (1024 * b + R.val) d.val
  hqd : ∀ R d, X.qd (ix3 0 R d) = Val.qd H.h (R.val % 64)
  hkd : ∀ R d, X.kd (ix3 0 R d) = Val.kd H.h (R.val % 64)
  hcd : ∀ e, X.cd (ix3 0 0 e) = Val.cd H.h
  hdec : ∀ r x, X.dec (ix3 0 r x) = (if r.val / 64 = x.val / 64 then 1 else 0) * dc H.h (r.val % 64) (x.val % 64)
  hst : ∀ d e, X.st (ix2 d e) = H.T (16 * b) d.val e.val

namespace IsHead
variable {X : Reads Ideal} {H : Head} {b : ℕ} (I : IsHead X H b)
include I

theorem cp_eq (n : Fin 16) (d e : Fin 128) : X.cp n d e = H.cP (16 * b + n.val) d.val e.val := by
  unfold cp Head.cP
  refine Finset.sum_congr rfl fun i _ => ?_
  have hi := i.isLt
  rw [v28_at, I.hK, I.hV, I.hkd]
  have e1 : 1024 * b + (row n i).val = (16 * b + n.val) * 64 + i.val := by show 1024 * b + (64 * n.val + i.val) = _; omega
  have e2 : (row n i).val % 64 = i.val := by show (64 * n.val + i.val) % 64 = _; omega
  rw [e1, e2]

theorem ss_eq (k : ℕ) (hk : k < 16) (d e : Fin 128) : X.ss ⟨k, hk⟩ (ix2 d e) = H.T (16 * b + k) d.val e.val := by
  induction k with
  | zero => exact I.hst d e
  | succ k ih =>
    have s := X.ss_step ⟨k, by omega⟩ d e
    have e1 : (⟨k, by omega⟩ : Fin 15).castSucc = (⟨k, by omega⟩ : Fin 16) := rfl
    have e2 : (⟨k, by omega⟩ : Fin 15).succ = (⟨k + 1, hk⟩ : Fin 16) := rfl
    rw [e1, e2, ih (by omega), I.cp_eq, I.hcd] at s
    exact s

theorem ss_at (n : Fin 16) (d e : Fin 128) : X.ss n (ix2 d e) = H.T (16 * b + n.val) d.val e.val := I.ss_eq n.val n.isLt d e

/-- The state a block passes on. -/
theorem stNext_eq (d e : Fin 128) : X.stNext (ix2 d e) = H.T (16 * (b + 1)) d.val e.val := by
  rw [st_step, I.cp_eq, I.hcd, I.ss_at]
  rfl

/-- The products inside a chunk. -/
theorem inner_eq (g : Fin 4) (r : Fin 256) (e : Fin 128) : X.inner g r e = H.intra H.Q H.K H.V (1024 * b + (256 * g.val + r.val)) e.val := by
  have hr := r.isLt
  unfold inner Head.intra
  rw [Fin.sum_univ_tiles 4 64 rfl, Finset.sum_eq_single (⟨r.val / 64, by omega⟩ : Fin 4)]
  · refine Finset.sum_congr rfl fun i _ => ?_
    have hi := i.isLt
    simp only [I.hQ, I.hK, I.hV, I.hdec]
    rw [if_pos (by omega), one_mul]
    have e1 : 1024 * b + (grow g ⟨r.val / 64 * 64 + i.val, by omega⟩).val = (1024 * b + (256 * g.val + r.val)) / 64 * 64 + i.val := by
      show 1024 * b + (256 * g.val + (r.val / 64 * 64 + i.val)) = _; omega
    have e2 : (r.val / 64 * 64 + i.val) % 64 = i.val := by omega
    have e3 : (1024 * b + (256 * g.val + r.val)) % 64 = r.val % 64 := by omega
    rw [e1, e2, e3]
    rfl
  · intro j _ hj
    refine Finset.sum_eq_zero fun i _ => ?_
    have hi := i.isLt
    rw [I.hdec, if_neg (fun h => hj (Fin.ext (by show j.val = r.val / 64; have h : r.val / 64 = (j.val * 64 + i.val) / 64 := h; omega))), zero_mul, mul_zero, zero_mul]
  · intro h; exact absurd (Finset.mem_univ _) h

theorem yy_eq (g : Fin 4) (r : Fin 256) (e : Fin 128) : X.yy g r e = H.Y (1024 * b + (256 * g.val + r.val)) e.val := by
  have hr := r.isLt
  have e0 : grow g r = row ⟨4 * g.val + r.val / 64, by omega⟩ ⟨r.val % 64, by omega⟩ :=
    Fin.ext (by show 256 * g.val + r.val = 64 * (4 * g.val + r.val / 64) + r.val % 64; omega)
  unfold yy Head.Y
  rw [I.inner_eq, e0, v292_at, ← e0]
  refine congrArg (fun a : EReal => _ + a) (Finset.sum_congr rfl fun d _ => ?_)
  rw [v31_at, I.hQ, I.hqd, I.ss_at]
  have e1 : (grow g r).val = 256 * g.val + r.val := rfl
  rw [e1, show (1024 * b + (256 * g.val + r.val)) % 64 = (256 * g.val + r.val) % 64 by omega,
    show (1024 * b + (256 * g.val + r.val)) / 64 = 16 * b + (4 * g.val + r.val / 64) by omega]

/-- A block's output is its rows of the head's. -/
theorem yTile_eq (R : Fin 1024) (e : Fin 128) : X.yTile (ix2 R e) = H.Y (1024 * b + R.val) e.val := by
  have hR := R.isLt
  have e0 : R = grow ⟨R.val / 256, by omega⟩ ⟨R.val % 256, by omega⟩ :=
    Fin.ext (by show R.val = 256 * (R.val / 256) + R.val % 256; omega)
  rw [e0, yTile_at, I.yy_eq]; rfl

end IsHead
end Cert.Kernel20Ideal.RetF.Reads
end
-- ==== Proof.RetF.Win.lean ====
module

public import proofs.«01_k».proof.Proof.Gen.Kernel20Ideal
public import proofs.«01_k».proof.Proof.Gen.Kernel20Ideal.Value
public import proofs.«01_k».proof.Proof.RetF.Head
public import proofs.«01_k».proof.Proof.Val.Tables
public import Idealize.ShloMosaic.Lib.Pointwise
public import Idealize.ShloMosaic.Lib.StableHlo.ReadAt
public import Idealize.ShloMosaic.Lib.Pipeline.ReadBack
public import Idealize.ShloMosaic.Lib.Pipeline.ValueKit

/-! # What the forward pass of the retention reads at each step, at an index -/

@[expose] public section

set_option maxRecDepth 16384

noncomputable section

namespace Cert.Kernel20Ideal.RetF
open Cert.Val Cert.Kernel20Ideal Cert.Kernel20Ideal.Gen Idealize.ShloMosaic Idealize.ShloMosaic.TcCoe Idealize.SL.Sem Idealize.ShloMosaic.StableHlo
open Cert.KernelIdeal.Ret (same_chunk_val)

theorem idx : ∀ t : Fin cfg0.N, win0_0.index t = ![t.val % 4, t.val / 4] ∧ win0_1.index t = ![t.val % 4, 8 + t.val / 4]
    ∧ win0_2.index t = ![t.val % 4, 16 + t.val / 4] ∧ win0_3.index t = ![t.val % 4, 24 + t.val / 4]
    ∧ win0_4.index t = ![t.val % 4, 0] ∧ win0_5.index t = ![t.val % 4, 0]
    ∧ win0_6.index t = ![t.val / 4, 0, 0] ∧ win0_7.index t = ![t.val / 4, 0, 0] ∧ win0_8.index t = ![t.val / 4, 0, 0]
    ∧ win0_9.index t = ![t.val / 4, 0, 0] ∧ win0_10.index t = ![0, t.val / 4] ∧ win0_11.index t = ![t.val % 4, t.val / 4]
    ∧ win0_12.index t = ![t.val % 4, t.val / 4] ∧ win0_13.index t = ![t.val / 4, t.val % 4, 0, 0] :=
  (by decide +kernel : ∀ t : Fin grid0.N, _)

theorem t_lt (t : Fin cfg0.N) : t.val < 32 := N_0 ▸ t.isLt

variable (m : (ℓ : Loc nD τ sig) → Buf (Elt Ideal) ℓ) (c : Dev nD) (t : Fin cfg0.N)

/-- The head of step `t`. -/
def hOf : Fin 8 := ⟨t.val / 4, by have := t_lt t; omega⟩
/-- The row of the array that is row `R` of step `t`'s block. -/
def rowOf (R : Fin 1024) : Fin 4096 := ⟨1024 * (t.val % 4) + R.val, by omega⟩
/-- The column of an array that is column `d` of step `t`'s block, `o` columns on. -/
def colOf {w : ℕ} (o : ℕ) (hw : o + 1024 ≤ w) (d : Fin 128) : Fin w := ⟨o + (t.val / 4 * 128 + d.val), by have := t_lt t; omega⟩

theorem iblk0 (R : Fin 1024) (d : Fin 128) :
    iblk m c 0 t (ix2 R d) = V m c main_arg0 (ix2 (rowOf t R) (colOf t 0 (by norm_num) d)) := by
  blk_ext [iblk, idx t, rowOf, colOf]
theorem iblk1 (R : Fin 1024) (d : Fin 128) :
    iblk m c 1 t (ix2 R d) = V m c main_arg0 (ix2 (rowOf t R) (colOf t 1024 (by norm_num) d)) := by
  blk_ext [iblk, idx t, rowOf, colOf]
theorem iblk2 (R : Fin 1024) (d : Fin 128) :
    iblk m c 2 t (ix2 R d) = V m c main_arg0 (ix2 (rowOf t R) (colOf t 2048 (by norm_num) d)) := by
  blk_ext [iblk, idx t, rowOf, colOf]
theorem iblk3 (R : Fin 1024) (d : Fin 128) :
    iblk m c 3 t (ix2 R d) = V m c main_arg0 (ix2 (rowOf t R) (colOf t 3072 (by norm_num) d)) := by
  blk_ext [iblk, idx t, rowOf, colOf]
theorem iblk4 (R : Fin 1024) (d : Fin 128) : iblk m c 4 t (ix2 R d) = V m c main_v14 (ix2 (rowOf t R) d) := by
  blk_ext [iblk, idx t, rowOf]
theorem iblk5 (R : Fin 1024) (d : Fin 128) : iblk m c 5 t (ix2 R d) = V m c main_v16 (ix2 (rowOf t R) d) := by
  blk_ext [iblk, idx t, rowOf]
theorem iblk6 (R : Fin 256) (d : Fin 256) : iblk m c 6 t (ix3 0 R d) = V m c main_v83 (ix3 (hOf t) R d) := by
  blk_ext [iblk, idx t, hOf]
theorem iblk7 (R : Fin 1024) (d : Fin 128) : iblk m c 7 t (ix3 0 R d) = V m c main_v63 (ix3 (hOf t) R d) := by
  blk_ext [iblk, idx t, hOf]
theorem iblk8 (R : Fin 1024) (d : Fin 128) : iblk m c 8 t (ix3 0 R d) = V m c main_v69 (ix3 (hOf t) R d) := by
  blk_ext [iblk, idx t, hOf]
theorem iblk9 (d : Fin 128) : iblk m c 9 t (ix3 0 0 d) = V m c main_v71 (ix3 (hOf t) 0 d) := by
  blk_ext [iblk, idx t, hOf]
theorem iblk10 (d : Fin 128) : iblk m c 10 t (ix2 0 d) = V m c main_arg1 (ix2 0 (colOf t 0 (by norm_num) d)) := by
  blk_ext [iblk, idx t, colOf]

/-! The tables the call is handed. -/

theorem V14_at (r : Fin 4096) (j : Fin 128) : V m c main_v14 (ix2 r j) = cosT r.val j.val := by
  unfold V; after_reads_at; rfl
theorem V16_at (r : Fin 4096) (j : Fin 128) : V m c main_v16 (ix2 r j) = sinT r.val j.val := by
  unfold V; after_reads_at; rfl
theorem V63_at (h : Fin 8) (r : Fin 1024) (j : Fin 128) : V m c main_v63 (ix3 h r j) = kd h.val (r.val % 64) := by
  unfold V; after_reads_at; rfl
theorem V69_at (h : Fin 8) (r : Fin 1024) (j : Fin 128) : V m c main_v69 (ix3 h r j) = qd h.val (r.val % 64) := by
  unfold V; after_reads_at; rfl
theorem V71_at (h : Fin 8) (j : Fin 128) : V m c main_v71 (ix3 h 0 j) = cd h.val := by
  unfold V; after_reads_at; rfl
theorem V83_at (h : Fin 8) (r j : Fin 256) :
    V m c main_v83 (ix3 h r j) = ((if r.val / 64 = j.val / 64 then 1 else 0) * dc h.val (r.val % 64) (j.val % 64) : EReal) := by
  rw [← same_chunk_val ⟨r.val / 64, by omega⟩ ⟨j.val / 64, by omega⟩]
  unfold V; after_reads_at; rfl

/-- The arguments on device `c`. -/
def kargs : Args where
  x0 r k := m ((c : Thread nD τ).loc main_arg0) (ix2 r k)
  x1 r k := m ((c : Thread nD τ).loc main_arg1) (ix2 r k)
  x2 _ _ := 0
  x3 _ _ _ _ := 0
  x4 _ _ := 0

/-- What step `t`'s block reads, beside the state. -/
def blockAt (st : Vec Ideal S128x128 .f32) : Reads Ideal where
  q := iblk m c 0 t
  k := iblk m c 1 t
  v := iblk m c 2 t
  gt := iblk m c 3 t
  cos := iblk m c 4 t
  sin := iblk m c 5 t
  dec := iblk m c 6 t
  kd := iblk m c 7 t
  qd := iblk m c 8 t
  cd := iblk m c 9 t
  gn := iblk m c 10 t
  st := st

variable (st : Vec Ideal S128x128 .f32)

theorem q_at (R : Fin 1024) (d : Fin 128) : (blockAt m c t st).q (ix2 R d)
    = get2 (kargs m c).x0 (1024 * (t.val % 4) + R.val) (0 + ((hOf t).val * 128 + d.val)) :=
  (iblk0 m c t R d).trans ((congrFun (V_main_arg0 m c) _).trans (get2_eq (kargs m c).x0 (rowOf t R) (colOf t 0 (by norm_num) d)))
theorem k_at (R : Fin 1024) (d : Fin 128) : (blockAt m c t st).k (ix2 R d)
    = get2 (kargs m c).x0 (1024 * (t.val % 4) + R.val) (1024 + ((hOf t).val * 128 + d.val)) :=
  (iblk1 m c t R d).trans ((congrFun (V_main_arg0 m c) _).trans (get2_eq (kargs m c).x0 (rowOf t R) (colOf t 1024 (by norm_num) d)))
theorem v_at (R : Fin 1024) (d : Fin 128) : (blockAt m c t st).v (ix2 R d)
    = get2 (kargs m c).x0 (1024 * (t.val % 4) + R.val) (2048 + ((hOf t).val * 128 + d.val)) :=
  (iblk2 m c t R d).trans ((congrFun (V_main_arg0 m c) _).trans (get2_eq (kargs m c).x0 (rowOf t R) (colOf t 2048 (by norm_num) d)))
theorem gt_at (R : Fin 1024) (d : Fin 128) : (blockAt m c t st).gt (ix2 R d)
    = (kargs m c).gt (hOf t).val (1024 * (t.val % 4) + R.val) d :=
  (iblk3 m c t R d).trans ((congrFun (V_main_arg0 m c) _).trans (get2_eq (kargs m c).x0 (rowOf t R) (colOf t 3072 (by norm_num) d)))
theorem gn_at (d : Fin 128) : (blockAt m c t st).gn (ix2 0 d) = (kargs m c).gn (hOf t).val d :=
  (iblk10 m c t d).trans ((congrFun (V_main_arg1 m c) _).trans ((get2_eq (kargs m c).x1 0 (colOf t 0 (by norm_num) d)).trans
    (congrArg (get2 (kargs m c).x1 0) (Nat.zero_add _))))
theorem cos_at (R : Fin 1024) (d : Fin 128) : (blockAt m c t st).cos (ix2 R d) = cosT (1024 * (t.val % 4) + R.val) d.val :=
  (iblk4 m c t R d).trans (V14_at m c _ _)
theorem sin_at (R : Fin 1024) (d : Fin 128) : (blockAt m c t st).sin (ix2 R d) = sinT (1024 * (t.val % 4) + R.val) d.val :=
  (iblk5 m c t R d).trans (V16_at m c _ _)

/-- What a block reads are its rows of a head. -/
structure Reads.Fits (X : Reads Ideal) (A : Args) (h b : ℕ) : Prop where
  q : ∀ R d, X.q (ix2 R d) = get2 A.x0 (1024 * b + R.val) (0 + (h * 128 + d.val))
  k : ∀ R d, X.k (ix2 R d) = get2 A.x0 (1024 * b + R.val) (1024 + (h * 128 + d.val))
  cos : ∀ R d, X.cos (ix2 R d) = cosT (1024 * b + R.val) d.val
  sin : ∀ R d, X.sin (ix2 R d) = sinT (1024 * b + R.val) d.val
  gt : ∀ R d, X.gt (ix2 R d) = A.gt h (1024 * b + R.val) d
  gn : ∀ d, X.gn (ix2 0 d) = A.gn h d

theorem Reads.Fits.v11 {X : Reads Ideal} {A : Args} {h b : ℕ} (I : X.Fits A h b) (R : Fin 1024) (d : Fin 128) :
    X.v11 (ix2 R d) = (A.head h).Q (1024 * b + R.val) d.val := by
  rw [Reads.v11_at, I.q, I.q, I.cos, I.sin, Args.head_Q, ← rot_tab _ _ _ d.isLt, Nat.zero_add, Nat.zero_add]; rfl

theorem Reads.Fits.v18 {X : Reads Ideal} {A : Args} {h b : ℕ} (I : X.Fits A h b) (R : Fin 1024) (d : Fin 128) :
    X.v18 (ix2 R d) = (A.head h).K (1024 * b + R.val) d.val := by
  rw [Reads.v18_at, I.k, I.k, I.cos, I.sin, Args.head_K, ← rot_tab _ _ _ d.isLt]; rfl

/-- The gated and normalised output of a block. -/
theorem Reads.Fits.ret {X : Reads Ideal} {A : Args} {h b : ℕ} (I : X.Fits A h b) (J : X.IsHead (A.head h) b) (R : Fin 1024) (d : Fin 128) :
    X.retTile (ix2 R d) = A.ret h (1024 * b + R.val) d := by
  have e1 : (fun x => X.yTile (ix2 R x)) = A.fy h (1024 * b + R.val) := funext fun x => J.yTile_eq R x
  rw [Reads.retTile_at, e1, I.gt, I.gn]; rfl

/-- Each step's block is rows of its head. -/
theorem fits : (blockAt m c t st).Fits (kargs m c) (hOf t).val (t.val % 4) where
  q := q_at m c t st
  k := k_at m c t st
  cos := cos_at m c t st
  sin := sin_at m c t st
  gt := gt_at m c t st
  gn := gn_at m c t st

theorem qd_at (R : Fin 1024) (d : Fin 128) : (blockAt m c t st).qd (ix3 0 R d) = Val.qd (hOf t).val (R.val % 64) :=
  (iblk8 m c t R d).trans (V69_at m c (hOf t) R d)
theorem kd_at (R : Fin 1024) (d : Fin 128) : (blockAt m c t st).kd (ix3 0 R d) = Val.kd (hOf t).val (R.val % 64) :=
  (iblk7 m c t R d).trans (V63_at m c (hOf t) R d)
theorem cd_at (e : Fin 128) : (blockAt m c t st).cd (ix3 0 0 e) = Val.cd (hOf t).val :=
  (iblk9 m c t e).trans (V71_at m c (hOf t) e)
theorem dec_at (r x : Fin 256) : (blockAt m c t st).dec (ix3 0 r x)
    = (if r.val / 64 = x.val / 64 then 1 else 0) * dc (hOf t).val (r.val % 64) (x.val % 64) :=
  (iblk6 m c t r x).trans (V83_at m c (hOf t) r x)

/-- A block is its rows of its head, if the state it starts from is the head's. -/
theorem isHead (hst : ∀ d e, st (ix2 d e) = ((kargs m c).head (hOf t).val).T (16 * (t.val % 4)) d.val e.val) :
    (blockAt m c t st).IsHead ((kargs m c).head (hOf t).val) (t.val % 4) where
  hb := by omega
  hQ := (fits m c t st).v11
  hK := (fits m c t st).v18
  hV := v_at m c t st
  hqd := qd_at m c t st
  hkd := kd_at m c t st
  hcd := cd_at m c t st
  hdec := dec_at m c t st
  hst := hst

end Cert.Kernel20Ideal.RetF
end
-- ==== Proof.RetF.Out.lean ====
module

public import proofs.«01_k».proof.Proof.RetF.Win

/-! # What each step of the forward pass leaves -/

@[expose] public section

set_option maxRecDepth 16384

noncomputable section

namespace Cert.Kernel20Ideal.RetF
open Cert.Val Cert.Kernel20Ideal Cert.Kernel20Ideal.Gen Idealize.ShloMosaic Idealize.ShloMosaic.TcCoe Idealize.SL.Sem Idealize.ShloMosaic.StableHlo

variable (m : (ℓ : Loc nD τ sig) → Buf (Elt Ideal) ℓ) (c : Dev nD) (t : Fin cfg0.N)

/-- The states a block saves, side by side. -/
def prevOf (X : Reads Ideal) (y : S1x16x128x128.Idx) : EReal := X.ss (y 1) (ix2 (y 2) (y 3))

/-- Each state is saved at its place. -/
theorem piece (X : Reads Ideal) (n : Fin 16) (y : S1x16x128x128.Idx) (x : S1x1x128x128.Idx) (h1 : (y 1).val = n.val + (x 1).val)
    (h2 : (y 2).val = (x 2).val) (h3 : (y 3).val = (x 3).val) : X.ps n x = prevOf X y := by
  have x0 : (x 0).val < 1 := (x 0).isLt
  have x1 : (x 1).val < 1 := (x 1).isLt
  have ex : x = ix4 (0 : Fin 1) (0 : Fin 1) (x 2) (x 3) := by
    funext a
    fin_cases a
    · exact Fin.ext (by show (x 0).val = 0; omega)
    · exact Fin.ext (by show (x 1).val = 0; omega)
    · rfl
    · rfl
  have e1 : n = y 1 := Fin.ext (by omega)
  have e2 : x 2 = y 2 := Fin.ext h2.symm
  have e3 : x 3 = y 3 := Fin.ext h3.symm
  rw [ex]
  refine (X.ps_at n (x 2) (x 3)).trans ?_
  rw [e1, e2, e3]; rfl

/-- The state step `t` starts from. -/
def stOf : Vec Ideal S128x128 .f32 :=
  if t.val % 4 = 0 then k0_pay3 (F := Ideal) else (outsAt0 m c (t.val - 1) (by omega)).2.2.2

theorem A_ret (h : t.val % 4 = 0) : (outsAt0 m c t.val t.isLt).1 = (blockAt m c t (k0_pay3 (F := Ideal))).retTile := by
  rw [outsAt0_A m c t h]; frame_out
  simp only [blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem A_y (h : t.val % 4 = 0) : (outsAt0 m c t.val t.isLt).2.1 = (blockAt m c t (k0_pay3 (F := Ideal))).yTile := by
  rw [outsAt0_A m c t h]; frame_out
  simp only [blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem A_st (h : t.val % 4 = 0) : (outsAt0 m c t.val t.isLt).2.2.2 = (blockAt m c t (k0_pay3 (F := Ideal))).stNext := by
  rw [outsAt0_A m c t h]; frame_out
  simp only [blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem A_prev (hA : t.val % 4 = 0) (y : S1x16x128x128.Idx) :
    (outsAt0 m c t.val t.isLt).2.2.1 y = prevOf (blockAt m c t (k0_pay3 (F := Ideal))) y := by
  rw [outsAt0_A m c t hA]; frame_out
  canon_tiles x h
  on_goal 1 => refine Eq.trans (b := Reads.p15 _ x) ?_ (piece (blockAt m c t (k0_pay3 (F := Ideal))) 15 y x (by simpa using h1) (by omega) (by omega))
  on_goal 2 => refine Eq.trans (b := Reads.p14 _ x) ?_ (piece (blockAt m c t (k0_pay3 (F := Ideal))) 14 y x (by simpa using h1) (by omega) (by omega))
  on_goal 3 => refine Eq.trans (b := Reads.p13 _ x) ?_ (piece (blockAt m c t (k0_pay3 (F := Ideal))) 13 y x (by simpa using h1) (by omega) (by omega))
  on_goal 4 => refine Eq.trans (b := Reads.p12 _ x) ?_ (piece (blockAt m c t (k0_pay3 (F := Ideal))) 12 y x (by simpa using h1) (by omega) (by omega))
  on_goal 5 => refine Eq.trans (b := Reads.p11 _ x) ?_ (piece (blockAt m c t (k0_pay3 (F := Ideal))) 11 y x (by simpa using h1) (by omega) (by omega))
  on_goal 6 => refine Eq.trans (b := Reads.p10 _ x) ?_ (piece (blockAt m c t (k0_pay3 (F := Ideal))) 10 y x (by simpa using h1) (by omega) (by omega))
  on_goal 7 => refine Eq.trans (b := Reads.p9 _ x) ?_ (piece (blockAt m c t (k0_pay3 (F := Ideal))) 9 y x (by simpa using h1) (by omega) (by omega))
  on_goal 8 => refine Eq.trans (b := Reads.p8 _ x) ?_ (piece (blockAt m c t (k0_pay3 (F := Ideal))) 8 y x (by simpa using h1) (by omega) (by omega))
  on_goal 9 => refine Eq.trans (b := Reads.p7 _ x) ?_ (piece (blockAt m c t (k0_pay3 (F := Ideal))) 7 y x (by simpa using h1) (by omega) (by omega))
  on_goal 10 => refine Eq.trans (b := Reads.p6 _ x) ?_ (piece (blockAt m c t (k0_pay3 (F := Ideal))) 6 y x (by simpa using h1) (by omega) (by omega))
  on_goal 11 => refine Eq.trans (b := Reads.p5 _ x) ?_ (piece (blockAt m c t (k0_pay3 (F := Ideal))) 5 y x (by simpa using h1) (by omega) (by omega))
  on_goal 12 => refine Eq.trans (b := Reads.p4 _ x) ?_ (piece (blockAt m c t (k0_pay3 (F := Ideal))) 4 y x (by simpa using h1) (by omega) (by omega))
  on_goal 13 => refine Eq.trans (b := Reads.p3 _ x) ?_ (piece (blockAt m c t (k0_pay3 (F := Ideal))) 3 y x (by simpa using h1) (by omega) (by omega))
  on_goal 14 => refine Eq.trans (b := Reads.p2 _ x) ?_ (piece (blockAt m c t (k0_pay3 (F := Ideal))) 2 y x (by simpa using h1) (by omega) (by omega))
  on_goal 15 => refine Eq.trans (b := Reads.p1 _ x) ?_ (piece (blockAt m c t (k0_pay3 (F := Ideal))) 1 y x (by simpa using h1) (by omega) (by omega))
  on_goal 16 => refine Eq.trans (b := Reads.p0 _ x) ?_ (piece (blockAt m c t (k0_pay3 (F := Ideal))) 0 y x (by simpa using h1) (by omega) (by omega))
  all_goals simp only [blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem B_ret (h : ¬ t.val % 4 = 0) : (outsAt0 m c t.val t.isLt).1 = (blockAt m c t (outsAt0 m c (t.val - 1) (by omega)).2.2.2).retTile := by
  rw [outsAt0_B m c t h]; frame_out
  simp only [read_unread_whole, blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem B_y (h : ¬ t.val % 4 = 0) : (outsAt0 m c t.val t.isLt).2.1 = (blockAt m c t (outsAt0 m c (t.val - 1) (by omega)).2.2.2).yTile := by
  rw [outsAt0_B m c t h]; frame_out
  simp only [read_unread_whole, blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem B_st (h : ¬ t.val % 4 = 0) : (outsAt0 m c t.val t.isLt).2.2.2 = (blockAt m c t (outsAt0 m c (t.val - 1) (by omega)).2.2.2).stNext := by
  rw [outsAt0_B m c t h]; frame_out
  simp only [read_unread_whole, blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem B_prev (hB : ¬ t.val % 4 = 0) (y : S1x16x128x128.Idx) :
    (outsAt0 m c t.val t.isLt).2.2.1 y = prevOf (blockAt m c t (outsAt0 m c (t.val - 1) (by omega)).2.2.2) y := by
  rw [outsAt0_B m c t hB]; frame_out
  canon_tiles x h
  on_goal 1 => refine Eq.trans (b := Reads.p15 _ x) ?_ (piece (blockAt m c t (outsAt0 m c (t.val - 1) (by omega)).2.2.2) 15 y x (by simpa using h1) (by omega) (by omega))
  on_goal 2 => refine Eq.trans (b := Reads.p14 _ x) ?_ (piece (blockAt m c t (outsAt0 m c (t.val - 1) (by omega)).2.2.2) 14 y x (by simpa using h1) (by omega) (by omega))
  on_goal 3 => refine Eq.trans (b := Reads.p13 _ x) ?_ (piece (blockAt m c t (outsAt0 m c (t.val - 1) (by omega)).2.2.2) 13 y x (by simpa using h1) (by omega) (by omega))
  on_goal 4 => refine Eq.trans (b := Reads.p12 _ x) ?_ (piece (blockAt m c t (outsAt0 m c (t.val - 1) (by omega)).2.2.2) 12 y x (by simpa using h1) (by omega) (by omega))
  on_goal 5 => refine Eq.trans (b := Reads.p11 _ x) ?_ (piece (blockAt m c t (outsAt0 m c (t.val - 1) (by omega)).2.2.2) 11 y x (by simpa using h1) (by omega) (by omega))
  on_goal 6 => refine Eq.trans (b := Reads.p10 _ x) ?_ (piece (blockAt m c t (outsAt0 m c (t.val - 1) (by omega)).2.2.2) 10 y x (by simpa using h1) (by omega) (by omega))
  on_goal 7 => refine Eq.trans (b := Reads.p9 _ x) ?_ (piece (blockAt m c t (outsAt0 m c (t.val - 1) (by omega)).2.2.2) 9 y x (by simpa using h1) (by omega) (by omega))
  on_goal 8 => refine Eq.trans (b := Reads.p8 _ x) ?_ (piece (blockAt m c t (outsAt0 m c (t.val - 1) (by omega)).2.2.2) 8 y x (by simpa using h1) (by omega) (by omega))
  on_goal 9 => refine Eq.trans (b := Reads.p7 _ x) ?_ (piece (blockAt m c t (outsAt0 m c (t.val - 1) (by omega)).2.2.2) 7 y x (by simpa using h1) (by omega) (by omega))
  on_goal 10 => refine Eq.trans (b := Reads.p6 _ x) ?_ (piece (blockAt m c t (outsAt0 m c (t.val - 1) (by omega)).2.2.2) 6 y x (by simpa using h1) (by omega) (by omega))
  on_goal 11 => refine Eq.trans (b := Reads.p5 _ x) ?_ (piece (blockAt m c t (outsAt0 m c (t.val - 1) (by omega)).2.2.2) 5 y x (by simpa using h1) (by omega) (by omega))
  on_goal 12 => refine Eq.trans (b := Reads.p4 _ x) ?_ (piece (blockAt m c t (outsAt0 m c (t.val - 1) (by omega)).2.2.2) 4 y x (by simpa using h1) (by omega) (by omega))
  on_goal 13 => refine Eq.trans (b := Reads.p3 _ x) ?_ (piece (blockAt m c t (outsAt0 m c (t.val - 1) (by omega)).2.2.2) 3 y x (by simpa using h1) (by omega) (by omega))
  on_goal 14 => refine Eq.trans (b := Reads.p2 _ x) ?_ (piece (blockAt m c t (outsAt0 m c (t.val - 1) (by omega)).2.2.2) 2 y x (by simpa using h1) (by omega) (by omega))
  on_goal 15 => refine Eq.trans (b := Reads.p1 _ x) ?_ (piece (blockAt m c t (outsAt0 m c (t.val - 1) (by omega)).2.2.2) 1 y x (by simpa using h1) (by omega) (by omega))
  on_goal 16 => refine Eq.trans (b := Reads.p0 _ x) ?_ (piece (blockAt m c t (outsAt0 m c (t.val - 1) (by omega)).2.2.2) 0 y x (by simpa using h1) (by omega) (by omega))
  all_goals simp only [read_unread_whole, blockAt, Reads.v11, Reads.v18, Reads.v22, Reads.v24, Reads.v28, Reads.v31, Reads.v36, Reads.v41, Reads.v46, Reads.v51, Reads.v56, Reads.v61, Reads.v66, Reads.v71, Reads.v76, Reads.v81, Reads.v86, Reads.v91, Reads.v96, Reads.v101, Reads.v106, Reads.v111, Reads.p0, Reads.v119, Reads.v120, Reads.p1, Reads.v126, Reads.p2, Reads.v133, Reads.p3, Reads.v140, Reads.p4, Reads.v147, Reads.p5, Reads.v154, Reads.v155, Reads.p6, Reads.v161, Reads.p7, Reads.v168, Reads.p8, Reads.v175, Reads.p9, Reads.v182, Reads.p10, Reads.v189, Reads.v190, Reads.p11, Reads.v196, Reads.p12, Reads.v203, Reads.p13, Reads.v210, Reads.p14, Reads.v217, Reads.p15, Reads.v224, Reads.stNext, Reads.v231, Reads.v235, Reads.v239, Reads.v243, Reads.v247, Reads.v251, Reads.v255, Reads.v259, Reads.v263, Reads.v267, Reads.v271, Reads.v273, Reads.v292, Reads.v302, Reads.v312, Reads.v322, Reads.yTile, Reads.retTile]
theorem out_ret : (outsAt0 m c t.val t.isLt).1 = (blockAt m c t (stOf m c t)).retTile := by
  unfold stOf
  by_cases h : t.val % 4 = 0
  · rw [if_pos h]; exact A_ret m c t h
  · rw [if_neg h]; exact B_ret m c t h
theorem out_y : (outsAt0 m c t.val t.isLt).2.1 = (blockAt m c t (stOf m c t)).yTile := by
  unfold stOf
  by_cases h : t.val % 4 = 0
  · rw [if_pos h]; exact A_y m c t h
  · rw [if_neg h]; exact B_y m c t h
theorem out_st : (outsAt0 m c t.val t.isLt).2.2.2 = (blockAt m c t (stOf m c t)).stNext := by
  unfold stOf
  by_cases h : t.val % 4 = 0
  · rw [if_pos h]; exact A_st m c t h
  · rw [if_neg h]; exact B_st m c t h
theorem out_prev (y : S1x16x128x128.Idx) : (outsAt0 m c t.val t.isLt).2.2.1 y = prevOf (blockAt m c t (stOf m c t)) y := by
  unfold stOf
  by_cases h : t.val % 4 = 0
  · rw [if_pos h]; exact A_prev m c t h y
  · rw [if_neg h]; exact B_prev m c t h y

/-- The state each step starts from is its head's. -/
theorem stOf_eq (n : ℕ) (hn : n < cfg0.N) (d e : Fin 128) :
    stOf m c ⟨n, hn⟩ (ix2 d e) = ((kargs m c).head (n / 4)).T (16 * (n % 4)) d.val e.val := by
  induction n generalizing d e with
  | zero => unfold stOf; rw [if_pos (by rfl)]; pointwise [k0_pay3]; rfl
  | succ n ih =>
    by_cases h : (n + 1) % 4 = 0
    · unfold stOf; rw [if_pos h, h]; pointwise [k0_pay3]; rfl
    · have ht : n < cfg0.N := by omega
      have I := isHead m c ⟨n, ht⟩ (stOf m c ⟨n, ht⟩) (ih ht)
      have e1 : stOf m c ⟨n + 1, hn⟩ = (outsAt0 m c n ht).2.2.2 := by unfold stOf; rw [if_neg h]; rfl
      rw [e1]
      refine (congrFun (out_st m c ⟨n, ht⟩) _).trans ((I.stNext_eq d e).trans ?_)
      show ((kargs m c).head (n / 4)).T (16 * (n % 4 + 1)) _ _ = _
      rw [show (n + 1) / 4 = n / 4 by omega, show 16 * (n % 4 + 1) = 16 * ((n + 1) % 4) by omega]

/-- Each step's block is a block of its head. -/
theorem block_isHead : (blockAt m c t (stOf m c t)).IsHead ((kargs m c).head (hOf t).val) (t.val % 4) :=
  isHead m c t _ (stOf_eq m c t.val t.isLt)

theorem ret_at (R : Fin 1024) (d : Fin 128) :
    (outsAt0 m c t.val t.isLt).1 (ix2 R d) = (kargs m c).ret (hOf t).val (1024 * (t.val % 4) + R.val) d :=
  (congrFun (out_ret m c t) _).trans ((fits m c t _).ret (block_isHead m c t) R d)
theorem y_at (R : Fin 1024) (d : Fin 128) :
    (outsAt0 m c t.val t.isLt).2.1 (ix2 R d) = (kargs m c).fy (hOf t).val (1024 * (t.val % 4) + R.val) d :=
  (congrFun (out_y m c t) _).trans ((block_isHead m c t).yTile_eq R d)
theorem prev_at (y : S1x16x128x128.Idx) :
    (outsAt0 m c t.val t.isLt).2.2.1 y = ((kargs m c).head (hOf t).val).T (16 * (t.val % 4) + (y 1).val) (y 2).val (y 3).val :=
  (out_prev m c t y).trans ((block_isHead m c t).ss_at (y 1) (y 2) (y 3))

end Cert.Kernel20Ideal.RetF
end
-- ==== Proof.RetF.Ref.lean ====
module

public import proofs.«01_k».proof.Proof.Gen.Reference20Ideal.Read
public import proofs.«01_k».proof.Proof.RetF.Spec
public import Idealize.ShloMosaic.Lib.Pointwise
public import Idealize.ShloMosaic.Lib.Pipeline.ValueKit

/-! # The reference's forward pass of the retention, at an index -/

@[expose] public section

set_option maxRecDepth 16384

noncomputable section

namespace Cert.Reference20Ideal.Val
open Cert.Val Cert.Reference20Ideal Cert.Reference20Ideal.Gen Cert.Reference20Ideal.Read Idealize.ShloMosaic Idealize.ShloMosaic.TcCoe Idealize.SL.Sem Idealize.ShloMosaic.StableHlo

variable (x0 : FVec Ideal S4096x7168 .f32) (x1 : FVec Ideal S1x1024 .f32)

/-- The arguments the specification is given: the projections and the norm's weights. -/
def args : Args where
  x0 r k := x0 (ix2 r k)
  x1 r k := x1 (ix2 r k)
  x2 _ _ := 0
  x3 _ _ _ _ := 0
  x4 _ _ := 0

theorem x0_eq (a : Fin 4096) (b : Fin 7168) : x0 (ix2 a b) = get2 (args x0 x1).x0 a.val b.val := get2_eq (args x0 x1).x0 a b
theorem x1_eq (a : Fin 1) (b : Fin 1024) : x1 (ix2 a b) = get2 (args x0 x1).x1 a.val b.val := get2_eq (args x0 x1).x1 a b

/-- The reference's way of writing a rotated row. -/
theorem rot_eq (f : ℕ → EReal) (r d : ℕ) (hd : d < 128) :
    (if d < 64 then f d * Ideal.cos (ang r d) - f (64 + d) * Ideal.sin (ang r d)
      else f (d - 64) * Ideal.sin (ang r (d - 64)) + f (64 + (d - 64)) * Ideal.cos (ang r (d - 64))) = rot f r d := by
  unfold rot
  split
  · rw [Nat.add_comm 64 d]
  · rw [show 64 + (d - 64) = d by omega]

theorem v112_at (n i : Fin 64) (h : Fin 8) (d : Fin 128) :
    val_main_v112 (F := Ideal) x0 (ix4 n i h d) = ((args x0 x1).head h.val).Q (n.val * 64 + i.val) d.val := by
  rw [Args.head_Q, ← rot_eq _ _ _ d.isLt]
  pointwise [val_main_v0, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_cst_9, val_main_cst_10]
  split <;> rename_i hd
  · simp only [x0_eq x0 x1]; rfl
  · simp only [x0_eq x0 x1]; rfl

theorem v36_at (n i : Fin 64) (h : Fin 8) (d : Fin 128) :
    val_main_v36 (F := Ideal) x0 (ix4 n i h d) = ((args x0 x1).head h.val).K (n.val * 64 + i.val) d.val := by
  rw [Args.head_K, ← rot_eq _ _ _ d.isLt]
  pointwise [val_main_v1, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1]
  refine congrArg (fun a : EReal => a * _) ?_
  split <;> rename_i hd
  · simp only [x0_eq x0 x1]; rfl
  · simp only [x0_eq x0 x1]; rfl

theorem v37_at (n i : Fin 64) (h : Fin 8) (d : Fin 128) :
    val_main_v37 (F := Ideal) x0 (ix4 n i h d) = ((args x0 x1).head h.val).V (n.val * 64 + i.val) d.val := by
  rw [Args.head_V]
  pointwise [val_main_v2, val_main_v37]
  exact get2_eq (args x0 x1).x0 _ _

theorem v134_at (i j : Fin 64) (h : Fin 8) : val_main_v134 (F := Ideal) (ix3 h i j) = dc h.val i.val j.val := by
  pointwise [val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_cst_11, val_main_cst_12]
  rfl

theorem v150_at (i : Fin 64) (h : Fin 8) : val_main_v150 (F := Ideal) (ix4 0 i h 0) = qd h.val i.val := by
  pointwise [val_main_v113, val_main_v114, val_main_v115, val_main_v116, val_main_v117, val_main_v118, val_main_v119, val_main_v120, val_main_v121, val_main_v122, val_main_v141, val_main_v142, val_main_v143, val_main_v144, val_main_v145, val_main_v146, val_main_v147, val_main_v148, val_main_v149, val_main_v150, val_main_cst_11, val_main_cst_12, val_main_cst_13]
  rfl

theorem v57_at (i : Fin 64) (h : Fin 8) : val_main_v57 (F := Ideal) (ix4 0 i h 0) = kd h.val i.val := by
  pointwise [val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_2, val_main_cst_3, val_main_cst_4]
  rfl

theorem v79_at (n x : Fin 64) (h : Fin 8) : val_main_v79 (F := Ideal) (ix3 h n x) = wt h.val n.val x.val := by
  have e0 : (constant S_ .f32 0#32 : FVec Ideal S_ .f32) ix0 = (0 : EReal) := by pointwise
  pointwise [val_main_v38, val_main_v39, val_main_v40, val_main_v41, val_main_v42, val_main_v43, val_main_v44, val_main_v45, val_main_v46, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_2, val_main_cst_3, val_main_cst_5, val_main_cst_6, val_main_cst_7, val_main_cst_8, val_main_call0_v0, val_main_call0_v1, val_main_call0_v2]
  unfold wt
  split <;> rename_i hx
  · exact (if_pos hx).symm
  · exact e0.trans (if_neg hx).symm

theorem v59_at (n i : Fin 64) (h : Fin 8) (d : Fin 128) :
    val_main_v59 (F := Ideal) x0 (ix4 n i h d) = ((args x0 x1).head h.val).K (n.val * 64 + i.val) d.val * kd h.val i.val := by
  rw [← v57_at, ← v36_at x0 x1]
  pointwise [val_main_v59, val_main_v58]

theorem v60_at (n : Fin 64) (h : Fin 8) (d e : Fin 128) :
    val_main_v60 (F := Ideal) x0 (ix4 n h d e) = ((args x0 x1).head h.val).cP n.val d.val e.val := by
  pointwise [val_main_v60]
  simp only [v59_at x0 x1, v37_at x0 x1]
  rfl

theorem v81_at (n : Fin 64) (h : Fin 8) (d e : Fin 128) :
    val_main_v81 (F := Ideal) x0 (ix4 n h d e) = ((args x0 x1).head h.val).T n.val d.val e.val := by
  pointwise [val_main_v81, val_main_v80]
  simp only [v60_at x0 x1, v79_at]
  exact (((args x0 x1).head h.val).T_eq h.isLt n.val n.isLt d.val e.val).symm

theorem v188_at (n : Fin 64) (h : Fin 8) (d e : Fin 128) :
    val_main_v188 (F := Ideal) x0 (ix4 h n d e) = ((args x0 x1).head h.val).T n.val d.val e.val := by
  rw [← v81_at x0 x1]
  pointwise [val_main_v188, val_main_v187]

theorem v155_at (n i : Fin 64) (h : Fin 8) (e : Fin 128) :
    val_main_v155 (F := Ideal) x0 (ix4 n i h e) = ((args x0 x1).head h.val).Y (n.val * 64 + i.val) e.val := by
  have e152 : ∀ d : Fin 128, val_main_v152 (F := Ideal) x0 (ix4 n i h d) = ((args x0 x1).head h.val).Q (n.val * 64 + i.val) d.val * qd h.val i.val := fun d => by
    rw [← v150_at, ← v112_at x0 x1]
    pointwise [val_main_v152, val_main_v151]
  have e138 : ∀ j : Fin 64, val_main_v138 (F := Ideal) x0 (ix4 n h i j) = (∑ k : Fin 128, ((args x0 x1).head h.val).Q (n.val * 64 + i.val) k.val * ((args x0 x1).head h.val).K (n.val * 64 + j.val) k.val) * dc h.val i.val j.val := fun j => by
    rw [← v134_at]
    pointwise [val_main_v138, val_main_v137, val_main_v136, val_main_v135]
    simp only [v112_at x0 x1, v36_at x0 x1]
  pointwise [val_main_v155, val_main_v154, val_main_v153, val_main_v140, val_main_v139]
  simp only [e152, e138, v37_at x0 x1, v81_at x0 x1]
  unfold Head.Y Head.intra
  rw [show (n.val * 64 + i.val) / 64 = n.val by omega, show (n.val * 64 + i.val) % 64 = i.val by omega]
  exact congrArg₂ (fun a b : EReal => a + b) (Finset.sum_congr rfl fun x _ => mul_comm _ _) (Finset.sum_congr rfl fun x _ => mul_comm _ _)

theorem v156_at (r : Fin 4096) (h : Fin 8) (d : Fin 128) :
    val_main_v156 (F := Ideal) x0 (ix2 r ⟨h.val * 128 + d.val, by omega⟩) = (args x0 x1).fy h.val r.val d := by
  have key := v155_at x0 x1 ⟨r.val / 64, by omega⟩ ⟨r.val % 64, by omega⟩ h d
  unfold Args.fy
  rw [show r.val = r.val / 64 * 64 + r.val % 64 by omega, ← key]
  pointwise [val_main_v156]

theorem v176_at (r : Fin 4096) (h : Fin 8) (d : Fin 128) :
    val_main_v176 (F := Ideal) x0 (ix3 r h d) = nrm ((args x0 x1).fy h.val r.val) d := by
  have e158 : ∀ k : Fin 128, val_main_v158 (F := Ideal) x0 (ix3 r h k) = (args x0 x1).fy h.val r.val k := fun k => by
    rw [← v156_at]
    pointwise [val_main_v158]
  pointwise [val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_cst_14, val_main_cst_15, val_main_cst_16, val_main_cst_17, val_main_cst_18]
  simp only [e158]
  rfl

theorem v184_at (r : Fin 4096) (h : Fin 8) (d : Fin 128) :
    val_main_v184 (F := Ideal) x0 x1 (ix2 r ⟨h.val * 128 + d.val, by omega⟩) = (args x0 x1).ret h.val r.val d := by
  unfold Args.ret
  rw [← v176_at]
  pointwise [val_main_v3, val_main_v157, val_main_v177, val_main_v178, val_main_v179, val_main_v180, val_main_v181, val_main_v182, val_main_v183, val_main_v184, val_main_call1_v0, val_main_call1_v1, val_main_call1_v2, val_main_call1_v3, val_main_call1_v4, val_main_call1_v5, val_main_call1_cst, val_main_call1_cst_0]
  simp only [x0_eq x0 x1, x1_eq x0 x1]
  rfl

theorem v186_at (r : Fin 4096) (h : Fin 8) (d : Fin 128) :
    val_main_v186 (F := Ideal) x0 x1 (ix2 r ⟨h.val * 128 + d.val, by omega⟩) = (args x0 x1).ret h.val r.val d := by
  rw [← v184_at]
  unfold val_main_v186
  refine concatenate_pair_apply_left (t := S4096x2048) (s₁ := S4096x1024) (s₂ := S4096x1024) 1 (val_main_v184 (F := Ideal) x0 x1) (val_main_v185 (F := Ideal)) _ _ rfl
    (ix2 r ⟨h.val * 128 + d.val, by omega⟩) (fun b => ?_)
  fin_cases b <;> rfl

end Cert.Reference20Ideal.Val
end
-- ==== Proof.RetF.Done.lean ====
module

public import proofs.«01_k».proof.Defs
public import proofs.«01_k».proof.Proof.RetF.Out
public import proofs.«01_k».proof.Proof.RetF.Ref
public import proofs.«01_k».proof.Proof.Gen.Reference20Ideal
public import proofs.«01_k».proof.Proof.Gen.Reference20Ideal.Run

/-! # The forward pass of the retention -/

@[expose] public section

set_option maxRecDepth 16384

noncomputable section

namespace Cert.Kernel20Ideal.RetF
open Cert.Val Cert.Kernel20Ideal Cert.Kernel20Ideal.Gen Idealize.ShloMosaic Idealize.ShloMosaic.TcCoe Idealize.SL.Sem Idealize.ShloMosaic.StableHlo
open Cert.Reference20Ideal.Read Cert.Reference20Ideal.Val

variable (m : (ℓ : Loc nD τ sig) → Buf (Elt Ideal) ℓ) (c : Dev nD) (t : Fin cfg0.N)

/-- A block of the mixed heads is the reference's. -/
theorem mix_pt (y : S1024x128.Idx) (i : S4096x2048.Idx) (h0 : (i 0).val = 1024 * (t.val % 4) + (y 0).val)
    (h1 : (i 1).val = t.val / 4 * 128 + (y 1).val) : (outsAt0 m c t.val t.isLt).1 y
    = val_main_v186 (F := Ideal) (m ((c : Thread nD τ).loc main_arg0)) (m ((c : Thread nD τ).loc main_arg1)) i := by
  have y1 : (y 1).val < 128 := (y 1).isLt
  have ht := t_lt t
  have ei : i = ix2 (rowOf t (y 0)) (⟨(hOf t).val * 128 + (y 1).val, by show t.val / 4 * 128 + (y 1).val < 2048; omega⟩ : Fin 2048) := by
    funext a; fin_cases a
    · exact Fin.ext h0
    · exact Fin.ext h1
  have ey : y = ix2 (⟨(y 0).val, (y 0).isLt⟩ : Fin 1024) (⟨(y 1).val, y1⟩ : Fin 128) := by funext a; fin_cases a <;> rfl
  rw [ei]
  refine (congrArg (outsAt0 m c t.val t.isLt).1 ey).trans ?_
  exact (ret_at m c t (y 0) (y 1)).trans (v186_at (m ((c : Thread nD τ).loc main_arg0)) (m ((c : Thread nD τ).loc main_arg1)) (rowOf t (y 0)) (hOf t) (y 1)).symm

/-- A block of the retention's output is the reference's. -/
theorem y_pt (y : S1024x128.Idx) (i : S4096x1024.Idx) (h0 : (i 0).val = 1024 * (t.val % 4) + (y 0).val)
    (h1 : (i 1).val = t.val / 4 * 128 + (y 1).val) : (outsAt0 m c t.val t.isLt).2.1 y
    = val_main_v156 (F := Ideal) (m ((c : Thread nD τ).loc main_arg0)) i := by
  have y1 : (y 1).val < 128 := (y 1).isLt
  have ht := t_lt t
  have ei : i = ix2 (rowOf t (y 0)) (⟨(hOf t).val * 128 + (y 1).val, by show t.val / 4 * 128 + (y 1).val < 1024; omega⟩ : Fin 1024) := by
    funext a; fin_cases a
    · exact Fin.ext h0
    · exact Fin.ext h1
  have ey : y = ix2 (⟨(y 0).val, (y 0).isLt⟩ : Fin 1024) (⟨(y 1).val, y1⟩ : Fin 128) := by funext a; fin_cases a <;> rfl
  rw [ei]
  refine (congrArg (outsAt0 m c t.val t.isLt).2.1 ey).trans ?_
  exact (y_at m c t (y 0) (y 1)).trans (v156_at (m ((c : Thread nD τ).loc main_arg0)) (m ((c : Thread nD τ).loc main_arg1)) (rowOf t (y 0)) (hOf t) (y 1)).symm

/-- A block of the saved states is the reference's. -/
theorem prev_pt (y : S1x16x128x128.Idx) (i : S8x64x128x128.Idx) (h0 : (i 0).val = t.val / 4) (h1 : (i 1).val = 16 * (t.val % 4) + (y 1).val)
    (h2 : (i 2).val = (y 2).val) (h3 : (i 3).val = (y 3).val) : (outsAt0 m c t.val t.isLt).2.2.1 y
    = val_main_v188 (F := Ideal) (m ((c : Thread nD τ).loc main_arg0)) i := by
  have y1 : (y 1).val < 16 := (y 1).isLt
  have ei : i = ix4 (hOf t) (⟨16 * (t.val % 4) + (y 1).val, by omega⟩ : Fin 64) (y 2) (y 3) := by
    funext a; fin_cases a
    · exact Fin.ext h0
    · exact Fin.ext h1
    · exact Fin.ext h2
    · exact Fin.ext h3
  rw [ei]
  exact (prev_at m c t y).trans (v188_at (m ((c : Thread nD τ).loc main_arg0)) (m ((c : Thread nD τ).loc main_arg1)) (⟨16 * (t.val % 4) + (y 1).val, by omega⟩ : Fin 64) (hOf t) (y 2) (y 3)).symm

/-- The mixed heads: the reference's where the retention's heads lie. -/
theorem final_mix : (dats m 0 c).arrAt 11 cfg0.N = fun i : S4096x2048.Idx => if (i 1).val / 128 < 8
    then val_main_v186 (F := Ideal) (m ((c : Thread nD τ).loc main_arg0)) (m ((c : Thread nD τ).loc main_arg1)) i
    else (dats m 0 c).A 11 i := by
  refine (dats m 0 c).arrAt_eq_of_coversWhere 11 _ (fun β => β 1 < 8) (by decide +kernel) (fun t _ y => ?_)
    (fun j => by blk_simp [Pipeline.Window.cell_apply])
  blk_simp
  rw [after0_11]
  refine mix_pt m c t y _ ?_ ?_
  all_goals (blk_simp [idx t] <;> try omega)

/-- The retention's output. -/
theorem final_y : (dats m 0 c).arrAt 12 cfg0.N = val_main_v156 (F := Ideal) (m ((c : Thread nD τ).loc main_arg0)) := by
  refine (dats m 0 c).arrAt_eq_of_covers 12 _ (by decide +kernel) fun t _ y => ?_
  blk_simp
  rw [after0_12]
  refine y_pt m c t y _ ?_ ?_
  all_goals (blk_simp [idx t] <;> try omega)

/-- The saved states. -/
theorem final_prev : (dats m 0 c).arrAt 13 cfg0.N = val_main_v188 (F := Ideal) (m ((c : Thread nD τ).loc main_arg0)) := by
  refine (dats m 0 c).arrAt_eq_of_covers 13 _ (by decide +kernel) fun t _ y => ?_
  have y0 : (y 0).val < 1 := (y 0).isLt
  blk_simp
  rw [after0_13]
  refine prev_pt m c t y _ ?_ ?_ ?_ ?_
  all_goals (blk_simp [idx t] <;> try omega)

/-- The mask's side conditions. -/
theorem facts_heads_of_the_retention : Cert.On_heads_of_the_retention.Facts where
  bcast_S_S4096x2048 := by decide
  bcast_S_S4096x1024 := by decide
  bcast_S_S8x64x128x128 := by decide

theorem below : ∀ a : Fin 2048, IntOp.cmpi CmpIPredicate.slt (BitVec.ofNat 32 a.val) 1024#32 = 1#1 → a.val / 128 < 8 := by
  decide +kernel

/-- The mask is set only where the retention's heads lie. -/
theorem mask [Cert.On_heads_of_the_retention.Facts] (x : FVec Ideal S4096x7168 .f32) (g : FVec Ideal S1x1024 .f32) (i : S4096x2048.Idx)
    (h : (Cert.On_heads_of_the_retention.fn (F := Ideal) x g).1 i = 1#1) : (i 1).val / 128 < 8 :=
  below (i 1) h

/-- The reference declares no semaphore and writes no argument. -/
theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- Where the mask is set the reference's results are the same arrays. -/
theorem algebraic [Cert.On_heads_of_the_retention.Facts] : Cert.algebraic_Kernel20Ideal_Reference20Ideal_on_heads_of_the_retention := by
  intro m g m' g' _ hargs
  refine ⟨fun c => val_main_v186 (F := Ideal) (m ((c.tc : Thread nD τ).loc main_arg0)) (m ((c.tc : Thread nD τ).loc main_arg1)),
    fun c => val_main_v156 (F := Ideal) (m ((c.tc : Thread nD τ).loc main_arg0)),
    fun c => val_main_v188 (F := Ideal) (m ((c.tc : Thread nD τ).loc main_arg0)), ?_, ?_⟩
  · refine (θ_run Cert.Kernel20Ideal.defs _ _).mono (fun _ h c => ⟨fun i hi => ?_, fun i _ => congrFun ((h c).2.1.trans (final_y m c)) i,
      fun i _ => congrFun ((h c).2.2.1.trans (final_prev m c)) i, (h c).2.2.2⟩) (Value.run_blocks m g)
    have hm := mask _ _ i hi
    exact (congrFun ((h c).1.trans (final_mix m c)) i).trans (if_pos hm)
  · refine (θ_run Cert.Reference20Ideal.defs _ _).mono (fun _ h c => ?_) (Cert.Reference20Ideal.Value.run (F := Ideal) m' g')
    obtain ⟨e0, e1⟩ := hargs c
    exact ⟨fun i _ => congrFun ((h c).1.trans ((show _ = val_main_v186 (F := Ideal) (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) from rfl).trans (by rw [e0, e1]))) i,
      fun i _ => congrFun ((h c).2.1.trans ((show _ = val_main_v156 (F := Ideal) (m' ((c.tc : Thread Cert.Reference20Ideal.nD Cert.Reference20Ideal.τ).loc Cert.Reference20Ideal.main_arg0)) from rfl).trans (by rw [e0]))) i,
      fun i _ => congrFun ((h c).2.2.1.trans ((show _ = val_main_v188 (F := Ideal) (m' ((c.tc : Thread Cert.Reference20Ideal.nD Cert.Reference20Ideal.τ).loc Cert.Reference20Ideal.main_arg0)) from rfl).trans (by rw [e0]))) i, (h c).2.2.2⟩

end Cert.Kernel20Ideal.RetF
end
-- ==== Proof.Fwd.Sum.lean ====
module

public import proofs.«01_k».proof.Defs
public import proofs.«01_k».proof.Proof.Gen.Kernel21
public import proofs.«01_k».proof.Proof.Gen.Kernel21.Launch
public import proofs.«01_k».proof.Proof.Gen.Kernel21Ideal
public import proofs.«01_k».proof.Proof.Gen.Kernel21Ideal.Launch
public import proofs.«01_k».proof.Proof.Gen.Reference21Ideal
public import proofs.«01_k».proof.Proof.Gen.Reference21Ideal.Run
public import proofs.«01_k».proof.Proof.Gen.Reference21Ideal.Read
public import proofs.«01_k».proof.Proof.Fwd.Loss
public import proofs.«01_k».proof.Proof.Val.SpecMath
public import Idealize.ShloMosaic.Lib.Pipeline.Regions
public import Idealize.ShloMosaic.Lib.Pipeline.CollectiveSegs
public import Idealize.ShloMosaic.Lib.Pipeline.Kit
public import Idealize.ShloMosaic.Lib.Tactic
public import Idealize.ShloMosaic.Lib.Pointwise

/-! # The loss, summed over the devices

Each device adds its sums of squares up, halves the sum and divides it by the row's length; the all-reduce then adds the
eight devices' numbers, and leaves every device the sum. -/

@[expose] public section

noncomputable section

namespace Cert.Kernel21Ideal.Sum

open Cert.Kernel21Ideal Cert.Kernel21Ideal.Gen
open Cert.Kernel21Ideal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Run
variable {F : FTy → Type} [FloatOps F]

/-- The pipelines' ghost state, of which this program has none, beside the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

abbrev adm : (p : Fin 0) → (pcfgs (F := F) p).Adm := fun p => p.elim0
def pdats : (p : Fin 0) → (c : Dev nD) → Pipeline.Dat τ (Elt F) ℕ ℕ UU ℕ (Pipeline.pin (pcfgs (F := F)) adm p) c := fun p => p.elim0
abbrev 𝒱₀ : Variants := Variants.none

local notation "ℍ" => Pipeline.HostSeg (Ix := ℕ) (Name := ℕ) (U := UU) (Lvl := ℕ) (pcfgs (F := F)) defs₀ 𝒱₀ L lv

/-- A device's buffers at the start, -/
def V₀ (c : Dev nD) : Valuation τ sig (Elt F) := fun b => m ((c : Dev nD), b)
/-- after its own arithmetic, -/
def V₁ (c : Dev nD) : Valuation τ sig (Elt F) := StableHlo.after (hostOps0 (F := F)) (V₀ m c)
/-- and after the all-reduce. -/
def V₂ (c : Dev nD) : Valuation τ sig (Elt F) := (ar0 (F := F)).after₀ (V₁ m) c

theorem ops0_sub : ∀ op ∈ (hostOps0 (F := F)), op.bufs ⊆ Pipeline.ucRefs τ sig := fun op h => by
  simp only [hostOps0, List.mem_cons, List.mem_nil_iff, or_false] at h
  rcases h with rfl | rfl | rfl | rfl | rfl | rfl <;> exact Pipeline.sub_ucRefs _ (by simp)
theorem ops0_fresh : ∀ op ∈ (hostOps0 (F := F)), op.fresh = ∅ := fun op h => by
  simp only [hostOps0, List.mem_cons, List.mem_nil_iff, or_false] at h
  rcases h with rfl | rfl | rfl | rfl | rfl | rfl <;> rfl

/-- The all-reduce's semaphores are under their invariants. -/
abbrev invs : sProp 𝕄 := iprop(∃ κ, (AllReduce.Dat.once (ar0 (F := F)) (V₁ m)).cellInvs (Sites.E0 EC) κ)

/-- The device's own arithmetic, what the all-reduce needs riding along. -/
def segA : ℍ := Pipeline.HostSeg.ofOps _ _ _ _ _ (Pipeline.ucRefs τ sig) (hostOps0 (F := F)) ops0_sub ops0_fresh (V₀ m)
  (fun c => iprop(Sites.Es EC (V₁ m) 0 c ∗ invs m))
/-- The all-reduce. -/
def segB : ℍ := Sites.seg0 EC 𝒱₀ (V₁ m) (Sites.Rest0 (V₁ m) fun _ => invs m)
/-- The program's two parts. -/
def segs : List (Pipeline.Seg (pcfgs (F := F)) adm pdats 0 defs₀ 𝒱₀ L lv) := [.host (segA m), .host (segB m)]

theorem main_wp (c : Dev nD) (Q : PUnit → sProp 𝕄) :
    wp frame (wpE defs 𝒱₀.lift (c.tc : Thread nD τ) none) Set.univ (Pipeline.Seg.run (segs m)) Q
      ⊢ wp frame (wpE defs 𝒱₀.lift (c.tc : Thread nD τ) none) Set.univ (main (F := F) c) Q := by
  rw [main_segs adm pdats 0 𝒱₀ L lv (segA m) (segB m) rfl rfl c]
  exact .rfl

abbrev T₀ (c : Dev nD) : sProp 𝕄 := (segA m).pre c
/-- At the end every buffer holds what `V₂` says, and the all-reduce is over. -/
abbrev Tₙ (c : Dev nD) : sProp 𝕄 :=
  iprop(StableHlo.held (c : Thread nD τ) (Pipeline.ucRefs τ sig) (V₂ m c) ∗ (invs m ∗ Sites.Ghost0 EC c) ∗ ∃ r, prngReg c r)

theorem segA_segB (c : Dev nD) : (segA m).post c ⊢ (segB (F := F) m).pre c :=
  Sites.pre0 EC 𝒱₀ (V₁ m) (fun _ => invs m) c

theorem segB_Tₙ (c : Dev nD) : (segB (F := F) m).post c ⊢ iprop(Tₙ m c ∗ ∃ W, owes (c : Thread nD τ) (0 : CellTallies nD τ sig ℕ) W) := by
  refine (Sites.post0' EC 𝒱₀ (V₁ m) (fun _ => invs m) c (V₂ m c) (fun _ _ => rfl)).trans ?_
  rw [Sites.Es_1]; dsimp only [Sites.O1]
  iintro ⟨Hh, ⟨HO, Hp, -⟩, Hg, Hi⟩
  isplitr [HO]
  · isplitl [Hh]; · iexact Hh
    isplitl [Hg Hi]; · isplitl [Hi] <;> iassumption
    iexact Hp
  · iexact HO

/-- What the program starts with. -/
def u₀ : UU :=
  (initOf (Pipeline.cells (Pipeline.pin (pcfgs (F := F)) adm) cellOf_inj) (Pipeline.launchToks (Pipeline.pin (pcfgs (F := F)) adm) cellOf_inj),
    Sites.uC (U := UU) (V₁ m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (V₁ m) c)
      ⊢ iprop((unscopedSems0 c ∗ owes (c : Thread nD τ) (Sites.O0 (F := F) c) ∅ ∗ Pipeline.launchCred (Sites.O0 (F := F)) c ∗ prngReg c (ρ c) ∗ Sites.G EC (V₁ m) c)
          ∗ unscopedBufs c (fun b => m ((c : Thread nD τ).loc b))) := by
    iintro ⟨Hub, Hus, HO, Hcr, Hp, HG⟩
    isplitr [Hub]
    · isplitl [Hus]; · iexact Hus
      isplitl [HO]; · iexact HO
      isplitl [Hcr]; · iexact Hcr
      isplitl [Hp]; · iexact Hp
      iexact HG
    · iexact Hub
  have h2 (c : Dev nD) : iprop(Sites.Es EC (V₁ m) 0 c ∗ unscopedBufs c (fun b => m ((c : Thread nD τ).loc b))) ⊢ T₀ m c := by
    unfold T₀ segA Pipeline.HostSeg.ofOps
    rw [show (unscopedBufs c fun b => m ((c : Thread nD τ).loc b) : sProp 𝕄)
        = StableHlo.held (c.tc : Thread nD τ) (Pipeline.ucRefs τ sig) (V₀ m c) from Pipeline.unscopedBufs_held c (V₀ m c)]
    iintro ⟨HE, Hub⟩
    ihave #Hi := (show Sites.Es EC (V₁ m) 0 c ⊢ invs m from by
      rw [Sites.Es_0]; dsimp only [Sites.rides0, AllReduce.Dat.rides]; iintro ⟨-, -, Hi, -⟩; iexact Hi) $$ HE
    isplitl [Hub]; · iexact Hub
    isplitl [HE]; · iexact HE
    iexact Hi
  iintro ⟨H, Hlv⟩
  ihave H' := (show _ ⊢ iprop((bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V₁ m) c))
        ∗ bigSep Finset.univ fun c : Dev nD => unscopedBufs (Ix := ℕ) (Name := ℕ) (U := UU) (Lvl := ℕ) c (fun b => m ((c : Thread nD τ).loc b)))
      from by rw [← bigSep_sep']; exact bigSep_mono fun c _ => h1 c) $$ H
  icases H' with ⟨Hs, Hub⟩
  imod (Sites.hE0 EC (V₁ m) ρ) $$ [Hs Hlv] with HE
  · isplitl [Hs]; · iexact Hs
    iexact Hlv
  imodintro
  iapply (show iprop((bigSep Finset.univ (Sites.Es EC (V₁ m) 0)) ∗ bigSep Finset.univ fun c : Dev nD => unscopedBufs (Ix := ℕ) (Name := ℕ) (U := UU) (Lvl := ℕ) c (fun b => m ((c : Thread nD τ).loc b)))
      ⊢ bigSep Finset.univ (T₀ m) from by rw [← bigSep_sep']; exact bigSep_mono fun c _ => h2 c)
  isplitl [HE]; · iexact HE
  iexact Hub

set_option backward.isDefEq.respectTransparency.types false in
/-- The run: every device's buffers end as `V₂` says, every semaphore at zero. -/
theorem run : θ_run defs (onTc (τ := τ) (main (F := F))) ⟨m, fun _ => 0, ρ⟩ (fun r =>
    (∀ (c : Dev nD) (b : Ref sig .tc), (Proc.devRef .tc b : DevRef τ sig) ∈ Pipeline.ucRefs τ sig →
      r.2.mem ((c : Thread nD τ).loc b) = V₂ m c (Proc.devRef .tc b)) ∧ r.2.sem = fun _ => 0) :=
  Pipeline.θ_run_regions_kit_sems (pcfgs (F := F)) adm pdats 0 cellOf_inj EP defs₀ 𝒱₀ L lv m ρ main (segs m)
    (main_wp m)
    (by simp only [segs, Pipeline.Seg.pipes_host, Pipeline.Seg.pipes_nil]; decide)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun c => .rfl, segA_segB m, segB_Tₙ m⟩)
    (hinit := init m ρ)
    (QY := fun c s => (∀ b : Ref sig .tc, (Proc.devRef .tc b : DevRef τ sig) ∈ Pipeline.ucRefs τ sig →
      s.mem ((c : Thread nD τ).loc b) = V₂ m c (Proc.devRef .tc b))
      ∧ s.sem ((ar0 (F := F)).barrierCell c) = 0 ∧ s.sem ((ar0 (F := F)).recvCell c) = 0 ∧ s.sem ((ar0 (F := F)).sendCell c) = 0)
    (hfin := fun c s' => by
      unfold Tₙ StableHlo.held
      iintro ⟨⟨Hh, He, -⟩, HSI⟩
      ihave %h := (SI_pointsTo_bufs_agree (qs := fun _ => fullShare) (Pipeline.ucRefs τ sig)) $$ [HSI Hh]
      · isplitl [HSI]; · iexact HSI
        iexact Hh
      imod ((AllReduce.Dat.once (ar0 (F := F)) (V₁ m)).ghostAfter_read (Sites.E0 EC) c (k := 0) le_rfl s') $$ [He HSI] with ⟨%hz, HSI⟩
      · isplitl [He] <;> iassumption
      imodintro
      isplitr; · ipureintro; exact ⟨fun b hb => h _ hb, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Run

/-- No statement writes the argument. -/
theorem V₂_arg0 {F : FTy → Type} [FloatOps F] (m : (ℓ : Loc nD τ sig) → Buf (Elt F) ℓ) (c : Dev nD) :
    V₂ m c (Proc.devRef .tc main_arg0) = m ((c : Thread nD τ).loc main_arg0) := rfl

theorem frame_ideal : Cert.quiescent_Kernel21Ideal := fun m ρ _ =>
  (θ_run Cert.Kernel21Ideal.defs _ _).mono (fun r h => ⟨fun c => (h.1 c main_arg0 (by decide)).trans (V₂_arg0 m c), h.2⟩) (run (F := Ideal) m ρ)
theorem frame_kernel : Cert.quiescent_Kernel21 := fun m ρ _ =>
  (θ_run Cert.Kernel21Ideal.defs _ _).mono (fun r h => ⟨fun c => (h.1 c main_arg0 (by decide)).trans (V₂_arg0 m c), h.2⟩) (run (F := Bits) m ρ)

/-- The reference declares no semaphore and writes no argument. -/
theorem frame_reference : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

section Value
open Cert.Reference21Ideal.Read
variable (m : (ℓ : Loc nD τ sig) → Buf (Elt Ideal) ℓ)

theorem peer : ∀ c j, (ar0 (F := Ideal)).peer c j = j := by decide

/-- A device's number, from its sums of squares. -/
def num (x : FVec Ideal S4x1x2048 .f32) : FVec Ideal S_ .f32 :=
  Host.divf (mulf (constant S_ .f32 0x3F000000#32) (Host.reduceAdd x (constant S_ .f32 0x00000000#32) reducesTo_S4x1x2048_S_d0_1_2 h_S_)) (constant S_ .f32 0x45000000#32)

theorem V₁_v3 (d : Dev nD) : V₁ m d (Proc.devRef .tc main_v3) = num (m ((d : Thread nD τ).loc main_arg0)) := by
  simp only [V₁, StableHlo.after_cons, StableHlo.after_nil, hostOps0]
  rfl

/-- The all-reduce's fold is the sum. -/
theorem fold (v : Fin 8 → FVec Ideal S_ .f32) (i : S_.Idx) : (ar0 (F := Ideal)).foldGroup v i = ∑ d, v d i := by
  rw [Fin.sum_univ_eight]
  rfl

theorem after_result (W : Dev nD → Valuation τ sig (Elt Ideal)) (c : Dev nD) : ((ar0 (F := Ideal)).after₀ W c (Proc.devRef .tc main_v4) : FVec Ideal S_ .f32)
    = (ar0 (F := Ideal)).foldGroup fun j => W j (Proc.devRef .tc main_v3) := by
  refine ((ar0 (F := Ideal)).after₀_result W c).trans ?_
  simp only [peer]
  rfl

/-- Every device ends with the sum of the eight numbers. -/
theorem V₂_v4 (c : Dev nD) (i : S_.Idx) : (V₂ m c (Proc.devRef .tc main_v4) : FVec Ideal S_ .f32) i
    = ∑ d : Dev nD, num (m ((d : Thread nD τ).loc main_arg0)) i := by
  unfold V₂
  rw [after_result]
  simp only [V₁_v3]
  exact fold (fun d => num (m (((d : Dev nD) : Thread nD τ).loc main_arg0))) i

theorem num_apply (x : FVec Ideal S4x1x2048 .f32) (i : S_.Idx) : num x i
    = Ideal.div (Ideal.ofBits FTy.f32 1056964608#32 * ∑ r : Fin 4, ∑ u : Fin 1, ∑ k : Fin 2048, x (ix3 r u k)) (Ideal.ofBits FTy.f32 1157627904#32) := by
  pointwise [num]

variable (x : FVec Ideal Cert.Reference21Ideal.S32x1x2048 .f32)
theorem ref (i : S_.Idx) : val_main_v4 (F := Ideal) x i
    = Ideal.ofBits FTy.f32 1056964608#32 * ∑ r : Fin 32, ∑ u : Fin 1, Ideal.div (∑ k : Fin 2048, x (ix3 r 0 k)) (Ideal.ofBits FTy.f32 1157627904#32) := by
  pointwise [val_main_v0, val_main_v1, val_main_v2, val_main_v3, val_main_v4, val_main_cst, val_main_cst_0, val_main_cst_1, val_main_cst_2]

/-- A device's rows: an eighth of all rows. -/
def part (d : Fin 8) : FVec Ideal S4x1x2048 .f32 := Layout.block (⟨3, ![4, 1, 2048]⟩ : Shape) ⟨3, ![32, 1, 2048]⟩ 0 8 d x
theorem rows (d : Fin 8) (r : Fin 4) (k : Fin 2048) : part x d (ix3 r 0 k) = x (ix3 ⟨d.val * 4 + r.val, by omega⟩ 0 k) := by
  unfold part
  rw [Layout.block_apply]
  refine congrArg x (funext fun a => Fin.ext ?_)
  fin_cases a <;> rfl

/-- The devices' numbers add up to the loss. -/
theorem sum (i : S_.Idx) : ∑ d : Fin 8, num (part x d) i = val_main_v4 (F := Ideal) x i := by
  have h0 : (0:ℝ) ≤ 1/2 := by norm_num
  have h1 : (0:ℝ) ≤ 1/2048 := by norm_num
  simp only [num_apply, ref, Cert.Kernel11Ideal.Loss.c2048, Cert.Kernel11Ideal.Loss.chalf, Ideal.div_coe (show (2048:ℝ) ≠ 0 by norm_num), Fin.sum_univ_one, mul_comm _ (((1/2048:ℝ)):EReal), rows]
  rw [← Cert.Val.mul_sum' _ h1, ← Cert.Val.mul_sum' _ h1, ← Cert.Val.mul_sum' _ h0, mul_left_comm]
  exact congrArg _ (congrArg _ (Fin.sum_mul_add_congr fun d r hl => rfl))
end Value

/-- The devices end with the loss. -/
theorem algebraic : Cert.algebraic_Kernel21Ideal_Reference21Ideal := by
  intro m g m' g' _ h
  refine ⟨Cert.Reference21Ideal.Read.val_main_v4 (F := Ideal) (m' (((0 : Dev Cert.Reference21Ideal.nD).tc : Thread Cert.Reference21Ideal.nD Cert.Reference21Ideal.τ).loc Cert.Reference21Ideal.main_arg0)),
    (θ_run Cert.Kernel21Ideal.defs _ _).mono (fun r hr c => ⟨?_, (hr.1 c main_arg0 (by decide)).trans (V₂_arg0 m c)⟩) (run (F := Ideal) m g),
    (θ_run Cert.Reference21Ideal.defs _ _).mono (fun r hr => ?_) (Cert.Reference21Ideal.Value.run (F := Ideal) m' g')⟩
  · refine (hr.1 c main_v4 (by decide)).trans (funext fun i => (V₂_v4 m c i).trans ?_)
    simp only [h]
    exact sum _ i
  · exact ⟨(hr 0).1.trans (Cert.Reference21Ideal.Read.val_main_v4_eq _), (hr 0).2⟩

end Cert.Kernel21Ideal.Sum
-- ==== Proof.lean ====
module

public import proofs.«01_k».proof.Defs
public import proofs.«01_k».proof.Proof.Ret.Bits
public import proofs.«01_k».proof.Proof.Val.Close
public import proofs.«01_k».proof.Proof.Mat.Act
public import proofs.«01_k».proof.Proof.Mat.DwFf2
public import proofs.«01_k».proof.Proof.Mat.DwFf1
public import proofs.«01_k».proof.Proof.Mat.DH2
public import proofs.«01_k».proof.Proof.Mat.DwIn
public import proofs.«01_k».proof.Proof.Mat.DH1
public import proofs.«01_k».proof.Proof.Mat.DMix
public import proofs.«01_k».proof.Proof.Mat.DwOut
public import proofs.«01_k».proof.Proof.Fwd.Ff1
public import proofs.«01_k».proof.Proof.Fwd.Loss
public import proofs.«01_k».proof.Proof.Fwd.OutProj
public import proofs.«01_k».proof.Proof.Fwd.Proj0
public import proofs.«01_k».proof.Proof.Opt.Adamw
public import proofs.«01_k».proof.Proof.Mat.RmsBack
public import proofs.«01_k».proof.Proof.Fwd.Norm1
public import proofs.«01_k».proof.Proof.Fwd.Proj1
public import proofs.«01_k».proof.Proof.Opt.AdamwIn
public import proofs.«01_k».proof.Proof.Opt.AdamwOut
public import proofs.«01_k».proof.Proof.RetF.Done
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Launch
public import proofs.«01_k».proof.Proof.Gen.Kernel21Ideal
public import proofs.«01_k».proof.Proof.Gen.Kernel21Ideal.Launch
public import proofs.«01_k».proof.Proof.Gen.Reference21Ideal
public import proofs.«01_k».proof.Proof.Gen.Reference21Ideal.Run
public import proofs.«01_k».proof.Proof.Gen.Reference21Ideal.Read
public import proofs.«01_k».proof.Proof.Fwd.Sum

@[expose] public section

set_option maxRecDepth 16384

noncomputable section

namespace Cert.Proof

open Idealize.ShloMosaic Idealize.SL.Sem

/-- The reference declares no semaphore and writes no argument. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Val.facts_finite, Cert.Kernel15Ideal.RmsBack.facts_finite_rows, Cert.Val.facts_written, Cert.Kernel13Ideal.Proj0.facts_first_halves, Cert.Kernel20Ideal.RetF.facts_heads_of_the_retention,
  Cert.KernelIdeal.Ret.frame_kernel, fun m ρ _ => Cert.KernelIdeal.Ret.frame m ρ, fun m ρ _ => Cert.KernelIdeal.Ret.frame m ρ,
  frame_reference, fun m ρ _ => frame_reference m ρ trivial,
  fun m ρ _ => Cert.Kernel2.Gen.frame m ρ, fun m ρ _ => Cert.Kernel2Ideal.Gen.frame m ρ, Cert.Kernel2Ideal.Act.frame_reference,
  fun m ρ _ => Cert.Kernel3.Gen.frame m ρ, fun m ρ _ => Cert.Kernel3Ideal.Gen.frame m ρ, Cert.Kernel3Ideal.DwFf2.frame_reference,
  fun m ρ _ => Cert.Kernel4.Gen.frame m ρ, fun m ρ _ => Cert.Kernel4Ideal.Gen.frame m ρ, Cert.Kernel4Ideal.DwFf1.frame_reference,
  fun m ρ _ => Cert.Kernel5.Gen.frame m ρ, fun m ρ _ => Cert.Kernel5Ideal.Gen.frame m ρ, Cert.Kernel5Ideal.DH2.frame_reference,
  fun m ρ _ => Cert.Kernel6.Gen.frame m ρ, fun m ρ _ => Cert.Kernel6Ideal.Gen.frame m ρ, Cert.Kernel6Ideal.DwIn.frame_reference,
  fun m ρ _ => Cert.Kernel7.Gen.frame m ρ, fun m ρ _ => Cert.Kernel7Ideal.Gen.frame m ρ, Cert.Kernel7Ideal.DH1.frame_reference,
  fun m ρ _ => Cert.Kernel8.Gen.frame m ρ, fun m ρ _ => Cert.Kernel8Ideal.Gen.frame m ρ, Cert.Kernel8Ideal.DMix.frame_reference,
  fun m ρ _ => Cert.Kernel9.Gen.frame m ρ, fun m ρ _ => Cert.Kernel9Ideal.Gen.frame m ρ, Cert.Kernel9Ideal.DwOut.frame_reference,
  fun m ρ _ => Cert.Kernel10.Gen.frame m ρ, fun m ρ _ => Cert.Kernel10Ideal.Gen.frame m ρ, Cert.Kernel10Ideal.Ff1.frame_reference,
  fun m ρ _ => Cert.Kernel11.Gen.frame m ρ, fun m ρ _ => Cert.Kernel11Ideal.Gen.frame m ρ, Cert.Kernel11Ideal.Loss.frame_reference,
  fun m ρ _ => Cert.Kernel12.Gen.frame m ρ, fun m ρ _ => Cert.Kernel12Ideal.Gen.frame m ρ, Cert.Kernel12Ideal.OutProj.frame_reference,
  fun m ρ _ => Cert.Kernel13.Gen.frame m ρ, fun m ρ _ => Cert.Kernel13Ideal.Gen.frame m ρ, Cert.Kernel13Ideal.Proj0.frame_reference,
  fun m ρ _ => Cert.Kernel14.Gen.frame m ρ, fun m ρ _ => Cert.Kernel14Ideal.Gen.frame m ρ, Cert.Kernel14Ideal.Adamw.frame_reference,
  fun m ρ _ => Cert.Kernel15.Gen.frame m ρ, fun m ρ _ => Cert.Kernel15Ideal.Gen.frame m ρ, fun m ρ _ => Cert.Kernel15Ideal.Gen.frame m ρ,
  Cert.Kernel15Ideal.RmsBack.frame_reference, fun m ρ _ => Cert.Kernel15Ideal.RmsBack.frame_reference m ρ trivial,
  fun m ρ _ => Cert.Kernel16.Gen.frame m ρ, fun m ρ _ => Cert.Kernel16Ideal.Gen.frame m ρ, Cert.Kernel16Ideal.Norm1.frame_reference,
  fun m ρ _ => Cert.Kernel17.Gen.frame m ρ, fun m ρ _ => Cert.Kernel17Ideal.Gen.frame m ρ, Cert.Kernel17Ideal.Proj1.frame_reference,
  fun m ρ _ => Cert.Kernel18.Gen.frame m ρ, fun m ρ _ => Cert.Kernel18Ideal.Gen.frame m ρ, Cert.Kernel18Ideal.AdamwIn.frame_reference,
  fun m ρ _ => Cert.Kernel19.Gen.frame m ρ, fun m ρ _ => Cert.Kernel19Ideal.Gen.frame m ρ, Cert.Kernel19Ideal.AdamwOut.frame_reference,
  fun m ρ _ => Cert.Kernel20.Gen.frame m ρ, fun m ρ _ => Cert.Kernel20Ideal.Gen.frame m ρ, Cert.Kernel20Ideal.RetF.frame_reference,
  Cert.Kernel21Ideal.Sum.frame_kernel, Cert.Kernel21Ideal.Sum.frame_ideal, Cert.Kernel21Ideal.Sum.frame_reference,
  trivial, @Cert.Close.algebraic Cert.Val.facts_finite Cert.Val.facts_written,
  trivial, Cert.Kernel2Ideal.Act.algebraic,
  trivial, Cert.Kernel3Ideal.DwFf2.algebraic,
  trivial, Cert.Kernel4Ideal.DwFf1.algebraic,
  trivial, Cert.Kernel5Ideal.DH2.algebraic,
  trivial, Cert.Kernel6Ideal.DwIn.algebraic,
  trivial, Cert.Kernel7Ideal.DH1.algebraic,
  trivial, Cert.Kernel8Ideal.DMix.algebraic,
  trivial, Cert.Kernel9Ideal.DwOut.algebraic,
  trivial, Cert.Kernel10Ideal.Ff1.algebraic,
  trivial, Cert.Kernel11Ideal.Loss.algebraic,
  trivial, Cert.Kernel12Ideal.OutProj.algebraic,
  trivial, @Cert.Kernel13Ideal.Proj0.algebraic Cert.Kernel13Ideal.Proj0.facts_first_halves,
  trivial, Cert.Kernel14Ideal.Adamw.algebraic,
  trivial, @Cert.Kernel15Ideal.RmsBack.algebraic Cert.Kernel15Ideal.RmsBack.facts_finite_rows,
  trivial, Cert.Kernel16Ideal.Norm1.algebraic,
  trivial, Cert.Kernel17Ideal.Proj1.algebraic,
  trivial, Cert.Kernel18Ideal.AdamwIn.algebraic,
  trivial, Cert.Kernel19Ideal.AdamwOut.algebraic,
  trivial, @Cert.Kernel20Ideal.RetF.algebraic Cert.Kernel20Ideal.RetF.facts_heads_of_the_retention,
  trivial, Cert.Kernel21Ideal.Sum.algebraic⟩

end Cert.Proof

end
